-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v52) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v28) = v0 c
          ∧ r.2.mem ((c.tc : Thread Cert.Reference11Ideal.nD Cert.Reference11Ideal.τ).loc Cert.Reference11Ideal.main_v38) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v33) = v0 c
          ∧ r.2.mem ((c.tc : Thread Cert.Reference12Ideal.nD Cert.Reference12Ideal.τ).loc Cert.Reference12Ideal.main_v52) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v45)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v45) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v77) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v45_0)) (v1 : (c : Dev Cert.Kernel14Ideal.nD) → Buf (Elt Ideal) ((c.tc : Thread Cert.Kernel14Ideal.nD Cert.Kernel14Ideal.τ).loc Cert.Kernel14Ideal.main_v45_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v45_0) = v0 c
          ∧ r.2.mem ((c.tc : Thread Cert.Kernel14Ideal.nD Cert.Kernel14Ideal.τ).loc Cert.Kernel14Ideal.main_v45_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v77) = v0 c
          ∧ r.2.mem ((c.tc : Thread Cert.Reference14Ideal.nD Cert.Reference14Ideal.τ).loc Cert.Reference14Ideal.main_v78) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel9 : Cert.Kernel9.Facts) (hKernel9Ideal : Cert.Kernel9Ideal.Facts) (hReference9Ideal : Cert.Reference9Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel9_Kernel9Ideal
    ∧ algebraic_Kernel9Ideal_Reference9Ideal (hKernel9Ideal := hKernel9Ideal) (hReference9Ideal := hReference9Ideal)
    ∧ preserves_Kernel14_Kernel14Ideal
    ∧ algebraic_Kernel14Ideal_Reference14Ideal (hKernel14Ideal := hKernel14Ideal) (hReference14Ideal := hReference14Ideal)
-- ==== Pre_finite.lean ====
abbrev S8192x2048 : Shape := ⟨2, ![8192, 2048]⟩
abbrev S8192x1024 : Shape := ⟨2, ![8192, 1024]⟩
abbrev S8192x256 : Shape := ⟨2, ![8192, 256]⟩
abbrev S8192x64 : Shape := ⟨2, ![8192, 64]⟩
abbrev S4x1x256x256 : Shape := ⟨4, ![4, 1, 256, 256]⟩
abbrev S4x1x256x64 : Shape := ⟨4, ![4, 1, 256, 64]⟩
abbrev S1x256x2048 : Shape := ⟨3, ![1, 256, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S8192x1024 : S_.BroadcastsInDim S8192x1024 (![] : Fin 0 → Fin S8192x1024.rank)
  bcast_S_S8192x256 : S_.BroadcastsInDim S8192x256 (![] : Fin 0 → Fin S8192x256.rank)
  bcast_S_S8192x64 : S_.BroadcastsInDim S8192x64 (![] : Fin 0 → Fin S8192x64.rank)
  bcast_S_S4x1x256x256 : S_.BroadcastsInDim S4x1x256x256 (![] : Fin 0 → Fin S4x1x256x256.rank)
  bcast_S_S4x1x256x64 : S_.BroadcastsInDim S4x1x256x64 (![] : Fin 0 → Fin S4x1x256x64.rank)
  bcast_S_S1x256x2048 : S_.BroadcastsInDim S1x256x2048 (![] : Fin 0 → Fin S1x256x2048.rank)

variable [Facts]

def fn_part1 {F : FTy → Type} [FloatOps F] (main_arg5 : FVec F S4x1x256x64 .f32) (main_arg6 : FVec F S1x256x2048 .f32) (main_v3 : IVec S8192x2048 1) (main_v7 : IVec S8192x1024 1) (main_v11 : IVec S8192x256 1) (main_v15 : IVec S8192x64 1) (main_v18 : IVec S4x1x256x256 1) : IVec S8192x2048 1 × IVec S8192x1024 1 × IVec S8192x256 1 × IVec S8192x64 1 × IVec S4x1x256x256 1 × IVec S4x1x256x64 1 × IVec S1x256x2048 1 :=
  let main_v19 : FVec F S4x1x256x64 .f32 := Host.absf main_arg5
  let main_cst_4 : FVec F S_ .f32 := constant S_ .f32 0x7F800000#32
  let main_v20 : FVec F S4x1x256x64 .f32 := broadcastInDim S4x1x256x64 ![] bcast_S_S4x1x256x64 main_cst_4
  let main_v21 : IVec S4x1x256x64 1 := cmpf .olt main_v19 main_v20
  let main_v22 : FVec F S1x256x2048 .f32 := Host.absf main_arg6
  let main_cst_5 : FVec F S_ .f32 := constant S_ .f32 0x7F800000#32
  let main_v23 : FVec F S1x256x2048 .f32 := broadcastInDim S1x256x2048 ![] bcast_S_S1x256x2048 main_cst_5
  let main_v24 : IVec S1x256x2048 1 := cmpf .olt main_v22 main_v23
  (main_v3, main_v7, main_v11, main_v15, main_v18, main_v21, main_v24)

def fn {F : FTy → Type} [FloatOps F] (main_arg0 : FVec F S8192x2048 .bf16) (main_arg1 : FVec F S8192x1024 .bf16) (main_arg2 : FVec F S8192x256 .bf16) (main_arg3 : FVec F S8192x64 .bf16) (main_arg4 : FVec F S4x1x256x256 .f32) (main_arg5 : FVec F S4x1x256x64 .f32) (main_arg6 : FVec F S1x256x2048 .f32) (main_arg7 : FVec F S1x256x2048 .f32) : IVec S8192x2048 1 × IVec S8192x1024 1 × IVec S8192x256 1 × IVec S8192x64 1 × IVec S4x1x256x256 1 × IVec S4x1x256x64 1 × IVec S1x256x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x256 .f32 := (extf .f32 · bitsLt_bf16_f32) main_arg2
  let main_v9 : FVec F S8192x256 .f32 := Host.absf main_v8
  let main_cst_1 : FVec F S_ .f32 := constant S_ .f32 0x7F800000#32
  let main_v10 : FVec F S8192x256 .f32 := broadcastInDim S8192x256 ![] bcast_S_S8192x256 main_cst_1
  let main_v11 : IVec S8192x256 1 := cmpf .olt main_v9 main_v10
  let main_v12 : FVec F S8192x64 .f32 := (extf .f32 · bitsLt_bf16_f32) main_arg3
  let main_v13 : FVec F S8192x64 .f32 := Host.absf main_v12
  let main_cst_2 : FVec F S_ .f32 := constant S_ .f32 0x7F800000#32
  let main_v14 : FVec F S8192x64 .f32 := broadcastInDim S8192x64 ![] bcast_S_S8192x64 main_cst_2
  let main_v15 : IVec S8192x64 1 := cmpf .olt main_v13 main_v14
  let main_v16 : FVec F S4x1x256x256 .f32 := Host.absf main_arg4
  let main_cst_3 : FVec F S_ .f32 := constant S_ .f32 0x7F800000#32
  let main_v17 : FVec F S4x1x256x256 .f32 := broadcastInDim S4x1x256x256 ![] bcast_S_S4x1x256x256 main_cst_3
  let main_v18 : IVec S4x1x256x256 1 := cmpf .olt main_v16 main_v17
  fn_part1 (F := F) main_arg5 main_arg6 main_v3 main_v7 main_v11 main_v15 main_v18
-- ==== Kernel.lean ====
abbrev S8192x2048 : Shape := ⟨2, ![8192, 2048]⟩
abbrev S8192x1024 : Shape := ⟨2, ![8192, 1024]⟩
abbrev S8192x256 : Shape := ⟨2, ![8192, 256]⟩
abbrev S8192x64 : Shape := ⟨2, ![8192, 64]⟩
abbrev S4x1x256x256 : Shape := ⟨4, ![4, 1, 256, 256]⟩
abbrev S4x1x256x64 : Shape := ⟨4, ![4, 1, 256, 64]⟩
abbrev S1x256x2048 : Shape := ⟨3, ![1, 256, 2048]⟩
abbrev S4096x2048 : Shape := ⟨2, ![4096, 2048]⟩
abbrev S1024x256 : Shape := ⟨2, ![1024, 256]⟩
abbrev S1024x128 : Shape := ⟨2, ![1024, 128]⟩
abbrev S1024x64 : Shape := ⟨2, ![1024, 64]⟩
abbrev S1x1x256x256 : Shape := ⟨4, ![1, 1, 256, 256]⟩
abbrev S1x1x256x64 : Shape := ⟨4, ![1, 1, 256, 64]⟩
abbrev S1x256x256 : Shape := ⟨3, ![1, 256, 256]⟩
abbrev S1024x512 : Shape := ⟨2, ![1024, 512]⟩
abbrev S256x512 : Shape := ⟨2, ![256, 512]⟩
abbrev S256x256 : Shape := ⟨2, ![256, 256]⟩
abbrev S256x64 : Shape := ⟨2, ![256, 64]⟩
abbrev S256x128 : Shape := ⟨2, ![256, 128]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 22
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x256, .bf16⟩
  | .hbm, ⟨3, _⟩ => ⟨S8192x64, .bf16⟩
  | .hbm, ⟨4, _⟩ => ⟨S4x1x256x256, .f32⟩
  | .hbm, ⟨5, _⟩ => ⟨S4x1x256x64, .f32⟩
  | .hbm, ⟨6, _⟩ => ⟨S1x256x2048, .f32⟩
  | .hbm, ⟨7, _⟩ => ⟨S1x256x2048, .f32⟩
  | .hbm, ⟨8, _⟩ => ⟨S4096x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x128, .bf16⟩
  | .local _ .vmem, ⟨3, _⟩ => ⟨S1024x128, .bf16⟩
  | .local _ .vmem, ⟨4, _⟩ => ⟨S1024x256, .bf16⟩
  | .local _ .vmem, ⟨5, _⟩ => ⟨S1024x256, .bf16⟩
  | .local _ .vmem, ⟨6, _⟩ => ⟨S1024x64, .bf16⟩
  | .local _ .vmem, ⟨7, _⟩ => ⟨S1024x64, .bf16⟩
  | .local _ .vmem, ⟨8, _⟩ => ⟨S1x1x256x256, .f32⟩
  | .local _ .vmem, ⟨9, _⟩ => ⟨S1x1x256x256, .f32⟩
  | .local _ .vmem, ⟨10, _⟩ => ⟨S1x1x256x64, .f32⟩
  | .local _ .vmem, ⟨11, _⟩ => ⟨S1x1x256x64, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1024x256, .bf16⟩
  | .local _ .vmem, ⟨17, _⟩ => ⟨S1024x256, .bf16⟩
  | .local _ .vmem, ⟨18, _⟩ => ⟨S1024x512, .bf16⟩
  | .local _ .vmem, ⟨19, _⟩ => ⟨S1024x512, .bf16⟩
  | .local _ .vmem, ⟨20, _⟩ => ⟨S256x512, .bf16⟩
  | .local _ .vmem, ⟨21, _⟩ => ⟨S256x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  let c256_i32 : BitVec 32 := 256#32
  let v67 : BitVec 32 := Scalar.muli c0_i32 c256_i32
  v67
def k0_off1 (c0_i32 : BitVec 32) : Fin 2 → Nat :=
  let c256_i32 : BitVec 32 := 256#32
  let v67 : BitVec 32 := Scalar.muli c0_i32 c256_i32
  let v68 : BitVec 32 := v67
  let v69 : Index := Scalar.indexCast v68
  let c0_37 : Index := 0#32
  ![v69.toNat, 0]
def k0_off2 (c0_i32 : BitVec 32) : Fin 2 → Nat :=
  let c256_i32 : BitVec 32 := 256#32
  let v67 : BitVec 32 := Scalar.muli c0_i32 c256_i32
  let v68 : BitVec 32 := v67
  let v75 : Index := Scalar.indexCast v68
  let c0_39 : Index := 0#32
  ![v75.toNat, 0]
def k0_off3 (c0_i32 : BitVec 32) : Fin 2 → Nat :=
  let c256_i32 : BitVec 32 := 256#32
  let v67 : BitVec 32 := Scalar.muli c0_i32 c256_i32
  let v68 : BitVec 32 := v67
  let v116 : Index := Scalar.indexCast v68
  let c128 : Index := 128#32
  ![v116.toNat, 128]
def k0_mult2 : BitVec 32 :=
  let c1_i32 : BitVec 32 := 1#32
  let c256_i32_76 : BitVec 32 := 256#32
  let v151 : BitVec 32 := Scalar.muli c1_i32 c256_i32_76
  v151
def k0_mult3 : BitVec 32 :=
  let c2_i32 : BitVec 32 := 2#32
  let c256_i32_117 : BitVec 32 := 256#32
  let v235 : BitVec 32 := Scalar.muli c2_i32 c256_i32_117
  v235
def k0_mult4 : BitVec 32 :=
  let c3_i32 : BitVec 32 := 3#32
  let c256_i32_158 : BitVec 32 := 256#32
  let v319 : BitVec 32 := Scalar.muli c3_i32 c256_i32_158
  v319
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x2048 : Shape := ⟨2, ![8192, 2048]⟩
abbrev S8192x1024 : Shape := ⟨2, ![8192, 1024]⟩
abbrev S8192x256 : Shape := ⟨2, ![8192, 256]⟩
abbrev S8192x64 : Shape := ⟨2, ![8192, 64]⟩
abbrev S4x1x256x256 : Shape := ⟨4, ![4, 1, 256, 256]⟩
abbrev S4x1x256x64 : Shape := ⟨4, ![4, 1, 256, 64]⟩
abbrev S1x256x2048 : Shape := ⟨3, ![1, 256, 2048]⟩
abbrev S4096x2048 : Shape := ⟨2, ![4096, 2048]⟩
abbrev S4x1024x16x128 : Shape := ⟨4, ![4, 1024, 16, 128]⟩
abbrev S4096x1024 : Shape := ⟨2, ![4096, 1024]⟩
abbrev S4x1024x16x64 : Shape := ⟨4, ![4, 1024, 16, 64]⟩
abbrev S4x1024x16x192 : Shape := ⟨4, ![4, 1024, 16, 192]⟩
abbrev S4x256x256 : Shape := ⟨3, ![4, 256, 256]⟩
abbrev S4096x256 : Shape := ⟨2, ![4096, 256]⟩
abbrev S4x1024x256 : Shape := ⟨3, ![4, 1024, 256]⟩
abbrev S4x1280x256 : Shape := ⟨3, ![4, 1280, 256]⟩
abbrev S4x256x64 : Shape := ⟨3, ![4, 256, 64]⟩
abbrev S4096x64 : Shape := ⟨2, ![4096, 64]⟩
abbrev S4x1024x64 : Shape := ⟨3, ![4, 1024, 64]⟩
abbrev S4x1280x64 : Shape := ⟨3, ![4, 1280, 64]⟩
abbrev S256x2048 : Shape := ⟨2, ![256, 2048]⟩
abbrev S4x1280x2048 : Shape := ⟨3, ![4, 1280, 2048]⟩
abbrev S4x1280x16x128 : Shape := ⟨4, ![4, 1280, 16, 128]⟩
abbrev S4x1280x1x64 : Shape := ⟨4, ![4, 1280, 1, 64]⟩
abbrev S4x1280x16x64 : Shape := ⟨4, ![4, 1280, 16, 64]⟩
abbrev S4x1280x16x192 : Shape := ⟨4, ![4, 1280, 16, 192]⟩
abbrev S4x16x1024x1280 : Shape := ⟨4, ![4, 16, 1024, 1280]⟩
abbrev S_ : Shape := ⟨0, ![]⟩
abbrev S4x16x1024 : Shape := ⟨3, ![4, 16, 1024]⟩
abbrev S4x16x1024x1 : Shape := ⟨4, ![4, 16, 1024, 1]⟩
abbrev S4x16x128x1024 : Shape := ⟨4, ![4, 16, 128, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x256, .bf16⟩
  | .hbm, ⟨3, _⟩ => ⟨S8192x64, .bf16⟩
  | .hbm, ⟨4, _⟩ => ⟨S4x1x256x256, .f32⟩
  | .hbm, ⟨5, _⟩ => ⟨S4x1x256x64, .f32⟩
  | .hbm, ⟨6, _⟩ => ⟨S1x256x2048, .f32⟩
  | .hbm, ⟨7, _⟩ => ⟨S1x256x2048, .f32⟩
  | .hbm, ⟨8, _⟩ => ⟨S4096x2048, .bf16⟩
  | .hbm, ⟨9, _⟩ => ⟨S4096x2048, .f32⟩
  | .hbm, ⟨10, _⟩ => ⟨S4x1024x16x128, .f32⟩
  | .hbm, ⟨11, _⟩ => ⟨S4096x1024, .bf16⟩
  | .hbm, ⟨12, _⟩ => ⟨S4096x1024, .f32⟩
  | .hbm, ⟨13, _⟩ => ⟨S4x1024x16x64, .f32⟩
  | .hbm, ⟨14, _⟩ => ⟨S4x1024x16x192, .f32⟩
  | .hbm, ⟨15, _⟩ => ⟨S4x256x256, .f32⟩
  | .hbm, ⟨16, _⟩ => ⟨S4096x256, .bf16⟩
  | .hbm, ⟨17, _⟩ => ⟨S4096x256, .f32⟩
  | .hbm, ⟨18, _⟩ => ⟨S4x1024x256, .f32⟩
  | .hbm, ⟨19, _⟩ => ⟨S4x1280x256, .f32⟩
  | .hbm, ⟨20, _⟩ => ⟨S4x256x64, .f32⟩
  | .hbm, ⟨21, _⟩ => ⟨S4096x64, .bf16⟩
  | .hbm, ⟨22, _⟩ => ⟨S4096x64, .f32⟩
  | .hbm, ⟨23, _⟩ => ⟨S4x1024x64, .f32⟩
  | .hbm, ⟨24, _⟩ => ⟨S4x1280x64, .f32⟩
  | .hbm, ⟨25, _⟩ => ⟨S256x2048, .f32⟩
  | .hbm, ⟨26, _⟩ => ⟨S4x1280x2048, .f32⟩
  | .hbm, ⟨27, _⟩ => ⟨S4x1280x16x128, .f32⟩
  | .hbm, ⟨28, _⟩ => ⟨S256x2048, .f32⟩
  | .hbm, ⟨29, _⟩ => ⟨S4x1280x2048, .f32⟩
  | .hbm, ⟨30, _⟩ => ⟨S4x1280x16x128, .f32⟩
  | .hbm, ⟨31, _⟩ => ⟨S4x1280x1x64, .f32⟩
  | .hbm, ⟨32, _⟩ => ⟨S4x1280x16x64, .f32⟩
  | .hbm, ⟨33, _⟩ => ⟨S4x1280x16x192, .f32⟩
  | .hbm, ⟨34, _⟩ => ⟨S4x16x1024x1280, .f32⟩
  | .hbm, ⟨35, _⟩ => ⟨S_, .f32⟩
  | .hbm, ⟨36, _⟩ => ⟨S4x16x1024x1280, .f32⟩
  | .hbm, ⟨37, _⟩ => ⟨S4x16x1024x1280, .f32⟩
  | .hbm, ⟨38, _⟩ => ⟨S_, .f32⟩
  | .hbm, ⟨39, _⟩ => ⟨S4x16x1024, .f32⟩
  | .hbm, ⟨40, _⟩ => ⟨S_, .f32⟩
  | .hbm, ⟨41, _⟩ => ⟨S4x16x1024, .f32⟩
  | .hbm, ⟨42, _⟩ => ⟨S4x16x1024, .f32⟩
  | .hbm, ⟨43, _⟩ => ⟨S4x16x1024x1, .f32⟩
  | .hbm, ⟨44, _⟩ => ⟨S4x16x1024x1280, .f32⟩
  | .hbm, ⟨45, _⟩ => ⟨S4x16x1024x1280, .f32⟩
  | .hbm, ⟨46, _⟩ => ⟨S4x16x1024x1280, .f32⟩
  | .hbm, ⟨47, _⟩ => ⟨S_, .f32⟩
  | .hbm, ⟨48, _⟩ => ⟨S4x16x1024, .f32⟩
  | .hbm, ⟨49, _⟩ => ⟨S4x16x1024x1, .f32⟩
  | .hbm, ⟨50, _⟩ => ⟨S4x16x1024x1280, .f32⟩
  | .hbm, ⟨51, _⟩ => ⟨S4x16x1024x1280, .f32⟩
  | .hbm, ⟨52, _⟩ => ⟨S4x16x128x1024, .f32⟩
  | .hbm, ⟨53, _⟩ => ⟨S4x1024x16x128, .f32⟩
  | .hbm, ⟨54, _⟩ => ⟨S4096x2048, .f32⟩
  | .hbm, ⟨55, _⟩ => ⟨S4096x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Kernel2.lean ====
abbrev S8192x2048 : Shape := ⟨2, ![8192, 2048]⟩
abbrev S4x2048x5632 : Shape := ⟨3, ![4, 2048, 5632]⟩
abbrev S8192x5632 : Shape := ⟨2, ![8192, 5632]⟩
abbrev S2048x2048 : Shape := ⟨2, ![2048, 2048]⟩
abbrev S1x2048x512 : Shape := ⟨3, ![1, 2048, 512]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2048x5632, .f32⟩
  | .hbm, ⟨2, _⟩ => ⟨S4x2048x5632, .f32⟩
  | .hbm, ⟨3, _⟩ => ⟨S8192x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S4x2048x5632 : Shape := ⟨3, ![4, 2048, 5632]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x5632, .f32⟩
  | .hbm, ⟨2, _⟩ => ⟨S4x2048x5632, .f32⟩
  | .hbm, ⟨3, _⟩ => ⟨S8192x2048, .f32⟩
  | .hbm, ⟨4, _⟩ => ⟨S1x2048x5632, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x2048x5632, .f32⟩
  | .hbm, ⟨17, _⟩ => ⟨S2048x5632, .f32⟩
  | .hbm, ⟨18, _⟩ => ⟨S8192x5632, .f32⟩
  | .hbm, ⟨19, _⟩ => ⟨S8192x5632, .f32⟩
  | .hbm, ⟨20, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel3.lean ====
abbrev S8192x5632 : Shape := ⟨2, ![8192, 5632]⟩
abbrev S4x5632x2048 : Shape := ⟨3, ![4, 5632, 2048]⟩
abbrev S8192x2048 : Shape := ⟨2, ![8192, 2048]⟩
abbrev S4x8x12288 : Shape := ⟨3, ![4, 8, 12288]⟩
abbrev S4x1x2048 : Shape := ⟨3, ![4, 1, 2048]⟩
abbrev S256x5632 : Shape := ⟨2, ![256, 5632]⟩
abbrev S1x5632x2048 : Shape := ⟨3, ![1, 5632, 2048]⟩
abbrev S256x2048 : Shape := ⟨2, ![256, 2048]⟩
abbrev S1x8x12288 : Shape := ⟨3, ![1, 8, 12288]⟩
abbrev S1x1x2048 : Shape := ⟨3, ![1, 1, 2048]⟩
abbrev S1x2048 : Shape := ⟨2, ![1, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .bf16⟩
  | .hbm, ⟨2, _⟩ => ⟨S8192x2048, .f32⟩
  | .hbm, ⟨3, _⟩ => ⟨S4x8x12288, .f32⟩
  | .hbm, ⟨4, _⟩ => ⟨S4x1x2048, .f32⟩
  | .hbm, ⟨5, _⟩ => ⟨S4x1x2048, .f32⟩
  | .hbm, ⟨6, _⟩ => ⟨S8192x2048, .f32⟩
  | .hbm, ⟨7, _⟩ => ⟨S8192x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x8x12288, .f32⟩
  | .local _ .vmem, ⟨6, _⟩ => ⟨S1x1x2048, .f32⟩
  | .local _ .vmem, ⟨7, _⟩ => ⟨S1x8x12288, .f32⟩
  | .local _ .vmem, ⟨8, _⟩ => ⟨S1x1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let c0 : Index := 0#32
  let arg0 : BitVec 32 := BitVec.ofNat 32 (i 0).val
  let c16_i32_4 : BitVec 32 := 16#32
  let v19 : BitVec 1 := Scalar.cmpi .slt arg0 c16_i32_4
  let c4_i32 : BitVec 32 := 4#32
  let c16_i32 : BitVec 32 := 16#32
  let v0 : BitVec 32 := Scalar.subi arg0 c16_i32
  let c256_i32 : BitVec 32 := 256#32
  let v1 : BitVec 32 := Scalar.muli v0 c256_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v20 : BitVec 32 := Scalar.select v19 c4_i32 v18
  let v21 : Index := Scalar.indexCast v20
  let c10240 : Index := 10240#32
  ![0, v21.toNat, 10240]
def k0_off2 (i : grid0.Coords) : Fin 3 → Nat :=
  let c0_8 : Index := 0#32
  let arg0 : BitVec 32 := BitVec.ofNat 32 (i 0).val
  let c16_i32_4 : BitVec 32 := 16#32
  let v19 : BitVec 1 := Scalar.cmpi .slt arg0 c16_i32_4
  let c4_i32 : BitVec 32 := 4#32
  let c16_i32 : BitVec 32 := 16#32
  let v0 : BitVec 32 := Scalar.subi arg0 c16_i32
  let c256_i32 : BitVec 32 := 256#32
  let v1 : BitVec 32 := Scalar.muli v0 c256_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v20 : BitVec 32 := Scalar.select v19 c4_i32 v18
  let v27 : Index := Scalar.indexCast v20
  let c0_9 : Index := 0#32
  ![0, v27.toNat, 0]
def k0_off3 (i : grid0.Coords) : Fin 3 → Nat :=
  let c0_10 : Index := 0#32
  let arg0 : BitVec 32 := BitVec.ofNat 32 (i 0).val
  let c16_i32_4 : BitVec 32 := 16#32
  let v19 : BitVec 1 := Scalar.cmpi .slt arg0 c16_i32_4
  let c4_i32 : BitVec 32 := 4#32
  let c16_i32 : BitVec 32 := 16#32
  let v0 : BitVec 32 := Scalar.subi arg0 c16_i32
  let c256_i32 : BitVec 32 := 256#32
  let v1 : BitVec 32 := Scalar.muli v0 c256_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v20 : BitVec 32 := Scalar.select v19 c4_i32 v18
  let v30 : Index := Scalar.indexCast v20
  let c2048 : Index := 2048#32
  ![0, v30.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8192x5632 : Shape := ⟨2, ![8192, 5632]⟩
abbrev S4x5632x2048 : Shape := ⟨3, ![4, 5632, 2048]⟩
abbrev S8192x2048 : Shape := ⟨2, ![8192, 2048]⟩
abbrev S4x8x12288 : Shape := ⟨3, ![4, 8, 12288]⟩
abbrev S4x1x2048 : Shape := ⟨3, ![4, 1, 2048]⟩
abbrev S1x5632x2048 : Shape := ⟨3, ![1, 5632, 2048]⟩
abbrev S5632x2048 : Shape := ⟨2, ![5632, 2048]⟩
abbrev S2x1x12288 : Shape := ⟨3, ![2, 1, 12288]⟩
abbrev S2x4096x12288 : Shape := ⟨3, ![2, 4096, 12288]⟩
abbrev S2x4x12288 : Shape := ⟨3, ![2, 4, 12288]⟩
abbrev S2x4x1x12288 : Shape := ⟨4, ![2, 4, 1, 12288]⟩
abbrev S2x4x1024x12288 : Shape := ⟨4, ![2, 4, 1024, 12288]⟩
abbrev S2x8192x12288 : Shape := ⟨3, ![2, 8192, 12288]⟩
abbrev S1x8192x2048 : Shape := ⟨3, ![1, 8192, 2048]⟩
abbrev S_ : Shape := ⟨0, ![]⟩
abbrev S8192 : Shape := ⟨1, ![8192]⟩
abbrev S8192x1 : Shape := ⟨2, ![8192, 1]⟩
abbrev S1x1x2048 : Shape := ⟨3, ![1, 1, 2048]⟩
abbrev S1x2048 : Shape := ⟨2, ![1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .bf16⟩
  | .hbm, ⟨2, _⟩ => ⟨S8192x2048, .f32⟩
  | .hbm, ⟨3, _⟩ => ⟨S4x8x12288, .f32⟩
  | .hbm, ⟨4, _⟩ => ⟨S4x1x2048, .f32⟩
  | .hbm, ⟨5, _⟩ => ⟨S4x1x2048, .f32⟩
  | .hbm, ⟨6, _⟩ => ⟨S8192x5632, .f32⟩
  | .hbm, ⟨7, _⟩ => ⟨S1x5632x2048, .bf16⟩
  | .hbm, ⟨8, _⟩ => ⟨S5632x2048, .bf16⟩
  | .hbm, ⟨9, _⟩ => ⟨S5632x2048, .f32⟩
  | .hbm, ⟨10, _⟩ => ⟨S8192x2048, .f32⟩
  | .hbm, ⟨11, _⟩ => ⟨S2x1x12288, .f32⟩
  | .hbm, ⟨12, _⟩ => ⟨S2x4096x12288, .f32⟩
  | .hbm, ⟨13, _⟩ => ⟨S2x4x12288, .f32⟩
  | .hbm, ⟨14, _⟩ => ⟨S2x4x1x12288, .f32⟩
  | .hbm, ⟨15, _⟩ => ⟨S2x4x1024x12288, .f32⟩
  | .hbm, ⟨16, _⟩ => ⟨S2x4096x12288, .f32⟩
  | .hbm, ⟨17, _⟩ => ⟨S2x8192x12288, .f32⟩
  | .hbm, ⟨18, _⟩ => ⟨S1x8192x2048, .f32⟩
  | .hbm, ⟨19, _⟩ => ⟨S8192x2048, .f32⟩
  | .hbm, ⟨20, _⟩ => ⟨S1x8192x2048, .f32⟩
  | .hbm, ⟨21, _⟩ => ⟨S8192x2048, .f32⟩
  | .hbm, ⟨22, _⟩ => ⟨S1x8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S1x1x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S1x1x2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== Kernel4.lean ====
abbrev S4096x2048 : Shape := ⟨2, ![4096, 2048]⟩
abbrev S1x2048x2048 : Shape := ⟨3, ![1, 2048, 2048]⟩
abbrev S8192x2048 : Shape := ⟨2, ![8192, 2048]⟩
abbrev S4x8x12288 : Shape := ⟨3, ![4, 8, 12288]⟩
abbrev S4x1x2048 : Shape := ⟨3, ![4, 1, 2048]⟩
abbrev S512x2048 : Shape := ⟨2, ![512, 2048]⟩
abbrev S1x8x12288 : Shape := ⟨3, ![1, 8, 12288]⟩
abbrev S1x1x2048 : Shape := ⟨3, ![1, 1, 2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .bf16⟩
  | .hbm, ⟨3, _⟩ => ⟨S8192x2048, .f32⟩
  | .hbm, ⟨4, _⟩ => ⟨S4x8x12288, .f32⟩
  | .hbm, ⟨5, _⟩ => ⟨S4x1x2048, .f32⟩
  | .hbm, ⟨6, _⟩ => ⟨S4x1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x8x12288, .f32⟩
  | .local _ .vmem, ⟨8, _⟩ => ⟨S1x1x2048, .f32⟩
  | .local _ .vmem, ⟨9, _⟩ => ⟨S1x8x12288, .f32⟩
  | .local _ .vmem, ⟨10, _⟩ => ⟨S1x1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let c0 : Index := 0#32
  let arg0 : BitVec 32 := BitVec.ofNat 32 (i 0).val
  let c8_i32_4 : BitVec 32 := 8#32
  let v19 : BitVec 1 := Scalar.cmpi .slt arg0 c8_i32_4
  let c4_i32 : BitVec 32 := 4#32
  let c8_i32 : BitVec 32 := 8#32
  let v0 : BitVec 32 := Scalar.subi arg0 c8_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v20 : BitVec 32 := Scalar.select v19 c4_i32 v18
  let v21 : Index := Scalar.indexCast v20
  let c4096 : Index := 4096#32
  ![0, v21.toNat, 4096]
def k0_off2 (i : grid0.Coords) : Fin 3 → Nat :=
  let c0_8 : Index := 0#32
  let arg0 : BitVec 32 := BitVec.ofNat 32 (i 0).val
  let c8_i32_4 : BitVec 32 := 8#32
  let v19 : BitVec 1 := Scalar.cmpi .slt arg0 c8_i32_4
  let c4_i32 : BitVec 32 := 4#32
  let c8_i32 : BitVec 32 := 8#32
  let v0 : BitVec 32 := Scalar.subi arg0 c8_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v20 : BitVec 32 := Scalar.select v19 c4_i32 v18
  let v27 : Index := Scalar.indexCast v20
  let c6144 : Index := 6144#32
  ![0, v27.toNat, 6144]
def k0_off3 (i : grid0.Coords) : Fin 3 → Nat :=
  let c0_9 : Index := 0#32
  let arg0 : BitVec 32 := BitVec.ofNat 32 (i 0).val
  let c8_i32_4 : BitVec 32 := 8#32
  let v19 : BitVec 1 := Scalar.cmpi .slt arg0 c8_i32_4
  let c4_i32 : BitVec 32 := 4#32
  let c8_i32 : BitVec 32 := 8#32
  let v0 : BitVec 32 := Scalar.subi arg0 c8_i32
  let c512_i32 : BitVec 32 := 512#32
  let v1 : BitVec 32 := Scalar.muli v0 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v20 : BitVec 32 := Scalar.select v19 c4_i32 v18
  let v30 : Index := Scalar.indexCast v20
  let c8192 : Index := 8192#32
  ![0, v30.toNat, 8192]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4096x2048 : Shape := ⟨2, ![4096, 2048]⟩
abbrev S1x2048x2048 : Shape := ⟨3, ![1, 2048, 2048]⟩
abbrev S8192x2048 : Shape := ⟨2, ![8192, 2048]⟩
abbrev S4x8x12288 : Shape := ⟨3, ![4, 8, 12288]⟩
abbrev S4x1x2048 : Shape := ⟨3, ![4, 1, 2048]⟩
abbrev S2048x2048 : Shape := ⟨2, ![2048, 2048]⟩
abbrev S1x1x12288 : Shape := ⟨3, ![1, 1, 12288]⟩
abbrev S12288 : Shape := ⟨1, ![12288]⟩
abbrev S4096x12288 : Shape := ⟨2, ![4096, 12288]⟩
abbrev S1x4x12288 : Shape := ⟨3, ![1, 4, 12288]⟩
abbrev S4x12288 : Shape := ⟨2, ![4, 12288]⟩
abbrev S4x1x12288 : Shape := ⟨3, ![4, 1, 12288]⟩
abbrev S4x1024x12288 : Shape := ⟨3, ![4, 1024, 12288]⟩
abbrev S8192x12288 : Shape := ⟨2, ![8192, 12288]⟩
abbrev S_ : Shape := ⟨0, ![]⟩
abbrev S8192 : Shape := ⟨1, ![8192]⟩
abbrev S8192x1 : Shape := ⟨2, ![8192, 1]⟩
abbrev S1x1x2048 : Shape := ⟨3, ![1, 1, 2048]⟩
abbrev S1x2048 : Shape := ⟨2, ![1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .bf16⟩
  | .hbm, ⟨3, _⟩ => ⟨S8192x2048, .f32⟩
  | .hbm, ⟨4, _⟩ => ⟨S4x8x12288, .f32⟩
  | .hbm, ⟨5, _⟩ => ⟨S4x1x2048, .f32⟩
  | .hbm, ⟨6, _⟩ => ⟨S4x1x2048, .f32⟩
  | .hbm, ⟨7, _⟩ => ⟨S8192x2048, .bf16⟩
  | .hbm, ⟨8, _⟩ => ⟨S8192x2048, .f32⟩
  | .hbm, ⟨9, _⟩ => ⟨S2048x2048, .bf16⟩
  | .hbm, ⟨10, _⟩ => ⟨S2048x2048, .f32⟩
  | .hbm, ⟨11, _⟩ => ⟨S8192x2048, .f32⟩
  | .hbm, ⟨12, _⟩ => ⟨S1x1x12288, .f32⟩
  | .hbm, ⟨13, _⟩ => ⟨S12288, .f32⟩
  | .hbm, ⟨14, _⟩ => ⟨S4096x12288, .f32⟩
  | .hbm, ⟨15, _⟩ => ⟨S1x4x12288, .f32⟩
  | .hbm, ⟨16, _⟩ => ⟨S4x12288, .f32⟩
  | .hbm, ⟨17, _⟩ => ⟨S4x1x12288, .f32⟩
  | .hbm, ⟨18, _⟩ => ⟨S4x1024x12288, .f32⟩
  | .hbm, ⟨19, _⟩ => ⟨S4096x12288, .f32⟩
  | .hbm, ⟨20, _⟩ => ⟨S8192x12288, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S1x1x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S1x1x2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel5.lean ====
abbrev S8192x2048 : Shape := ⟨2, ![8192, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x2048 : Shape := ⟨2, ![8192, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Kernel6.lean ====
abbrev S8192x2048 : Shape := ⟨2, ![8192, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8192x2048 : Shape := ⟨2, ![8192, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x2048 : Shape := ⟨2, ![8192, 2048]⟩
abbrev S2x2048x2048 : Shape := ⟨3, ![2, 2048, 2048]⟩
abbrev S2x4x2048 : Shape := ⟨3, ![2, 4, 2048]⟩
abbrev S1024x2048 : Shape := ⟨2, ![1024, 2048]⟩
abbrev S1x2048x1024 : Shape := ⟨3, ![1, 2048, 1024]⟩
abbrev S1x4x1024 : Shape := ⟨3, ![1, 4, 1024]⟩
abbrev S1024x1024 : Shape := ⟨2, ![1024, 1024]⟩
abbrev S2048x1024 : Shape := ⟨2, ![2048, 1024]⟩
abbrev S256x2048 : Shape := ⟨2, ![256, 2048]⟩
abbrev S256x1024 : Shape := ⟨2, ![256, 1024]⟩
abbrev S4x1024 : Shape := ⟨2, ![4, 1024]⟩
abbrev S1024 : Shape := ⟨1, ![1024]⟩
abbrev S1x1024 : Shape := ⟨2, ![1, 1024]⟩
abbrev S2x1024 : Shape := ⟨2, ![2, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S2x4x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x4x1024, .f32⟩
  | .local _ .vmem, ⟨5, _⟩ => ⟨S1x4x1024, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x2048 : Shape := ⟨2, ![8192, 2048]⟩
abbrev S2x2048x2048 : Shape := ⟨3, ![2, 2048, 2048]⟩
abbrev S2x4x2048 : Shape := ⟨3, ![2, 4, 2048]⟩
abbrev S1x4x2048 : Shape := ⟨3, ![1, 4, 2048]⟩
abbrev S4x2048 : Shape := ⟨2, ![4, 2048]⟩
abbrev S_ : Shape := ⟨0, ![]⟩
abbrev S2048 : Shape := ⟨1, ![2048]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S2x4x2048, .f32⟩
  | .hbm, ⟨3, _⟩ => ⟨S1x4x2048, .f32⟩
  | .hbm, ⟨4, _⟩ => ⟨S4x2048, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S4x2048, .f32⟩
  | .hbm, ⟨18, _⟩ => ⟨S4x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S8192x2048, .f32⟩
  | .hbm, ⟨31, _⟩ => ⟨S1x2048x2048, .f32⟩
  | .hbm, ⟨32, _⟩ => ⟨S2048x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Kernel11.lean ====
abbrev S8192x5632 : Shape := ⟨2, ![8192, 5632]⟩
abbrev S4x5632x2048 : Shape := ⟨3, ![4, 5632, 2048]⟩
abbrev S8192x2048 : Shape := ⟨2, ![8192, 2048]⟩
abbrev S4x8x12288 : Shape := ⟨3, ![4, 8, 12288]⟩
abbrev S4x1x2048 : Shape := ⟨3, ![4, 1, 2048]⟩
abbrev S4096x2048 : Shape := ⟨2, ![4096, 2048]⟩
abbrev S256x5632 : Shape := ⟨2, ![256, 5632]⟩
abbrev S1x5632x2048 : Shape := ⟨3, ![1, 5632, 2048]⟩
abbrev S256x2048 : Shape := ⟨2, ![256, 2048]⟩
abbrev S1x8x12288 : Shape := ⟨3, ![1, 8, 12288]⟩
abbrev S1x1x2048 : Shape := ⟨3, ![1, 1, 2048]⟩
abbrev S1x2048 : Shape := ⟨2, ![1, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .bf16⟩
  | .hbm, ⟨2, _⟩ => ⟨S8192x2048, .f32⟩
  | .hbm, ⟨3, _⟩ => ⟨S4x8x12288, .f32⟩
  | .hbm, ⟨4, _⟩ => ⟨S4x1x2048, .f32⟩
  | .hbm, ⟨5, _⟩ => ⟨S4096x2048, .f32⟩
  | .hbm, ⟨6, _⟩ => ⟨S4096x2048, .f32⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x8x12288, .f32⟩
  | .local _ .vmem, ⟨6, _⟩ => ⟨S1x1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let c0 : Index := 0#32
  let arg0 : BitVec 32 := BitVec.ofNat 32 (i 0).val
  let c16_i32_4 : BitVec 32 := 16#32
  let v19 : BitVec 1 := Scalar.cmpi .slt arg0 c16_i32_4
  let c4_i32 : BitVec 32 := 4#32
  let c16_i32 : BitVec 32 := 16#32
  let v0 : BitVec 32 := Scalar.subi arg0 c16_i32
  let c256_i32 : BitVec 32 := 256#32
  let v1 : BitVec 32 := Scalar.muli v0 c256_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v20 : BitVec 32 := Scalar.select v19 c4_i32 v18
  let v21 : Index := Scalar.indexCast v20
  let c10240 : Index := 10240#32
  ![0, v21.toNat, 10240]
def k0_cond1 (i : grid0.Coords) : BitVec 1 :=
  let arg0 : BitVec 32 := BitVec.ofNat 32 (i 0).val
  let c16_i32_18 : BitVec 32 := 16#32
  let v45 : BitVec 1 := Scalar.cmpi .slt arg0 c16_i32_18
  let v46 : BitVec 32 := Scalar.extui v45
  let c0_i32_19 : BitVec 32 := 0#32
  let v47 : BitVec 1 := Scalar.cmpi .ne v46 c0_i32_19
  v47

def k0_cond2 (i : grid0.Coords) : BitVec 1 :=
  let arg0 : BitVec 32 := BitVec.ofNat 32 (i 0).val
  let c16_i32_20 : BitVec 32 := 16#32
  let v48 : BitVec 1 := Scalar.cmpi .sge arg0 c16_i32_20
  let v49 : BitVec 32 := Scalar.extui v48
  let c0_i32_21 : BitVec 32 := 0#32
  let v50 : BitVec 1 := Scalar.cmpi .ne v49 c0_i32_21
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S8192x5632 : Shape := ⟨2, ![8192, 5632]⟩
abbrev S4x5632x2048 : Shape := ⟨3, ![4, 5632, 2048]⟩
abbrev S8192x2048 : Shape := ⟨2, ![8192, 2048]⟩
abbrev S4x8x12288 : Shape := ⟨3, ![4, 8, 12288]⟩
abbrev S4x1x2048 : Shape := ⟨3, ![4, 1, 2048]⟩
abbrev S1x5632x2048 : Shape := ⟨3, ![1, 5632, 2048]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x1x2048 : Shape := ⟨3, ![1, 1, 2048]⟩
abbrev S1x2048 : Shape := ⟨2, ![1, 2048]⟩
abbrev S1x8x2048 : Shape := ⟨3, ![1, 8, 2048]⟩
abbrev S8x2048 : Shape := ⟨2, ![8, 2048]⟩
abbrev S4096x2048 : Shape := ⟨2, ![4096, 2048]⟩
abbrev S2048 : Shape := ⟨1, ![2048]⟩
abbrev S4x1024x2048 : Shape := ⟨3, ![4, 1024, 2048]⟩
abbrev S4x2048 : Shape := ⟨2, ![4, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x5632x2048, .bf16⟩
  | .hbm, ⟨2, _⟩ => ⟨S8192x2048, .f32⟩
  | .hbm, ⟨3, _⟩ => ⟨S4x8x12288, .f32⟩
  | .hbm, ⟨4, _⟩ => ⟨S4x1x2048, .f32⟩
  | .hbm, ⟨5, _⟩ => ⟨S8192x5632, .f32⟩
  | .hbm, ⟨6, _⟩ => ⟨S1x5632x2048, .bf16⟩
  | .hbm, ⟨7, _⟩ => ⟨S5632x2048, .bf16⟩
  | .hbm, ⟨8, _⟩ => ⟨S5632x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x1x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S1x8x2048, .f32⟩
  | .hbm, ⟨28, _⟩ => ⟨S8x2048, .f32⟩
  | .hbm, ⟨29, _⟩ => ⟨S4096x2048, .f32⟩
  | .hbm, ⟨30, _⟩ => ⟨S1x2048, .f32⟩
  | .hbm, ⟨31, _⟩ => ⟨S2048, .f32⟩
  | .hbm, ⟨32, _⟩ => ⟨S4096x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4x1024x2048, .f32⟩
  | .hbm, ⟨39, _⟩ => ⟨S4x2048, .f32⟩
  | .hbm, ⟨40, _⟩ => ⟨S4x1x2048, .f32⟩
  | .hbm, ⟨41, _⟩ => ⟨S4096x2048, .f32⟩
  | .hbm, ⟨42, _⟩ => ⟨S4x1024x2048, .f32⟩
  | .hbm, ⟨43, _⟩ => ⟨S4x1024x2048, .f32⟩
  | .hbm, ⟨44, _⟩ => ⟨S4x1024x2048, .f32⟩
  | .hbm, ⟨45, _⟩ => ⟨S4x1024x2048, .f32⟩
  | .hbm, ⟨46, _⟩ => ⟨S4096x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Kernel12.lean ====
abbrev S4096x2048 : Shape := ⟨2, ![4096, 2048]⟩
abbrev S1x2048x2048 : Shape := ⟨3, ![1, 2048, 2048]⟩
abbrev S4x8x12288 : Shape := ⟨3, ![4, 8, 12288]⟩
abbrev S4x1x2048 : Shape := ⟨3, ![4, 1, 2048]⟩
abbrev S8192x2048 : Shape := ⟨2, ![8192, 2048]⟩
abbrev S256x2048 : Shape := ⟨2, ![256, 2048]⟩
abbrev S1x8x12288 : Shape := ⟨3, ![1, 8, 12288]⟩
abbrev S1x1x2048 : Shape := ⟨3, ![1, 1, 2048]⟩
abbrev S1x2048 : Shape := ⟨2, ![1, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 10
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .bf16⟩
  | .hbm, ⟨3, _⟩ => ⟨S4096x2048, .f32⟩
  | .hbm, ⟨4, _⟩ => ⟨S4096x2048, .f32⟩
  | .hbm, ⟨5, _⟩ => ⟨S4x8x12288, .f32⟩
  | .hbm, ⟨6, _⟩ => ⟨S4x1x2048, .f32⟩
  | .hbm, ⟨7, _⟩ => ⟨S4x1x2048, .f32⟩
  | .hbm, ⟨8, _⟩ => ⟨S8192x2048, .f32⟩
  | .hbm, ⟨9, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x2048x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x8x12288, .f32⟩
  | .local _ .vmem, ⟨10, _⟩ => ⟨S1x1x2048, .f32⟩
  | .local _ .vmem, ⟨11, _⟩ => ⟨S1x8x12288, .f32⟩
  | .local _ .vmem, ⟨12, _⟩ => ⟨S1x1x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let c0 : Index := 0#32
  let arg0 : BitVec 32 := BitVec.ofNat 32 (i 0).val
  let c16_i32_4 : BitVec 32 := 16#32
  let v19 : BitVec 1 := Scalar.cmpi .slt arg0 c16_i32_4
  let c4_i32 : BitVec 32 := 4#32
  let c16_i32 : BitVec 32 := 16#32
  let v0 : BitVec 32 := Scalar.subi arg0 c16_i32
  let c256_i32 : BitVec 32 := 256#32
  let v1 : BitVec 32 := Scalar.muli v0 c256_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v20 : BitVec 32 := Scalar.select v19 c4_i32 v18
  let v21 : Index := Scalar.indexCast v20
  let c4096 : Index := 4096#32
  ![0, v21.toNat, 4096]
def k0_off2 (i : grid0.Coords) : Fin 3 → Nat :=
  let c0_8 : Index := 0#32
  let arg0 : BitVec 32 := BitVec.ofNat 32 (i 0).val
  let c16_i32_4 : BitVec 32 := 16#32
  let v19 : BitVec 1 := Scalar.cmpi .slt arg0 c16_i32_4
  let c4_i32 : BitVec 32 := 4#32
  let c16_i32 : BitVec 32 := 16#32
  let v0 : BitVec 32 := Scalar.subi arg0 c16_i32
  let c256_i32 : BitVec 32 := 256#32
  let v1 : BitVec 32 := Scalar.muli v0 c256_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v20 : BitVec 32 := Scalar.select v19 c4_i32 v18
  let v27 : Index := Scalar.indexCast v20
  let c6144 : Index := 6144#32
  ![0, v27.toNat, 6144]
def k0_off3 (i : grid0.Coords) : Fin 3 → Nat :=
  let c0_9 : Index := 0#32
  let arg0 : BitVec 32 := BitVec.ofNat 32 (i 0).val
  let c16_i32_4 : BitVec 32 := 16#32
  let v19 : BitVec 1 := Scalar.cmpi .slt arg0 c16_i32_4
  let c4_i32 : BitVec 32 := 4#32
  let c16_i32 : BitVec 32 := 16#32
  let v0 : BitVec 32 := Scalar.subi arg0 c16_i32
  let c256_i32 : BitVec 32 := 256#32
  let v1 : BitVec 32 := Scalar.muli v0 c256_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1024_i32 : BitVec 32 := 1024#32
  let c0_i32_1 : BitVec 32 := 0#32
  let v8 : BitVec 1 := Scalar.cmpi .sgt c1024_i32 c0_i32_1
  let v9 : BitVec 32 := Scalar.extui v8
  let c0_i32_2 : BitVec 32 := 0#32
  let v10 : BitVec 1 := Scalar.cmpi .slt c1024_i32 c0_i32_2
  let v11 : BitVec 32 := Scalar.extui v10
  let v12 : BitVec 32 := Scalar.subi v9 v11
  let v13 : BitVec 1 := Scalar.cmpi .ne v7 v12
  let v14 : BitVec 32 := Scalar.remsi v1 c1024_i32
  let c0_i32_3 : BitVec 32 := 0#32
  let v15 : BitVec 1 := Scalar.cmpi .ne v14 c0_i32_3
  let v16 : BitVec 1 := Scalar.andi v13 v15
  let v2 : BitVec 32 := Scalar.divsi v1 c1024_i32
  let c1_i32 : BitVec 32 := 1#32
  let v17 : BitVec 32 := Scalar.subi v2 c1_i32
  let v18 : BitVec 32 := Scalar.select v16 v17 v2
  let v20 : BitVec 32 := Scalar.select v19 c4_i32 v18
  let v30 : Index := Scalar.indexCast v20
  let c8192 : Index := 8192#32
  ![0, v30.toNat, 8192]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference12Ideal.lean ====
abbrev S4096x2048 : Shape := ⟨2, ![4096, 2048]⟩
abbrev S1x2048x2048 : Shape := ⟨3, ![1, 2048, 2048]⟩
abbrev S4x8x12288 : Shape := ⟨3, ![4, 8, 12288]⟩
abbrev S4x1x2048 : Shape := ⟨3, ![4, 1, 2048]⟩
abbrev S8192x2048 : Shape := ⟨2, ![8192, 2048]⟩
abbrev S2048x2048 : Shape := ⟨2, ![2048, 2048]⟩
abbrev S1x1x12288 : Shape := ⟨3, ![1, 1, 12288]⟩
abbrev S12288 : Shape := ⟨1, ![12288]⟩
abbrev S4096x12288 : Shape := ⟨2, ![4096, 12288]⟩
abbrev S1x4x12288 : Shape := ⟨3, ![1, 4, 12288]⟩
abbrev S4x12288 : Shape := ⟨2, ![4, 12288]⟩
abbrev S4x1x12288 : Shape := ⟨3, ![4, 1, 12288]⟩
abbrev S4x1024x12288 : Shape := ⟨3, ![4, 1024, 12288]⟩
abbrev S8192x12288 : Shape := ⟨2, ![8192, 12288]⟩
abbrev S_ : Shape := ⟨0, ![]⟩
abbrev S8192 : Shape := ⟨1, ![8192]⟩
abbrev S8192x1 : Shape := ⟨2, ![8192, 1]⟩
abbrev S1x1x2048 : Shape := ⟨3, ![1, 1, 2048]⟩
abbrev S1x2048 : Shape := ⟨2, ![1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S1x2048x2048, .bf16⟩
  | .hbm, ⟨3, _⟩ => ⟨S4096x2048, .f32⟩
  | .hbm, ⟨4, _⟩ => ⟨S4096x2048, .f32⟩
  | .hbm, ⟨5, _⟩ => ⟨S4x8x12288, .f32⟩
  | .hbm, ⟨6, _⟩ => ⟨S4x1x2048, .f32⟩
  | .hbm, ⟨7, _⟩ => ⟨S4x1x2048, .f32⟩
  | .hbm, ⟨8, _⟩ => ⟨S8192x2048, .bf16⟩
  | .hbm, ⟨9, _⟩ => ⟨S8192x2048, .f32⟩
  | .hbm, ⟨10, _⟩ => ⟨S2048x2048, .bf16⟩
  | .hbm, ⟨11, _⟩ => ⟨S2048x2048, .f32⟩
  | .hbm, ⟨12, _⟩ => ⟨S8192x2048, .f32⟩
  | .hbm, ⟨13, _⟩ => ⟨S1x1x12288, .f32⟩
  | .hbm, ⟨14, _⟩ => ⟨S12288, .f32⟩
  | .hbm, ⟨15, _⟩ => ⟨S4096x12288, .f32⟩
  | .hbm, ⟨16, _⟩ => ⟨S1x4x12288, .f32⟩
  | .hbm, ⟨17, _⟩ => ⟨S4x12288, .f32⟩
  | .hbm, ⟨18, _⟩ => ⟨S4x1x12288, .f32⟩
  | .hbm, ⟨19, _⟩ => ⟨S4x1024x12288, .f32⟩
  | .hbm, ⟨20, _⟩ => ⟨S4096x12288, .f32⟩
  | .hbm, ⟨21, _⟩ => ⟨S8192x12288, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x1x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S1x1x2048, .f32⟩
  | .hbm, ⟨59, _⟩ => ⟨S1x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel13.lean ====
abbrev S8192x2048 : Shape := ⟨2, ![8192, 2048]⟩
abbrev S1x2048x2048 : Shape := ⟨3, ![1, 2048, 2048]⟩
abbrev S16 : Shape := ⟨1, ![16]⟩
abbrev S_ : Shape := ⟨0, ![]⟩
abbrev S16x1 : Shape := ⟨2, ![16, 1]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S1024x1 : Shape := ⟨2, ![1024, 1]⟩
abbrev S1x16 : Shape := ⟨2, ![1, 16]⟩
abbrev S1024x16 : Shape := ⟨2, ![1024, 16]⟩
abbrev S1024x64 : Shape := ⟨2, ![1024, 64]⟩
abbrev S2048x64 : Shape := ⟨2, ![2048, 64]⟩
abbrev S2048x128 : Shape := ⟨2, ![2048, 128]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S2048x1024 : Shape := ⟨2, ![2048, 1024]⟩
abbrev S256x2048 : Shape := ⟨2, ![256, 2048]⟩
abbrev S256x1024 : Shape := ⟨2, ![256, 1024]⟩
abbrev S256x128 : Shape := ⟨2, ![256, 128]⟩

abbrev nBuf : Space → Nat
  | .hbm => 54
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S16, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .i32⟩
  | .hbm, ⟨11, _⟩ => ⟨S16x1, .i32⟩
  | .hbm, ⟨12, _⟩ => ⟨S16x64, .i32⟩
  | .hbm, ⟨13, _⟩ => ⟨S1024, .i32⟩
  | .hbm, ⟨14, _⟩ => ⟨S1024, .f32⟩
  | .hbm, ⟨15, _⟩ => ⟨S64, .i32⟩
  | .hbm, ⟨16, _⟩ => ⟨S1x64, .i32⟩
  | .hbm, ⟨17, _⟩ => ⟨S16x64, .i32⟩
  | .hbm, ⟨18, _⟩ => ⟨S1024, .i32⟩
  | .hbm, ⟨19, _⟩ => ⟨S1024, .f32⟩
  | .hbm, ⟨20, _⟩ => ⟨S1024x1, .f32⟩
  | .hbm, ⟨21, _⟩ => ⟨S1x16, .f32⟩
  | .hbm, ⟨22, _⟩ => ⟨S1024x16, .f32⟩
  | .hbm, ⟨23, _⟩ => ⟨S1024x16, .f32⟩
  | .hbm, ⟨24, _⟩ => ⟨S1024x16, .f32⟩
  | .hbm, ⟨25, _⟩ => ⟨S1024x1, .f32⟩
  | .hbm, ⟨26, _⟩ => ⟨S1x16, .f32⟩
  | .hbm, ⟨27, _⟩ => ⟨S1024x16, .f32⟩
  | .hbm, ⟨28, _⟩ => ⟨S1024x16, .f32⟩
  | .hbm, ⟨29, _⟩ => ⟨S1024x16, .f32⟩
  | .hbm, ⟨30, _⟩ => ⟨S1024x16, .f32⟩
  | .hbm, ⟨31, _⟩ => ⟨S1024x16, .f32⟩
  | .hbm, ⟨32, _⟩ => ⟨S1024x16, .f32⟩
  | .hbm, ⟨33, _⟩ => ⟨S1024x16, .f32⟩
  | .hbm, ⟨34, _⟩ => ⟨S_, .f32⟩
  | .hbm, ⟨35, _⟩ => ⟨S1024x16, .f32⟩
  | .hbm, ⟨36, _⟩ => ⟨S1024x64, .f32⟩
  | .hbm, ⟨37, _⟩ => ⟨S1024x16, .f32⟩
  | .hbm, ⟨38, _⟩ => ⟨S1024x16, .f32⟩
  | .hbm, ⟨39, _⟩ => ⟨S1024x64, .f32⟩
  | .hbm, ⟨40, _⟩ => ⟨S1024x64, .f32⟩
  | .hbm, ⟨41, _⟩ => ⟨S_, .f32⟩
  | .hbm, ⟨42, _⟩ => ⟨S1024x64, .f32⟩
  | .hbm, ⟨43, _⟩ => ⟨S2048x64, .f32⟩
  | .hbm, ⟨44, _⟩ => ⟨S2048x128, .f32⟩
  | .hbm, ⟨45, _⟩ => ⟨S_, .f32⟩
  | .hbm, ⟨46, _⟩ => ⟨S1024x64, .f32⟩
  | .hbm, ⟨47, _⟩ => ⟨S2048x64, .f32⟩
  | .hbm, ⟨48, _⟩ => ⟨S2048x128, .f32⟩
  | .hbm, ⟨49, _⟩ => ⟨S_, .f32⟩
  | .hbm, ⟨50, _⟩ => ⟨S1024x64, .f32⟩
  | .hbm, ⟨51, _⟩ => ⟨S2048x64, .f32⟩
  | .hbm, ⟨52, _⟩ => ⟨S2048x128, .f32⟩
  | .hbm, ⟨53, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_1 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_2 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_4 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c1024_i32 : BitVec 32 := 1024#32
  let v1 : BitVec 32 := Scalar.muli v0 c1024_i32
  let c1024_i32_0 : BitVec 32 := 1024#32
  let c0_i32 : BitVec 32 := 0#32
  let v2 : BitVec 1 := Scalar.cmpi .eq c1024_i32_0 c0_i32
  let c1_i32 : BitVec 32 := 1#32
  let v3 : BitVec 32 := Scalar.select v2 c1_i32 c1024_i32_0
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1024_i32_4 : BitVec 32 := 1024#32
  let v12 : BitVec 32 := Scalar.divsi v11 c1024_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c1024_i32_4 c0_i32_7
  let v19 : BitVec 32 := Scalar.extui v18
  let c0_i32_8 : BitVec 32 := 0#32
  let v20 : BitVec 1 := Scalar.cmpi .slt c1024_i32_4 c0_i32_8
  let v21 : BitVec 32 := Scalar.extui v20
  let v22 : BitVec 32 := Scalar.subi v19 v21
  let v23 : BitVec 1 := Scalar.cmpi .ne v17 v22
  let v24 : BitVec 32 := Scalar.remsi v11 c1024_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32_11 : BitVec 32 := 4#32
  let v29 : BitVec 1 := Scalar.cmpi .slt arg1 c4_i32_11
  let c1_i32_12 : BitVec 32 := 1#32
  let v30 : BitVec 32 := Scalar.select v29 c1_i32_12 v28
  let c0_i32_13 : BitVec 32 := 0#32
  let c0_i32_14 : BitVec 32 := 0#32
  ![v30.toNat, c0_i32_13.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c1024_i32 : BitVec 32 := 1024#32
  let v1 : BitVec 32 := Scalar.muli v0 c1024_i32
  let c1024_i32_0 : BitVec 32 := 1024#32
  let c0_i32 : BitVec 32 := 0#32
  let v2 : BitVec 1 := Scalar.cmpi .eq c1024_i32_0 c0_i32
  let c1_i32 : BitVec 32 := 1#32
  let v3 : BitVec 32 := Scalar.select v2 c1_i32 c1024_i32_0
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1024_i32_4 : BitVec 32 := 1024#32
  let v12 : BitVec 32 := Scalar.divsi v11 c1024_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c1024_i32_4 c0_i32_7
  let v19 : BitVec 32 := Scalar.extui v18
  let c0_i32_8 : BitVec 32 := 0#32
  let v20 : BitVec 1 := Scalar.cmpi .slt c1024_i32_4 c0_i32_8
  let v21 : BitVec 32 := Scalar.extui v20
  let v22 : BitVec 32 := Scalar.subi v19 v21
  let v23 : BitVec 1 := Scalar.cmpi .ne v17 v22
  let v24 : BitVec 32 := Scalar.remsi v11 c1024_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32_11 : BitVec 32 := 4#32
  let v29 : BitVec 1 := Scalar.cmpi .slt arg1 c4_i32_11
  let c1_i32_12 : BitVec 32 := 1#32
  let v30 : BitVec 32 := Scalar.select v29 c1_i32_12 v28
  let c0_i32_13 : BitVec 32 := 0#32
  let c0_i32_14 : BitVec 32 := 0#32
  ![v30.toNat, c0_i32_13.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c1024_i32 : BitVec 32 := 1024#32
  let v1 : BitVec 32 := Scalar.muli v0 c1024_i32
  let c1024_i32_0 : BitVec 32 := 1024#32
  let c0_i32 : BitVec 32 := 0#32
  let v2 : BitVec 1 := Scalar.cmpi .eq c1024_i32_0 c0_i32
  let c1_i32 : BitVec 32 := 1#32
  let v3 : BitVec 32 := Scalar.select v2 c1_i32 c1024_i32_0
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1024_i32_4 : BitVec 32 := 1024#32
  let v12 : BitVec 32 := Scalar.divsi v11 c1024_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c1024_i32_4 c0_i32_7
  let v19 : BitVec 32 := Scalar.extui v18
  let c0_i32_8 : BitVec 32 := 0#32
  let v20 : BitVec 1 := Scalar.cmpi .slt c1024_i32_4 c0_i32_8
  let v21 : BitVec 32 := Scalar.extui v20
  let v22 : BitVec 32 := Scalar.subi v19 v21
  let v23 : BitVec 1 := Scalar.cmpi .ne v17 v22
  let v24 : BitVec 32 := Scalar.remsi v11 c1024_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32_11 : BitVec 32 := 4#32
  let v29 : BitVec 1 := Scalar.cmpi .slt arg1 c4_i32_11
  let c1_i32_12 : BitVec 32 := 1#32
  let v30 : BitVec 32 := Scalar.select v29 c1_i32_12 v28
  let c0_i32_13 : BitVec 32 := 0#32
  let c0_i32_14 : BitVec 32 := 0#32
  ![v30.toNat, c0_i32_13.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S8192x2048 : Shape := ⟨2, ![8192, 2048]⟩
abbrev S1x2048x2048 : Shape := ⟨3, ![1, 2048, 2048]⟩
abbrev S2048x2048 : Shape := ⟨2, ![2048, 2048]⟩
abbrev S4096x2048 : Shape := ⟨2, ![4096, 2048]⟩
abbrev S4x1024x32x64 : Shape := ⟨4, ![4, 1024, 32, 64]⟩
abbrev S16 : Shape := ⟨1, ![16]⟩
abbrev S_ : Shape := ⟨0, ![]⟩
abbrev S16x1 : Shape := ⟨2, ![16, 1]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S4x1024x32x32 : Shape := ⟨4, ![4, 1024, 32, 32]⟩
abbrev S1024x1 : Shape := ⟨2, ![1024, 1]⟩
abbrev S1x16 : Shape := ⟨2, ![1, 16]⟩
abbrev S1024x16 : Shape := ⟨2, ![1024, 16]⟩
abbrev S1024x1x16 : Shape := ⟨3, ![1024, 1, 16]⟩
abbrev S4x1024x32x16 : Shape := ⟨4, ![4, 1024, 32, 16]⟩
abbrev S1x1024x1x16 : Shape := ⟨4, ![1, 1024, 1, 16]⟩

abbrev nBuf : Space → Nat
  | .hbm => 82
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S4096x2048, .f32⟩
  | .hbm, ⟨6, _⟩ => ⟨S4x1024x32x64, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .i32⟩
  | .hbm, ⟨16, _⟩ => ⟨S16x1, .i32⟩
  | .hbm, ⟨17, _⟩ => ⟨S16x64, .i32⟩
  | .hbm, ⟨18, _⟩ => ⟨S1024, .i32⟩
  | .hbm, ⟨19, _⟩ => ⟨S1024, .f32⟩
  | .hbm, ⟨20, _⟩ => ⟨S64, .i32⟩
  | .hbm, ⟨21, _⟩ => ⟨S1x64, .i32⟩
  | .hbm, ⟨22, _⟩ => ⟨S16x64, .i32⟩
  | .hbm, ⟨23, _⟩ => ⟨S1024, .i32⟩
  | .hbm, ⟨24, _⟩ => ⟨S1024, .f32⟩
  | .hbm, ⟨25, _⟩ => ⟨S4x1024x32x32, .f32⟩
  | .hbm, ⟨26, _⟩ => ⟨S1024x1, .f32⟩
  | .hbm, ⟨27, _⟩ => ⟨S1x16, .f32⟩
  | .hbm, ⟨28, _⟩ => ⟨S1024x16, .f32⟩
  | .hbm, ⟨29, _⟩ => ⟨S1024x16, .f32⟩
  | .hbm, ⟨30, _⟩ => ⟨S1024x16, .f32⟩
  | .hbm, ⟨31, _⟩ => ⟨S1024x1x16, .f32⟩
  | .hbm, ⟨32, _⟩ => ⟨S1024x1x16, .f32⟩
  | .hbm, ⟨33, _⟩ => ⟨S1024x1x16, .f32⟩
  | .hbm, ⟨34, _⟩ => ⟨S4x1024x32x16, .f32⟩
  | .hbm, ⟨35, _⟩ => ⟨S4x1024x32x16, .f32⟩
  | .hbm, ⟨36, _⟩ => ⟨S1x1024x1x16, .f32⟩
  | .hbm, ⟨37, _⟩ => ⟨S4x1024x32x16, .f32⟩
  | .hbm, ⟨38, _⟩ => ⟨S4x1024x32x16, .f32⟩
  | .hbm, ⟨39, _⟩ => ⟨S1x1024x1x16, .f32⟩
  | .hbm, ⟨40, _⟩ => ⟨S4x1024x32x16, .f32⟩
  | .hbm, ⟨41, _⟩ => ⟨S4x1024x32x16, .f32⟩
  | .hbm, ⟨42, _⟩ => ⟨S4x1024x32x16, .f32⟩
  | .hbm, ⟨43, _⟩ => ⟨S1x1024x1x16, .f32⟩
  | .hbm, ⟨44, _⟩ => ⟨S4x1024x32x16, .f32⟩
  | .hbm, ⟨45, _⟩ => ⟨S4x1024x32x16, .f32⟩
  | .hbm, ⟨46, _⟩ => ⟨S1x1024x1x16, .f32⟩
  | .hbm, ⟨47, _⟩ => ⟨S4x1024x32x16, .f32⟩
  | .hbm, ⟨48, _⟩ => ⟨S4x1024x32x16, .f32⟩
  | .hbm, ⟨49, _⟩ => ⟨S4x1024x32x16, .f32⟩
  | .hbm, ⟨50, _⟩ => ⟨S4x1024x32x32, .f32⟩
  | .hbm, ⟨51, _⟩ => ⟨S4x1024x32x32, .f32⟩
  | .hbm, ⟨52, _⟩ => ⟨S1024x1, .f32⟩
  | .hbm, ⟨53, _⟩ => ⟨S1x16, .f32⟩
  | .hbm, ⟨54, _⟩ => ⟨S1024x16, .f32⟩
  | .hbm, ⟨55, _⟩ => ⟨S1024x16, .f32⟩
  | .hbm, ⟨56, _⟩ => ⟨S1024x16, .f32⟩
  | .hbm, ⟨57, _⟩ => ⟨S1024x1x16, .f32⟩
  | .hbm, ⟨58, _⟩ => ⟨S1024x1x16, .f32⟩
  | .hbm, ⟨59, _⟩ => ⟨S1024x1x16, .f32⟩
  | .hbm, ⟨60, _⟩ => ⟨S4x1024x32x16, .f32⟩
  | .hbm, ⟨61, _⟩ => ⟨S4x1024x32x16, .f32⟩
  | .hbm, ⟨62, _⟩ => ⟨S1x1024x1x16, .f32⟩
  | .hbm, ⟨63, _⟩ => ⟨S4x1024x32x16, .f32⟩
  | .hbm, ⟨64, _⟩ => ⟨S4x1024x32x16, .f32⟩
  | .hbm, ⟨65, _⟩ => ⟨S1x1024x1x16, .f32⟩
  | .hbm, ⟨66, _⟩ => ⟨S4x1024x32x16, .f32⟩
  | .hbm, ⟨67, _⟩ => ⟨S4x1024x32x16, .f32⟩
  | .hbm, ⟨68, _⟩ => ⟨S4x1024x32x16, .f32⟩
  | .hbm, ⟨69, _⟩ => ⟨S1x1024x1x16, .f32⟩
  | .hbm, ⟨70, _⟩ => ⟨S4x1024x32x16, .f32⟩
  | .hbm, ⟨71, _⟩ => ⟨S4x1024x32x16, .f32⟩
  | .hbm, ⟨72, _⟩ => ⟨S1x1024x1x16, .f32⟩
  | .hbm, ⟨73, _⟩ => ⟨S4x1024x32x16, .f32⟩
  | .hbm, ⟨74, _⟩ => ⟨S4x1024x32x16, .f32⟩
  | .hbm, ⟨75, _⟩ => ⟨S4x1024x32x16, .f32⟩
  | .hbm, ⟨76, _⟩ => ⟨S4x1024x32x32, .f32⟩
  | .hbm, ⟨77, _⟩ => ⟨S4x1024x32x64, .f32⟩
  | .hbm, ⟨78, _⟩ => ⟨S4096x2048, .f32⟩
  | .hbm, ⟨79, _⟩ => ⟨S4096x2048, .f32⟩
  | .hbm, ⟨80, _⟩ => ⟨S8192x2048, .f32⟩
  | .hbm, ⟨81, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩

abbrev nD : Nat := 1
abbrev τ : Topo := Topo.v7x

variable {F : FTy → Type} [FloatOps F]
-- ==== Kernel9.lean ====
abbrev S8192x2048 : Shape := ⟨2, ![8192, 2048]⟩
abbrev S1x2048x2048 : Shape := ⟨3, ![1, 2048, 2048]⟩
abbrev S4096x2048 : Shape := ⟨2, ![4096, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c4_i32 : BitVec 32 := 4#32
  let v23 : BitVec 1 := Scalar.cmpi .slt arg1 c4_i32
  let v24 : BitVec 32 := Scalar.extui v23
  let c0_i32_24 : BitVec 32 := 0#32
  let v25 : BitVec 1 := Scalar.cmpi .ne v24 c0_i32_24
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8192x2048 : Shape := ⟨2, ![8192, 2048]⟩
abbrev S1x2048x2048 : Shape := ⟨3, ![1, 2048, 2048]⟩
abbrev S2048x2048 : Shape := ⟨2, ![2048, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | .hbm, ⟨6, _⟩ => ⟨S4096x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S8192x2048 : Shape := ⟨2, ![8192, 2048]⟩
abbrev S1x2048x2048 : Shape := ⟨3, ![1, 2048, 2048]⟩
abbrev S16 : Shape := ⟨1, ![16]⟩
abbrev S_ : Shape := ⟨0, ![]⟩
abbrev S16x1 : Shape := ⟨2, ![16, 1]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S1024x1 : Shape := ⟨2, ![1024, 1]⟩
abbrev S1x16 : Shape := ⟨2, ![1, 16]⟩
abbrev S1024x16 : Shape := ⟨2, ![1024, 16]⟩
abbrev S1024x64 : Shape := ⟨2, ![1024, 64]⟩
abbrev S2048x64 : Shape := ⟨2, ![2048, 64]⟩
abbrev S2048x128 : Shape := ⟨2, ![2048, 128]⟩
abbrev S4096x2048 : Shape := ⟨2, ![4096, 2048]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S2048x1024 : Shape := ⟨2, ![2048, 1024]⟩
abbrev S256x2048 : Shape := ⟨2, ![256, 2048]⟩
abbrev S256x1024 : Shape := ⟨2, ![256, 1024]⟩
abbrev S256x128 : Shape := ⟨2, ![256, 128]⟩

abbrev nBuf : Space → Nat
  | .hbm => 55
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S16, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .i32⟩
  | .hbm, ⟨11, _⟩ => ⟨S16x1, .i32⟩
  | .hbm, ⟨12, _⟩ => ⟨S16x64, .i32⟩
  | .hbm, ⟨13, _⟩ => ⟨S1024, .i32⟩
  | .hbm, ⟨14, _⟩ => ⟨S1024, .f32⟩
  | .hbm, ⟨15, _⟩ => ⟨S64, .i32⟩
  | .hbm, ⟨16, _⟩ => ⟨S1x64, .i32⟩
  | .hbm, ⟨17, _⟩ => ⟨S16x64, .i32⟩
  | .hbm, ⟨18, _⟩ => ⟨S1024, .i32⟩
  | .hbm, ⟨19, _⟩ => ⟨S1024, .f32⟩
  | .hbm, ⟨20, _⟩ => ⟨S1024x1, .f32⟩
  | .hbm, ⟨21, _⟩ => ⟨S1x16, .f32⟩
  | .hbm, ⟨22, _⟩ => ⟨S1024x16, .f32⟩
  | .hbm, ⟨23, _⟩ => ⟨S1024x16, .f32⟩
  | .hbm, ⟨24, _⟩ => ⟨S1024x16, .f32⟩
  | .hbm, ⟨25, _⟩ => ⟨S1024x1, .f32⟩
  | .hbm, ⟨26, _⟩ => ⟨S1x16, .f32⟩
  | .hbm, ⟨27, _⟩ => ⟨S1024x16, .f32⟩
  | .hbm, ⟨28, _⟩ => ⟨S1024x16, .f32⟩
  | .hbm, ⟨29, _⟩ => ⟨S1024x16, .f32⟩
  | .hbm, ⟨30, _⟩ => ⟨S1024x16, .f32⟩
  | .hbm, ⟨31, _⟩ => ⟨S1024x16, .f32⟩
  | .hbm, ⟨32, _⟩ => ⟨S1024x16, .f32⟩
  | .hbm, ⟨33, _⟩ => ⟨S1024x16, .f32⟩
  | .hbm, ⟨34, _⟩ => ⟨S_, .f32⟩
  | .hbm, ⟨35, _⟩ => ⟨S1024x16, .f32⟩
  | .hbm, ⟨36, _⟩ => ⟨S1024x64, .f32⟩
  | .hbm, ⟨37, _⟩ => ⟨S1024x16, .f32⟩
  | .hbm, ⟨38, _⟩ => ⟨S1024x16, .f32⟩
  | .hbm, ⟨39, _⟩ => ⟨S1024x64, .f32⟩
  | .hbm, ⟨40, _⟩ => ⟨S1024x64, .f32⟩
  | .hbm, ⟨41, _⟩ => ⟨S_, .f32⟩
  | .hbm, ⟨42, _⟩ => ⟨S1024x64, .f32⟩
  | .hbm, ⟨43, _⟩ => ⟨S2048x64, .f32⟩
  | .hbm, ⟨44, _⟩ => ⟨S2048x128, .f32⟩
  | .hbm, ⟨45, _⟩ => ⟨S_, .f32⟩
  | .hbm, ⟨46, _⟩ => ⟨S1024x64, .f32⟩
  | .hbm, ⟨47, _⟩ => ⟨S2048x64, .f32⟩
  | .hbm, ⟨48, _⟩ => ⟨S2048x128, .f32⟩
  | .hbm, ⟨49, _⟩ => ⟨S_, .f32⟩
  | .hbm, ⟨50, _⟩ => ⟨S1024x64, .f32⟩
  | .hbm, ⟨51, _⟩ => ⟨S2048x64, .f32⟩
  | .hbm, ⟨52, _⟩ => ⟨S2048x128, .f32⟩
  | .hbm, ⟨53, _⟩ => ⟨S8192x2048, .bf16⟩
  | .hbm, ⟨54, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_1 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_2 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_4 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45_0 : Ref sig .tc := ⟨.hbm, 53, rfl⟩
abbrev main_v45_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c4_i32 : BitVec 32 := 4#32
  let v359 : BitVec 1 := Scalar.cmpi .slt arg1 c4_i32
  let v360 : BitVec 32 := Scalar.extui v359
  let c0_i32_162 : BitVec 32 := 0#32
  let v361 : BitVec 1 := Scalar.cmpi .ne v360 c0_i32_162
  v361

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c1024_i32 : BitVec 32 := 1024#32
  let v1 : BitVec 32 := Scalar.muli v0 c1024_i32
  let c1024_i32_0 : BitVec 32 := 1024#32
  let c0_i32 : BitVec 32 := 0#32
  let v2 : BitVec 1 := Scalar.cmpi .eq c1024_i32_0 c0_i32
  let c1_i32 : BitVec 32 := 1#32
  let v3 : BitVec 32 := Scalar.select v2 c1_i32 c1024_i32_0
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1024_i32_4 : BitVec 32 := 1024#32
  let v12 : BitVec 32 := Scalar.divsi v11 c1024_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c1024_i32_4 c0_i32_7
  let v19 : BitVec 32 := Scalar.extui v18
  let c0_i32_8 : BitVec 32 := 0#32
  let v20 : BitVec 1 := Scalar.cmpi .slt c1024_i32_4 c0_i32_8
  let v21 : BitVec 32 := Scalar.extui v20
  let v22 : BitVec 32 := Scalar.subi v19 v21
  let v23 : BitVec 1 := Scalar.cmpi .ne v17 v22
  let v24 : BitVec 32 := Scalar.remsi v11 c1024_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32_11 : BitVec 32 := 4#32
  let v29 : BitVec 1 := Scalar.cmpi .slt arg1 c4_i32_11
  let c1_i32_12 : BitVec 32 := 1#32
  let v30 : BitVec 32 := Scalar.select v29 c1_i32_12 v28
  let c0_i32_13 : BitVec 32 := 0#32
  let c0_i32_14 : BitVec 32 := 0#32
  ![v30.toNat, c0_i32_13.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c1024_i32 : BitVec 32 := 1024#32
  let v1 : BitVec 32 := Scalar.muli v0 c1024_i32
  let c1024_i32_0 : BitVec 32 := 1024#32
  let c0_i32 : BitVec 32 := 0#32
  let v2 : BitVec 1 := Scalar.cmpi .eq c1024_i32_0 c0_i32
  let c1_i32 : BitVec 32 := 1#32
  let v3 : BitVec 32 := Scalar.select v2 c1_i32 c1024_i32_0
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1024_i32_4 : BitVec 32 := 1024#32
  let v12 : BitVec 32 := Scalar.divsi v11 c1024_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c1024_i32_4 c0_i32_7
  let v19 : BitVec 32 := Scalar.extui v18
  let c0_i32_8 : BitVec 32 := 0#32
  let v20 : BitVec 1 := Scalar.cmpi .slt c1024_i32_4 c0_i32_8
  let v21 : BitVec 32 := Scalar.extui v20
  let v22 : BitVec 32 := Scalar.subi v19 v21
  let v23 : BitVec 1 := Scalar.cmpi .ne v17 v22
  let v24 : BitVec 32 := Scalar.remsi v11 c1024_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32_11 : BitVec 32 := 4#32
  let v29 : BitVec 1 := Scalar.cmpi .slt arg1 c4_i32_11
  let c1_i32_12 : BitVec 32 := 1#32
  let v30 : BitVec 32 := Scalar.select v29 c1_i32_12 v28
  let c0_i32_13 : BitVec 32 := 0#32
  let c0_i32_14 : BitVec 32 := 0#32
  ![v30.toNat, c0_i32_13.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c1024_i32 : BitVec 32 := 1024#32
  let v1 : BitVec 32 := Scalar.muli v0 c1024_i32
  let c1024_i32_0 : BitVec 32 := 1024#32
  let c0_i32 : BitVec 32 := 0#32
  let v2 : BitVec 1 := Scalar.cmpi .eq c1024_i32_0 c0_i32
  let c1_i32 : BitVec 32 := 1#32
  let v3 : BitVec 32 := Scalar.select v2 c1_i32 c1024_i32_0
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1024_i32_4 : BitVec 32 := 1024#32
  let v12 : BitVec 32 := Scalar.divsi v11 c1024_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c1024_i32_4 c0_i32_7
  let v19 : BitVec 32 := Scalar.extui v18
  let c0_i32_8 : BitVec 32 := 0#32
  let v20 : BitVec 1 := Scalar.cmpi .slt c1024_i32_4 c0_i32_8
  let v21 : BitVec 32 := Scalar.extui v20
  let v22 : BitVec 32 := Scalar.subi v19 v21
  let v23 : BitVec 1 := Scalar.cmpi .ne v17 v22
  let v24 : BitVec 32 := Scalar.remsi v11 c1024_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32_11 : BitVec 32 := 4#32
  let v29 : BitVec 1 := Scalar.cmpi .slt arg1 c4_i32_11
  let c1_i32_12 : BitVec 32 := 1#32
  let v30 : BitVec 32 := Scalar.select v29 c1_i32_12 v28
  let c0_i32_13 : BitVec 32 := 0#32
  let c0_i32_14 : BitVec 32 := 0#32
  ![v30.toNat, c0_i32_13.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference14Ideal.lean ====
abbrev S8192x2048 : Shape := ⟨2, ![8192, 2048]⟩
abbrev S1x2048x2048 : Shape := ⟨3, ![1, 2048, 2048]⟩
abbrev S2048x2048 : Shape := ⟨2, ![2048, 2048]⟩
abbrev S4096x2048 : Shape := ⟨2, ![4096, 2048]⟩
abbrev S4x1024x32x64 : Shape := ⟨4, ![4, 1024, 32, 64]⟩
abbrev S16 : Shape := ⟨1, ![16]⟩
abbrev S_ : Shape := ⟨0, ![]⟩
abbrev S16x1 : Shape := ⟨2, ![16, 1]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S4x1024x32x32 : Shape := ⟨4, ![4, 1024, 32, 32]⟩
abbrev S1024x1 : Shape := ⟨2, ![1024, 1]⟩
abbrev S1x16 : Shape := ⟨2, ![1, 16]⟩
abbrev S1024x16 : Shape := ⟨2, ![1024, 16]⟩
abbrev S1024x1x16 : Shape := ⟨3, ![1024, 1, 16]⟩
abbrev S4x1024x32x16 : Shape := ⟨4, ![4, 1024, 32, 16]⟩
abbrev S1x1024x1x16 : Shape := ⟨4, ![1, 1024, 1, 16]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S4096x2048, .f32⟩
  | .hbm, ⟨6, _⟩ => ⟨S4x1024x32x64, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .i32⟩
  | .hbm, ⟨16, _⟩ => ⟨S16x1, .i32⟩
  | .hbm, ⟨17, _⟩ => ⟨S16x64, .i32⟩
  | .hbm, ⟨18, _⟩ => ⟨S1024, .i32⟩
  | .hbm, ⟨19, _⟩ => ⟨S1024, .f32⟩
  | .hbm, ⟨20, _⟩ => ⟨S64, .i32⟩
  | .hbm, ⟨21, _⟩ => ⟨S1x64, .i32⟩
  | .hbm, ⟨22, _⟩ => ⟨S16x64, .i32⟩
  | .hbm, ⟨23, _⟩ => ⟨S1024, .i32⟩
  | .hbm, ⟨24, _⟩ => ⟨S1024, .f32⟩
  | .hbm, ⟨25, _⟩ => ⟨S4x1024x32x32, .f32⟩
  | .hbm, ⟨26, _⟩ => ⟨S1024x1, .f32⟩
  | .hbm, ⟨27, _⟩ => ⟨S1x16, .f32⟩
  | .hbm, ⟨28, _⟩ => ⟨S1024x16, .f32⟩
  | .hbm, ⟨29, _⟩ => ⟨S1024x16, .f32⟩
  | .hbm, ⟨30, _⟩ => ⟨S1024x16, .f32⟩
  | .hbm, ⟨31, _⟩ => ⟨S1024x1x16, .f32⟩
  | .hbm, ⟨32, _⟩ => ⟨S1024x1x16, .f32⟩
  | .hbm, ⟨33, _⟩ => ⟨S1024x1x16, .f32⟩
  | .hbm, ⟨34, _⟩ => ⟨S4x1024x32x16, .f32⟩
  | .hbm, ⟨35, _⟩ => ⟨S4x1024x32x16, .f32⟩
  | .hbm, ⟨36, _⟩ => ⟨S1x1024x1x16, .f32⟩
  | .hbm, ⟨37, _⟩ => ⟨S4x1024x32x16, .f32⟩
  | .hbm, ⟨38, _⟩ => ⟨S4x1024x32x16, .f32⟩
  | .hbm, ⟨39, _⟩ => ⟨S1x1024x1x16, .f32⟩
  | .hbm, ⟨40, _⟩ => ⟨S4x1024x32x16, .f32⟩
  | .hbm, ⟨41, _⟩ => ⟨S4x1024x32x16, .f32⟩
  | .hbm, ⟨42, _⟩ => ⟨S4x1024x32x16, .f32⟩
  | .hbm, ⟨43, _⟩ => ⟨S1x1024x1x16, .f32⟩
  | .hbm, ⟨44, _⟩ => ⟨S4x1024x32x16, .f32⟩
  | .hbm, ⟨45, _⟩ => ⟨S4x1024x32x16, .f32⟩
  | .hbm, ⟨46, _⟩ => ⟨S1x1024x1x16, .f32⟩
  | .hbm, ⟨47, _⟩ => ⟨S4x1024x32x16, .f32⟩
  | .hbm, ⟨48, _⟩ => ⟨S4x1024x32x16, .f32⟩
  | .hbm, ⟨49, _⟩ => ⟨S4x1024x32x16, .f32⟩
  | .hbm, ⟨50, _⟩ => ⟨S4x1024x32x32, .f32⟩
  | .hbm, ⟨51, _⟩ => ⟨S4x1024x32x32, .f32⟩
  | .hbm, ⟨52, _⟩ => ⟨S1024x1, .f32⟩
  | .hbm, ⟨53, _⟩ => ⟨S1x16, .f32⟩
  | .hbm, ⟨54, _⟩ => ⟨S1024x16, .f32⟩
  | .hbm, ⟨55, _⟩ => ⟨S1024x16, .f32⟩
  | .hbm, ⟨56, _⟩ => ⟨S1024x16, .f32⟩
  | .hbm, ⟨57, _⟩ => ⟨S1024x1x16, .f32⟩
  | .hbm, ⟨58, _⟩ => ⟨S1024x1x16, .f32⟩
  | .hbm, ⟨59, _⟩ => ⟨S1024x1x16, .f32⟩
  | .hbm, ⟨60, _⟩ => ⟨S4x1024x32x16, .f32⟩
  | .hbm, ⟨61, _⟩ => ⟨S4x1024x32x16, .f32⟩
  | .hbm, ⟨62, _⟩ => ⟨S1x1024x1x16, .f32⟩
  | .hbm, ⟨63, _⟩ => ⟨S4x1024x32x16, .f32⟩
  | .hbm, ⟨64, _⟩ => ⟨S4x1024x32x16, .f32⟩
  | .hbm, ⟨65, _⟩ => ⟨S1x1024x1x16, .f32⟩
  | .hbm, ⟨66, _⟩ => ⟨S4x1024x32x16, .f32⟩
  | .hbm, ⟨67, _⟩ => ⟨S4x1024x32x16, .f32⟩
  | .hbm, ⟨68, _⟩ => ⟨S4x1024x32x16, .f32⟩
  | .hbm, ⟨69, _⟩ => ⟨S1x1024x1x16, .f32⟩
  | .hbm, ⟨70, _⟩ => ⟨S4x1024x32x16, .f32⟩
  | .hbm, ⟨71, _⟩ => ⟨S4x1024x32x16, .f32⟩
  | .hbm, ⟨72, _⟩ => ⟨S1x1024x1x16, .f32⟩
  | .hbm, ⟨73, _⟩ => ⟨S4x1024x32x16, .f32⟩
  | .hbm, ⟨74, _⟩ => ⟨S4x1024x32x16, .f32⟩
  | .hbm, ⟨75, _⟩ => ⟨S4x1024x32x16, .f32⟩
  | .hbm, ⟨76, _⟩ => ⟨S4x1024x32x32, .f32⟩
  | .hbm, ⟨77, _⟩ => ⟨S4x1024x32x64, .f32⟩
  | .hbm, ⟨78, _⟩ => ⟨S4096x2048, .f32⟩
  | .hbm, ⟨79, _⟩ => ⟨S4096x2048, .f32⟩
  | .hbm, ⟨80, _⟩ => ⟨S8192x2048, .f32⟩
  | .hbm, ⟨81, _⟩ => ⟨S8192x2048, .bf16⟩
  | .hbm, ⟨82, _⟩ => ⟨S4096x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩

abbrev nD : Nat := 1
abbrev τ : Topo := Topo.v7x

variable {F : FTy → Type} [FloatOps F]
-- ==== Proof.Call11.IdealRun.lean ====
/- The last layer's down product: the frame run. The grid's first sixteen points store the context block, the last
   sixteen the latent one; the context block of point 15 stays in its buffer until the grid's end, where it is written
   back a last time. -/
module

public import proofs.«01_k».proof.Proof.Gen.Kernel11Ideal.Launch
public import proofs.«01_k».proof.Proof.Gen.Kernel11Ideal.Skeleton
public import proofs.«01_k».proof.Proof.Gen.Kernel11Ideal.Points
public import proofs.«01_k».proof.Proof.Gen.Kernel11Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the run is stated over. -/
abbrev Res (F : FTy → Type) := MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S256x5632 .bf16 := win0_0.stage (cfg0.slots t 0)
theorem hs0_0 (t : Fin cfg0.N) : (ms0_0 t).IsWhole := hstage0_0 ((cfg0.slots t 0).cast nbuf0_0)
abbrev ms0_1 (t : Fin cfg0.N) : Memref sig .tc .vmem S1x5632x2048 .bf16 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S1x8x12288 .f32 := win0_3.stage (cfg0.slots t 3)
theorem hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
theorem hs0_4 (t : Fin cfg0.N) : (ms0_4 t).IsWhole := hstage0_4 ((cfg0.slots t 4).cast nbuf0_4)
abbrev ms0_5 (t : Fin cfg0.N) : Memref sig .tc .vmem S256x2048 .f32 := win0_5.stage (cfg0.slots t 5)
theorem hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
theorem hs0_6 (t : Fin cfg0.N) : (ms0_6 t).IsWhole := hstage0_6 ((cfg0.slots t 6).cast nbuf0_6)

/-- An output's buffer, over which its pieces are read back. -/
abbrev VO0_5 : View sig .tc .vmem S256x2048 .f32 := (Memref.whole cc0_stg5_0 : Memref sig .tc .vmem S256x2048 .f32).view

set_option maxHeartbeats 1000000 in
/-- What the body leaves in output 5's buffer at a point that stores it. -/
def kernelRun0_A (c : Dev nD) (i : grid0.Coords) (arg1 : Memref sig .tc .vmem S256x5632 .bf16) (harg1 : arg1.IsWhole) (arg2 : Memref sig .tc .vmem S1x5632x2048 .bf16) (harg2 : arg2.IsWhole) (arg3 : Memref sig .tc .vmem S256x2048 .f32) (harg3 : arg3.IsWhole) (arg4 : Memref sig .tc .vmem S1x8x12288 .f32) (harg4 : arg4.IsWhole) (arg5 : Memref sig .tc .vmem S1x1x2048 .f32) (harg5 : arg5.IsWhole)
    (arg6 : Memref sig .tc .vmem S256x2048 .f32) (harg6 : arg6.IsWhole) (arg7 : Memref sig .tc .vmem S256x2048 .f32) (harg7 : arg7.IsWhole)
    (x0 : Vec F S256x5632 .bf16) (x1 : Vec F S1x5632x2048 .bf16) (x2 : Vec F S256x2048 .f32) (x3 : Vec F S1x8x12288 .f32) (x4 : Vec F S1x1x2048 .f32)
    (hc1 : k0_cond1 i = 1#1) (hc2 : ¬ k0_cond2 i = 1#1) :
    { L : List (View.Piece (Elt F) S256x2048 .f32) //
      ∀ (E : Set ℕ) (K : PUnit → sProp (Res F)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L)) -∗ K ⟨⟩))
          ⊢ wp frame (wpE (defs₀ (F := F)) Variants.none c none) E (cc0_ffn_down i arg1 harg1 arg2 harg2 arg3 harg3 arg4 harg4 arg5 harg5 arg6 harg6 arg7 harg7) K } := by
  refine ⟨?_, fun E K => ?run⟩
  case run =>
    simp only [cc0_ffn_down_eq_skeleton]; unfold cc0_ffn_down_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

theorem cover0_A (c : Dev nD) (i : grid0.Coords) (arg1 : Memref sig .tc .vmem S256x5632 .bf16) (harg1 : arg1.IsWhole) (arg2 : Memref sig .tc .vmem S1x5632x2048 .bf16) (harg2 : arg2.IsWhole) (arg3 : Memref sig .tc .vmem S256x2048 .f32) (harg3 : arg3.IsWhole) (arg4 : Memref sig .tc .vmem S1x8x12288 .f32) (harg4 : arg4.IsWhole) (arg5 : Memref sig .tc .vmem S1x1x2048 .f32) (harg5 : arg5.IsWhole)
    (arg6 : Memref sig .tc .vmem S256x2048 .f32) (harg6 : arg6.IsWhole) (arg7 : Memref sig .tc .vmem S256x2048 .f32) (harg7 : arg7.IsWhole)
    (x0 : Vec F S256x5632 .bf16) (x1 : Vec F S1x5632x2048 .bf16) (x2 : Vec F S256x2048 .f32) (x3 : Vec F S1x8x12288 .f32) (x4 : Vec F S1x1x2048 .f32)
    (hc1 : k0_cond1 i = 1#1) (hc2 : ¬ k0_cond2 i = 1#1) (y : S256x2048.Idx) :
    ∃ pc ∈ (kernelRun0_A c i arg1 harg1 arg2 harg2 arg3 harg3 arg4 harg4 arg5 harg5 arg6 harg6 arg7 harg7 x0 x1 x2 x3 x4 hc1 hc2).1, y ∈ pc.1.set :=
  View.cover_of_tiledL (kernelRun0_A c i arg1 harg1 arg2 harg2 arg3 harg3 arg4 harg4 arg5 harg5 arg6 harg6 arg7 harg7 x0 x1 x2 x3 x4 hc1 hc2).1 S256x2048.size (by sl_kernel_rfl) y

/-- What that leaves in the buffer. -/
def out0_A (c : Dev nD) (i : grid0.Coords) (arg1 : Memref sig .tc .vmem S256x5632 .bf16) (harg1 : arg1.IsWhole) (arg2 : Memref sig .tc .vmem S1x5632x2048 .bf16) (harg2 : arg2.IsWhole) (arg3 : Memref sig .tc .vmem S256x2048 .f32) (harg3 : arg3.IsWhole) (arg4 : Memref sig .tc .vmem S1x8x12288 .f32) (harg4 : arg4.IsWhole) (arg5 : Memref sig .tc .vmem S1x1x2048 .f32) (harg5 : arg5.IsWhole)
    (arg6 : Memref sig .tc .vmem S256x2048 .f32) (harg6 : arg6.IsWhole) (arg7 : Memref sig .tc .vmem S256x2048 .f32) (harg7 : arg7.IsWhole)
    (x0 : Vec F S256x5632 .bf16) (x1 : Vec F S1x5632x2048 .bf16) (x2 : Vec F S256x2048 .f32) (x3 : Vec F S1x8x12288 .f32) (x4 : Vec F S1x1x2048 .f32)
    (hc1 : k0_cond1 i = 1#1) (hc2 : ¬ k0_cond2 i = 1#1) : Vec F S256x2048 .f32 :=
  VO0_5.read (Elt F) (VO0_5.writes (Elt F) VO0_5.junk (kernelRun0_A c i arg1 harg1 arg2 harg2 arg3 harg3 arg4 harg4 arg5 harg5 arg6 harg6 arg7 harg7 x0 x1 x2 x3 x4 hc1 hc2).1)

set_option maxHeartbeats 1000000 in
/-- What the body leaves in output 6's buffer at a point that stores it. -/
def kernelRun0_B (c : Dev nD) (i : grid0.Coords) (arg1 : Memref sig .tc .vmem S256x5632 .bf16) (harg1 : arg1.IsWhole) (arg2 : Memref sig .tc .vmem S1x5632x2048 .bf16) (harg2 : arg2.IsWhole) (arg3 : Memref sig .tc .vmem S256x2048 .f32) (harg3 : arg3.IsWhole) (arg4 : Memref sig .tc .vmem S1x8x12288 .f32) (harg4 : arg4.IsWhole) (arg5 : Memref sig .tc .vmem S1x1x2048 .f32) (harg5 : arg5.IsWhole)
    (arg6 : Memref sig .tc .vmem S256x2048 .f32) (harg6 : arg6.IsWhole) (arg7 : Memref sig .tc .vmem S256x2048 .f32) (harg7 : arg7.IsWhole)
    (x0 : Vec F S256x5632 .bf16) (x1 : Vec F S1x5632x2048 .bf16) (x2 : Vec F S256x2048 .f32) (x3 : Vec F S1x8x12288 .f32) (x4 : Vec F S1x1x2048 .f32)
    (hc1 : ¬ k0_cond1 i = 1#1) (hc2 : k0_cond2 i = 1#1) :
    { L : List (View.Piece (Elt F) S256x2048 .f32) //
      ∀ (E : Set ℕ) (K : PUnit → sProp (Res F)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L)) -∗ K ⟨⟩))
          ⊢ wp frame (wpE (defs₀ (F := F)) Variants.none c none) E (cc0_ffn_down i arg1 harg1 arg2 harg2 arg3 harg3 arg4 harg4 arg5 harg5 arg6 harg6 arg7 harg7) K } := by
  refine ⟨?_, fun E K => ?run⟩
  case run =>
    simp only [cc0_ffn_down_eq_skeleton]; unfold cc0_ffn_down_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

theorem cover0_B (c : Dev nD) (i : grid0.Coords) (arg1 : Memref sig .tc .vmem S256x5632 .bf16) (harg1 : arg1.IsWhole) (arg2 : Memref sig .tc .vmem S1x5632x2048 .bf16) (harg2 : arg2.IsWhole) (arg3 : Memref sig .tc .vmem S256x2048 .f32) (harg3 : arg3.IsWhole) (arg4 : Memref sig .tc .vmem S1x8x12288 .f32) (harg4 : arg4.IsWhole) (arg5 : Memref sig .tc .vmem S1x1x2048 .f32) (harg5 : arg5.IsWhole)
    (arg6 : Memref sig .tc .vmem S256x2048 .f32) (harg6 : arg6.IsWhole) (arg7 : Memref sig .tc .vmem S256x2048 .f32) (harg7 : arg7.IsWhole)
    (x0 : Vec F S256x5632 .bf16) (x1 : Vec F S1x5632x2048 .bf16) (x2 : Vec F S256x2048 .f32) (x3 : Vec F S1x8x12288 .f32) (x4 : Vec F S1x1x2048 .f32)
    (hc1 : ¬ k0_cond1 i = 1#1) (hc2 : k0_cond2 i = 1#1) (y : S256x2048.Idx) :
    ∃ pc ∈ (kernelRun0_B c i arg1 harg1 arg2 harg2 arg3 harg3 arg4 harg4 arg5 harg5 arg6 harg6 arg7 harg7 x0 x1 x2 x3 x4 hc1 hc2).1, y ∈ pc.1.set :=
  View.cover_of_tiledL (kernelRun0_B c i arg1 harg1 arg2 harg2 arg3 harg3 arg4 harg4 arg5 harg5 arg6 harg6 arg7 harg7 x0 x1 x2 x3 x4 hc1 hc2).1 S256x2048.size (by sl_kernel_rfl) y

/-- What that leaves in the buffer. -/
def out0_B (c : Dev nD) (i : grid0.Coords) (arg1 : Memref sig .tc .vmem S256x5632 .bf16) (harg1 : arg1.IsWhole) (arg2 : Memref sig .tc .vmem S1x5632x2048 .bf16) (harg2 : arg2.IsWhole) (arg3 : Memref sig .tc .vmem S256x2048 .f32) (harg3 : arg3.IsWhole) (arg4 : Memref sig .tc .vmem S1x8x12288 .f32) (harg4 : arg4.IsWhole) (arg5 : Memref sig .tc .vmem S1x1x2048 .f32) (harg5 : arg5.IsWhole)
    (arg6 : Memref sig .tc .vmem S256x2048 .f32) (harg6 : arg6.IsWhole) (arg7 : Memref sig .tc .vmem S256x2048 .f32) (harg7 : arg7.IsWhole)
    (x0 : Vec F S256x5632 .bf16) (x1 : Vec F S1x5632x2048 .bf16) (x2 : Vec F S256x2048 .f32) (x3 : Vec F S1x8x12288 .f32) (x4 : Vec F S1x1x2048 .f32)
    (hc1 : ¬ k0_cond1 i = 1#1) (hc2 : k0_cond2 i = 1#1) : Vec F S256x2048 .f32 :=
  VO0_5.read (Elt F) (VO0_5.writes (Elt F) VO0_5.junk (kernelRun0_B c i arg1 harg1 arg2 harg2 arg3 harg3 arg4 harg4 arg5 harg5 arg6 harg6 arg7 harg7 x0 x1 x2 x3 x4 hc1 hc2).1)

/-! ## The points -/

theorem hcond1 : ∀ t : Fin cfg0.N, k0_cond1 (grid0.coords t) = 1#1 ↔ t.val < 16 :=
  (by decide +kernel : ∀ t : Fin grid0.N, k0_cond1 (grid0.coords t) = 1#1 ↔ t.val < 16)
theorem hcond2 : ∀ t : Fin cfg0.N, k0_cond2 (grid0.coords t) = 1#1 ↔ ¬ t.val < 16 :=
  (by decide +kernel : ∀ t : Fin grid0.N, k0_cond2 (grid0.coords t) = 1#1 ↔ ¬ t.val < 16)
theorem idle5 : ∀ t : Fin cfg0.N, cfg0.idle 5 (grid0.coords t) = !decide (t.val < 16) :=
  (by decide +kernel : ∀ t : Fin grid0.N, idle0 5 (grid0.coords t) = !decide (t.val < 16))
theorem idle6 : ∀ t : Fin cfg0.N, cfg0.idle 6 (grid0.coords t) = decide (t.val < 16) :=
  (by decide +kernel : ∀ t : Fin grid0.N, idle0 6 (grid0.coords t) = decide (t.val < 16))
theorem flush5 : ∀ t : Fin cfg0.N, (cfg0.win 5).flush t = (decide (t.val < 15) || decide (t.val = 31)) :=
  (by decide +kernel : ∀ t : Fin grid0.N, win0_5.flush t = (decide (t.val < 15) || decide (t.val = 31)))
theorem flush6 : ∀ t : Fin cfg0.N, (cfg0.win 6).flush t = !decide (t.val < 16) :=
  (by decide +kernel : ∀ t : Fin grid0.N, win0_6.flush t = !decide (t.val < 16))
theorem fetch5 : ∀ t : Fin cfg0.N, (cfg0.win 5).fetch t = false :=
  (by decide +kernel : ∀ t : Fin grid0.N, win0_5.fetch t = false)

/-- The context block stored at a point of the first half. -/
def ctxAt (c : Dev nD) (t : Fin cfg0.N) (h : t.val < 16) : Vec F S256x2048 .f32 :=
  out0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) (iblk m c 4 t) ((hcond1 t).2 h) (fun e => (hcond2 t).1 e h)

/-- The latent block stored at a point of the second half. -/
def latAt (c : Dev nD) (t : Fin cfg0.N) (h : ¬ t.val < 16) : Vec F S256x2048 .f32 :=
  out0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) (iblk m c 4 t) (fun e => h ((hcond1 t).1 e)) ((hcond2 t).2 h)

/-- The first half's last point. -/
def t15 : Fin cfg0.N := ⟨15, by decide +kernel⟩

/-- What the context buffer holds after a point, -/
def ctxOut (c : Dev nD) (t : Fin cfg0.N) : Vec F S256x2048 .f32 :=
  if h : t.val < 16 then ctxAt m c t h else ctxAt m c t15 (by decide +kernel)

/-- and the latent one (the first half: anything). -/
def latOut (c : Dev nD) (t : Fin cfg0.N) : Vec F S256x2048 .f32 :=
  if h : t.val < 16 then VO0_5.read (Elt F) VO0_5.junk else latAt m c t h

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => ctxOut m c t
    | ⟨6, _⟩ => latOut m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = ctxOut m c t := by dsimp only [dats]
theorem after0_6 (c : Dev nD) (t : Fin cfg0.N) : (dats m 0 c).after 6 t = latOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At the grid's last point the context buffer still holds the block of point 15. -/
theorem before_last (c : Dev nD) (t : Fin cfg0.N) (h : t.val = 31) (d) : (dats m 0 c).before 5 t d = ctxOut m c t := by
  rw [Dat.before_idle_run (dats m 0 c) 5 fetch5 d 15 t (by omega) (fun j h1 h2 => ⟨by
      rw [idle5]; simp only [Bool.not_eq_true', decide_eq_false_iff_not]; omega, by
      rw [flush5]; simp only [Bool.or_eq_false_iff, decide_eq_false_iff_not]; omega⟩)]
  have e16 : (⟨t.val - 15, by omega⟩ : Fin cfg0.N) = ⟨16, by decide +kernel⟩ := Fin.ext (by show t.val - 15 = 16; omega)
  rw [e16, Dat.before_of_pos (dats m 0 c) 5 _ (by decide) (fetch5 _) d]
  have e15 : (⟨(⟨16, by decide +kernel⟩ : Fin cfg0.N).val - 1, by decide +kernel⟩ : Fin cfg0.N) = t15 := rfl
  rw [e15, if_neg (by rw [flush5]; decide)]
  unfold Dat.left
  rw [idle5]
  show (dats m 0 c).kept 5 t15 d = _
  unfold Dat.kept
  rw [Pipeline.fill_of_clip_none 5 _ (fun _ => rfl) d ((dats m 0 c).after 5 t15), Window.fill_cut, after0_5]
  unfold ctxOut
  rw [dif_neg (by omega : ¬ t.val < 16), dif_pos (by decide : t15.val < 16)]

/-! ## The body -/

/-- What the body is called with at point `t`, -/
def bodyPre (c : Dev nD) (t : Fin cfg0.N) : sProp (Res F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp (Res F) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (dats m 0 c).leavesExact 5 t
    ∗ (dats m 0 c).leavesExact 6 t)

theorem leaves5_keep (c : Dev nD) (t : Fin cfg0.N) (hi : cfg0.idle 5 (grid0.coords t) = true) (hf : (cfg0.win 5).flush t = false) :
    (dats m 0 c).leavesExact 5 t = iprop(∃ d, owns (c : Thread nD τ) (ms0_5 t) fullShare ((dats m 0 c).before 5 t d)) :=
  Dat.leavesExact_idle (dats m 0 c) 5 t hi hf
theorem leaves5_live (c : Dev nD) (t : Fin cfg0.N) (hi : cfg0.idle 5 (grid0.coords t) = false) :
    (dats m 0 c).leavesExact 5 t = owns (c : Thread nD τ) (ms0_5 t) fullShare (ctxOut m c t) := by
  rw [← after0_5]; unfold Dat.leavesExact; rw [hi]
theorem leaves6_keep (c : Dev nD) (t : Fin cfg0.N) (hi : cfg0.idle 6 (grid0.coords t) = true) (hf : (cfg0.win 6).flush t = false) :
    (dats m 0 c).leavesExact 6 t = iprop(∃ d, owns (c : Thread nD τ) (ms0_6 t) fullShare ((dats m 0 c).before 6 t d)) :=
  Dat.leavesExact_idle (dats m 0 c) 6 t hi hf
theorem leaves6_live (c : Dev nD) (t : Fin cfg0.N) (hi : cfg0.idle 6 (grid0.coords t) = false) :
    (dats m 0 c).leavesExact 6 t = owns (c : Thread nD τ) (ms0_6 t) fullShare (latOut m c t) := by
  rw [← after0_6]; unfold Dat.leavesExact; rw [hi]
theorem leaves5_last (c : Dev nD) (t : Fin cfg0.N) (hi : cfg0.idle 5 (grid0.coords t) = true) (hf : (cfg0.win 5).flush t = true) :
    (dats m 0 c).leavesExact 5 t = owns (c : Thread nD τ) (ms0_5 t) fullShare (ctxOut m c t) := by
  rw [← after0_5]; unfold Dat.leavesExact; rw [hi, hf]

set_option maxHeartbeats 800000 in
theorem sound_first (c : Dev nD) (t : Fin cfg0.N) (h : t.val < 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4,
    leaves6_keep m c t (by rw [idle6]; simp [h]) (by rw [flush6]; simp [h]), leaves5_live m c t (by rw [idle5]; simp [h])]
  rw [show ctxOut m c t = ctxAt m c t h from by unfold ctxOut; rw [dif_pos h]]
  unfold ctxAt out0_A
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk m c 0 t) (iblk m c 1 t) (iblk m c 2 t) (iblk m c 3 t) (iblk m c 4 t) ((hcond1 t).2 h) (fun e => (hcond2 t).1 e h)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A c _ _ _ _ _ _ _ _ _ _ _ _ _ _ _ _ _ _ _ _ _ _)
  iexists _; iexact H6

set_option maxHeartbeats 800000 in
theorem sound_mid (c : Dev nD) (t : Fin cfg0.N) (h : ¬ t.val < 16) (h31 : ¬ t.val = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4,
    leaves5_keep m c t (by rw [idle5]; simp [h]) (by rw [flush5]; simp only [Bool.or_eq_false_iff, decide_eq_false_iff_not]; omega), leaves6_live m c t (by rw [idle6]; simp [h])]
  rw [show latOut m c t = latAt m c t h from by unfold latOut; rw [dif_neg h]]
  unfold latAt out0_B
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_B c (grid0.coords t) _ _ _ _ _ _ _ _ _ _ _ _ _ _ (iblk m c 0 t) (iblk m c 1 t) (iblk m c 2 t) (iblk m c 3 t) (iblk m c 4 t) (fun e => h ((hcond1 t).1 e)) ((hcond2 t).2 h)).2 Set.univ _)
  isplitl [H0]; · iexact H0
  isplitl [H1]; · iexact H1
  isplitl [H2]; · iexact H2
  isplitl [H3]; · iexact H3
  isplitl [H4]; · iexact H4
  isplitl [H6]; · iexists _; iexact H6
  iintro ⟨H0, H1, H2, H3, H4, ⟨%e, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  unfold owns; iexists _; isplitr
  swap; · iexact H6
  ipureintro; exact View.read_writes_of_cover _ _ _ _ _ (cover0_B c _ _ _ _ _ _ _ _ _ _ _ _ _ _ _ _ _ _ _ _ _ _)

set_option maxHeartbeats 800000 in
theorem sound_last (c : Dev nD) (t : Fin cfg0.N) (h : ¬ t.val < 16) (h31 : t.val = 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before_last m c t h31]
  rw [show (dats m 0 c).Φ t.succ = (dats m 0 c).Φ t.castSucc from rfl,
    show (dats m 0 c).owesAt () t.succ = (dats m 0 c).owesAt () t.castSucc from rfl,
    after0_0, after0_1, after0_2, after0_3, after0_4,
    leaves5_last m c t (by rw [idle5]; simp [h]) (by rw [flush5]; simp [h31]), leaves6_live m c t (by rw [idle6]; simp [h])]
  rw [show latOut m c t = latAt m c t h from by unfold latOut; rw [dif_neg h]]
  unfold latAt out0_B
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_B c (grid0.coords t) _ _ _ _ _ _ _ _ _ _ _ _ _ _ (iblk m c 0 t) (iblk m c 1 t) (iblk m c 2 t) (iblk m c 3 t) (iblk m c 4 t) (fun e => h ((hcond1 t).1 e)) ((hcond2 t).2 h)).2 Set.univ _)
  isplitl [H0]; · iexact H0
  isplitl [H1]; · iexact H1
  isplitl [H2]; · iexact H2
  isplitl [H3]; · iexact H3
  isplitl [H4]; · iexact H4
  isplitl [H6]; · iexists _; iexact H6
  iintro ⟨H0, H1, H2, H3, H4, ⟨%e, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_B c _ _ _ _ _ _ _ _ _ _ _ _ _ _ _ _ _ _ _ _ _ _)

theorem sound_body (c : Dev nD) (t : Fin cfg0.N) :
    bodyPre m c t ⊢ wp frame (wpE (defs₀ (F := F)) Variants.none c none) Set.univ (bodyAt0 t) (fun _ => bodyPost m c t) := by
  by_cases h : t.val < 16
  · exact sound_first m c t h
  · by_cases h31 : t.val = 31
    · exact sound_last m c t h h31
    · exact sound_mid m c t h h31

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel11Ideal.Gen

end
-- ==== Proof.Call9.IdealRun.lean ====
/- The value product of layer A: the frame run. The weight tile is cast into the scratch at the first row block of each
   column block; the context rows are copied to the second output at the first four row blocks, and the last of those
   copies stays in its buffer until the column block's end, where it is written back once more. -/
module

public import proofs.«01_k».proof.Proof.Gen.Kernel9Ideal.Launch
public import proofs.«01_k».proof.Proof.Gen.Kernel9Ideal.Skeleton
public import proofs.«01_k».proof.Proof.Gen.Kernel9Ideal.Points
public import proofs.«01_k».proof.Proof.Gen.Kernel9Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the run is stated over. -/
abbrev Res (F : FTy → Type) := MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1024x2048 .bf16 := win0_0.stage (cfg0.slots t 0)
theorem hs0_0 (t : Fin cfg0.N) : (ms0_0 t).IsWhole := hstage0_0 ((cfg0.slots t 0).cast nbuf0_0)
abbrev ms0_1 (t : Fin cfg0.N) : Memref sig .tc .vmem S1x2048x1024 .f32 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
theorem hs0_3 (t : Fin cfg0.N) : (ms0_3 t).IsWhole := hstage0_3 ((cfg0.slots t 3).cast nbuf0_3)

/-- The scratch that holds the weight tile. -/
abbrev scM0_0 : Memref sig .tc .vmem S2048x1024 .bf16 := Memref.whole cc0_scratch0
abbrev VS0_0 : View sig .tc .vmem S2048x1024 .bf16 := scM0_0.view
/-- The outputs' buffers, over which their pieces are read back. -/
abbrev VO0_2 : View sig .tc .vmem S1024x1024 .bf16 := (Memref.whole cc0_stg2_0 : Memref sig .tc .vmem S1024x1024 .bf16).view
abbrev VO0_3 : View sig .tc .vmem S1024x1024 .f32 := (Memref.whole cc0_stg3_0 : Memref sig .tc .vmem S1024x1024 .f32).view

/-- The body's first condition: the column block's first row block. -/
abbrev cond0_0 (i : grid0.Coords) : Prop := (Scalar.cmpi .ne (Scalar.extui (Scalar.cmpi .eq (BitVec.ofNat 32 (i 1).val) 0#32)) 0#32) = 1#1

theorem PhiA0_eq (c : Dev nD) :
    (Pipeline.ΦA spec0 c : sProp (Res F)) = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- What the body leaves at the first row block of a column block. -/
def kernelRun0_A (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : cond0_0 i) (hc1 : k0_cond2 i = 1#1)
    (x0 : Vec F S1024x2048 .bf16) (x1 : Vec F S1x2048x1024 .f32) :
    Σ' (L2 : List (View.Piece (Elt F) S1024x1024 .bf16)) (L3 : List (View.Piece (Elt F) S1024x1024 .f32)), { LS0 : List (View.Piece (Elt F) S2048x1024 .bf16) //
      ∀ (E : Set ℕ) (K : PUnit → sProp (Res F)),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_a_v i arg2 harg2 arg3 harg3 arg4 harg4 arg5 harg5 arg6 harg6) K } := by
  refine ⟨?_, ?_, ?_, fun E K => ?run⟩
  case run =>
    simp only [cc0_a_v_eq_skeleton]; unfold cc0_a_v_skel
    simp only [k0_part1_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

set_option maxHeartbeats 1000000 in
/-- What the body leaves at the other context blocks. -/
def kernelRun0_B (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : ¬ cond0_0 i) (hc1 : k0_cond2 i = 1#1)
    (x0 : Vec F S1024x2048 .bf16) (x1 : Vec F S1x2048x1024 .f32) (xs0 : Vec F S2048x1024 .bf16) :
    Σ' (L2 : List (View.Piece (Elt F) S1024x1024 .bf16)), { L3 : List (View.Piece (Elt F) S1024x1024 .f32) //
      ∀ (E : Set ℕ) (K : PUnit → sProp (Res F)),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ owns (c : Thread nD τ) arg6 fullShare xs0) -∗ K ⟨⟩))
          ⊢ wp frame (wpE (defs₀ (F := F)) Variants.none c none) E (cc0_a_v i arg2 harg2 arg3 harg3 arg4 harg4 arg5 harg5 arg6 harg6) K } := by
  refine ⟨?_, ?_, fun E K => ?run⟩
  case run =>
    simp only [cc0_a_v_eq_skeleton]; unfold cc0_a_v_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; isplitr; · ipureintro; exact harg6.read_unread _
    iexact HS0

set_option maxHeartbeats 1000000 in
/-- What the body leaves at the latent blocks. -/
def kernelRun0_C (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : ¬ cond0_0 i) (hc1 : ¬ k0_cond2 i = 1#1)
    (x0 : Vec F S1024x2048 .bf16) (x1 : Vec F S1x2048x1024 .f32) (xs0 : Vec F S2048x1024 .bf16) :
    { L2 : List (View.Piece (Elt F) S1024x1024 .bf16) //
      ∀ (E : Set ℕ) (K : PUnit → sProp (Res F)),
        iprop(owns (c : Thread nD τ) arg2 fullShare x0 ∗ owns (c : Thread nD τ) arg3 fullShare x1 ∗ (∃ d, owns (c : Thread nD τ) arg4 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg6 fullShare xs0) -∗ K ⟨⟩))
          ⊢ wp frame (wpE (defs₀ (F := F)) Variants.none c none) E (cc0_a_v i arg2 harg2 arg3 harg3 arg4 harg4 arg5 harg5 arg6 harg6) K } := by
  refine ⟨?_, fun E K => ?run⟩
  case run =>
    simp only [cc0_a_v_eq_skeleton]; unfold cc0_a_v_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg6.read_unread _
    iexact HS0

theorem cover0_A_2 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : cond0_0 i) (hc1 : k0_cond2 i = 1#1)
    (x0 : Vec F S1024x2048 .bf16) (x1 : Vec F S1x2048x1024 .f32) (y : S1024x1024.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S256x1024.size (by sl_kernel_rfl) y

def out0_A_2 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : cond0_0 i) (hc1 : k0_cond2 i = 1#1)
    (x0 : Vec F S1024x2048 .bf16) (x1 : Vec F S1x2048x1024 .f32) : Vec F S1024x1024 .bf16 :=
  VO0_2.read (Elt F) (VO0_2.writes (Elt F) VO0_2.junk (kernelRun0_A c i arg2 harg2 arg3 harg3 arg4 harg4 arg5 harg5 arg6 harg6 hc0 hc1 x0 x1).1)

theorem cover0_A_3 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : cond0_0 i) (hc1 : k0_cond2 i = 1#1)
    (x0 : Vec F S1024x2048 .bf16) (x1 : Vec F S1x2048x1024 .f32) (y : S1024x1024.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S256x1024.size (by sl_kernel_rfl) y

def out0_A_3 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : cond0_0 i) (hc1 : k0_cond2 i = 1#1)
    (x0 : Vec F S1024x2048 .bf16) (x1 : Vec F S1x2048x1024 .f32) : Vec F S1024x1024 .f32 :=
  VO0_3.read (Elt F) (VO0_3.writes (Elt F) VO0_3.junk (kernelRun0_A c i arg2 harg2 arg3 harg3 arg4 harg4 arg5 harg5 arg6 harg6 hc0 hc1 x0 x1).2.1)

theorem cover0_A_S (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : cond0_0 i) (hc1 : k0_cond2 i = 1#1)
    (x0 : Vec F S1024x2048 .bf16) (x1 : Vec F S1x2048x1024 .f32) (y : S2048x1024.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S2048x1024.size (by sl_kernel_rfl) y

def out0_A_S (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : cond0_0 i) (hc1 : k0_cond2 i = 1#1)
    (x0 : Vec F S1024x2048 .bf16) (x1 : Vec F S1x2048x1024 .f32) : Vec F S2048x1024 .bf16 :=
  VS0_0.read (Elt F) (VS0_0.writes (Elt F) VS0_0.junk (kernelRun0_A c i arg2 harg2 arg3 harg3 arg4 harg4 arg5 harg5 arg6 harg6 hc0 hc1 x0 x1).2.2.1)

theorem cover0_B_2 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : ¬ cond0_0 i) (hc1 : k0_cond2 i = 1#1)
    (x0 : Vec F S1024x2048 .bf16) (x1 : Vec F S1x2048x1024 .f32) (xs0 : Vec F S2048x1024 .bf16) (y : S1024x1024.Idx) :
    ∃ pc ∈ (kernelRun0_B c i arg2 harg2 arg3 harg3 arg4 harg4 arg5 harg5 arg6 harg6 hc0 hc1 x0 x1 xs0).1, y ∈ pc.1.set :=
  View.cover_of_tiledL (kernelRun0_B c i arg2 harg2 arg3 harg3 arg4 harg4 arg5 harg5 arg6 harg6 hc0 hc1 x0 x1 xs0).1 S256x1024.size (by sl_kernel_rfl) y

def out0_B_2 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : ¬ cond0_0 i) (hc1 : k0_cond2 i = 1#1)
    (x0 : Vec F S1024x2048 .bf16) (x1 : Vec F S1x2048x1024 .f32) (xs0 : Vec F S2048x1024 .bf16) : Vec F S1024x1024 .bf16 :=
  VO0_2.read (Elt F) (VO0_2.writes (Elt F) VO0_2.junk (kernelRun0_B c i arg2 harg2 arg3 harg3 arg4 harg4 arg5 harg5 arg6 harg6 hc0 hc1 x0 x1 xs0).1)

theorem cover0_B_3 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : ¬ cond0_0 i) (hc1 : k0_cond2 i = 1#1)
    (x0 : Vec F S1024x2048 .bf16) (x1 : Vec F S1x2048x1024 .f32) (xs0 : Vec F S2048x1024 .bf16) (y : S1024x1024.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S256x1024.size (by sl_kernel_rfl) y

def out0_B_3 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : ¬ cond0_0 i) (hc1 : k0_cond2 i = 1#1)
    (x0 : Vec F S1024x2048 .bf16) (x1 : Vec F S1x2048x1024 .f32) (xs0 : Vec F S2048x1024 .bf16) : Vec F S1024x1024 .f32 :=
  VO0_3.read (Elt F) (VO0_3.writes (Elt F) VO0_3.junk (kernelRun0_B c i arg2 harg2 arg3 harg3 arg4 harg4 arg5 harg5 arg6 harg6 hc0 hc1 x0 x1 xs0).2.1)

theorem cover0_C_2 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : ¬ cond0_0 i) (hc1 : ¬ k0_cond2 i = 1#1)
    (x0 : Vec F S1024x2048 .bf16) (x1 : Vec F S1x2048x1024 .f32) (xs0 : Vec F S2048x1024 .bf16) (y : S1024x1024.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S256x1024.size (by sl_kernel_rfl) y

def out0_C_2 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole)
    (arg5 : Memref sig .tc .vmem S1024x1024 .f32) (harg5 : arg5.IsWhole) (arg6 : Memref sig .tc .vmem S2048x1024 .bf16) (harg6 : arg6.IsWhole) (hc0 : ¬ cond0_0 i) (hc1 : ¬ k0_cond2 i = 1#1)
    (x0 : Vec F S1024x2048 .bf16) (x1 : Vec F S1x2048x1024 .f32) (xs0 : Vec F S2048x1024 .bf16) : Vec F S1024x1024 .bf16 :=
  VO0_2.read (Elt F) (VO0_2.writes (Elt F) VO0_2.junk (kernelRun0_C c i arg2 harg2 arg3 harg3 arg4 harg4 arg5 harg5 arg6 harg6 hc0 hc1 x0 x1 xs0).1)

/-! ## The points -/

theorem N0 : cfg0.N = 16 := N_0

theorem hcond0 : ∀ t : Fin cfg0.N, cond0_0 (grid0.coords t) ↔ t.val % 8 = 0 :=
  (by decide +kernel : ∀ t : Fin grid0.N, cond0_0 (grid0.coords t) ↔ t.val % 8 = 0)
theorem hcond1 : ∀ t : Fin cfg0.N, k0_cond2 (grid0.coords t) = 1#1 ↔ t.val % 8 < 4 :=
  (by decide +kernel : ∀ t : Fin grid0.N, k0_cond2 (grid0.coords t) = 1#1 ↔ t.val % 8 < 4)
theorem idle3 : ∀ t : Fin cfg0.N, cfg0.idle 3 (grid0.coords t) = !decide (t.val % 8 < 4) :=
  (by decide +kernel : ∀ t : Fin grid0.N, idle0 3 (grid0.coords t) = !decide (t.val % 8 < 4))
theorem flush3 : ∀ t : Fin cfg0.N, (cfg0.win 3).flush t = (decide (t.val % 8 < 3) || decide (t.val % 8 = 7)) :=
  (by decide +kernel : ∀ t : Fin grid0.N, win0_3.flush t = (decide (t.val % 8 < 3) || decide (t.val % 8 = 7)))
theorem fetch3 : ∀ t : Fin cfg0.N, (cfg0.win 3).fetch t = false :=
  (by decide +kernel : ∀ t : Fin grid0.N, win0_3.fetch t = false)

/-- The first point of `t`'s column block, -/
def first (t : Fin cfg0.N) : Fin cfg0.N := ⟨t.val / 8 * 8, lt_of_le_of_lt (Nat.div_mul_le_self _ _) t.isLt⟩

/-- and the last point up to `t` that stores context rows. -/
def lastCtx (t : Fin cfg0.N) : Fin cfg0.N := ⟨t.val / 8 * 8 + min (t.val % 8) 3, by have h := t.isLt; have e : cfg0.N = 16 := N0; omega⟩

/-- What the first point of a column block leaves in the scratch. -/
def scrAt (c : Dev nD) (t : Fin cfg0.N) : Vec F S2048x1024 .bf16 :=
  if h0 : t.val % 8 = 0 then
    out0_A_S c (grid0.coords t) (ms0_0 t) (hs0_0 t) (ms0_1 t) (hs0_1 t) (ms0_2 t) (hs0_2 t) (ms0_3 t) (hs0_3 t) scM0_0 (Memref.isWhole_whole _) ((hcond0 t).2 h0) ((hcond1 t).2 (by omega)) (iblk m c 0 t) (iblk m c 1 t)
  else VS0_0.read (Elt F) VS0_0.junk

/-- What the scratch holds after a point. -/
def scr (c : Dev nD) (t : Fin cfg0.N) : Vec F S2048x1024 .bf16 := scrAt m c (first t)

/-- The block of the product that a point leaves. -/
def vOut (c : Dev nD) (t : Fin cfg0.N) : Vec F S1024x1024 .bf16 :=
  if h0 : t.val % 8 = 0 then
    out0_A_2 c (grid0.coords t) (ms0_0 t) (hs0_0 t) (ms0_1 t) (hs0_1 t) (ms0_2 t) (hs0_2 t) (ms0_3 t) (hs0_3 t) scM0_0 (Memref.isWhole_whole _) ((hcond0 t).2 h0) ((hcond1 t).2 (by omega)) (iblk m c 0 t) (iblk m c 1 t)
  else if h1 : t.val % 8 < 4 then
    out0_B_2 c (grid0.coords t) (ms0_0 t) (hs0_0 t) (ms0_1 t) (hs0_1 t) (ms0_2 t) (hs0_2 t) (ms0_3 t) (hs0_3 t) scM0_0 (Memref.isWhole_whole _) (fun e => h0 ((hcond0 t).1 e)) ((hcond1 t).2 h1) (iblk m c 0 t) (iblk m c 1 t) (scr m c t)
  else
    out0_C_2 c (grid0.coords t) (ms0_0 t) (hs0_0 t) (ms0_1 t) (hs0_1 t) (ms0_2 t) (hs0_2 t) (ms0_3 t) (hs0_3 t) scM0_0 (Memref.isWhole_whole _) (fun e => h0 ((hcond0 t).1 e)) (fun e => h1 ((hcond1 t).1 e)) (iblk m c 0 t) (iblk m c 1 t) (scr m c t)

/-- The context copy that a context point stores. -/
def ctxAt (c : Dev nD) (t : Fin cfg0.N) : Vec F S1024x1024 .f32 :=
  if h0 : t.val % 8 = 0 then
    out0_A_3 c (grid0.coords t) (ms0_0 t) (hs0_0 t) (ms0_1 t) (hs0_1 t) (ms0_2 t) (hs0_2 t) (ms0_3 t) (hs0_3 t) scM0_0 (Memref.isWhole_whole _) ((hcond0 t).2 h0) ((hcond1 t).2 (by omega)) (iblk m c 0 t) (iblk m c 1 t)
  else if h1 : t.val % 8 < 4 then
    out0_B_3 c (grid0.coords t) (ms0_0 t) (hs0_0 t) (ms0_1 t) (hs0_1 t) (ms0_2 t) (hs0_2 t) (ms0_3 t) (hs0_3 t) scM0_0 (Memref.isWhole_whole _) (fun e => h0 ((hcond0 t).1 e)) ((hcond1 t).2 h1) (iblk m c 0 t) (iblk m c 1 t) (scr m c t)
  else VO0_3.read (Elt F) VO0_3.junk

/-- What the context copy's buffer holds after a point. -/
def ctxOut (c : Dev nD) (t : Fin cfg0.N) : Vec F S1024x1024 .f32 := ctxAt m c (lastCtx t)

theorem first_self (t : Fin cfg0.N) (h : t.val % 8 = 0) : first t = t := Fin.ext (by show t.val / 8 * 8 = t.val; omega)
theorem lastCtx_self (t : Fin cfg0.N) (h : t.val % 8 < 4) : lastCtx t = t :=
  Fin.ext (by show t.val / 8 * 8 + min (t.val % 8) 3 = t.val; omega)
theorem scr_pred (c : Dev nD) (t : Fin cfg0.N) (h : ¬ t.val % 8 = 0) (hl : t.val - 1 < cfg0.N) : scr m c ⟨t.val - 1, hl⟩ = scr m c t :=
  congrArg (scrAt m c) (Fin.ext (by show (t.val - 1) / 8 * 8 = t.val / 8 * 8; omega))

/-! ## The invariant and the proof data -/

/-- Before a point: the scratch at anything (the first point) or at what the point before left in it. -/
def PhiS (c : Dev nD) : (n : ℕ) → n ≤ cfg0.N → sProp (Res F)
  | 0, _ => Pipeline.ΦA spec0 c
  | n + 1, hn => iprop(iprop(owns (c : Thread nD τ) scM0_0 fullShare (scr m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (scr m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) scM0_0 fullShare (scr m c ⟨n - 1, by omega⟩)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => vOut m c t
    | ⟨3, _⟩ => ctxOut m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = vOut m c t := by dsimp only [dats]
theorem after0_3 (c : Dev nD) (t : Fin cfg0.N) : (dats m 0 c).after 3 t = ctxOut m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a column block's last point the buffer still holds the last context copy. -/
theorem before_last (c : Dev nD) (t : Fin cfg0.N) (h : t.val % 8 = 7) (d) : (dats m 0 c).before 3 t d = ctxOut m c t := by
  rw [Dat.before_idle_run (dats m 0 c) 3 fetch3 d 3 t (by omega) (fun j h1 h2 => ⟨by
      rw [idle3]; simp only [Bool.not_eq_true', decide_eq_false_iff_not]; omega, by
      rw [flush3]; simp only [Bool.or_eq_false_iff, decide_eq_false_iff_not]; omega⟩)]
  rw [Dat.before_of_pos (dats m 0 c) 3 _ (by show t.val - 3 ≠ 0; omega) (fetch3 _) d]
  rw [if_neg (by rw [flush3]; simp only [Bool.or_eq_true, decide_eq_true_eq]; omega)]
  unfold Dat.left
  rw [show cfg0.idle 3 (grid0.coords ⟨t.val - 3 - 1, lt_of_le_of_lt (by omega) t.isLt⟩) = false from by
    rw [idle3]; simp only [Bool.not_eq_false', decide_eq_true_eq]; omega]
  show (dats m 0 c).kept 3 ⟨t.val - 3 - 1, lt_of_le_of_lt (by omega) t.isLt⟩ d = _
  unfold Dat.kept
  rw [Pipeline.fill_of_clip_none 3 _ (fun _ => rfl) d ((dats m 0 c).after 3 ⟨t.val - 3 - 1, lt_of_le_of_lt (by omega) t.isLt⟩), Window.fill_cut, after0_3]
  exact congrArg (ctxAt m c) (Fin.ext (by
    show (t.val - 3 - 1) / 8 * 8 + min ((t.val - 3 - 1) % 8) 3 = t.val / 8 * 8 + min (t.val % 8) 3; omega))

/-! ## The body -/

/-- What the body is called with at point `t`, -/
def bodyPre (c : Dev nD) (t : Fin cfg0.N) : sProp (Res F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- the same with anything in the scratch, -/
def bodyPreAny (c : Dev nD) (t : Fin cfg0.N) : sProp (Res F) :=
  iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp (Res F) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (dats m 0 c).leavesExact 3 t)

theorem leaves3_keep (c : Dev nD) (t : Fin cfg0.N) (hi : cfg0.idle 3 (grid0.coords t) = true) (hf : (cfg0.win 3).flush t = false) :
    (dats m 0 c).leavesExact 3 t = iprop(∃ d, owns (c : Thread nD τ) (ms0_3 t) fullShare ((dats m 0 c).before 3 t d)) :=
  Dat.leavesExact_idle (dats m 0 c) 3 t hi hf
theorem leaves3_live (c : Dev nD) (t : Fin cfg0.N) (hi : cfg0.idle 3 (grid0.coords t) = false) :
    (dats m 0 c).leavesExact 3 t = owns (c : Thread nD τ) (ms0_3 t) fullShare (ctxOut m c t) := by
  rw [← after0_3]; unfold Dat.leavesExact; rw [hi]
theorem leaves3_last (c : Dev nD) (t : Fin cfg0.N) (hi : cfg0.idle 3 (grid0.coords t) = true) (hf : (cfg0.win 3).flush t = true) :
    (dats m 0 c).leavesExact 3 t = owns (c : Thread nD τ) (ms0_3 t) fullShare (ctxOut m c t) := by
  rw [← after0_3]; unfold Dat.leavesExact; rw [hi, hf]

/-- Before any point the scratch is owned at some contents, -/
theorem Phi_any (c : Dev nD) (t : Fin cfg0.N) : (dats m 0 c).Φ t.castSucc ⊢ Pipeline.ΦA spec0 c := by
  rw [PhiS_castSucc]
  by_cases hz : t.val = 0
  · rw [PhiS_zero m c _ _ hz]
  · rw [PhiS_pos m c _ _ hz, PhiA0_eq]
    iintro ⟨HS0, Hg⟩
    isplitl [HS0]
    · iexists _; iexact HS0
    iexact Hg

/-- and inside a column block at the column's weight tile. -/
theorem Phi_in (c : Dev nD) (t : Fin cfg0.N) (h : ¬ t.val % 8 = 0) : (dats m 0 c).Φ t.castSucc
    = iprop(iprop(owns (c : Thread nD τ) scM0_0 fullShare (scr m c t)) ∗ (∃ r, prngReg c r)) := by
  rw [PhiS_castSucc, PhiS_pos m c _ _ (by intro e; rw [e] at h; exact h rfl), scr_pred m c t h]

set_option maxHeartbeats 1600000 in
theorem sound_first (c : Dev nD) (t : Fin cfg0.N) (h0 : t.val % 8 = 0) :
    bodyPreAny m c t ⊢ wp frame (wpE (defs₀ (F := F)) Variants.none c none) Set.univ (bodyAt0 t) (fun _ => bodyPost m c t) := by
  have h1 : t.val % 8 < 4 := by omega
  unfold bodyPreAny bodyPost bodyAt0
  simp only [before0_0, before0_1]
  rw [show (dats m 0 c).owesAt () t.succ = (dats m 0 c).owesAt () t.castSucc from rfl, after0_0, after0_1, after0_2, leaves3_live m c t (by rw [idle3]; simp [h1]),
    show (dats m 0 c).Φ t.succ = PhiS m c (t.val + 1) t.isLt from rfl, PhiS_succ]
  rw [PhiA0_eq]
  rw [show scr m c ⟨t.val, t.isLt⟩ = _ from (congrArg (scrAt m c) (first_self t h0)).trans (dif_pos h0),
    show vOut m c t = _ from dif_pos h0, show ctxOut m c t = _ from (congrArg (ctxAt m c) (lastCtx_self t h1)).trans (dif_pos h0)]
  unfold out0_A_2 out0_A_3 out0_A_S
  iintro ⟨⟨HS0, Hg⟩, Ho, ⟨%d0, H0⟩, ⟨%d1, H1⟩, ⟨%d2, H2⟩, ⟨%d3, H3⟩⟩
  iapply ((kernelRun0_A c (grid0.coords t) _ _ _ _ _ _ _ _ _ _ ((hcond0 t).2 h0) ((hcond1 t).2 h1) (iblk m c 0 t) (iblk m c 1 t)).2.2.2 Set.univ _)
  isplitl [H0]; · iexact H0
  isplitl [H1]; · iexact H1
  isplitl [H2]; · iexists _; iexact H2
  isplitl [H3]; · iexists _; iexact H3
  isplitl [HS0]; · iexact HS0
  iintro ⟨H0, H1, ⟨%e2, H2⟩, ⟨%e3, H3⟩, ⟨%es, HS0⟩⟩
  isplitl [HS0 Hg]
  · isplitl [HS0]
    · unfold owns; iexists _; isplitr
      swap; · iexact HS0
      ipureintro; exact View.read_writes_of_cover _ _ _ _ _ (cover0_A_S c _ _ _ _ _ _ _ _ _ _ _ _ _ _ _)
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _)
  unfold owns; iexists _; isplitr
  swap; · iexact H3
  ipureintro; exact View.read_writes_of_cover _ _ _ _ _ (cover0_A_3 c _ _ _ _ _ _ _ _ _ _ _ _ _ _ _)

set_option maxHeartbeats 1600000 in
theorem sound_ctx (c : Dev nD) (t : Fin cfg0.N) (h0 : ¬ t.val % 8 = 0) (h1 : t.val % 8 < 4) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl, after0_0, after0_1, after0_2, leaves3_live m c t (by rw [idle3]; simp [h1]),
    show (dats m 0 c).Φ t.succ = PhiS m c (t.val + 1) t.isLt from rfl, PhiS_succ]
  rw [Phi_in m c t h0, show vOut m c t = _ from (dif_neg h0).trans (dif_pos h1),
    show ctxOut m c t = _ from (congrArg (ctxAt m c) (lastCtx_self t h1)).trans ((dif_neg h0).trans (dif_pos h1))]
  unfold out0_B_2 out0_B_3
  iintro ⟨⟨HS0, Hg⟩, Ho, ⟨%d0, H0⟩, ⟨%d1, H1⟩, ⟨%d2, H2⟩, ⟨%d3, H3⟩⟩
  iapply ((kernelRun0_B c (grid0.coords t) _ _ _ _ _ _ _ _ _ _ (fun e => h0 ((hcond0 t).1 e)) ((hcond1 t).2 h1) (iblk m c 0 t) (iblk m c 1 t) (scr m c t)).2.2 Set.univ _)
  isplitl [H0]; · iexact H0
  isplitl [H1]; · iexact H1
  isplitl [H2]; · iexists _; iexact H2
  isplitl [H3]; · iexists _; iexact H3
  isplitl [HS0]; · iexact HS0
  iintro ⟨H0, H1, ⟨%e2, H2⟩, ⟨%e3, H3⟩, HS0⟩
  isplitl [HS0 Hg]
  · isplitl [HS0]; · iexact HS0
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_B_2 c _ _ _ _ _ _ _ _ _ _ _ _ _ _ _ _)
  unfold owns; iexists _; isplitr
  swap; · iexact H3
  ipureintro; exact View.read_writes_of_cover _ _ _ _ _ (cover0_B_3 c _ _ _ _ _ _ _ _ _ _ _ _ _ _ _ _)

set_option maxHeartbeats 1600000 in
theorem sound_lat (c : Dev nD) (t : Fin cfg0.N) (h1 : ¬ t.val % 8 < 4) (h7 : ¬ t.val % 8 = 7) :
    bodyPre m c t ⊢ wp frame (wpE (defs₀ (F := F)) Variants.none c none) Set.univ (bodyAt0 t) (fun _ => bodyPost m c t) := by
  have h0 : ¬ t.val % 8 = 0 := by omega
  unfold bodyPre bodyPost bodyAt0
  simp only [before0_0, before0_1]
  rw [show (dats m 0 c).owesAt () t.succ = (dats m 0 c).owesAt () t.castSucc from rfl, after0_0, after0_1, after0_2, leaves3_keep m c t (by rw [idle3]; simp [h1]) (by rw [flush3]; simp only [Bool.or_eq_false_iff, decide_eq_false_iff_not]; omega),
    show (dats m 0 c).Φ t.succ = PhiS m c (t.val + 1) t.isLt from rfl, PhiS_succ]
  rw [Phi_in m c t h0, show vOut m c t = _ from (dif_neg h0).trans (dif_neg h1)]
  unfold out0_C_2
  iintro ⟨⟨HS0, Hg⟩, Ho, ⟨%d0, H0⟩, ⟨%d1, H1⟩, ⟨%d2, H2⟩, ⟨%d3, H3⟩⟩
  iapply ((kernelRun0_C c (grid0.coords t) _ _ _ _ _ _ _ _ _ _ (fun e => h0 ((hcond0 t).1 e)) (fun e => h1 ((hcond1 t).1 e)) (iblk m c 0 t) (iblk m c 1 t) (scr m c t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 Hg]
  · isplitl [HS0]; · iexact HS0
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_C_2 c _ _ _ _ _ _ _ _ _ _ _ _ _ _ _ _)
  iexists _; iexact H3

set_option maxHeartbeats 1600000 in
theorem sound_last (c : Dev nD) (t : Fin cfg0.N) (h1 : ¬ t.val % 8 < 4) (h7 : t.val % 8 = 7) :
    bodyPre m c t ⊢ wp frame (wpE (defs₀ (F := F)) Variants.none c none) Set.univ (bodyAt0 t) (fun _ => bodyPost m c t) := by
  have h0 : ¬ t.val % 8 = 0 := by omega
  unfold bodyPre bodyPost bodyAt0
  simp only [before0_0, before0_1, before_last m c t h7]
  rw [show (dats m 0 c).owesAt () t.succ = (dats m 0 c).owesAt () t.castSucc from rfl, after0_0, after0_1, after0_2, leaves3_last m c t (by rw [idle3]; simp [h1]) (by rw [flush3]; simp [h7]),
    show (dats m 0 c).Φ t.succ = PhiS m c (t.val + 1) t.isLt from rfl, PhiS_succ]
  rw [Phi_in m c t h0, show vOut m c t = _ from (dif_neg h0).trans (dif_neg h1)]
  unfold out0_C_2
  iintro ⟨⟨HS0, Hg⟩, Ho, ⟨%d0, H0⟩, ⟨%d1, H1⟩, ⟨%d2, H2⟩, ⟨%d3, H3⟩⟩
  iapply ((kernelRun0_C c (grid0.coords t) _ _ _ _ _ _ _ _ _ _ (fun e => h0 ((hcond0 t).1 e)) (fun e => h1 ((hcond1 t).1 e)) (iblk m c 0 t) (iblk m c 1 t) (scr m c t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 Hg]
  · isplitl [HS0]; · iexact HS0
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_C_2 c _ _ _ _ _ _ _ _ _ _ _ _ _ _ _ _)
  iexact H3

theorem sound_body (c : Dev nD) (t : Fin cfg0.N) :
    bodyPre m c t ⊢ wp frame (wpE (defs₀ (F := F)) Variants.none c none) Set.univ (bodyAt0 t) (fun _ => bodyPost m c t) := by
  by_cases h1 : t.val % 8 < 4
  · by_cases h0 : t.val % 8 = 0
    · exact (Idealize.SL.BI.sep_mono_l (Phi_any m c t)).trans (sound_first m c t h0)
    · exact sound_ctx m c t h0 h1
  · by_cases h7 : t.val % 8 = 7
    · exact sound_last m c t h1 h7
    · exact sound_lat m c t h1 h7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N0]; decide), PhiA0_eq]
  iintro ⟨HS0, Hg⟩
  isplitl [HS0]
  · iexists _; iexact HS0
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel9Ideal.Gen

end
-- ==== Proof.Call14.IdealRun.lean ====
/- The key product of layer A: the frame run. The weight tile is cast into the scratch at the first row block of each
   column block; the context rows are copied to the second output at the first four row blocks, and the last of those
   copies stays in its buffer until the column block's end, where it is written back once more. -/
module

public import proofs.«01_k».proof.Proof.Gen.Kernel14Ideal.Launch
public import proofs.«01_k».proof.Proof.Gen.Kernel14Ideal.Skeleton
public import proofs.«01_k».proof.Proof.Gen.Kernel14Ideal.Points
public import proofs.«01_k».proof.Proof.Gen.Kernel14Ideal.Frame
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel14Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the run is stated over. -/
abbrev Res (F : FTy → Type) := MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1024x2048 .bf16 := win0_0.stage (cfg0.slots t 0)
theorem hs0_0 (t : Fin cfg0.N) : (ms0_0 t).IsWhole := hstage0_0 ((cfg0.slots t 0).cast nbuf0_0)
abbrev ms0_1 (t : Fin cfg0.N) : Memref sig .tc .vmem S1x2048x1024 .f32 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
theorem hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
theorem hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
theorem hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
theorem hs0_6 (t : Fin cfg0.N) : (ms0_6 t).IsWhole := hstage0_6 ((cfg0.slots t 6).cast nbuf0_6)

/-- The scratch that holds the weight tile. -/
abbrev scM0_0 : Memref sig .tc .vmem S2048x1024 .bf16 := Memref.whole cc0_scratch0
abbrev VS0_0 : View sig .tc .vmem S2048x1024 .bf16 := scM0_0.view
/-- The outputs' buffers, over which their pieces are read back. -/
abbrev VO0_5 : View sig .tc .vmem S1024x1024 .bf16 := (Memref.whole cc0_stg5_0 : Memref sig .tc .vmem S1024x1024 .bf16).view
abbrev VO0_6 : View sig .tc .vmem S1024x1024 .f32 := (Memref.whole cc0_stg6_0 : Memref sig .tc .vmem S1024x1024 .f32).view

/-- The body's first condition: the column block's first row block. -/
abbrev cond0_0 (i : grid0.Coords) : Prop := (Scalar.cmpi .ne (Scalar.extui (Scalar.cmpi .eq (BitVec.ofNat 32 (i 1).val) 0#32)) 0#32) = 1#1

theorem PhiA0_eq (c : Dev nD) :
    (Pipeline.ΦA spec0 c : sProp (Res F)) = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- What the body leaves at the first row block of a column block. -/
def kernelRun0_A (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : cond0_0 i) (hc1 : k0_cond2 i = 1#1)
    (x0 : Vec F S1024x2048 .bf16) (x1 : Vec F S1x2048x1024 .f32) (x2 : Vec F S1024x128 .f32) (x3 : Vec F S1024x128 .f32) (x4 : Vec F S1024x128 .f32) :
    Σ' (L5 : List (View.Piece (Elt F) S1024x1024 .bf16)) (L6 : List (View.Piece (Elt F) S1024x1024 .f32)), { LS0 : List (View.Piece (Elt F) S2048x1024 .bf16) //
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_a_k i arg2 harg2 arg3 harg3 arg4 harg4 arg5 harg5 arg6 harg6 arg7 harg7 arg8 harg8 arg9 harg9) K } := by
  refine ⟨?_, ?_, ?_, fun E K => ?run⟩
  case run =>
    simp only [cc0_a_k_eq_skeleton]; unfold cc0_a_k_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

set_option maxHeartbeats 1000000 in
/-- What the body leaves at the other context blocks. -/
def kernelRun0_B (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : ¬ cond0_0 i) (hc1 : k0_cond2 i = 1#1)
    (x0 : Vec F S1024x2048 .bf16) (x1 : Vec F S1x2048x1024 .f32) (x2 : Vec F S1024x128 .f32) (x3 : Vec F S1024x128 .f32) (x4 : Vec F S1024x128 .f32) (xs0 : Vec F S2048x1024 .bf16) :
    Σ' (L5 : List (View.Piece (Elt F) S1024x1024 .bf16)), { L6 : List (View.Piece (Elt F) S1024x1024 .f32) //
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0) -∗ K ⟨⟩))
          ⊢ wp frame (wpE (defs₀ (F := F)) Variants.none c none) E (cc0_a_k i arg2 harg2 arg3 harg3 arg4 harg4 arg5 harg5 arg6 harg6 arg7 harg7 arg8 harg8 arg9 harg9) K } := by
  refine ⟨?_, ?_, fun E K => ?run⟩
  case run =>
    simp only [cc0_a_k_eq_skeleton]; unfold cc0_a_k_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; isplitr; · ipureintro; exact harg9.read_unread _
    iexact HS0

set_option maxHeartbeats 1000000 in
/-- What the body leaves at the latent blocks. -/
def kernelRun0_C (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : ¬ cond0_0 i) (hc1 : ¬ k0_cond2 i = 1#1)
    (x0 : Vec F S1024x2048 .bf16) (x1 : Vec F S1x2048x1024 .f32) (x2 : Vec F S1024x128 .f32) (x3 : Vec F S1024x128 .f32) (x4 : Vec F S1024x128 .f32) (xs0 : Vec F S2048x1024 .bf16) :
    { L5 : List (View.Piece (Elt F) S1024x1024 .bf16) //
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg9 fullShare xs0) -∗ K ⟨⟩))
          ⊢ wp frame (wpE (defs₀ (F := F)) Variants.none c none) E (cc0_a_k i arg2 harg2 arg3 harg3 arg4 harg4 arg5 harg5 arg6 harg6 arg7 harg7 arg8 harg8 arg9 harg9) K } := by
  refine ⟨?_, fun E K => ?run⟩
  case run =>
    simp only [cc0_a_k_eq_skeleton]; unfold cc0_a_k_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg9.read_unread _
    iexact HS0

theorem cover0_A_5 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : cond0_0 i) (hc1 : k0_cond2 i = 1#1)
    (x0 : Vec F S1024x2048 .bf16) (x1 : Vec F S1x2048x1024 .f32) (x2 : Vec F S1024x128 .f32) (x3 : Vec F S1024x128 .f32) (x4 : Vec F S1024x128 .f32) (y : S1024x1024.Idx) :
    ∃ pc ∈ (kernelRun0_A c i arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).1 S256x128.size (by sl_kernel_rfl) y

def out0_A_5 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : cond0_0 i) (hc1 : k0_cond2 i = 1#1)
    (x0 : Vec F S1024x2048 .bf16) (x1 : Vec F S1x2048x1024 .f32) (x2 : Vec F S1024x128 .f32) (x3 : Vec F S1024x128 .f32) (x4 : Vec F S1024x128 .f32) : Vec F S1024x1024 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)

theorem cover0_A_6 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : cond0_0 i) (hc1 : k0_cond2 i = 1#1)
    (x0 : Vec F S1024x2048 .bf16) (x1 : Vec F S1x2048x1024 .f32) (x2 : Vec F S1024x128 .f32) (x3 : Vec F S1024x128 .f32) (x4 : Vec F S1024x128 .f32) (y : S1024x1024.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S256x1024.size (by sl_kernel_rfl) y

def out0_A_6 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : cond0_0 i) (hc1 : k0_cond2 i = 1#1)
    (x0 : Vec F S1024x2048 .bf16) (x1 : Vec F S1x2048x1024 .f32) (x2 : Vec F S1024x128 .f32) (x3 : Vec F S1024x128 .f32) (x4 : Vec F S1024x128 .f32) : Vec F S1024x1024 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4).2.1)

theorem cover0_A_S (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : cond0_0 i) (hc1 : k0_cond2 i = 1#1)
    (x0 : Vec F S1024x2048 .bf16) (x1 : Vec F S1x2048x1024 .f32) (x2 : Vec F S1024x128 .f32) (x3 : Vec F S1024x128 .f32) (x4 : Vec F S1024x128 .f32) (y : S2048x1024.Idx) :
    ∃ pc ∈ (kernelRun0_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.2.1 S2048x1024.size (by sl_kernel_rfl) y

def out0_A_S (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : cond0_0 i) (hc1 : k0_cond2 i = 1#1)
    (x0 : Vec F S1024x2048 .bf16) (x1 : Vec F S1x2048x1024 .f32) (x2 : Vec F S1024x128 .f32) (x3 : Vec F S1024x128 .f32) (x4 : Vec F S1024x128 .f32) : Vec F S2048x1024 .bf16 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4).2.2.1)

theorem cover0_B_5 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : ¬ cond0_0 i) (hc1 : k0_cond2 i = 1#1)
    (x0 : Vec F S1024x2048 .bf16) (x1 : Vec F S1x2048x1024 .f32) (x2 : Vec F S1024x128 .f32) (x3 : Vec F S1024x128 .f32) (x4 : Vec F S1024x128 .f32) (xs0 : Vec F S2048x1024 .bf16) (y : S1024x1024.Idx) :
    ∃ pc ∈ (kernelRun0_B c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).1 S256x128.size (by sl_kernel_rfl) y

def out0_B_5 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : ¬ cond0_0 i) (hc1 : k0_cond2 i = 1#1)
    (x0 : Vec F S1024x2048 .bf16) (x1 : Vec F S1x2048x1024 .f32) (x2 : Vec F S1024x128 .f32) (x3 : Vec F S1024x128 .f32) (x4 : Vec F S1024x128 .f32) (xs0 : Vec F S2048x1024 .bf16) : Vec F S1024x1024 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xs0).1)

theorem cover0_B_6 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : ¬ cond0_0 i) (hc1 : k0_cond2 i = 1#1)
    (x0 : Vec F S1024x2048 .bf16) (x1 : Vec F S1x2048x1024 .f32) (x2 : Vec F S1024x128 .f32) (x3 : Vec F S1024x128 .f32) (x4 : Vec F S1024x128 .f32) (xs0 : Vec F S2048x1024 .bf16) (y : S1024x1024.Idx) :
    ∃ pc ∈ (kernelRun0_B c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).2.1 S256x1024.size (by sl_kernel_rfl) y

def out0_B_6 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : ¬ cond0_0 i) (hc1 : k0_cond2 i = 1#1)
    (x0 : Vec F S1024x2048 .bf16) (x1 : Vec F S1x2048x1024 .f32) (x2 : Vec F S1024x128 .f32) (x3 : Vec F S1024x128 .f32) (x4 : Vec F S1024x128 .f32) (xs0 : Vec F S2048x1024 .bf16) : Vec F S1024x1024 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 xs0).2.1)

theorem cover0_C_5 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : ¬ cond0_0 i) (hc1 : ¬ k0_cond2 i = 1#1)
    (x0 : Vec F S1024x2048 .bf16) (x1 : Vec F S1x2048x1024 .f32) (x2 : Vec F S1024x128 .f32) (x3 : Vec F S1024x128 .f32) (x4 : Vec F S1024x128 .f32) (xs0 : Vec F S2048x1024 .bf16) (y : S1024x1024.Idx) :
    ∃ pc ∈ (kernelRun0_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).1 S256x128.size (by sl_kernel_rfl) y

def out0_C_5 (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S2048x1024 .bf16) (harg9 : arg9.IsWhole) (hc0 : ¬ cond0_0 i) (hc1 : ¬ k0_cond2 i = 1#1)
    (x0 : Vec F S1024x2048 .bf16) (x1 : Vec F S1x2048x1024 .f32) (x2 : Vec F S1024x128 .f32) (x3 : Vec F S1024x128 .f32) (x4 : Vec F S1024x128 .f32) (xs0 : Vec F S2048x1024 .bf16) : Vec F S1024x1024 .bf16 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs0).1)

/-! ## The points -/

theorem N0 : cfg0.N = 16 := N_0

theorem hcond0 : ∀ t : Fin cfg0.N, cond0_0 (grid0.coords t) ↔ t.val % 8 = 0 :=
  (by decide +kernel : ∀ t : Fin grid0.N, cond0_0 (grid0.coords t) ↔ t.val % 8 = 0)
theorem hcond1 : ∀ t : Fin cfg0.N, k0_cond2 (grid0.coords t) = 1#1 ↔ t.val % 8 < 4 :=
  (by decide +kernel : ∀ t : Fin grid0.N, k0_cond2 (grid0.coords t) = 1#1 ↔ t.val % 8 < 4)
theorem idle6 : ∀ t : Fin cfg0.N, cfg0.idle 6 (grid0.coords t) = !decide (t.val % 8 < 4) :=
  (by decide +kernel : ∀ t : Fin grid0.N, idle0 6 (grid0.coords t) = !decide (t.val % 8 < 4))
theorem flush6 : ∀ t : Fin cfg0.N, (cfg0.win 6).flush t = (decide (t.val % 8 < 3) || decide (t.val % 8 = 7)) :=
  (by decide +kernel : ∀ t : Fin grid0.N, win0_6.flush t = (decide (t.val % 8 < 3) || decide (t.val % 8 = 7)))
theorem fetch6 : ∀ t : Fin cfg0.N, (cfg0.win 6).fetch t = false :=
  (by decide +kernel : ∀ t : Fin grid0.N, win0_6.fetch t = false)

/-- The first point of `t`'s column block, -/
def first (t : Fin cfg0.N) : Fin cfg0.N := ⟨t.val / 8 * 8, lt_of_le_of_lt (Nat.div_mul_le_self _ _) t.isLt⟩

/-- and the last point up to `t` that stores context rows. -/
def lastCtx (t : Fin cfg0.N) : Fin cfg0.N := ⟨t.val / 8 * 8 + min (t.val % 8) 3, by have h := t.isLt; have e : cfg0.N = 16 := N0; omega⟩

/-- What the first point of a column block leaves in the scratch. -/
def scrAt (c : Dev nD) (t : Fin cfg0.N) : Vec F S2048x1024 .bf16 :=
  if h0 : t.val % 8 = 0 then
    out0_A_S c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0 t).2 h0) ((hcond1 t).2 (by omega)) (iblk m c 0 t) (iblk m c 1 t) (iblk m c 2 t) (iblk m c 3 t) (iblk m c 4 t)
  else VS0_0.read (Elt F) VS0_0.junk

/-- What the scratch holds after a point. -/
def scr (c : Dev nD) (t : Fin cfg0.N) : Vec F S2048x1024 .bf16 := scrAt m c (first t)

/-- The block of the product that a point leaves. -/
def vOut (c : Dev nD) (t : Fin cfg0.N) : Vec F S1024x1024 .bf16 :=
  if h0 : t.val % 8 = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0 t).2 h0) ((hcond1 t).2 (by omega)) (iblk m c 0 t) (iblk m c 1 t) (iblk m c 2 t) (iblk m c 3 t) (iblk m c 4 t)
  else if h1 : t.val % 8 < 4 then
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun e => h0 ((hcond0 t).1 e)) ((hcond1 t).2 h1) (iblk m c 0 t) (iblk m c 1 t) (iblk m c 2 t) (iblk m c 3 t) (iblk m c 4 t) (scr m c t)
  else
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun e => h0 ((hcond0 t).1 e)) (fun e => h1 ((hcond1 t).1 e)) (iblk m c 0 t) (iblk m c 1 t) (iblk m c 2 t) (iblk m c 3 t) (iblk m c 4 t) (scr m c t)

/-- The context copy that a context point stores. -/
def ctxAt (c : Dev nD) (t : Fin cfg0.N) : Vec F S1024x1024 .f32 :=
  if h0 : t.val % 8 = 0 then
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0 t).2 h0) ((hcond1 t).2 (by omega)) (iblk m c 0 t) (iblk m c 1 t) (iblk m c 2 t) (iblk m c 3 t) (iblk m c 4 t)
  else if h1 : t.val % 8 < 4 then
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun e => h0 ((hcond0 t).1 e)) ((hcond1 t).2 h1) (iblk m c 0 t) (iblk m c 1 t) (iblk m c 2 t) (iblk m c 3 t) (iblk m c 4 t) (scr m c t)
  else VO0_6.read (Elt F) VO0_6.junk

/-- What the context copy's buffer holds after a point. -/
def ctxOut (c : Dev nD) (t : Fin cfg0.N) : Vec F S1024x1024 .f32 := ctxAt m c (lastCtx t)

theorem first_self (t : Fin cfg0.N) (h : t.val % 8 = 0) : first t = t := Fin.ext (by show t.val / 8 * 8 = t.val; omega)
theorem lastCtx_self (t : Fin cfg0.N) (h : t.val % 8 < 4) : lastCtx t = t :=
  Fin.ext (by show t.val / 8 * 8 + min (t.val % 8) 3 = t.val; omega)
theorem scr_pred (c : Dev nD) (t : Fin cfg0.N) (h : ¬ t.val % 8 = 0) (hl : t.val - 1 < cfg0.N) : scr m c ⟨t.val - 1, hl⟩ = scr m c t :=
  congrArg (scrAt m c) (Fin.ext (by show (t.val - 1) / 8 * 8 = t.val / 8 * 8; omega))

/-! ## The invariant and the proof data -/

/-- Before a point: the scratch at anything (the first point) or at what the point before left in it. -/
def PhiS (c : Dev nD) : (n : ℕ) → n ≤ cfg0.N → sProp (Res F)
  | 0, _ => Pipeline.ΦA spec0 c
  | n + 1, hn => iprop(iprop(owns (c : Thread nD τ) scM0_0 fullShare (scr m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (scr m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) scM0_0 fullShare (scr m c ⟨n - 1, by omega⟩)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => vOut m c t
    | ⟨6, _⟩ => ctxOut m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = vOut m c t := by dsimp only [dats]
theorem after0_6 (c : Dev nD) (t : Fin cfg0.N) : (dats m 0 c).after 6 t = ctxOut m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a column block's last point the buffer still holds the last context copy. -/
theorem before_last (c : Dev nD) (t : Fin cfg0.N) (h : t.val % 8 = 7) (d) : (dats m 0 c).before 6 t d = ctxOut m c t := by
  rw [Dat.before_idle_run (dats m 0 c) 6 fetch6 d 3 t (by omega) (fun j h1 h2 => ⟨by
      rw [idle6]; simp only [Bool.not_eq_true', decide_eq_false_iff_not]; omega, by
      rw [flush6]; simp only [Bool.or_eq_false_iff, decide_eq_false_iff_not]; omega⟩)]
  rw [Dat.before_of_pos (dats m 0 c) 6 _ (by show t.val - 3 ≠ 0; omega) (fetch6 _) d]
  rw [if_neg (by rw [flush6]; simp only [Bool.or_eq_true, decide_eq_true_eq]; omega)]
  unfold Dat.left
  rw [show cfg0.idle 6 (grid0.coords ⟨t.val - 3 - 1, lt_of_le_of_lt (by omega) t.isLt⟩) = false from by
    rw [idle6]; simp only [Bool.not_eq_false', decide_eq_true_eq]; omega]
  show (dats m 0 c).kept 6 ⟨t.val - 3 - 1, lt_of_le_of_lt (by omega) t.isLt⟩ d = _
  unfold Dat.kept
  rw [Pipeline.fill_of_clip_none 6 _ (fun _ => rfl) d ((dats m 0 c).after 6 ⟨t.val - 3 - 1, lt_of_le_of_lt (by omega) t.isLt⟩), Window.fill_cut, after0_6]
  exact congrArg (ctxAt m c) (Fin.ext (by
    show (t.val - 3 - 1) / 8 * 8 + min ((t.val - 3 - 1) % 8) 3 = t.val / 8 * 8 + min (t.val % 8) 3; omega))

/-! ## The body -/

/-- What the body is called with at point `t`, -/
def bodyPre (c : Dev nD) (t : Fin cfg0.N) : sProp (Res F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- the same with anything in the scratch, -/
def bodyPreAny (c : Dev nD) (t : Fin cfg0.N) : sProp (Res F) :=
  iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp (Res F) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (dats m 0 c).leavesExact 6 t)

theorem leaves6_keep (c : Dev nD) (t : Fin cfg0.N) (hi : cfg0.idle 6 (grid0.coords t) = true) (hf : (cfg0.win 6).flush t = false) :
    (dats m 0 c).leavesExact 6 t = iprop(∃ d, owns (c : Thread nD τ) (ms0_6 t) fullShare ((dats m 0 c).before 6 t d)) :=
  Dat.leavesExact_idle (dats m 0 c) 6 t hi hf
theorem leaves6_live (c : Dev nD) (t : Fin cfg0.N) (hi : cfg0.idle 6 (grid0.coords t) = false) :
    (dats m 0 c).leavesExact 6 t = owns (c : Thread nD τ) (ms0_6 t) fullShare (ctxOut m c t) := by
  rw [← after0_6]; unfold Dat.leavesExact; rw [hi]
theorem leaves6_last (c : Dev nD) (t : Fin cfg0.N) (hi : cfg0.idle 6 (grid0.coords t) = true) (hf : (cfg0.win 6).flush t = true) :
    (dats m 0 c).leavesExact 6 t = owns (c : Thread nD τ) (ms0_6 t) fullShare (ctxOut m c t) := by
  rw [← after0_6]; unfold Dat.leavesExact; rw [hi, hf]

/-- Before any point the scratch is owned at some contents, -/
theorem Phi_any (c : Dev nD) (t : Fin cfg0.N) : (dats m 0 c).Φ t.castSucc ⊢ Pipeline.ΦA spec0 c := by
  rw [PhiS_castSucc]
  by_cases hz : t.val = 0
  · rw [PhiS_zero m c _ _ hz]
  · rw [PhiS_pos m c _ _ hz, PhiA0_eq]
    iintro ⟨HS0, Hg⟩
    isplitl [HS0]
    · iexists _; iexact HS0
    iexact Hg

/-- and inside a column block at the column's weight tile. -/
theorem Phi_in (c : Dev nD) (t : Fin cfg0.N) (h : ¬ t.val % 8 = 0) : (dats m 0 c).Φ t.castSucc
    = iprop(iprop(owns (c : Thread nD τ) scM0_0 fullShare (scr m c t)) ∗ (∃ r, prngReg c r)) := by
  rw [PhiS_castSucc, PhiS_pos m c _ _ (by intro e; rw [e] at h; exact h rfl), scr_pred m c t h]

set_option maxHeartbeats 1600000 in
theorem sound_first (c : Dev nD) (t : Fin cfg0.N) (h0 : t.val % 8 = 0) :
    bodyPreAny m c t ⊢ wp frame (wpE (defs₀ (F := F)) Variants.none c none) Set.univ (bodyAt0 t) (fun _ => bodyPost m c t) := by
  have h1 : t.val % 8 < 4 := by omega
  unfold bodyPreAny bodyPost bodyAt0
  simp only [before0_0, before0_1, before0_2, before0_3, before0_4]
  rw [show (dats m 0 c).owesAt () t.succ = (dats m 0 c).owesAt () t.castSucc from rfl, after0_0, after0_1, after0_2, after0_3, after0_4, after0_5, leaves6_live m c t (by rw [idle6]; simp [h1]),
    show (dats m 0 c).Φ t.succ = PhiS m c (t.val + 1) t.isLt from rfl, PhiS_succ]
  rw [PhiA0_eq]
  rw [show scr m c ⟨t.val, t.isLt⟩ = _ from (congrArg (scrAt m c) (first_self t h0)).trans (dif_pos h0),
    show vOut m c t = _ from dif_pos h0, show ctxOut m c t = _ from (congrArg (ctxAt m c) (lastCtx_self t h1)).trans (dif_pos h0)]
  unfold out0_A_5 out0_A_6 out0_A_S
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ ((hcond0 t).2 h0) ((hcond1 t).2 h1) (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, ⟨%es, HS0⟩⟩
  isplitl [HS0 Hg]
  · isplitl [HS0]
    · unfold owns; iexists _; isplitr
      swap; · iexact HS0
      ipureintro; exact View.read_writes_of_cover _ _ _ _ _ (cover0_A_S c _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _ _ _ _ _)

set_option maxHeartbeats 1600000 in
theorem sound_ctx (c : Dev nD) (t : Fin cfg0.N) (h0 : ¬ t.val % 8 = 0) (h1 : t.val % 8 < 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl, after0_0, after0_1, after0_2, after0_3, after0_4, after0_5, leaves6_live m c t (by rw [idle6]; simp [h1]),
    show (dats m 0 c).Φ t.succ = PhiS m c (t.val + 1) t.isLt from rfl, PhiS_succ]
  rw [Phi_in m c t h0, show vOut m c t = _ from (dif_neg h0).trans (dif_pos h1),
    show ctxOut m c t = _ from (congrArg (ctxAt m c) (lastCtx_self t h1)).trans ((dif_neg h0).trans (dif_pos h1))]
  unfold out0_B_5 out0_B_6
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_B c (grid0.coords t) _ _ _ _ _ _ _ _ _ _ _ _ _ _ _ _ (fun e => h0 ((hcond0 t).1 e)) ((hcond1 t).2 h1) (iblk m c 0 t) (iblk m c 1 t) (iblk m c 2 t) (iblk m c 3 t) (iblk m c 4 t) (scr m c t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_B_5 c _ _ _ _ _ _ _ _ _ _ _ _ _ _ _ _ _ _ _ _ _ _ _ _ _)
  unfold owns; iexists _; isplitr
  swap; · iexact H6
  ipureintro; exact View.read_writes_of_cover _ _ _ _ _ (cover0_B_6 c _ _ _ _ _ _ _ _ _ _ _ _ _ _ _ _ _ _ _ _ _ _ _ _ _)

set_option maxHeartbeats 1600000 in
theorem sound_lat (c : Dev nD) (t : Fin cfg0.N) (h1 : ¬ t.val % 8 < 4) (h7 : ¬ t.val % 8 = 7) :
    bodyPre m c t ⊢ wp frame (wpE (defs₀ (F := F)) Variants.none c none) Set.univ (bodyAt0 t) (fun _ => bodyPost m c t) := by
  have h0 : ¬ t.val % 8 = 0 := by omega
  unfold bodyPre bodyPost bodyAt0
  simp only [before0_0, before0_1, before0_2, before0_3, before0_4]
  rw [show (dats m 0 c).owesAt () t.succ = (dats m 0 c).owesAt () t.castSucc from rfl, after0_0, after0_1, after0_2, after0_3, after0_4, after0_5, leaves6_keep m c t (by rw [idle6]; simp [h1]) (by rw [flush6]; simp only [Bool.or_eq_false_iff, decide_eq_false_iff_not]; omega),
    show (dats m 0 c).Φ t.succ = PhiS m c (t.val + 1) t.isLt from rfl, PhiS_succ]
  rw [Phi_in m c t h0, show vOut m c t = _ from (dif_neg h0).trans (dif_neg h1)]
  unfold out0_C_5
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_C c (grid0.coords t) _ _ _ _ _ _ _ _ _ _ _ _ _ _ _ _ (fun e => h0 ((hcond0 t).1 e)) (fun e => h1 ((hcond1 t).1 e)) (iblk m c 0 t) (iblk m c 1 t) (iblk m c 2 t) (iblk m c 3 t) (iblk m c 4 t) (scr m c t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_C_5 c _ _ _ _ _ _ _ _ _ _ _ _ _ _ _ _ _ _ _ _ _ _ _ _ _)
  iexists _; iexact H6

set_option maxHeartbeats 1600000 in
theorem sound_last (c : Dev nD) (t : Fin cfg0.N) (h1 : ¬ t.val % 8 < 4) (h7 : t.val % 8 = 7) :
    bodyPre m c t ⊢ wp frame (wpE (defs₀ (F := F)) Variants.none c none) Set.univ (bodyAt0 t) (fun _ => bodyPost m c t) := by
  have h0 : ¬ t.val % 8 = 0 := by omega
  unfold bodyPre bodyPost bodyAt0
  simp only [before0_0, before0_1, before0_2, before0_3, before0_4, before_last m c t h7]
  rw [show (dats m 0 c).owesAt () t.succ = (dats m 0 c).owesAt () t.castSucc from rfl, after0_0, after0_1, after0_2, after0_3, after0_4, after0_5, leaves6_last m c t (by rw [idle6]; simp [h1]) (by rw [flush6]; simp [h7]),
    show (dats m 0 c).Φ t.succ = PhiS m c (t.val + 1) t.isLt from rfl, PhiS_succ]
  rw [Phi_in m c t h0, show vOut m c t = _ from (dif_neg h0).trans (dif_neg h1)]
  unfold out0_C_5
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_C c (grid0.coords t) _ _ _ _ _ _ _ _ _ _ _ _ _ _ _ _ (fun e => h0 ((hcond0 t).1 e)) (fun e => h1 ((hcond1 t).1 e)) (iblk m c 0 t) (iblk m c 1 t) (iblk m c 2 t) (iblk m c 3 t) (iblk m c 4 t) (scr m c t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_C_5 c _ _ _ _ _ _ _ _ _ _ _ _ _ _ _ _ _ _ _ _ _ _ _ _ _)
  iexact H6

theorem sound_body (c : Dev nD) (t : Fin cfg0.N) :
    bodyPre m c t ⊢ wp frame (wpE (defs₀ (F := F)) Variants.none c none) Set.univ (bodyAt0 t) (fun _ => bodyPost m c t) := by
  by_cases h1 : t.val % 8 < 4
  · by_cases h0 : t.val % 8 = 0
    · exact (Idealize.SL.BI.sep_mono_l (Phi_any m c t)).trans (sound_first m c t h0)
    · exact sound_ctx m c t h0 h1
  · by_cases h7 : t.val % 8 = 7
    · exact sound_last m c t h1 h7
    · exact sound_lat m c t h1 h7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N0]; decide), PhiA0_eq]
  iintro ⟨HS0, Hg⟩
  isplitl [HS0]
  · iexists _; iexact HS0
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel14Ideal.Gen

end
-- ==== Proof.Mla.Spec.lean ====
/- The arithmetic of one attention row over the extended reals: a normalised sum taken after the weighted sum, against the softmax row. -/
module

public import Idealize.ShloMosaic.PureOps.Ideal
public import Idealize.ShloMosaic.Lib.Pointwise

@[expose] public section

set_option maxRecDepth 16384

noncomputable section

namespace Cert.Mla

open Idealize.ShloMosaic

/-- The value is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {n : ℕ} {f : Fin n → EReal} (h : ∀ i, IsReal (f i)) : IsReal (∑ i, f i) := by
  choose g hg using h
  exact ⟨∑ i, g i, by rw [coe_sum]; exact Finset.sum_congr rfl fun i _ => hg i⟩

/-- A magnitude below the top element is that of a real number. -/
theorem isReal_of_abs_lt {x : EReal} (h : max x (-x) < ⊤) : IsReal x := by
  induction x using EReal.rec with
  | bot => simp at h
  | top => simp at h
  | coe r => exact ⟨r, rfl⟩

/-- The factor the scores carry, `192 ^ (-1/2)` at its float word. -/
abbrev sc : EReal := Ideal.ofBits FTy.f32 0x3D93CD3A#32

theorem isReal_sc : IsReal sc := by
  unfold sc IsReal
  simp [Ideal.ofBits, Ideal.ieee, -EReal.coe_mul]

/-- The value the row maxima start from. -/
abbrev low : EReal := Ideal.ofBits FTy.f32 0xFF800000#32

theorem low_eq : low = ⊥ := by
  simp [low, Ideal.ofBits, Ideal.ieee]

/-- The greatest score of two groups of keys. -/
def top2 {n0 n1 : ℕ} (s0 : Fin n0 → EReal) (s1 : Fin n1 → EReal) : EReal :=
  max (Finset.univ.fold max low s0) (Finset.univ.fold max low s1)

/-- The weighted sum of two groups of keys (weights `a`) over the sum with weights `b`, the scores shifted by their greatest. -/
def att {n0 n1 : ℕ} (s0 : Fin n0 → EReal) (s1 : Fin n1 → EReal) (a0 b0 : Fin n0 → EReal) (a1 b1 : Fin n1 → EReal) : EReal :=
  Ideal.div
    (∑ x, Ideal.exp (s0 x - top2 s0 s1) * a0 x + ∑ x, Ideal.exp (s1 x - top2 s0 s1) * a1 x)
    (∑ x, Ideal.exp (s0 x - top2 s0 s1) * b0 x + ∑ x, Ideal.exp (s1 x - top2 s0 s1) * b1 x)

theorem sum_mul_real {n : ℕ} (f : Fin n → EReal) (c : ℝ) (hc : 0 ≤ c) : (∑ i, f i) * (c : EReal) = ∑ i, f i * (c : EReal) := by
  have key : ∀ s : Finset (Fin n), (∑ i ∈ s, f i) * (c : EReal) = ∑ i ∈ s, f i * (c : EReal) := by
    intro s
    induction s using Finset.induction_on with
    | empty => simp
    | insert a s ha ih =>
      rw [Finset.sum_insert ha, Finset.sum_insert ha,
        EReal.right_distrib_of_nonneg_of_ne_top (EReal.coe_nonneg.mpr hc) (EReal.coe_ne_top c), ih]
  exact key _

theorem sum_1280 (f : Fin 1280 → EReal) :
    ∑ k, f k = ∑ k : Fin 256, f ⟨k, by omega⟩ + ∑ k : Fin 1024, f ⟨256 + k, by omega⟩ :=
  Fin.sum_univ_add (a := 256) (b := 1024) f

theorem forall_1280 (p : Fin 1280 → Prop) : (∀ k, p k) ↔ (∀ k : Fin 256, p ⟨k, by omega⟩) ∧ ∀ k : Fin 1024, p ⟨256 + k, by omega⟩ := by
  refine ⟨fun h => ⟨fun k => h _, fun k => h _⟩, fun h k => ?_⟩
  by_cases hk : k.val < 256
  · exact h.1 ⟨k.val, hk⟩
  · have := h.2 ⟨k.val - 256, by omega⟩
    have e : (⟨256 + (k.val - 256), by omega⟩ : Fin 1280) = k := Fin.ext (by show 256 + (k.val - 256) = k.val; omega)
    rw [← e]; exact this

/-- The row maximum over all keys is that of the two groups. -/
theorem top_1280 (s0 : Fin 1024 → EReal) (s1 : Fin 256 → EReal) (S : Fin 1280 → EReal)
    (hS1 : ∀ k : Fin 256, S ⟨k, by omega⟩ = s1 k) (hS0 : ∀ k : Fin 1024, S ⟨256 + k, by omega⟩ = s0 k) :
    max low (Finset.univ.fold max low S) = top2 s0 s1 := by
  refine eq_of_forall_ge_iff fun c => ?_
  simp only [top2, max_le_iff, Finset.fold_max_le, Finset.mem_univ, true_implies]
  rw [forall_1280 (fun k => S k ≤ c)]
  simp only [hS1, hS0]
  tauto

theorem isReal_top2 {n0 n1 : ℕ} (s0 : Fin n0 → EReal) (s1 : Fin n1 → EReal) (h0 : ∀ k, IsReal (s0 k)) (h1 : ∀ k, IsReal (s1 k)) (i : Fin n0) :
    IsReal (top2 s0 s1) := by
  have hlt : top2 s0 s1 < ⊤ := by
    simp only [top2, max_lt_iff, Finset.fold_max_lt, low_eq]
    refine ⟨⟨bot_lt_top, fun k _ => ?_⟩, ⟨bot_lt_top, fun k _ => ?_⟩⟩
    · obtain ⟨r, hr⟩ := h0 k; rw [hr]; exact EReal.coe_lt_top r
    · obtain ⟨r, hr⟩ := h1 k; rw [hr]; exact EReal.coe_lt_top r
  have hgt : ⊥ < top2 s0 s1 := by
    obtain ⟨r, hr⟩ := h0 i
    refine lt_of_lt_of_le (EReal.bot_lt_coe r) ?_
    rw [← hr]
    refine le_trans ?_ (le_max_left _ _)
    exact Finset.le_fold_max (s0 i) |>.mpr (Or.inr ⟨i, Finset.mem_univ i, le_refl _⟩)
  induction h : top2 s0 s1 using EReal.rec with
  | bot => rw [h] at hgt; exact absurd hgt (lt_irrefl _)
  | top => rw [h] at hlt; exact absurd hlt (lt_irrefl _)
  | coe r => exact ⟨r, rfl⟩

/-- The row with one division at the end is the softmax row: every score is real, so the sum of the exponentials is a positive real. -/
theorem att_eq_softmax (s0 : Fin 1024 → EReal) (s1 : Fin 256 → EReal) (a0 : Fin 1024 → EReal) (a1 : Fin 256 → EReal)
    (h0 : ∀ k, IsReal (s0 k)) (h1 : ∀ k, IsReal (s1 k)) (S V : Fin 1280 → EReal)
    (hS1 : ∀ k : Fin 256, S ⟨k, by omega⟩ = s1 k) (hS0 : ∀ k : Fin 1024, S ⟨256 + k, by omega⟩ = s0 k)
    (hV1 : ∀ k : Fin 256, V ⟨k, by omega⟩ = a1 k) (hV0 : ∀ k : Fin 1024, V ⟨256 + k, by omega⟩ = a0 k) :
    ∑ k, V k * Ideal.div (Ideal.exp (S k - max low (Finset.univ.fold max low S)))
        (∑ k, Ideal.exp (S k - max low (Finset.univ.fold max low S)))
      = att s0 s1 a0 (fun _ => 1) a1 (fun _ => 1) := by
  rw [top_1280 s0 s1 S hS1 hS0, sum_1280, sum_1280]
  simp only [hS1, hS0, hV1, hV0]
  obtain ⟨M, hM⟩ := isReal_top2 s0 s1 h0 h1 ⟨0, by omega⟩
  unfold att
  rw [hM]
  choose f0 hf0 using h0
  choose f1 hf1 using h1
  have e0 : ∀ k, Ideal.exp (s0 k - (M : EReal)) = ((Real.exp (f0 k - M) : ℝ) : EReal) := fun k => by
    rw [hf0, ← EReal.coe_sub, Ideal.exp_coe]
  have e1 : ∀ k, Ideal.exp (s1 k - (M : EReal)) = ((Real.exp (f1 k - M) : ℝ) : EReal) := fun k => by
    rw [hf1, ← EReal.coe_sub, Ideal.exp_coe]
  simp only [e0, e1, mul_one]
  rw [← coe_sum, ← coe_sum, ← EReal.coe_add, ← EReal.coe_add]
  have hp0 : 0 < ∑ k, Real.exp (f0 k - M) := Finset.sum_pos (fun k _ => Real.exp_pos _) ⟨⟨0, by omega⟩, Finset.mem_univ _⟩
  have hp1 : 0 < ∑ k, Real.exp (f1 k - M) := Finset.sum_pos (fun k _ => Real.exp_pos _) ⟨⟨0, by omega⟩, Finset.mem_univ _⟩
  rw [add_comm (∑ k, Real.exp (f1 k - M))]
  have hZ : 0 < ∑ k, Real.exp (f0 k - M) + ∑ k, Real.exp (f1 k - M) := add_pos hp0 hp1
  generalize ∑ k, Real.exp (f0 k - M) + ∑ k, Real.exp (f1 k - M) = Z at hZ ⊢
  have hc : (0 : ℝ) ≤ 1 / Z := by positivity
  simp only [Ideal.div_coe hZ.ne']
  rw [EReal.right_distrib_of_nonneg_of_ne_top (EReal.coe_nonneg.mpr hc) (EReal.coe_ne_top _), sum_mul_real _ _ hc, sum_mul_real _ _ hc, add_comm]
  congr 1 <;> exact Finset.sum_congr rfl fun k _ => by rw [← mul_assoc, mul_comm (_ : EReal) ((Real.exp _ : ℝ) : EReal)]

/-- The score of one query and one key: the nope lanes' product plus the rope lanes', times the scale. -/
def score (qn : Fin 128 → EReal) (qp : Fin 64 → EReal) (kn : Fin 128 → EReal) (kp : Fin 64 → EReal) : EReal :=
  (∑ d, qn d * kn d + ∑ d, qp d * kp d) * sc

theorem isReal_score {qn kn : Fin 128 → EReal} {qp kp : Fin 64 → EReal} (h1 : ∀ d, IsReal (qn d)) (h2 : ∀ d, IsReal (qp d))
    (h3 : ∀ d, IsReal (kn d)) (h4 : ∀ d, IsReal (kp d)) : IsReal (score qn qp kn kp) :=
  ((IsReal.sum fun d => (h1 d).mul (h3 d)).add (IsReal.sum fun d => (h2 d).mul (h4 d))).mul isReal_sc

theorem sum_256 (f : Fin 256 → EReal) :
    ∑ k, f k = ∑ k : Fin 128, f ⟨k, by omega⟩ + (∑ k : Fin 64, f ⟨128 + k, by omega⟩ + ∑ k : Fin 64, f ⟨192 + k, by omega⟩) := by
  refine (Fin.sum_univ_add (a := 128) (b := 128) f).trans ?_
  congr 1
  refine (Fin.sum_univ_add (a := 64) (b := 64) fun i : Fin 128 => f (Fin.natAdd 128 i)).trans ?_
  congr 1

/-- A product over 256 lanes of which the last 64 are zero. -/
theorem dot_even (Q K : Fin 256 → EReal) (qn kn : Fin 128 → EReal) (qp kp : Fin 64 → EReal)
    (q1 : ∀ d : Fin 128, Q ⟨d, by omega⟩ = qn d) (q2 : ∀ d : Fin 64, Q ⟨128 + d, by omega⟩ = qp d) (q3 : ∀ d : Fin 64, Q ⟨192 + d, by omega⟩ = 0)
    (k1 : ∀ d : Fin 128, K ⟨d, by omega⟩ = kn d) (k2 : ∀ d : Fin 64, K ⟨128 + d, by omega⟩ = kp d) :
    (∑ i, Q i * K i) * sc = score qn qp kn kp := by
  rw [sum_256]
  simp only [q1, q2, q3, k1, k2, zero_mul, Finset.sum_const_zero, add_zero]
  rfl

/-- A product over 256 lanes of which the 64 before the last 64 are zero. -/
theorem dot_odd (Q K : Fin 256 → EReal) (qn kn : Fin 128 → EReal) (qp kp : Fin 64 → EReal)
    (q1 : ∀ d : Fin 128, Q ⟨d, by omega⟩ = qn d) (q2 : ∀ d : Fin 64, Q ⟨128 + d, by omega⟩ = 0) (q3 : ∀ d : Fin 64, Q ⟨192 + d, by omega⟩ = qp d)
    (k1 : ∀ d : Fin 128, K ⟨d, by omega⟩ = kn d) (k3 : ∀ d : Fin 64, K ⟨192 + d, by omega⟩ = kp d) :
    (∑ i, Q i * K i) * sc = score qn qp kn kp := by
  rw [sum_256]
  simp only [q1, q2, q3, k1, k3, zero_mul, Finset.sum_const_zero, zero_add]
  rfl

/-- The array row of latent token `q` of batch row `b`. -/
def row (b : Fin 4) (q : Fin 1024) : Fin 8192 := ⟨4096 + (1024 * b + q), by omega⟩

/-- The array column of lane `d` of head `h`. -/
def col (h : Fin 16) (d : Fin 128) : Fin 2048 := ⟨128 * h + d, by omega⟩

/-- The array column of rope lane `d` of head `h`. -/
def rcol (h : Fin 16) (d : Fin 64) : Fin 1024 := ⟨64 * h + d, by omega⟩

/-- Lane `e` of head `h` of the attention of latent token `q` of batch row `b`, over the arrays' coordinates. -/
def mla (x0 : Fin 8192 → Fin 2048 → EReal) (x1 : Fin 8192 → Fin 1024 → EReal) (x2 : Fin 8192 → Fin 256 → EReal) (x3 : Fin 8192 → Fin 64 → EReal)
    (x4 : Fin 4 → Fin 256 → Fin 256 → EReal) (x5 : Fin 4 → Fin 256 → Fin 64 → EReal) (x6 x7 : Fin 256 → Fin 2048 → EReal)
    (b : Fin 4) (q : Fin 1024) (h : Fin 16) (e : Fin 128) : EReal :=
  att
    (fun k : Fin 1024 => score (fun d => x0 (row b q) (col h d)) (fun d => x1 (row b q) (rcol h d))
      (fun d => ∑ c, x2 (row b k) c * x6 c (col h d)) (fun d => x3 (row b k) d))
    (fun k : Fin 256 => score (fun d => x0 (row b q) (col h d)) (fun d => x1 (row b q) (rcol h d))
      (fun d => ∑ c, x4 b k c * x6 c (col h d)) (fun d => x5 b k d))
    (fun k => ∑ c, x2 (row b k) c * x7 c (col h e)) (fun _ => 1)
    (fun k => ∑ c, x4 b k c * x7 c (col h e)) (fun _ => 1)

end Cert.Mla
-- ==== Proof.Mla.Pre.lean ====
/- The precondition's meaning: every element of the first seven arguments is a real number. -/
module

public import proofs.«01_k».proof.Defs
public import proofs.«01_k».proof.Proof.Mla.Spec

@[expose] public section

set_option maxRecDepth 16384

noncomputable section

namespace Cert.Mla

open Idealize.ShloMosaic Idealize.SL.Sem

/-- The side conditions of the precondition's operations. -/
theorem preFacts : Cert.Pre_finite.Facts where
  bitsLt_bf16_f32 := by decide
  bcast_S_S8192x2048 := by decide
  bcast_S_S8192x1024 := by decide
  bcast_S_S8192x256 := by decide
  bcast_S_S8192x64 := by decide
  bcast_S_S4x1x256x256 := by decide
  bcast_S_S4x1x256x64 := by decide
  bcast_S_S1x256x2048 := by decide

theorem inf_eq : Ideal.ofBits FTy.f32 0x7F800000#32 = ⊤ := by
  simp [Ideal.ofBits, Ideal.ieee]

theorem isReal_of_cmp {x : EReal} (h : Ideal.cmp .olt (max x (-x)) (Ideal.ofBits FTy.f32 0x7F800000#32) = 1#1) : IsReal x := by
  rw [inf_eq] at h
  refine isReal_of_abs_lt ?_
  by_contra hn
  simp [Ideal.cmp, hn] at h

theorem isReal_f32 {s : Shape} (hb : (⟨0, ![]⟩ : Shape).BroadcastsInDim s (![] : Fin 0 → Fin s.rank)) (x : FVec Ideal s .f32)
    (e : cmpf .olt (Host.absf x) (broadcastInDim s ![] hb (constant ⟨0, ![]⟩ .f32 0x7F800000#32)) = fun _ => 1#1) (i : s.Idx) : IsReal (x i) :=
  isReal_of_cmp (congrFun e i)

theorem isReal_bf16 {s : Shape} (h : FTy.bits .bf16 < FTy.bits .f32) (hb : (⟨0, ![]⟩ : Shape).BroadcastsInDim s (![] : Fin 0 → Fin s.rank))
    (x : FVec Ideal s .bf16)
    (e : cmpf .olt (Host.absf (extf .f32 x h)) (broadcastInDim s ![] hb (constant ⟨0, ![]⟩ .f32 0x7F800000#32)) = fun _ => 1#1) (i : s.Idx) :
    IsReal (x i) :=
  isReal_of_cmp (congrFun e i)

end Cert.Mla
-- ==== Proof.Mla.Tile.lean ====
/- One attention tile of the kernel: the eight stores of a grid point are one function of the tile's operands. -/
module

public import proofs.«01_k».proof.Proof.Gen.KernelIdeal.Value
public import proofs.«01_k».proof.Proof.Mla.Spec
public import Idealize.ShloMosaic.Lib.Pipeline.ValueKit
public import Idealize.ShloMosaic.Lib.Pointwise

@[expose] public section

set_option maxRecDepth 16384

noncomputable section

namespace Cert.KernelIdeal.Mla

open Cert.KernelIdeal Cert.KernelIdeal.Gen Idealize.ShloMosaic Idealize.ShloMosaic.TcCoe Idealize.ShloMosaic.Tactic Idealize.SL.Sem
open Idealize.ShloMosaic.Pipeline (Dat)
open Cert.Mla

/-- The queries of the even head of a pair: the nope lanes, then the rope lanes of the pair with the odd half zeroed. -/
def qEven (qp qn : FVec Ideal S256x128 .bf16) : FVec Ideal S256x256 .bf16 := k0_pay26 k0_pay20 qp qn

/-- The queries of the odd head of a pair: the rope lanes of the pair with the even half zeroed. -/
def qOdd (qp qn : FVec Ideal S256x128 .bf16) : FVec Ideal S256x256 .bf16 := k0_pay56 k0_pay20 qp qn

/-- One tile: queries `Q` against the keys of two groups, the values of each group beside a column of ones. -/
def tile (Q : FVec Ideal S256x256 .bf16) (K0 : FVec Ideal S1024x256 .bf16) (K1 : FVec Ideal S256x256 .bf16)
    (V0 : FVec Ideal S1024x256 .bf16) (V1 : FVec Ideal S256x256 .bf16) : FVec Ideal S256x128 .bf16 :=
  k0_pay1 V0 V1
    (matmul dot_S256x256_S256x256_S256x256_1_1_0_0_n_n none Q K1 (constant S256x256 .f32 0x00000000#32))
    (mulf (matmul dot_S256x256_S1024x256_S256x1024_1_1_0_0_n_n none Q K0 (constant S256x1024 .f32 0x00000000#32))
      (broadcast S256x1024 (FloatOps.ofBits FTy.f32 0x3D93CD3A#32)))
    (FloatOps.ofBits FTy.f32 0x3D93CD3A#32)

variable (qp qn : FVec Ideal S256x128 .bf16) (K0 : FVec Ideal S1024x256 .bf16) (K1 : FVec Ideal S256x256 .bf16)
    (V0 : FVec Ideal S1024x256 .bf16) (V1 : FVec Ideal S256x256 .bf16)

theorem tile_apply (Q : FVec Ideal S256x256 .bf16) (r : Fin 256) (l : Fin 128) :
    tile Q K0 K1 V0 V1 (ix2 r l) = att
      (fun k => (∑ c : Fin 256, Q (ix2 r c) * K0 (ix2 k c)) * sc) (fun k => (∑ c : Fin 256, Q (ix2 r c) * K1 (ix2 k c)) * sc)
      (fun k => V0 (ix2 k ⟨l, by omega⟩)) (fun k => V0 (ix2 k ⟨128 + l, by omega⟩))
      (fun k => V1 (ix2 k ⟨l, by omega⟩)) (fun k => V1 (ix2 k ⟨128 + l, by omega⟩)) := by
  pointwise [tile, k0_pay1]
  rfl

theorem below_64 : ∀ d : Fin 128, IntOp.cmpi .slt (BitVec.ofNat 32 d.val) 64#32 = if d.val < 64 then 1#1 else 0#1 := by
  decide +kernel

theorem qEven_nope (r : Fin 256) (d : Fin 128) : qEven qp qn (ix2 r ⟨d, by omega⟩) = qn (ix2 r d) := by
  pointwise [qEven, k0_pay26, k0_pay20]

theorem qEven_rope (r : Fin 256) (d : Fin 64) : qEven qp qn (ix2 r ⟨128 + d, by omega⟩) = qp (ix2 r ⟨d, by omega⟩) := by
  pointwise [qEven, k0_pay26, k0_pay20]
  rw [below_64 ⟨d, by omega⟩, if_pos d.isLt]
  rfl

theorem qEven_zero (r : Fin 256) (d : Fin 64) : qEven qp qn (ix2 r ⟨192 + d, by omega⟩) = 0 := by
  pointwise [qEven, k0_pay26, k0_pay20]
  rw [dif_neg (by omega)]
  rw [below_64 ⟨192 + d - 128, by omega⟩, if_neg (by show ¬ 192 + d.val - 128 < 64; omega)]
  rfl

theorem qOdd_nope (r : Fin 256) (d : Fin 128) : qOdd qp qn (ix2 r ⟨d, by omega⟩) = qn (ix2 r d) := by
  pointwise [qOdd, k0_pay56, k0_pay20]

theorem qOdd_zero (r : Fin 256) (d : Fin 64) : qOdd qp qn (ix2 r ⟨128 + d, by omega⟩) = 0 := by
  pointwise [qOdd, k0_pay56, k0_pay20]
  rw [below_64 ⟨d, by omega⟩, if_pos d.isLt]
  rfl

theorem qOdd_rope (r : Fin 256) (d : Fin 64) : qOdd qp qn (ix2 r ⟨192 + d, by omega⟩) = qp (ix2 r ⟨64 + d, by omega⟩) := by
  pointwise [qOdd, k0_pay56, k0_pay20]
  rw [dif_neg (by omega)]
  rw [below_64 ⟨192 + d - 128, by omega⟩, if_neg (by show ¬ 192 + d.val - 128 < 64; omega)]
  refine congrArg (fun i => qp (ix2 r i)) (Fin.ext ?_)
  show 192 + d.val - 128 = 64 + d.val
  omega

variable (x2 : Vec Ideal S1024x256 .bf16) (x3 : Vec Ideal S1024x64 .bf16) (x4 : Vec Ideal S1x1x256x256 .f32) (x5 : Vec Ideal S1x1x256x64 .f32)
    (x6 x7 : Vec Ideal S1x256x256 .f32)

theorem keyL0_nope (k : Fin 1024) (d : Fin 128) :
    (k0_pay7 x6 x2 x3 : FVec Ideal S1024x256 .bf16) (ix2 k ⟨d, by omega⟩) = ∑ c : Fin 256, x2 (ix2 k c) * x6 (ix3 0 c ⟨d, by omega⟩) := by
  pointwise [k0_pay7, k0_pay4, k0_pay2]

theorem keyL0_rope (k : Fin 1024) (d : Fin 64) :
    (k0_pay7 x6 x2 x3 : FVec Ideal S1024x256 .bf16) (ix2 k ⟨128 + d, by omega⟩) = x3 (ix2 k d) := by
  pointwise [k0_pay7, k0_pay4, k0_pay2]

theorem keyL0_rope' (k : Fin 1024) (d : Fin 64) :
    (k0_pay7 x6 x2 x3 : FVec Ideal S1024x256 .bf16) (ix2 k ⟨192 + d, by omega⟩) = x3 (ix2 k d) := by
  pointwise [k0_pay7, k0_pay4, k0_pay2]
  rw [dif_neg (by omega), dif_neg (by omega)]
  have e : ∀ h, (⟨192 + d.val - 128 - 64, h⟩ : Fin 64) = d := fun h => Fin.ext (by show 192 + d.val - 128 - 64 = d.val; omega)
  simp only [e]

theorem keyL1_nope (k : Fin 1024) (d : Fin 128) :
    (k0_pay9 x6 x2 x3 : FVec Ideal S1024x256 .bf16) (ix2 k ⟨d, by omega⟩) = ∑ c : Fin 256, x2 (ix2 k c) * x6 (ix3 0 c ⟨128 + d, by omega⟩) := by
  pointwise [k0_pay9, k0_pay4, k0_pay2]

theorem keyL1_rope (k : Fin 1024) (d : Fin 64) :
    (k0_pay9 x6 x2 x3 : FVec Ideal S1024x256 .bf16) (ix2 k ⟨128 + d, by omega⟩) = x3 (ix2 k d) := by
  pointwise [k0_pay9, k0_pay4, k0_pay2]

theorem keyL1_rope' (k : Fin 1024) (d : Fin 64) :
    (k0_pay9 x6 x2 x3 : FVec Ideal S1024x256 .bf16) (ix2 k ⟨192 + d, by omega⟩) = x3 (ix2 k d) := by
  pointwise [k0_pay9, k0_pay4, k0_pay2]
  rw [dif_neg (by omega), dif_neg (by omega)]
  have e : ∀ h, (⟨192 + d.val - 128 - 64, h⟩ : Fin 64) = d := fun h => Fin.ext (by show 192 + d.val - 128 - 64 = d.val; omega)
  simp only [e]

theorem keyC0_nope (k : Fin 256) (d : Fin 128) :
    (k0_pay16 (k0_pay2 x6) x4 x5 : FVec Ideal S256x256 .bf16) (ix2 k ⟨d, by omega⟩) = ∑ c : Fin 256, x4 (ix4 0 0 k c) * x6 (ix3 0 c ⟨d, by omega⟩) := by
  pointwise [k0_pay16, k0_pay2, k0_pay11, k0_pay12, k0_pay14]

theorem keyC0_rope (k : Fin 256) (d : Fin 64) :
    (k0_pay16 (k0_pay2 x6) x4 x5 : FVec Ideal S256x256 .bf16) (ix2 k ⟨128 + d, by omega⟩) = x5 (ix4 0 0 k d) := by
  pointwise [k0_pay16, k0_pay2, k0_pay11, k0_pay12, k0_pay14]

theorem keyC0_rope' (k : Fin 256) (d : Fin 64) :
    (k0_pay16 (k0_pay2 x6) x4 x5 : FVec Ideal S256x256 .bf16) (ix2 k ⟨192 + d, by omega⟩) = x5 (ix4 0 0 k d) := by
  pointwise [k0_pay16, k0_pay2, k0_pay11, k0_pay12, k0_pay14]
  rw [dif_neg (by omega), dif_neg (by omega)]
  have e : ∀ h, (⟨192 + d.val - 128 - 64, h⟩ : Fin 64) = d := fun h => Fin.ext (by show 192 + d.val - 128 - 64 = d.val; omega)
  simp only [e]

theorem keyC1_nope (k : Fin 256) (d : Fin 128) :
    (k0_pay18 (k0_pay2 x6) x4 x5 : FVec Ideal S256x256 .bf16) (ix2 k ⟨d, by omega⟩) = ∑ c : Fin 256, x4 (ix4 0 0 k c) * x6 (ix3 0 c ⟨128 + d, by omega⟩) := by
  pointwise [k0_pay18, k0_pay2, k0_pay11, k0_pay12, k0_pay14]

theorem keyC1_rope (k : Fin 256) (d : Fin 64) :
    (k0_pay18 (k0_pay2 x6) x4 x5 : FVec Ideal S256x256 .bf16) (ix2 k ⟨128 + d, by omega⟩) = x5 (ix4 0 0 k d) := by
  pointwise [k0_pay18, k0_pay2, k0_pay11, k0_pay12, k0_pay14]

theorem keyC1_rope' (k : Fin 256) (d : Fin 64) :
    (k0_pay18 (k0_pay2 x6) x4 x5 : FVec Ideal S256x256 .bf16) (ix2 k ⟨192 + d, by omega⟩) = x5 (ix4 0 0 k d) := by
  pointwise [k0_pay18, k0_pay2, k0_pay11, k0_pay12, k0_pay14]
  rw [dif_neg (by omega), dif_neg (by omega)]
  have e : ∀ h, (⟨192 + d.val - 128 - 64, h⟩ : Fin 64) = d := fun h => Fin.ext (by show 192 + d.val - 128 - 64 = d.val; omega)
  simp only [e]

theorem valL0_val (k : Fin 1024) (e : Fin 128) :
    (k0_pay8 x7 x2 : FVec Ideal S1024x256 .bf16) (ix2 k ⟨e, by omega⟩) = ∑ c : Fin 256, x2 (ix2 k c) * x7 (ix3 0 c ⟨e, by omega⟩) := by
  pointwise [k0_pay8, k0_pay5, k0_pay3, k0_pay6]

theorem valL0_one (k : Fin 1024) (e : Fin 128) : (k0_pay8 x7 x2 : FVec Ideal S1024x256 .bf16) (ix2 k ⟨128 + e, by omega⟩) = (1 : EReal) := by
  pointwise [k0_pay8, k0_pay5, k0_pay3, k0_pay6]

theorem valL1_val (k : Fin 1024) (e : Fin 128) :
    (k0_pay10 x7 x2 : FVec Ideal S1024x256 .bf16) (ix2 k ⟨e, by omega⟩) = ∑ c : Fin 256, x2 (ix2 k c) * x7 (ix3 0 c ⟨128 + e, by omega⟩) := by
  pointwise [k0_pay10, k0_pay5, k0_pay3, k0_pay6]

theorem valL1_one (k : Fin 1024) (e : Fin 128) : (k0_pay10 x7 x2 : FVec Ideal S1024x256 .bf16) (ix2 k ⟨128 + e, by omega⟩) = (1 : EReal) := by
  pointwise [k0_pay10, k0_pay5, k0_pay3, k0_pay6]

theorem valC0_val (k : Fin 256) (e : Fin 128) :
    (k0_pay17 (k0_pay3 x7) x4 : FVec Ideal S256x256 .bf16) (ix2 k ⟨e, by omega⟩) = ∑ c : Fin 256, x4 (ix4 0 0 k c) * x7 (ix3 0 c ⟨e, by omega⟩) := by
  pointwise [k0_pay17, k0_pay3, k0_pay11, k0_pay13, k0_pay15]

theorem valC0_one (k : Fin 256) (e : Fin 128) : (k0_pay17 (k0_pay3 x7) x4 : FVec Ideal S256x256 .bf16) (ix2 k ⟨128 + e, by omega⟩) = (1 : EReal) := by
  pointwise [k0_pay17, k0_pay3, k0_pay11, k0_pay13, k0_pay15]

theorem valC1_val (k : Fin 256) (e : Fin 128) :
    (k0_pay19 (k0_pay3 x7) x4 : FVec Ideal S256x256 .bf16) (ix2 k ⟨e, by omega⟩) = ∑ c : Fin 256, x4 (ix4 0 0 k c) * x7 (ix3 0 c ⟨128 + e, by omega⟩) := by
  pointwise [k0_pay19, k0_pay3, k0_pay11, k0_pay13, k0_pay15]

theorem valC1_one (k : Fin 256) (e : Fin 128) : (k0_pay19 (k0_pay3 x7) x4 : FVec Ideal S256x256 .bf16) (ix2 k ⟨128 + e, by omega⟩) = (1 : EReal) := by
  pointwise [k0_pay19, k0_pay3, k0_pay11, k0_pay13, k0_pay15]

/-- The tile of head 0 of a pair: the softmax row of its queries against the expanded keys of both groups. -/
theorem tile_even (r : Fin 256) (e : Fin 128) :
    tile (qEven qp qn) (k0_pay7 x6 x2 x3) (k0_pay16 (k0_pay2 x6) x4 x5) (k0_pay8 x7 x2) (k0_pay17 (k0_pay3 x7) x4) (ix2 r e) = att
      (fun k => score (fun d => qn (ix2 r d)) (fun d => qp (ix2 r ⟨d, by omega⟩)) (fun d => ∑ c : Fin 256, x2 (ix2 k c) * x6 (ix3 0 c ⟨d, by omega⟩)) (fun d => x3 (ix2 k d)))
      (fun k => score (fun d => qn (ix2 r d)) (fun d => qp (ix2 r ⟨d, by omega⟩)) (fun d => ∑ c : Fin 256, x4 (ix4 0 0 k c) * x6 (ix3 0 c ⟨d, by omega⟩)) (fun d => x5 (ix4 0 0 k d)))
      (fun k => ∑ c : Fin 256, x2 (ix2 k c) * x7 (ix3 0 c ⟨e, by omega⟩)) (fun _ => 1)
      (fun k => ∑ c : Fin 256, x4 (ix4 0 0 k c) * x7 (ix3 0 c ⟨e, by omega⟩)) (fun _ => 1) := by
  rw [tile_apply]
  congr 1 <;> funext k
  · exact dot_even _ _ _ _ _ _ (qEven_nope qp qn r) (qEven_rope qp qn r) (qEven_zero qp qn r) (keyL0_nope x2 x3 x6 k) (keyL0_rope x2 x3 x6 k)
  · exact dot_even _ _ _ _ _ _ (qEven_nope qp qn r) (qEven_rope qp qn r) (qEven_zero qp qn r) (keyC0_nope x4 x5 x6 k) (keyC0_rope x4 x5 x6 k)
  · exact valL0_val x2 x7 k e
  · exact valL0_one x2 x7 k e
  · exact valC0_val x4 x7 k e
  · exact valC0_one x4 x7 k e

/-- The tile of head 1 of a pair: the softmax row of its queries against the expanded keys of both groups. -/
theorem tile_odd (r : Fin 256) (e : Fin 128) :
    tile (qOdd qp qn) (k0_pay9 x6 x2 x3) (k0_pay18 (k0_pay2 x6) x4 x5) (k0_pay10 x7 x2) (k0_pay19 (k0_pay3 x7) x4) (ix2 r e) = att
      (fun k => score (fun d => qn (ix2 r d)) (fun d => qp (ix2 r ⟨64 + d, by omega⟩)) (fun d => ∑ c : Fin 256, x2 (ix2 k c) * x6 (ix3 0 c ⟨128 + d, by omega⟩)) (fun d => x3 (ix2 k d)))
      (fun k => score (fun d => qn (ix2 r d)) (fun d => qp (ix2 r ⟨64 + d, by omega⟩)) (fun d => ∑ c : Fin 256, x4 (ix4 0 0 k c) * x6 (ix3 0 c ⟨128 + d, by omega⟩)) (fun d => x5 (ix4 0 0 k d)))
      (fun k => ∑ c : Fin 256, x2 (ix2 k c) * x7 (ix3 0 c ⟨128 + e, by omega⟩)) (fun _ => 1)
      (fun k => ∑ c : Fin 256, x4 (ix4 0 0 k c) * x7 (ix3 0 c ⟨128 + e, by omega⟩)) (fun _ => 1) := by
  rw [tile_apply]
  congr 1 <;> funext k
  · exact dot_odd _ _ _ _ _ _ (qOdd_nope qp qn r) (qOdd_zero qp qn r) (qOdd_rope qp qn r) (keyL1_nope x2 x3 x6 k) (keyL1_rope' x2 x3 x6 k)
  · exact dot_odd _ _ _ _ _ _ (qOdd_nope qp qn r) (qOdd_zero qp qn r) (qOdd_rope qp qn r) (keyC1_nope x4 x5 x6 k) (keyC1_rope' x4 x5 x6 k)
  · exact valL1_val x2 x7 k e
  · exact valL1_one x2 x7 k e
  · exact valC1_val x4 x7 k e
  · exact valC1_one x4 x7 k e

end Cert.KernelIdeal.Mla
-- ==== Proof.Mla.Block.lean ====
/- A grid point's block: the eight stores against the two heads' attention rows over the point's input blocks. -/
module
public import proofs.«01_k».proof.Proof.Mla.Tile
public import Idealize.ShloMosaic.Lib.Pipeline.ReadBack
@[expose] public section
set_option maxRecDepth 16384
noncomputable section
namespace Cert.KernelIdeal.Mla
open Cert.KernelIdeal Cert.KernelIdeal.Gen Idealize.ShloMosaic Idealize.ShloMosaic.TcCoe Idealize.ShloMosaic.Tactic Idealize.SL.Sem
open Idealize.ShloMosaic.Pipeline (Dat)
open Cert.Mla
variable (m : (ℓ : Loc nD τ sig) → Buf (Elt Ideal) ℓ)

/-- Row `r`, lane `e` of head `hh` of the pair, from the point's input blocks. -/
def blockOut (x0 : Vec Ideal S1024x256 .bf16) (x1 : Vec Ideal S1024x128 .bf16) (x2 : Vec Ideal S1024x256 .bf16) (x3 : Vec Ideal S1024x64 .bf16)
    (x4 : Vec Ideal S1x1x256x256 .f32) (x5 : Vec Ideal S1x1x256x64 .f32) (x6 x7 : Vec Ideal S1x256x256 .f32)
    (r : Fin 1024) (hh : Fin 2) (e : Fin 128) : EReal :=
  att
    (fun k : Fin 1024 => score (fun d => x0 (ix2 r ⟨128 * hh + d, by omega⟩)) (fun d => x1 (ix2 r ⟨64 * hh + d, by omega⟩))
      (fun d => ∑ c : Fin 256, x2 (ix2 k c) * x6 (ix3 0 c ⟨128 * hh + d, by omega⟩)) (fun d => x3 (ix2 k d)))
    (fun k : Fin 256 => score (fun d => x0 (ix2 r ⟨128 * hh + d, by omega⟩)) (fun d => x1 (ix2 r ⟨64 * hh + d, by omega⟩))
      (fun d => ∑ c : Fin 256, x4 (ix4 0 0 k c) * x6 (ix3 0 c ⟨128 * hh + d, by omega⟩)) (fun d => x5 (ix4 0 0 k d)))
    (fun k => ∑ c : Fin 256, x2 (ix2 k c) * x7 (ix3 0 c ⟨128 * hh + e, by omega⟩)) (fun _ => 1)
    (fun k => ∑ c : Fin 256, x4 (ix4 0 0 k c) * x7 (ix3 0 c ⟨128 * hh + e, by omega⟩)) (fun _ => 1)

theorem ld_x0 (x0 : Vec Ideal S1024x256 .bf16) (o p : ℕ) (h : ∀ a : Fin 2, ![o, p] a + ![256, 128] a ≤ S1024x256.size a) (r : Fin 256) (d : Fin 128) (ho : o + 256 ≤ 1024) (hp : p + 128 ≤ 256) :
    View.ld x0 (Rect.unit ![o, p] ![256, 128] h) (ix2 r d) = x0 (ix2 ⟨o + r, by omega⟩ ⟨p + d, by omega⟩) := by
  unfold View.ld
  blk_ext
  all_goals simp [Rect.idx_unit_val]

theorem ld_x1 (x1 : Vec Ideal S1024x128 .bf16) (o : ℕ) (h : ∀ a : Fin 2, ![o, 0] a + ![256, 128] a ≤ S1024x128.size a) (r : Fin 256) (d : Fin 128) (ho : o + 256 ≤ 1024) :
    View.ld x1 (Rect.unit ![o, 0] ![256, 128] h) (ix2 r d) = x1 (ix2 ⟨o + r, by omega⟩ d) := by
  unfold View.ld
  blk_ext
  all_goals simp [Rect.idx_unit_val]

/-- A store of head 0 of the pair, for the 256 queries from `o` on. -/
theorem piece_even (x0 : Vec Ideal S1024x256 .bf16) (x1 : Vec Ideal S1024x128 .bf16) (x2 : Vec Ideal S1024x256 .bf16) (x3 : Vec Ideal S1024x64 .bf16)
    (x4 : Vec Ideal S1x1x256x256 .f32) (x5 : Vec Ideal S1x1x256x64 .f32) (x6 x7 : Vec Ideal S1x256x256 .f32)
    (o : ℕ) (ho : o + 256 ≤ 1024) (h1 : ∀ a : Fin 2, ![o, 0] a + ![256, 128] a ≤ S1024x128.size a) (h0 : ∀ a : Fin 2, ![o, 0] a + ![256, 128] a ≤ S1024x256.size a)
    (x : S256x128.Idx) (r : Fin 1024) (hh : Fin 2) (e : Fin 128) (hr : r.val = o + (x 0).val) (hhh : hh.val = 0) (he : e.val = (x 1).val) :
    tile (qEven (View.ld x1 (Rect.unit ![o, 0] ![256, 128] h1)) (View.ld x0 (Rect.unit ![o, 0] ![256, 128] h0)))
      (k0_pay7 x6 x2 x3) (k0_pay16 (k0_pay2 x6) x4 x5) (k0_pay8 x7 x2) (k0_pay17 (k0_pay3 x7) x4) x
      = blockOut x0 x1 x2 x3 x4 x5 x6 x7 r hh e := by
  obtain ⟨r', e', rfl⟩ : ∃ (r' : Fin 256) (e' : Fin 128), x = ix2 r' e' := ⟨x 0, x 1, by idx_ext⟩
  obtain rfl : e = e' := Fin.ext he
  obtain rfl : hh = 0 := Fin.ext hhh
  have hlt : o + r'.val < 1024 := lt_of_lt_of_le (Nat.add_lt_add_left r'.isLt o) ho
  obtain rfl : r = ⟨o + r'.val, hlt⟩ := Fin.ext hr
  rw [tile_even]
  unfold blockOut
  simp only [ld_x0 x0 o 0 h0 _ _ ho (by omega), ld_x1 x1 o h1 _ _ ho]
  simp only [Fin.val_zero, Fin.val_one, mul_zero, mul_one, zero_add]

/-- A store of head 1 of the pair, for the 256 queries from `o` on. -/
theorem piece_odd (x0 : Vec Ideal S1024x256 .bf16) (x1 : Vec Ideal S1024x128 .bf16) (x2 : Vec Ideal S1024x256 .bf16) (x3 : Vec Ideal S1024x64 .bf16)
    (x4 : Vec Ideal S1x1x256x256 .f32) (x5 : Vec Ideal S1x1x256x64 .f32) (x6 x7 : Vec Ideal S1x256x256 .f32)
    (o : ℕ) (ho : o + 256 ≤ 1024) (h1 : ∀ a : Fin 2, ![o, 0] a + ![256, 128] a ≤ S1024x128.size a) (h0 : ∀ a : Fin 2, ![o, 128] a + ![256, 128] a ≤ S1024x256.size a)
    (x : S256x128.Idx) (r : Fin 1024) (hh : Fin 2) (e : Fin 128) (hr : r.val = o + (x 0).val) (hhh : hh.val = 1) (he : e.val = (x 1).val) :
    tile (qOdd (View.ld x1 (Rect.unit ![o, 0] ![256, 128] h1)) (View.ld x0 (Rect.unit ![o, 128] ![256, 128] h0)))
      (k0_pay9 x6 x2 x3) (k0_pay18 (k0_pay2 x6) x4 x5) (k0_pay10 x7 x2) (k0_pay19 (k0_pay3 x7) x4) x
      = blockOut x0 x1 x2 x3 x4 x5 x6 x7 r hh e := by
  obtain ⟨r', e', rfl⟩ : ∃ (r' : Fin 256) (e' : Fin 128), x = ix2 r' e' := ⟨x 0, x 1, by idx_ext⟩
  obtain rfl : e = e' := Fin.ext he
  obtain rfl : hh = 1 := Fin.ext hhh
  have hlt : o + r'.val < 1024 := lt_of_lt_of_le (Nat.add_lt_add_left r'.isLt o) ho
  obtain rfl : r = ⟨o + r'.val, hlt⟩ := Fin.ext hr
  rw [tile_odd]
  unfold blockOut
  simp only [ld_x0 x0 o 128 h0 _ _ ho (by omega), ld_x1 x1 o h1 _ _ ho]
  simp only [Fin.val_zero, Fin.val_one, mul_zero, mul_one, zero_add]

/-- What the body leaves in the output's buffer. -/
theorem out_eq (c : Dev nD) (t : Fin cfg0.N) (y : S1024x256.Idx) :
    outsAt0 m c t y = blockOut (iblk m c 0 t) (iblk m c 1 t) (iblk m c 2 t) (iblk m c 3 t) (iblk m c 4 t) (iblk m c 5 t) (iblk m c 6 t) (iblk m c 7 t)
      (y 0) ⟨(y 1).val / 128, by have : (y 1).val < 256 := (y 1).isLt; omega⟩ ⟨(y 1).val % 128, by omega⟩ := by
  unfold outsAt0
  frame_out
  canon_tiles x h
  case piece0 =>
    rw [View.readCov_cons_toLoadRect, View.readCov_cons_toLoadRect, View.readCov_cons_toLoadRect, View.readCov_cons_toLoadRect]
    exact piece_odd _ _ _ _ _ _ _ _ 768 (by omega) _ _ x _ _ _ (by omega) (by show (y 1).val / 128 = 1; omega) (by show (y 1).val % 128 = (x 1).val; omega)
  case piece1 =>
    rw [View.readCov_skip _ _ _ _ _ (by decide), View.readCov_cons_toLoadRect, View.readCov_skip _ _ _ _ _ (by decide), View.readCov_cons_toLoadRect,
      View.readCov_skip _ _ _ _ _ (by decide), View.readCov_cons_toLoadRect, View.readCov_skip _ _ _ _ _ (by decide), View.readCov_cons_toLoadRect]
    exact piece_even _ _ _ _ _ _ _ _ 768 (by omega) _ _ x _ _ _ (by omega) (by show (y 1).val / 128 = 0; omega) (by show (y 1).val % 128 = (x 1).val; omega)
  case piece2 =>
    rw [View.readCov_cons_toLoadRect, View.readCov_cons_toLoadRect, View.readCov_cons_toLoadRect, View.readCov_cons_toLoadRect]
    exact piece_odd _ _ _ _ _ _ _ _ 512 (by omega) _ _ x _ _ _ (by omega) (by show (y 1).val / 128 = 1; omega) (by show (y 1).val % 128 = (x 1).val; omega)
  case piece3 =>
    rw [View.readCov_skip _ _ _ _ _ (by decide), View.readCov_cons_toLoadRect, View.readCov_skip _ _ _ _ _ (by decide), View.readCov_cons_toLoadRect,
      View.readCov_skip _ _ _ _ _ (by decide), View.readCov_cons_toLoadRect, View.readCov_skip _ _ _ _ _ (by decide), View.readCov_cons_toLoadRect]
    exact piece_even _ _ _ _ _ _ _ _ 512 (by omega) _ _ x _ _ _ (by omega) (by show (y 1).val / 128 = 0; omega) (by show (y 1).val % 128 = (x 1).val; omega)
  case piece4 =>
    rw [View.readCov_cons_toLoadRect, View.readCov_cons_toLoadRect, View.readCov_cons_toLoadRect, View.readCov_cons_toLoadRect]
    exact piece_odd _ _ _ _ _ _ _ _ 256 (by omega) _ _ x _ _ _ (by omega) (by show (y 1).val / 128 = 1; omega) (by show (y 1).val % 128 = (x 1).val; omega)
  case piece5 =>
    rw [View.readCov_skip _ _ _ _ _ (by decide), View.readCov_cons_toLoadRect, View.readCov_skip _ _ _ _ _ (by decide), View.readCov_cons_toLoadRect,
      View.readCov_skip _ _ _ _ _ (by decide), View.readCov_cons_toLoadRect, View.readCov_skip _ _ _ _ _ (by decide), View.readCov_cons_toLoadRect]
    exact piece_even _ _ _ _ _ _ _ _ 256 (by omega) _ _ x _ _ _ (by omega) (by show (y 1).val / 128 = 0; omega) (by show (y 1).val % 128 = (x 1).val; omega)
  case piece6 =>
    rw [View.readCov_cons_toLoadRect, View.readCov_cons_toLoadRect, View.readCov_cons_toLoadRect, View.readCov_cons_toLoadRect]
    exact piece_odd _ _ _ _ _ _ _ _ 0 (by omega) _ _ x _ _ _ (by omega) (by show (y 1).val / 128 = 1; omega) (by show (y 1).val % 128 = (x 1).val; omega)
  case piece7 =>
    rw [View.readCov_skip _ _ _ _ _ (by decide), View.readCov_cons_toLoadRect, View.readCov_skip _ _ _ _ _ (by decide), View.readCov_cons_toLoadRect,
      View.readCov_skip _ _ _ _ _ (by decide), View.readCov_cons_toLoadRect, View.readCov_skip _ _ _ _ _ (by decide), View.readCov_cons_toLoadRect]
    exact piece_even _ _ _ _ _ _ _ _ 0 (by omega) _ _ x _ _ _ (by omega) (by show (y 1).val / 128 = 0; omega) (by show (y 1).val % 128 = (x 1).val; omega)

end Cert.KernelIdeal.Mla
-- ==== Proof.Mla.Final.lean ====
/- The kernel's result: the attention row at every element of the output array. -/
module

public import proofs.«01_k».proof.Proof.Mla.Block

@[expose] public section

set_option maxRecDepth 16384

noncomputable section

namespace Cert.KernelIdeal.Mla

open Cert.KernelIdeal Cert.KernelIdeal.Gen Idealize.ShloMosaic Idealize.ShloMosaic.TcCoe Idealize.ShloMosaic.Tactic Idealize.SL.Sem
open Idealize.ShloMosaic.Pipeline (Dat)
open Cert.Mla

variable (m : (ℓ : Loc nD τ sig) → Buf (Elt Ideal) ℓ)

theorem idx : ∀ t : Fin cfg0.N,
    win0_0.index t = ![4 + t.val / 8, t.val % 8] ∧ win0_1.index t = ![4 + t.val / 8, t.val % 8] ∧ win0_2.index t = ![4 + t.val / 8, 0]
    ∧ win0_3.index t = ![4 + t.val / 8, 0] ∧ win0_4.index t = ![t.val / 8, 0, 0, 0] ∧ win0_5.index t = ![t.val / 8, 0, 0, 0]
    ∧ win0_6.index t = ![0, 0, t.val % 8] ∧ win0_7.index t = ![0, 0, t.val % 8] ∧ win0_8.index t = ![t.val / 8, t.val % 8] :=
  (by decide +kernel : ∀ t : Fin grid0.N, _)

theorem lt_32 (t : Fin cfg0.N) : t.val < 32 := lt_of_lt_of_eq t.isLt N_0

theorem blk0 (c : Dev nD) (t : Fin cfg0.N) (r : Fin 1024) (l : Fin 256) :
    iblk m c 0 t (ix2 r l) = m ((c.tc : Thread nD τ).loc main_arg0) (ix2 ⟨4096 + (1024 * (t.val / 8) + r), by have := lt_32 t; omega⟩ ⟨256 * (t.val % 8) + l, by omega⟩) := by
  blk_point [iblk, V, idx t]

theorem blk1 (c : Dev nD) (t : Fin cfg0.N) (r : Fin 1024) (l : Fin 128) :
    iblk m c 1 t (ix2 r l) = m ((c.tc : Thread nD τ).loc main_arg1) (ix2 ⟨4096 + (1024 * (t.val / 8) + r), by have := lt_32 t; omega⟩ ⟨128 * (t.val % 8) + l, by omega⟩) := by
  blk_point [iblk, V, idx t]

theorem blk2 (c : Dev nD) (t : Fin cfg0.N) (r : Fin 1024) (l : Fin 256) :
    iblk m c 2 t (ix2 r l) = m ((c.tc : Thread nD τ).loc main_arg2) (ix2 ⟨4096 + (1024 * (t.val / 8) + r), by have := lt_32 t; omega⟩ l) := by
  blk_point [iblk, V, idx t]

theorem blk3 (c : Dev nD) (t : Fin cfg0.N) (r : Fin 1024) (l : Fin 64) :
    iblk m c 3 t (ix2 r l) = m ((c.tc : Thread nD τ).loc main_arg3) (ix2 ⟨4096 + (1024 * (t.val / 8) + r), by have := lt_32 t; omega⟩ l) := by
  blk_point [iblk, V, idx t]

theorem blk4 (c : Dev nD) (t : Fin cfg0.N) (r l : Fin 256) :
    iblk m c 4 t (ix4 0 0 r l) = m ((c.tc : Thread nD τ).loc main_arg4) (ix4 ⟨t.val / 8, by have := lt_32 t; omega⟩ 0 r l) := by
  blk_point [iblk, V, idx t]

theorem blk5 (c : Dev nD) (t : Fin cfg0.N) (r : Fin 256) (l : Fin 64) :
    iblk m c 5 t (ix4 0 0 r l) = m ((c.tc : Thread nD τ).loc main_arg5) (ix4 ⟨t.val / 8, by have := lt_32 t; omega⟩ 0 r l) := by
  blk_point [iblk, V, idx t]

theorem blk6 (c : Dev nD) (t : Fin cfg0.N) (r l : Fin 256) :
    iblk m c 6 t (ix3 0 r l) = m ((c.tc : Thread nD τ).loc main_arg6) (ix3 0 r ⟨256 * (t.val % 8) + l, by omega⟩) := by
  blk_point [iblk, V, idx t]

theorem blk7 (c : Dev nD) (t : Fin cfg0.N) (r l : Fin 256) :
    iblk m c 7 t (ix3 0 r l) = m ((c.tc : Thread nD τ).loc main_arg7) (ix3 0 r ⟨256 * (t.val % 8) + l, by omega⟩) := by
  blk_point [iblk, V, idx t]

/-- The result array over the arguments. -/
def res (c : Dev nD) : FVec Ideal S4096x2048 .bf16 := fun i =>
  mla (fun a b => m ((c.tc : Thread nD τ).loc main_arg0) (ix2 a b)) (fun a b => m ((c.tc : Thread nD τ).loc main_arg1) (ix2 a b))
    (fun a b => m ((c.tc : Thread nD τ).loc main_arg2) (ix2 a b)) (fun a b => m ((c.tc : Thread nD τ).loc main_arg3) (ix2 a b))
    (fun a b d => m ((c.tc : Thread nD τ).loc main_arg4) (ix4 a 0 b d)) (fun a b d => m ((c.tc : Thread nD τ).loc main_arg5) (ix4 a 0 b d))
    (fun a b => m ((c.tc : Thread nD τ).loc main_arg6) (ix3 0 a b)) (fun a b => m ((c.tc : Thread nD τ).loc main_arg7) (ix3 0 a b))
    ⟨(i 0).val / 1024, by have : (i 0).val < 4096 := (i 0).isLt; omega⟩ ⟨(i 0).val % 1024, by omega⟩
    ⟨(i 1).val / 128, by have : (i 1).val < 2048 := (i 1).isLt; omega⟩ ⟨(i 1).val % 128, by omega⟩

theorem point (c : Dev nD) (t : Fin cfg0.N) (r : Fin 1024) (l : Fin 256) :
    blockOut (iblk m c 0 t) (iblk m c 1 t) (iblk m c 2 t) (iblk m c 3 t) (iblk m c 4 t) (iblk m c 5 t) (iblk m c 6 t) (iblk m c 7 t)
        r ⟨l.val / 128, by omega⟩ ⟨l.val % 128, by omega⟩
      = res m c (ix2 ⟨1024 * (t.val / 8) + r, by have := lt_32 t; omega⟩ ⟨256 * (t.val % 8) + l, by omega⟩) := by
  have hb : (1024 * (t.val / 8) + r.val) / 1024 = t.val / 8 := by omega
  have hq : (1024 * (t.val / 8) + r.val) % 1024 = r.val := by omega
  have hh : (256 * (t.val % 8) + l.val) / 128 = 2 * (t.val % 8) + l.val / 128 := by omega
  have he : (256 * (t.val % 8) + l.val) % 128 = l.val % 128 := by omega
  have hc : ∀ d : ℕ, 256 * (t.val % 8) + (128 * (l.val / 128) + d) = 128 * (2 * (t.val % 8) + l.val / 128) + d := fun d => by omega
  have hr : ∀ d : ℕ, 128 * (t.val % 8) + (64 * (l.val / 128) + d) = 64 * (2 * (t.val % 8) + l.val / 128) + d := fun d => by omega
  unfold blockOut
  simp only [blk0, blk1, blk2, blk3, blk4, blk5, blk6, blk7, hc, hr]
  unfold res mla row col rcol
  simp only [ix2_0, ix2_1, hb, hq, hh, he]

theorem final (c : Dev nD) : (dats m 0 c).arrAt 8 cfg0.N = res m c := by
  refine (dats m 0 c).arrAt_eq_of_covers 8 _ (by decide +kernel) fun t _ y => ?_
  blk_simp
  rw [after0_8]
  obtain ⟨r, l, rfl⟩ : ∃ (r : Fin 1024) (l : Fin 256), y = ix2 r l := ⟨y 0, y 1, by idx_ext⟩
  rw [out_eq]
  refine (point m c t r l).trans ?_
  blk_ext [idx t]

end Cert.KernelIdeal.Mla
-- ==== Proof.Mla.Ref.lean ====
/- The reference: every element of its result is the attention row of the specification, when the operands are real. -/
module

public import proofs.«01_k».proof.Proof.Gen.ReferenceIdeal.Read
public import proofs.«01_k».proof.Proof.Mla.Spec
public import Idealize.ShloMosaic.Lib.Pointwise
public import Idealize.ShloMosaic.Lib.Tactic.CleanTypes

@[expose] public section

set_option maxRecDepth 16384

noncomputable section

namespace Cert.ReferenceIdeal.Mla

open Cert.ReferenceIdeal Cert.ReferenceIdeal.Read Idealize.ShloMosaic Idealize.ShloMosaic.TcCoe Idealize.ShloMosaic.Tactic Idealize.SL.Sem
open Cert.Mla

variable (x0 : BufTy.Contents (Elt Ideal) ⟨S8192x2048, .bf16⟩) (x1 : BufTy.Contents (Elt Ideal) ⟨S8192x1024, .bf16⟩)
  (x2 : BufTy.Contents (Elt Ideal) ⟨S8192x256, .bf16⟩) (x3 : BufTy.Contents (Elt Ideal) ⟨S8192x64, .bf16⟩)
  (x4 : BufTy.Contents (Elt Ideal) ⟨S4x1x256x256, .f32⟩) (x5 : BufTy.Contents (Elt Ideal) ⟨S4x1x256x64, .f32⟩)
  (x6 x7 : BufTy.Contents (Elt Ideal) ⟨S1x256x2048, .f32⟩)

theorem q_nope (b : Fin 4) (q : Fin 1024) (h : Fin 16) (d : Fin 128) : val_main_v6 (F := Ideal) x0 x1 (ix4 b q h ⟨d, by omega⟩) = x0 (ix2 (row b q) (col h d)) := by
  simp only [row, col, rcol, Nat.mul_comm 1024, Nat.mul_comm 128, Nat.mul_comm 64]
  pointwise [val_main_v6, val_main_v2, val_main_v5, val_main_v0, val_main_v1, val_main_v3, val_main_v4]

theorem q_rope (b : Fin 4) (q : Fin 1024) (h : Fin 16) (d : Fin 64) : val_main_v6 (F := Ideal) x0 x1 (ix4 b q h ⟨128 + d, by omega⟩) = x1 (ix2 (row b q) (rcol h d)) := by
  simp only [row, col, rcol, Nat.mul_comm 1024, Nat.mul_comm 128, Nat.mul_comm 64]
  pointwise [val_main_v6, val_main_v2, val_main_v5, val_main_v0, val_main_v1, val_main_v3, val_main_v4]

theorem c_cache (b : Fin 4) (k : Fin 256) (d : Fin 256) : val_main_v11 (F := Ideal) x2 x4 (ix3 b ⟨k, by omega⟩ d) = x4 (ix4 b 0 k d) := by
  simp only [row, col, rcol, Nat.mul_comm 1024, Nat.mul_comm 128, Nat.mul_comm 64]
  pointwise [val_main_v11, val_main_v7, val_main_v8, val_main_v9, val_main_v10]

theorem c_lat (b : Fin 4) (k : Fin 1024) (d : Fin 256) : val_main_v11 (F := Ideal) x2 x4 (ix3 b ⟨256 + k, by omega⟩ d) = x2 (ix2 (row b k) d) := by
  simp only [row, col, rcol, Nat.mul_comm 1024, Nat.mul_comm 128, Nat.mul_comm 64]
  pointwise [val_main_v11, val_main_v7, val_main_v8, val_main_v9, val_main_v10]

theorem p_cache (b : Fin 4) (k : Fin 256) (d : Fin 64) : val_main_v16 (F := Ideal) x3 x5 (ix3 b ⟨k, by omega⟩ d) = x5 (ix4 b 0 k d) := by
  simp only [row, col, rcol, Nat.mul_comm 1024, Nat.mul_comm 128, Nat.mul_comm 64]
  pointwise [val_main_v16, val_main_v12, val_main_v13, val_main_v14, val_main_v15]

theorem p_lat (b : Fin 4) (k : Fin 1024) (d : Fin 64) : val_main_v16 (F := Ideal) x3 x5 (ix3 b ⟨256 + k, by omega⟩ d) = x3 (ix2 (row b k) d) := by
  simp only [row, col, rcol, Nat.mul_comm 1024, Nat.mul_comm 128, Nat.mul_comm 64]
  pointwise [val_main_v16, val_main_v12, val_main_v13, val_main_v14, val_main_v15]

theorem k_nope (b : Fin 4) (k : Fin 1280) (h : Fin 16) (d : Fin 128) : val_main_v25 (F := Ideal) x2 x3 x4 x5 x6 (ix4 b k h ⟨d, by omega⟩) = ∑ c : Fin 256, val_main_v11 (F := Ideal) x2 x4 (ix3 b k c) * x6 (ix3 0 c (col h d)) := by
  simp only [row, col, rcol, Nat.mul_comm 1024, Nat.mul_comm 128, Nat.mul_comm 64]
  pointwise [val_main_v25, val_main_v24, val_main_v23, val_main_v19, val_main_v18, val_main_v17]

theorem k_rope (b : Fin 4) (k : Fin 1280) (h : Fin 16) (d : Fin 64) : val_main_v25 (F := Ideal) x2 x3 x4 x5 x6 (ix4 b k h ⟨128 + d, by omega⟩) = val_main_v16 (F := Ideal) x3 x5 (ix3 b k d) := by
  simp only [row, col, rcol, Nat.mul_comm 1024, Nat.mul_comm 128, Nat.mul_comm 64]
  pointwise [val_main_v25, val_main_v24, val_main_v23, val_main_v19, val_main_v18, val_main_v17]

theorem v_val (b : Fin 4) (k : Fin 1280) (h : Fin 16) (d : Fin 128) : val_main_v22 (F := Ideal) x2 x4 x7 (ix4 b k h d) = ∑ c : Fin 256, val_main_v11 (F := Ideal) x2 x4 (ix3 b k c) * x7 (ix3 0 c (col h d)) := by
  simp only [row, col, rcol, Nat.mul_comm 1024, Nat.mul_comm 128, Nat.mul_comm 64]
  pointwise [val_main_v22, val_main_v21, val_main_v20]

theorem sum_192 (f : Fin 192 → EReal) : ∑ k, f k = ∑ k : Fin 128, f ⟨k, by omega⟩ + ∑ k : Fin 64, f ⟨128 + k, by omega⟩ :=
  Fin.sum_univ_add (a := 128) (b := 64) f

theorem s_val (b : Fin 4) (h : Fin 16) (q : Fin 1024) (k : Fin 1280) :
    val_main_v28 (F := Ideal) x0 x1 x2 x3 x4 x5 x6 (ix4 b h q k)
      = score (fun d => x0 (ix2 (row b q) (col h d))) (fun d => x1 (ix2 (row b q) (rcol h d)))
          (fun d => ∑ c : Fin 256, val_main_v11 (F := Ideal) x2 x4 (ix3 b k c) * x6 (ix3 0 c (col h d))) (fun d => val_main_v16 (F := Ideal) x3 x5 (ix3 b k d)) := by
  pointwise [val_main_v28, val_main_v26, val_main_v27, val_main_cst]
  rw [sum_192]
  simp only [q_nope, q_rope, k_nope, k_rope]
  rfl

theorem row_max (v : FVec Ideal S4x16x1024x1280 .f32) (i0 : FVec Ideal S_ .f32) (b : Fin 4) (h : Fin 16) (q : Fin 1024) :
    Host.reduce (FloatOps.maximumf (F := Ideal)) v i0 Gen.reducesTo_S4x16x1024x1280_S4x16x1024_d3 Gen.h_S_ (ix3 b h q)
      = Finset.univ.fold max (i0 (Shape.Idx.first Gen.h_S_)) fun k : Fin 1280 => v (ix4 b h q k) := by
  pointwise

theorem v29_val (b : Fin 4) (h : Fin 16) (q : Fin 1024) :
    val_main_v29 (F := Ideal) x0 x1 x2 x3 x4 x5 x6 (ix3 b h q) = Finset.univ.fold max low fun k : Fin 1280 => val_main_v28 (F := Ideal) x0 x1 x2 x3 x4 x5 x6 (ix4 b h q k) := by
  unfold val_main_v29
  clean_types
  rw [row_max]
  rfl

theorem m_val (b : Fin 4) (h : Fin 16) (q : Fin 1024) :
    val_main_v31 (F := Ideal) x0 x1 x2 x3 x4 x5 x6 (ix3 b h q)
      = max low (Finset.univ.fold max low fun k : Fin 1280 => val_main_v28 (F := Ideal) x0 x1 x2 x3 x4 x5 x6 (ix4 b h q k)) := by
  rw [← v29_val]
  rw [val_main_v31_apply]
  generalize val_main_v29 (F := Ideal) x0 x1 x2 x3 x4 x5 x6 (ix3 b h q) = y
  rw [val_main_v30_apply, val_main_cst_1_apply]
  rfl

theorem p_val (b : Fin 4) (h : Fin 16) (q : Fin 1024) (k : Fin 1280) :
    val_main_v39 (F := Ideal) x0 x1 x2 x3 x4 x5 x6 (ix4 b h q k)
      = Ideal.div (Ideal.exp (val_main_v28 (F := Ideal) x0 x1 x2 x3 x4 x5 x6 (ix4 b h q k) - val_main_v31 (F := Ideal) x0 x1 x2 x3 x4 x5 x6 (ix3 b h q)))
          (∑ k : Fin 1280, Ideal.exp (val_main_v28 (F := Ideal) x0 x1 x2 x3 x4 x5 x6 (ix4 b h q k) - val_main_v31 (F := Ideal) x0 x1 x2 x3 x4 x5 x6 (ix3 b h q))) := by
  pointwise [val_main_v39, val_main_v38, val_main_v37, val_main_v36, val_main_v35, val_main_v34, val_main_v33, val_main_v32, val_main_cst_2]

theorem o_val (b : Fin 4) (q : Fin 1024) (h : Fin 16) (e : Fin 128) :
    val_main_v43 (F := Ideal) x0 x1 x2 x3 x4 x5 x6 x7 (ix2 ⟨1024 * b + q, by omega⟩ ⟨128 * h + e, by omega⟩)
      = ∑ k : Fin 1280, val_main_v22 (F := Ideal) x2 x4 x7 (ix4 b k h e) * val_main_v39 (F := Ideal) x0 x1 x2 x3 x4 x5 x6 (ix4 b h q k) := by
  pointwise [val_main_v43, val_main_v42, val_main_v41, val_main_v40]

/-- The reference at an element, for real operands. -/
theorem ref_eq (h0 : ∀ i, IsReal (x0 i)) (h1 : ∀ i, IsReal (x1 i)) (h2 : ∀ i, IsReal (x2 i)) (h3 : ∀ i, IsReal (x3 i)) (h4 : ∀ i, IsReal (x4 i))
    (h5 : ∀ i, IsReal (x5 i)) (h6 : ∀ i, IsReal (x6 i)) (b : Fin 4) (q : Fin 1024) (h : Fin 16) (e : Fin 128) :
    val_main_v43 (F := Ideal) x0 x1 x2 x3 x4 x5 x6 x7 (ix2 ⟨1024 * b + q, by omega⟩ ⟨128 * h + e, by omega⟩)
      = mla (fun a b => x0 (ix2 a b)) (fun a b => x1 (ix2 a b)) (fun a b => x2 (ix2 a b)) (fun a b => x3 (ix2 a b))
          (fun a b d => x4 (ix4 a 0 b d)) (fun a b d => x5 (ix4 a 0 b d)) (fun a b => x6 (ix3 0 a b)) (fun a b => x7 (ix3 0 a b)) b q h e := by
  rw [o_val]
  simp only [p_val, m_val, v_val]
  unfold mla
  refine att_eq_softmax _ _ _ _ ?_ ?_ (fun k => val_main_v28 (F := Ideal) x0 x1 x2 x3 x4 x5 x6 (ix4 b h q k))
    (fun k => ∑ c : Fin 256, val_main_v11 (F := Ideal) x2 x4 (ix3 b k c) * x7 (ix3 0 c (col h e))) ?_ ?_ ?_ ?_
  · exact fun k => isReal_score (fun d => h0 _) (fun d => h1 _) (fun d => IsReal.sum fun c => (h2 _).mul (h6 _)) (fun d => h3 _)
  · exact fun k => isReal_score (fun d => h0 _) (fun d => h1 _) (fun d => IsReal.sum fun c => (h4 _).mul (h6 _)) (fun d => h5 _)
  · exact fun k => by simp only [s_val, c_cache, p_cache]
  · exact fun k => by simp only [s_val, c_lat, p_lat]
  · exact fun k => by simp only [c_cache]
  · exact fun k => by simp only [c_lat]

end Cert.ReferenceIdeal.Mla
-- ==== Proof.Mla.Claim.lean ====
/- The attention's value claim: the kernel's array and the reference's result are one array. -/
module

public import proofs.«01_k».proof.Proof.Mla.Pre
public import proofs.«01_k».proof.Proof.Mla.Final
public import proofs.«01_k».proof.Proof.Mla.Ref
public import proofs.«01_k».proof.Proof.Gen.ReferenceIdeal.Run
public import Idealize.ShloMosaic.Lib.Claim

@[expose] public section

set_option maxRecDepth 16384

noncomputable section

namespace Cert.Mla

open Idealize.ShloMosaic Idealize.ShloMosaic.Tactic Idealize.SL.Sem

/-- The reference's result over the kernel's arguments is the kernel's array. -/
theorem ref_res [Cert.Pre_finite.Facts] (m : (ℓ : Loc Cert.KernelIdeal.nD Cert.KernelIdeal.τ Cert.KernelIdeal.sig) → Buf (Elt Ideal) ℓ)
    (hpre : Pre_KernelIdeal_finite m) (c : Dev Cert.KernelIdeal.nD) :
    Cert.ReferenceIdeal.Read.val_main_v43 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      = Cert.KernelIdeal.Mla.res m c := by
  obtain ⟨h0, h1, h2, h3, h4, h5, h6⟩ := hpre c
  funext i
  obtain ⟨r, l, rfl⟩ : ∃ (r : Fin 4096) (l : Fin 2048), i = ix2 r l := ⟨i 0, i 1, by idx_ext⟩
  have e : (ix2 r l : Cert.ReferenceIdeal.S4096x2048.Idx)
      = ix2 ⟨1024 * (r.val / 1024) + r.val % 1024, by omega⟩ ⟨128 * (l.val / 128) + l.val % 128, by omega⟩ := by
    simp only [Nat.div_add_mod]
  refine (congrArg _ e).trans ?_
  exact Cert.ReferenceIdeal.Mla.ref_eq _ _ _ _ _ _ _ _ (isReal_bf16 _ _ _ h0) (isReal_bf16 _ _ _ h1) (isReal_bf16 _ _ _ h2) (isReal_bf16 _ _ _ h3)
    (isReal_f32 _ _ h4) (isReal_f32 _ _ h5) (isReal_f32 _ _ h6) ⟨r.val / 1024, by omega⟩ ⟨r.val % 1024, by omega⟩ ⟨l.val / 128, by omega⟩ ⟨l.val % 128, by omega⟩

theorem algebraic [Cert.Pre_finite.Facts] :
    letI := Cert.KernelIdeal.Gen.facts; letI := Cert.ReferenceIdeal.Gen.facts
    algebraic_KernelIdeal_ReferenceIdeal_pre_finite := by
  pair_intro
  · run_from Cert.KernelIdeal.Gen.run_main m g
  · run_from Cert.ReferenceIdeal.Value.run m' g'
    obtain ⟨e0, e1, e2, e3, e4, e5, e6, e7⟩ := hagree c
    rw [Cert.ReferenceIdeal.Read.val_main_v43_eq, e0, e1, e2, e3, e4, e5, e6, e7]
    exact (ref_res m hpre c).trans (Cert.KernelIdeal.Mla.final m c).symm

end Cert.Mla
-- ==== Proof.RefFrame.lean ====
module

public import proofs.«01_k».proof.Defs
public import proofs.«01_k».proof.Proof.Gen.ReferenceIdeal
public import proofs.«01_k».proof.Proof.Gen.ReferenceIdeal.Run
public import Idealize.ShloMosaic.Lib.Claim

@[expose] public section

set_option maxRecDepth 16384

noncomputable section

namespace Cert

open Idealize.ShloMosaic Idealize.SL.Sem

/-- The attention's reference leaves its arguments as they were and every counter at zero. -/
theorem reference_frame : letI := Cert.ReferenceIdeal.Gen.facts; quiescent_ReferenceIdeal := by
  intro m g _
  run_from Cert.ReferenceIdeal.Value.run m g
  · intro c; simp
  · exact sem_eq_zero_of_no_sems (by decide) r.2

end Cert

end
-- ==== Proof.Ffn.Spec.lean ====
/- The gated product of the feed-forward part. -/
module

public import Idealize.ShloMosaic.PureOps.Ideal
public import Idealize.ShloMosaic.Lib.Pointwise

@[expose] public section

noncomputable section

namespace Cert.Ffn

open Idealize.ShloMosaic

/-- `g σ(g) u`, with the logistic function as a quotient. -/
def gated (g u : EReal) : EReal := g * Ideal.div 1 (1 + Ideal.exp (0 - g)) * u

end Cert.Ffn

end
-- ==== Proof.Ffn.Up.lean ====
/- The gate and up products: the kernel's result at every element. -/
module

public import proofs.«01_k».proof.Proof.Gen.Kernel2Ideal.Value
public import proofs.«01_k».proof.Proof.Ffn.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Up

open Cert.Kernel2Ideal Cert.Kernel2Ideal.Gen Idealize.ShloMosaic Idealize.ShloMosaic.TcCoe Idealize.ShloMosaic.Tactic Idealize.SL.Sem
open Idealize.ShloMosaic.Pipeline (Dat)
open Cert.Ffn

variable (m : (ℓ : Loc nD τ sig) → Buf (Elt Ideal) ℓ)

/-- The product of the two halves' rows against the two weight tiles. -/
theorem pay6_apply (v3 v6 : Vec Ideal S1024x2048 .bf16) (v4 v7 : Vec Ideal S2048x512 .bf16) (r : Fin 1024) (l : Fin 512) :
    k0_pay6 v3 v4 v6 v7 (ix2 r l) = gated (∑ k : Fin 2048, v3 (ix2 r k) * v4 (ix2 k l)) (∑ k : Fin 2048, v6 (ix2 r k) * v7 (ix2 k l)) := by
  unfold gated
  pointwise [k0_pay6]

theorem pay1_apply (v3 v6 : Vec Ideal S1024x2048 .bf16) (v4 v7 : Vec Ideal S2048x512 .bf16) (r : Fin 1024) (l : Fin 512) :
    k0_pay1 (k0_pay4 v3 v4) (k0_pay5 v6 v7) (k0_pay7 v3 v4) (ix2 r l) = gated (∑ k : Fin 2048, v3 (ix2 r k) * v4 (ix2 k l)) (∑ k : Fin 2048, v6 (ix2 r k) * v7 (ix2 k l)) := by
  unfold gated
  pointwise [k0_pay1, k0_pay4, k0_pay5, k0_pay7]

theorem pay2_apply (v : Vec Ideal S1x2048x512 .f32) (k : Fin 2048) (l : Fin 512) : k0_pay2 v (ix2 k l) = v (ix3 0 k l) := by
  pointwise [k0_pay2]

theorem pay3_apply (v : Vec Ideal S1x2048x512 .f32) (k : Fin 2048) (l : Fin 512) : k0_pay3 v (ix2 k l) = v (ix3 0 k l) := by
  pointwise [k0_pay3]

theorem ld_rows (x : Vec Ideal S2048x2048 .bf16) (o : ℕ) (h : ∀ a : Fin 2, ![o, 0] a + ![1024, 2048] a ≤ S2048x2048.size a) (r : Fin 1024) (k : Fin 2048) (ho : o + 1024 ≤ 2048) :
    View.ld x (Rect.unit ![o, 0] ![1024, 2048] h) (ix2 r k) = x (ix2 ⟨o + r, by omega⟩ k) := by
  unfold View.ld
  blk_ext
  all_goals simp [Rect.idx_unit_val]

/-- Row `r`, lane `l` of a point's block from its rows and the two weight tiles. -/
def blockOut (x : Vec Ideal S2048x2048 .bf16) (w u : Vec Ideal S2048x512 .bf16) (r : Fin 2048) (l : Fin 512) : EReal :=
  gated (∑ k : Fin 2048, x (ix2 r k) * w (ix2 k l)) (∑ k : Fin 2048, x (ix2 r k) * u (ix2 k l))

theorem idx : ∀ t : Fin cfg0.N,
    win0_0.index t = ![t.val % 4, 0] ∧ win0_1.index t = ![0, 0, t.val / 4] ∧ win0_2.index t = ![0, 0, t.val / 4]
    ∧ win0_3.index t = ![t.val % 4, t.val / 4] :=
  (by decide +kernel : ∀ t : Fin grid0.N, _)

theorem lt_44 (t : Fin cfg0.N) : t.val < 44 := lt_of_lt_of_eq t.isLt N_0

theorem blk0 (c : Dev nD) (t : Fin cfg0.N) (r k : Fin 2048) :
    iblk m c 0 t (ix2 r k) = m ((c.tc : Thread nD τ).loc main_arg0) (ix2 ⟨2048 * (t.val % 4) + r, by omega⟩ k) := by
  blk_point [iblk, V, idx t]

theorem blk1 (c : Dev nD) (t : Fin cfg0.N) (k : Fin 2048) (l : Fin 512) :
    iblk m c 1 t (ix3 0 k l) = m ((c.tc : Thread nD τ).loc main_arg1) (ix3 0 k ⟨512 * (t.val / 4) + l, by have := lt_44 t; omega⟩) := by
  blk_point [iblk, V, idx t]

theorem blk2 (c : Dev nD) (t : Fin cfg0.N) (k : Fin 2048) (l : Fin 512) :
    iblk m c 2 t (ix3 0 k l) = m ((c.tc : Thread nD τ).loc main_arg2) (ix3 0 k ⟨512 * (t.val / 4) + l, by have := lt_44 t; omega⟩) := by
  blk_point [iblk, V, idx t]

/-- The weight tile of column block `j`. -/
def tile (w : Vec Ideal S4x2048x5632 .f32) (j : Fin 11) : Vec Ideal S2048x512 .bf16 := fun i => w (ix3 0 (i 0) ⟨512 * j + (i 1).val, by have : (i 1).val < 512 := (i 1).isLt; omega⟩)

theorem sA (c : Dev nD) (t : Fin cfg0.N) (h0 : t.val % 4 = 0) :
    (outsAt0 m c t.val t.isLt).2.1 = k0_pay2 (iblk m c 1 t) ∧ (outsAt0 m c t.val t.isLt).2.2 = k0_pay3 (iblk m c 2 t) := by
  rw [outsAt0_A m c t h0]
  constructor
  · funext y
    frame_out
  · funext y
    frame_out

theorem sB (c : Dev nD) (t : Fin cfg0.N) (h0 : ¬t.val % 4 = 0) (hl : t.val - 1 < cfg0.N) :
    (outsAt0 m c t.val t.isLt).2.1 = (outsAt0 m c (t.val - 1) hl).2.1 ∧ (outsAt0 m c t.val t.isLt).2.2 = (outsAt0 m c (t.val - 1) hl).2.2 := by
  rw [outsAt0_B m c t h0]
  exact ⟨rfl, rfl⟩

/-- The scratch holds the point's weight tiles. -/
theorem scratch (c : Dev nD) : ∀ (n : ℕ) (hn : n < cfg0.N),
    (outsAt0 m c n hn).2.1 = tile (m ((c.tc : Thread nD τ).loc main_arg1)) ⟨n / 4, by have : n < 44 := lt_44 ⟨n, hn⟩; omega⟩
    ∧ (outsAt0 m c n hn).2.2 = tile (m ((c.tc : Thread nD τ).loc main_arg2)) ⟨n / 4, by have : n < 44 := lt_44 ⟨n, hn⟩; omega⟩ := by
  intro n
  induction n with
  | zero =>
    intro hn
    obtain ⟨e1, e2⟩ := sA m c ⟨0, hn⟩ rfl
    refine ⟨e1.trans ?_, e2.trans ?_⟩ <;> funext y <;>
      obtain ⟨k, l, rfl⟩ : ∃ (k : Fin 2048) (l : Fin 512), y = ix2 k l := ⟨y 0, y 1, by idx_ext⟩
    · rw [pay2_apply, blk1]; rfl
    · rw [pay3_apply, blk2]; rfl
  | succ n ih =>
    intro hn
    by_cases h0 : (n + 1) % 4 = 0
    · obtain ⟨e1, e2⟩ := sA m c ⟨n + 1, hn⟩ h0
      refine ⟨e1.trans ?_, e2.trans ?_⟩ <;> funext y <;>
        obtain ⟨k, l, rfl⟩ : ∃ (k : Fin 2048) (l : Fin 512), y = ix2 k l := ⟨y 0, y 1, by idx_ext⟩
      · rw [pay2_apply, blk1]; rfl
      · rw [pay3_apply, blk2]; rfl
    · have hq : (n + 1) / 4 = n / 4 := by omega
      obtain ⟨e1, e2⟩ := sB m c ⟨n + 1, hn⟩ h0 (Nat.lt_of_succ_lt hn)
      obtain ⟨i1, i2⟩ := ih (Nat.lt_of_succ_lt hn)
      simp only [hq]
      exact ⟨e1.trans i1, e2.trans i2⟩

theorem piece_lo (x : Vec Ideal S2048x2048 .bf16) (w u : Vec Ideal S2048x512 .bf16) (h : ∀ a : Fin 2, ![0, 0] a + ![1024, 2048] a ≤ S2048x2048.size a)
    (y : S1024x512.Idx) (r : Fin 2048) (l : Fin 512) (hr : r.val = (y 0).val) (hl : l.val = (y 1).val) :
    k0_pay6 (View.ld x (Rect.unit ![0, 0] ![1024, 2048] h)) w (View.ld x (Rect.unit ![0, 0] ![1024, 2048] h)) u y = blockOut x w u r l := by
  obtain ⟨r', l', rfl⟩ : ∃ (r' : Fin 1024) (l' : Fin 512), y = ix2 r' l' := ⟨y 0, y 1, by idx_ext⟩
  obtain rfl : l = l' := Fin.ext hl
  have hlt : 0 + r'.val < 2048 := by omega
  obtain rfl : r = ⟨0 + r'.val, hlt⟩ := Fin.ext (hr.trans (Nat.zero_add _).symm)
  rw [pay6_apply]
  simp only [ld_rows x 0 h _ _ (by omega)]
  rfl

theorem piece_hi (x : Vec Ideal S2048x2048 .bf16) (w u : Vec Ideal S2048x512 .bf16) (h : ∀ a : Fin 2, ![1024, 0] a + ![1024, 2048] a ≤ S2048x2048.size a)
    (y : S1024x512.Idx) (r : Fin 2048) (l : Fin 512) (hr : r.val = 1024 + (y 0).val) (hl : l.val = (y 1).val) :
    k0_pay1 (k0_pay4 (View.ld x (Rect.unit ![1024, 0] ![1024, 2048] h)) w) (k0_pay5 (View.ld x (Rect.unit ![1024, 0] ![1024, 2048] h)) u)
      (k0_pay7 (View.ld x (Rect.unit ![1024, 0] ![1024, 2048] h)) w) y = blockOut x w u r l := by
  obtain ⟨r', l', rfl⟩ : ∃ (r' : Fin 1024) (l' : Fin 512), y = ix2 r' l' := ⟨y 0, y 1, by idx_ext⟩
  obtain rfl : l = l' := Fin.ext hl
  have hlt : 1024 + r'.val < 2048 := by omega
  obtain rfl : r = ⟨1024 + r'.val, hlt⟩ := Fin.ext hr
  rw [pay1_apply]
  simp only [ld_rows x 1024 h _ _ (by omega)]
  rfl

theorem outA (c : Dev nD) (t : Fin cfg0.N) (h0 : t.val % 4 = 0) (y : S2048x512.Idx) :
    (outsAt0 m c t.val t.isLt).1 y = blockOut (iblk m c 0 t) (k0_pay2 (iblk m c 1 t)) (k0_pay3 (iblk m c 2 t)) (y 0) (y 1) := by
  rw [outsAt0_A m c t h0]
  frame_out
  canon_tiles x h
  case piece0 => exact piece_hi _ _ _ _ x _ _ h0 h1
  case piece1 => exact piece_lo _ _ _ _ x _ _ h0 h1

theorem outB (c : Dev nD) (t : Fin cfg0.N) (h0 : ¬t.val % 4 = 0) (hl : t.val - 1 < cfg0.N) (y : S2048x512.Idx) :
    (outsAt0 m c t.val t.isLt).1 y = blockOut (iblk m c 0 t) (outsAt0 m c (t.val - 1) hl).2.1 (outsAt0 m c (t.val - 1) hl).2.2 (y 0) (y 1) := by
  rw [outsAt0_B m c t h0]
  frame_out
  canon_tiles x h
  case piece0 =>
    rw [read_unread_whole, read_unread_whole]
    exact piece_hi _ _ _ _ x _ _ h0 h1
  case piece1 =>
    rw [read_unread_whole, read_unread_whole]
    exact piece_lo _ _ _ _ x _ _ h0 h1

/-- The result from the rows and the two weights. -/
def up (h : Vec Ideal S8192x2048 .bf16) (wg wu : Vec Ideal S4x2048x5632 .f32) : FVec Ideal S8192x5632 .bf16 := fun i =>
  gated (∑ k : Fin 2048, h (ix2 (i 0) k) * wg (ix3 0 k (i 1))) (∑ k : Fin 2048, h (ix2 (i 0) k) * wu (ix3 0 k (i 1)))

/-- The result array over the arguments. -/
def res (c : Dev nD) : FVec Ideal S8192x5632 .bf16 :=
  up (m ((c.tc : Thread nD τ).loc main_arg0)) (m ((c.tc : Thread nD τ).loc main_arg1)) (m ((c.tc : Thread nD τ).loc main_arg2))

theorem out_eq (c : Dev nD) (t : Fin cfg0.N) (r : Fin 2048) (l : Fin 512) :
    (outsAt0 m c t.val t.isLt).1 (ix2 r l) = res m c (ix2 ⟨2048 * (t.val % 4) + r, by omega⟩ ⟨512 * (t.val / 4) + l, by have := lt_44 t; omega⟩) := by
  have hs := scratch m c t.val t.isLt
  have key : (outsAt0 m c t.val t.isLt).1 (ix2 r l) = blockOut (iblk m c 0 t) (outsAt0 m c t.val t.isLt).2.1 (outsAt0 m c t.val t.isLt).2.2 r l := by
    by_cases h0 : t.val % 4 = 0
    · rw [outA m c t h0, (sA m c t h0).1, (sA m c t h0).2]
      rfl
    · have hl : t.val - 1 < cfg0.N := lt_of_le_of_lt (Nat.sub_le _ _) t.isLt
      rw [outB m c t h0 hl, (sB m c t h0 hl).1, (sB m c t h0 hl).2]
      rfl
  rw [key, hs.1, hs.2]
  unfold blockOut
  simp only [blk0]
  rfl

theorem final (c : Dev nD) : (dats m 0 c).arrAt 3 cfg0.N = res m c := by
  refine (dats m 0 c).arrAt_eq_of_covers 3 _ (by decide +kernel) fun t _ y => ?_
  blk_simp
  rw [after0_3]
  obtain ⟨r, l, rfl⟩ : ∃ (r : Fin 2048) (l : Fin 512), y = ix2 r l := ⟨y 0, y 1, by idx_ext⟩
  refine (out_eq m c t r l).trans ?_
  blk_ext [idx t]

end Cert.Kernel2Ideal.Up
-- ==== Proof.Ffn.UpRef.lean ====
/- The gate and up products: the reference's result, and the claim. -/
module

public import proofs.«01_k».proof.Defs
public import proofs.«01_k».proof.Proof.Gen.Reference2Ideal.Read
public import proofs.«01_k».proof.Proof.Gen.Reference2Ideal.Run
public import proofs.«01_k».proof.Proof.Ffn.Up
public import Idealize.ShloMosaic.Lib.Claim

@[expose] public section

set_option maxRecDepth 16384

noncomputable section

namespace Cert.Reference2Ideal.Up

open Cert.Reference2Ideal Cert.Reference2Ideal.Gen Cert.Reference2Ideal.Read Idealize.ShloMosaic Idealize.ShloMosaic.TcCoe Idealize.ShloMosaic.Tactic Idealize.SL.Sem
open Cert.Ffn

variable (h : BufTy.Contents (Elt Ideal) ⟨S8192x2048, .bf16⟩) (wg wu : BufTy.Contents (Elt Ideal) ⟨S4x2048x5632, .f32⟩)

theorem gate_apply (r : Fin 8192) (l : Fin 5632) : val_main_v3 (F := Ideal) h wg (ix2 r l) = ∑ k : Fin 2048, h (ix2 r k) * wg (ix3 0 k l) := by
  pointwise [val_main_v3, val_main_v0, val_main_v1, val_main_v2]

theorem up_apply (r : Fin 8192) (l : Fin 5632) : val_main_v7 (F := Ideal) h wu (ix2 r l) = ∑ k : Fin 2048, h (ix2 r k) * wu (ix3 0 k l) := by
  pointwise [val_main_v7, val_main_v0, val_main_v5, val_main_v6]

theorem ref_eq : val_main_v9 (F := Ideal) h wg wu = Cert.Kernel2Ideal.Up.up h wg wu := by
  funext i
  obtain ⟨r, l, rfl⟩ : ∃ (r : Fin 8192) (l : Fin 5632), i = ix2 r l := ⟨i 0, i 1, by idx_ext⟩
  unfold Cert.Kernel2Ideal.Up.up
  simp only [ix2_0, ix2_1]
  rw [← gate_apply, ← up_apply]
  rw [val_main_v9_apply, val_main_v8_apply, val_main_v4_apply, val_main_call0_v5_apply, val_main_call0_v4_apply, val_main_call0_cst_0_apply,
    val_main_call0_v3_apply, val_main_call0_v2_apply, val_main_call0_cst_apply, val_main_call0_v1_apply, val_main_call0_v0_apply]
  generalize val_main_v7 (F := Ideal) h wu (ix2 r l) = u
  generalize val_main_v3 (F := Ideal) h wg (ix2 r l) = g
  have h1 : (FloatOps.ofBits .f32 0x3F800000#32 : Ideal .f32) = (1 : EReal) := by
    show Ideal.ofBits .f32 0x3F800000#32 = (1 : EReal)
    simp [Ideal.ofBits, Ideal.ieee, -EReal.coe_mul]
    norm_num
  rw [h1]
  show g * Ideal.div 1 (1 + Ideal.exp (-g)) * u = gated g u
  unfold gated
  rw [zero_sub]

end Cert.Reference2Ideal.Up

namespace Cert.Ffn

open Idealize.ShloMosaic Idealize.SL.Sem Idealize.ShloMosaic.Tactic

/-- The gate and up products: kernel and reference agree at every element. -/
theorem up_algebraic :
    letI := Cert.Kernel2Ideal.Gen.facts; letI := Cert.Reference2Ideal.Gen.facts
    algebraic_Kernel2Ideal_Reference2Ideal := by
  pair_intro
  · run_from Cert.Kernel2Ideal.Gen.run_main m g
  · run_from Cert.Reference2Ideal.Value.run m' g'
    rw [Cert.Reference2Ideal.Read.val_main_v9_eq]
    exact (Cert.Reference2Ideal.Up.ref_eq _ _ _).trans (Cert.Kernel2Ideal.Up.final m c).symm

/-- The reference leaves its arguments as they were and every counter at zero. -/
theorem up_frame : letI := Cert.Reference2Ideal.Gen.facts; quiescent_Reference2Ideal := by
  intro m g _
  run_from Cert.Reference2Ideal.Value.run m g
  · intro c; simp
  · exact sem_eq_zero_of_no_sems (by decide) r.2

end Cert.Ffn

end
-- ==== Proof.Call3.Spec.lean ====
/- The residual step: a row normalised to its root mean square, and the two results of a row. -/
module

public import Idealize.ShloMosaic.PureOps.Ideal

@[expose] public section

noncomputable section

namespace Cert.Resid

open Idealize.ShloMosaic

/-- Row `y` over its root mean square, at lane `l`. -/
def nrm (y : Fin 2048 → Ideal .f32) (l : Fin 2048) : EReal :=
  y l * Ideal.rsqrt (Ideal.div (∑ k : Fin 2048, y k * y k) (Ideal.ofBits .f32 0x45000000#32) + Ideal.ofBits .f32 0x358637BD#32)

/-- The row of the conditioning array that row `r` of the tokens reads: the contexts all row 4, each latent its own. -/
def crow (r : Fin 8192) : Fin 8 := if h : r.val < 4096 then 4 else ⟨(r.val - 4096) / 1024, by omega⟩

end Cert.Resid
-- ==== Proof.Call3.Val.lean ====
/- The down product with its residual step: the kernel's results at every element. -/
module

public import proofs.«01_k».proof.Proof.Gen.Kernel3Ideal.Value
public import proofs.«01_k».proof.Proof.Call3.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Down

open Cert.Kernel3Ideal Cert.Kernel3Ideal.Gen Idealize.ShloMosaic Idealize.ShloMosaic.TcCoe Idealize.ShloMosaic.Tactic Idealize.SL.Sem
open Idealize.ShloMosaic.Pipeline (Dat)
open Cert.Resid

variable (m : (ℓ : Loc nD τ sig) → Buf (Elt Ideal) ℓ)

theorem pay1_apply (g : Vec Ideal S1x2048 .f32) (w : Vec Ideal S1x5632x2048 .bf16) (a : Vec Ideal S256x5632 .bf16) (x : Vec Ideal S256x2048 .f32) (r : Fin 256) (l : Fin 2048) :
    k0_pay1 g w a x (ix2 r l) = x (ix2 r l) + nrm (fun l => ∑ k : Fin 5632, a (ix2 r k) * w (ix3 0 k l)) l * g (ix2 0 l) := by
  unfold nrm
  pointwise [k0_pay1]

theorem pay2_apply (g s c : Vec Ideal S1x2048 .f32) (p : Vec Ideal S1x1x2048 .f32) (w : Vec Ideal S1x5632x2048 .bf16) (a : Vec Ideal S256x5632 .bf16) (x : Vec Ideal S256x2048 .f32) (r : Fin 256) (l : Fin 2048) :
    k0_pay2 g s c p w a x (ix2 r l) = nrm (fun l => k0_pay1 g w a x (ix2 r l)) l * (c (ix2 0 l) * p (ix3 0 0 l)) + s (ix2 0 l) := by
  unfold nrm
  pointwise [k0_pay2]

theorem pay3_apply (u v : Vec Ideal S1x1x2048 .f32) (l : Fin 2048) : k0_pay3 u v (ix2 0 l) = u (ix3 0 0 l) * v (ix3 0 0 l) := by
  pointwise [k0_pay3]

theorem pay4_apply (u : Vec Ideal S1x1x2048 .f32) (l : Fin 2048) : k0_pay4 u (ix2 0 l) = u (ix3 0 0 l) := by
  pointwise [k0_pay4]

theorem pay5_apply (u : Vec Ideal S1x1x2048 .f32) (l : Fin 2048) : k0_pay5 u (ix2 0 l) = Ideal.ofBits .f32 0x3F800000#32 + u (ix3 0 0 l) := by
  pointwise [k0_pay5]

theorem lt_32 (t : Fin cfg0.N) : t.val < 32 := lt_of_lt_of_eq t.isLt N_0

/-- The conditioning row of point `t`. -/
def prow (t : ℕ) : ℕ := if t < 16 then 4 else (t - 16) / 4

theorem off1 : ∀ t : Fin cfg0.N, k0_off1 (grid0.coords t) = ![0, prow t.val, 10240] := (by decide +kernel : ∀ t : Fin grid0.N, _)
theorem off2 : ∀ t : Fin cfg0.N, k0_off2 (grid0.coords t) = ![0, prow t.val, 0] := (by decide +kernel : ∀ t : Fin grid0.N, _)
theorem off3 : ∀ t : Fin cfg0.N, k0_off3 (grid0.coords t) = ![0, prow t.val, 2048] := (by decide +kernel : ∀ t : Fin grid0.N, _)

theorem idx : ∀ t : Fin cfg0.N,
    win0_0.index t = ![t.val, 0] ∧ win0_1.index t = ![0, 0, 0] ∧ win0_2.index t = ![t.val, 0] ∧ win0_3.index t = ![0, 0, 0]
    ∧ win0_4.index t = ![0, 0, 0] ∧ win0_5.index t = ![1, 0, 0] ∧ win0_6.index t = ![1, 0, 0] ∧ win0_7.index t = ![t.val, 0] ∧ win0_8.index t = ![t.val, 0] :=
  (by decide +kernel : ∀ t : Fin grid0.N, _)

theorem blk0 (c : Dev nD) (t : Fin cfg0.N) (r : Fin 256) (k : Fin 5632) :
    iblk m c 0 t (ix2 r k) = m ((c.tc : Thread nD τ).loc main_arg0) (ix2 ⟨256 * t.val + r, by have := lt_32 t; omega⟩ k) := by
  blk_point [iblk, V, idx t]

theorem blk1 (c : Dev nD) (t : Fin cfg0.N) (k : Fin 5632) (l : Fin 2048) :
    iblk m c 1 t (ix3 0 k l) = m ((c.tc : Thread nD τ).loc main_arg1) (ix3 0 k l) := by
  blk_point [iblk, V, idx t]

theorem blk2 (c : Dev nD) (t : Fin cfg0.N) (r : Fin 256) (l : Fin 2048) :
    iblk m c 2 t (ix2 r l) = m ((c.tc : Thread nD τ).loc main_arg2) (ix2 ⟨256 * t.val + r, by have := lt_32 t; omega⟩ l) := by
  blk_point [iblk, V, idx t]

theorem blk3 (c : Dev nD) (t : Fin cfg0.N) (r : Fin 8) (l : Fin 12288) :
    iblk m c 3 t (ix3 0 r l) = m ((c.tc : Thread nD τ).loc main_arg3) (ix3 0 r l) := by
  blk_point [iblk, V, idx t]

theorem blk4 (c : Dev nD) (t : Fin cfg0.N) (l : Fin 2048) :
    iblk m c 4 t (ix3 0 0 l) = m ((c.tc : Thread nD τ).loc main_arg4) (ix3 0 0 l) := by
  blk_point [iblk, V, idx t]

theorem blk5 (c : Dev nD) (t : Fin cfg0.N) (r : Fin 8) (l : Fin 12288) :
    iblk m c 5 t (ix3 0 r l) = m ((c.tc : Thread nD τ).loc main_arg3) (ix3 1 r l) := by
  blk_point [iblk, V, idx t]

theorem blk6 (c : Dev nD) (t : Fin cfg0.N) (l : Fin 2048) :
    iblk m c 6 t (ix3 0 0 l) = m ((c.tc : Thread nD τ).loc main_arg5) (ix3 1 0 l) := by
  blk_point [iblk, V, idx t]

theorem ld_mod (x : Vec Ideal S1x8x12288 .f32) (o : Fin 3 → ℕ) (p q : ℕ) (h : ∀ a : Fin 3, o a + S1x1x2048.size a ≤ S1x8x12288.size a) (ho : o = ![0, p, q]) (l : Fin 2048) (hp : p < 8) (hq : q + 2048 ≤ 12288) :
    View.ld x (Rect.unit o S1x1x2048.size h) (ix3 0 0 l) = x (ix3 0 ⟨p, hp⟩ ⟨q + l, by omega⟩) := by
  subst ho
  unfold View.ld
  blk_ext
  all_goals simp [Rect.idx_unit_val]

/-- The gate, shift and scale rows the point reads. -/
def gate (c : Dev nD) (t : Fin cfg0.N) : Vec Ideal S1x1x2048 .f32 := View.ld (iblk m c 3 t) (Rect.unit (k0_off1 (grid0.coords t)) S1x1x2048.size (k0_off1_inb (grid0.coords t)))
def shift (c : Dev nD) (t : Fin cfg0.N) : Vec Ideal S1x1x2048 .f32 := View.ld (iblk m c 5 t) (Rect.unit (k0_off2 (grid0.coords t)) S1x1x2048.size (k0_off2_inb (grid0.coords t)))
def scale (c : Dev nD) (t : Fin cfg0.N) : Vec Ideal S1x1x2048 .f32 := View.ld (iblk m c 5 t) (Rect.unit (k0_off3 (grid0.coords t)) S1x1x2048.size (k0_off3_inb (grid0.coords t)))

theorem out7 (c : Dev nD) (t : Fin cfg0.N) :
    (outsAt0 m c t).1 = k0_pay1 (k0_pay3 (gate m c t) (iblk m c 4 t)) (iblk m c 1 t) (iblk m c 0 t) (iblk m c 2 t) := by
  funext y
  unfold outsAt0
  frame_out
  rfl

theorem out8 (c : Dev nD) (t : Fin cfg0.N) :
    (outsAt0 m c t).2 = k0_pay2 (k0_pay3 (gate m c t) (iblk m c 4 t)) (k0_pay4 (shift m c t)) (k0_pay5 (scale m c t)) (iblk m c 6 t) (iblk m c 1 t) (iblk m c 0 t) (iblk m c 2 t) := by
  funext y
  unfold outsAt0
  frame_out
  rfl

/-- The residual stream after the step. -/
def xres (a : Vec Ideal S8192x5632 .bf16) (w : Vec Ideal S4x5632x2048 .bf16) (x : Vec Ideal S8192x2048 .f32) (mod : Vec Ideal S4x8x12288 .f32)
    (g : Vec Ideal S4x1x2048 .f32) : FVec Ideal S8192x2048 .f32 := fun i =>
  x (ix2 (i 0) (i 1)) + nrm (fun l => ∑ k : Fin 5632, a (ix2 (i 0) k) * w (ix3 0 k l)) (i 1) * (mod (ix3 0 (crow (i 0)) ⟨10240 + (i 1).val, by have : (i 1).val < 2048 := (i 1).isLt; omega⟩) * g (ix3 0 0 (i 1)))

/-- The next layer's normalised input from the residual stream. -/
def hres (x : Vec Ideal S8192x2048 .f32) (mod : Vec Ideal S4x8x12288 .f32) (p : Vec Ideal S4x1x2048 .f32) : FVec Ideal S8192x2048 .bf16 := fun i =>
  nrm (fun l => x (ix2 (i 0) l)) (i 1)
    * ((Ideal.ofBits .f32 0x3F800000#32 + mod (ix3 1 (crow (i 0)) ⟨2048 + (i 1).val, by have : (i 1).val < 2048 := (i 1).isLt; omega⟩)) * p (ix3 1 0 (i 1)))
    + mod (ix3 1 (crow (i 0)) ⟨0 + (i 1).val, by have : (i 1).val < 2048 := (i 1).isLt; omega⟩)

def res7 (c : Dev nD) : FVec Ideal S8192x2048 .f32 :=
  xres (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

def res8 (c : Dev nD) : FVec Ideal S8192x2048 .bf16 :=
  hres (res7 m c) (m ((c.tc : Thread nD τ).loc main_arg3)) (m ((c.tc : Thread nD τ).loc main_arg5))

theorem prow_lt (t : Fin cfg0.N) : prow t.val < 8 := by
  have := lt_32 t
  unfold prow
  split <;> omega

theorem crow_eq (t : Fin cfg0.N) (r : Fin 256) (h : 256 * t.val + r.val < 8192) : crow ⟨256 * t.val + r, h⟩ = ⟨prow t.val, prow_lt t⟩ := by
  have := lt_32 t
  unfold crow prow
  apply Fin.ext
  by_cases h1 : t.val < 16
  · have h2 : 256 * t.val + r.val < 4096 := by omega
    simp [h1, h2]
  · have h2 : ¬256 * t.val + r.val < 4096 := by omega
    simp only [h1, h2, dite_false, if_false]
    omega

theorem out7_eq (c : Dev nD) (t : Fin cfg0.N) (r : Fin 256) (l : Fin 2048) :
    (outsAt0 m c t).1 (ix2 r l) = res7 m c (ix2 ⟨256 * t.val + r, by have := lt_32 t; omega⟩ l) := by
  rw [out7, pay1_apply, pay3_apply, gate, ld_mod _ _ _ _ _ (off1 t) l (prow_lt t) (by omega), blk3, blk4, blk2, ← crow_eq t r]
  simp only [blk0, blk1]
  rfl

theorem out8_eq (c : Dev nD) (t : Fin cfg0.N) (r : Fin 256) (l : Fin 2048) :
    (outsAt0 m c t).2 (ix2 r l) = res8 m c (ix2 ⟨256 * t.val + r, by have := lt_32 t; omega⟩ l) := by
  rw [out8, pay2_apply, ← out7, pay4_apply, pay5_apply, shift, scale, ld_mod _ _ _ _ _ (off2 t) l (prow_lt t) (by omega),
    ld_mod _ _ _ _ _ (off3 t) l (prow_lt t) (by omega), blk5, blk5, blk6, ← crow_eq t r]
  simp only [out7_eq]
  rfl

theorem final7 (c : Dev nD) : (dats m 0 c).arrAt 7 cfg0.N = res7 m c := by
  refine (dats m 0 c).arrAt_eq_of_covers 7 _ (by decide +kernel) fun t _ y => ?_
  blk_simp
  rw [after0_7]
  obtain ⟨r, l, rfl⟩ : ∃ (r : Fin 256) (l : Fin 2048), y = ix2 r l := ⟨y 0, y 1, by idx_ext⟩
  refine (out7_eq m c t r l).trans ?_
  blk_ext [idx t]

theorem final8 (c : Dev nD) : (dats m 0 c).arrAt 8 cfg0.N = res8 m c := by
  refine (dats m 0 c).arrAt_eq_of_covers 8 _ (by decide +kernel) fun t _ y => ?_
  blk_simp
  rw [after0_8]
  obtain ⟨r, l, rfl⟩ : ∃ (r : Fin 256) (l : Fin 2048), y = ix2 r l := ⟨y 0, y 1, by idx_ext⟩
  refine (out8_eq m c t r l).trans ?_
  blk_ext [idx t]

end Cert.Kernel3Ideal.Down
-- ==== Proof.Call3.Claim.lean ====
/- The down product with its residual step: the reference's results, and the claim. -/
module

public import proofs.«01_k».proof.Defs
public import proofs.«01_k».proof.Proof.Gen.Reference3Ideal.Read
public import proofs.«01_k».proof.Proof.Gen.Reference3Ideal.Run
public import proofs.«01_k».proof.Proof.Call3.Val
public import Idealize.ShloMosaic.Lib.Claim

@[expose] public section

set_option maxRecDepth 16384

noncomputable section

namespace Cert.Reference3Ideal.Down

open Cert.Reference3Ideal Cert.Reference3Ideal.Gen Cert.Reference3Ideal.Read Idealize.ShloMosaic Idealize.ShloMosaic.TcCoe Idealize.ShloMosaic.Tactic Idealize.SL.Sem
open Cert.Resid Cert.Kernel3Ideal.Down

variable (a : BufTy.Contents (Elt Ideal) ⟨S8192x5632, .bf16⟩) (w : BufTy.Contents (Elt Ideal) ⟨S4x5632x2048, .bf16⟩)
  (x : BufTy.Contents (Elt Ideal) ⟨S8192x2048, .f32⟩) (mod : BufTy.Contents (Elt Ideal) ⟨S4x8x12288, .f32⟩)
  (g p : BufTy.Contents (Elt Ideal) ⟨S4x1x2048, .f32⟩)

theorem cond_ctx (i : Fin 2) (r : Fin 4096) (l : Fin 12288) : val_main_v11 (F := Ideal) mod (ix3 i ⟨r, by omega⟩ l) = mod (ix3 ⟨i, by omega⟩ 4 l) := by
  pointwise [val_main_v11, val_main_v5, val_main_v6, val_main_v7, val_main_v8, val_main_v9, val_main_v10]

theorem cond_lat (i : Fin 2) (b : Fin 4) (q : Fin 1024) (l : Fin 12288) :
    val_main_v11 (F := Ideal) mod (ix3 i ⟨4096 + (b * 1024 + q), by omega⟩ l) = mod (ix3 ⟨i, by omega⟩ ⟨b, by omega⟩ l) := by
  pointwise [val_main_v11, val_main_v5, val_main_v6, val_main_v7, val_main_v8, val_main_v9, val_main_v10]

theorem cond (i : Fin 2) (r : Fin 8192) (l : Fin 12288) : val_main_v11 (F := Ideal) mod (ix3 i r l) = mod (ix3 ⟨i, by omega⟩ (crow r) l) := by
  by_cases h : r.val < 4096
  · have hc : crow r = 4 := by unfold crow; simp [h]
    rw [hc]
    exact cond_ctx mod i ⟨r, h⟩ l
  · have hb : (r.val - 4096) / 1024 < 4 := by omega
    have hq : (r.val - 4096) % 1024 < 1024 := by omega
    have hc : crow r = ⟨(r.val - 4096) / 1024, by omega⟩ := by unfold crow; simp [h]
    have hr : r = ⟨4096 + ((r.val - 4096) / 1024 * 1024 + (r.val - 4096) % 1024), by omega⟩ := Fin.ext (by show r.val = 4096 + ((r.val - 4096) / 1024 * 1024 + (r.val - 4096) % 1024); omega)
    rw [hc]
    refine (congrArg (fun z => val_main_v11 (F := Ideal) mod (ix3 i z l)) hr).trans ?_
    exact cond_lat mod i ⟨(r.val - 4096) / 1024, hb⟩ ⟨(r.val - 4096) % 1024, hq⟩ l

theorem gate (r : Fin 8192) (l : Fin 2048) : val_main_v13 (F := Ideal) mod (ix2 r l) = mod (ix3 0 (crow r) ⟨10240 + l, by omega⟩) :=
  Eq.trans (b := val_main_v11 (F := Ideal) mod (ix3 0 r ⟨10240 + l, by omega⟩)) (by pointwise [val_main_v13, val_main_v12]) (cond mod 0 r _)

theorem shift (r : Fin 8192) (l : Fin 2048) : val_main_v15 (F := Ideal) mod (ix2 r l) = mod (ix3 1 (crow r) ⟨0 + l, by omega⟩) :=
  Eq.trans (b := val_main_v11 (F := Ideal) mod (ix3 1 r ⟨0 + l, by omega⟩)) (by pointwise [val_main_v15, val_main_v14]) (cond mod 1 r _)

theorem scale (r : Fin 8192) (l : Fin 2048) : val_main_v17 (F := Ideal) mod (ix2 r l) = mod (ix3 1 (crow r) ⟨2048 + l, by omega⟩) :=
  Eq.trans (b := val_main_v11 (F := Ideal) mod (ix3 1 r ⟨2048 + l, by omega⟩)) (by pointwise [val_main_v17, val_main_v16]) (cond mod 1 r _)

theorem dot (r : Fin 8192) (l : Fin 2048) : val_main_v4 (F := Ideal) a w (ix2 r l) = ∑ k : Fin 5632, a (ix2 r k) * w (ix3 0 k l) := by
  pointwise [val_main_v4, val_main_v0, val_main_v1, val_main_v2, val_main_v3]

theorem x_apply (r : Fin 8192) (l : Fin 2048) : val_main_v33 (F := Ideal) a w x mod g (ix2 r l)
    = x (ix2 r l) + val_main_v13 (F := Ideal) mod (ix2 r l) * (nrm (fun l => val_main_v4 (F := Ideal) a w (ix2 r l)) l * g (ix3 0 0 l)) := by
  unfold nrm
  pointwise [val_main_v33, val_main_v32, val_main_v31, val_main_v30, val_main_v29, val_main_v28, val_main_v27, val_main_v26, val_main_v25, val_main_v24,
    val_main_v23, val_main_v22, val_main_v21, val_main_v20, val_main_v19, val_main_v18, val_main_cst, val_main_cst_0, val_main_cst_1]

theorem h_apply (r : Fin 8192) (l : Fin 2048) : val_main_v52 (F := Ideal) a w x mod g p (ix2 r l)
    = nrm (fun l => val_main_v33 (F := Ideal) a w x mod g (ix2 r l)) l * p (ix3 1 0 l) * (Ideal.ofBits .f32 0x3F800000#32 + val_main_v17 (F := Ideal) mod (ix2 r l))
      + val_main_v15 (F := Ideal) mod (ix2 r l) := by
  unfold nrm
  pointwise [val_main_v52, val_main_v51, val_main_v50, val_main_v49, val_main_v48, val_main_v47, val_main_v46, val_main_v45, val_main_v44, val_main_v43,
    val_main_v42, val_main_v41, val_main_v40, val_main_v39, val_main_v38, val_main_v37, val_main_v36, val_main_v35, val_main_v34, val_main_cst_2,
    val_main_cst_3, val_main_cst_4, val_main_cst_5]

theorem x_eq : val_main_v33 (F := Ideal) a w x mod g = xres a w x mod g := by
  funext i
  obtain ⟨r, l, rfl⟩ : ∃ (r : Fin 8192) (l : Fin 2048), i = ix2 r l := ⟨i 0, i 1, by idx_ext⟩
  rw [x_apply, gate, mul_left_comm]
  simp only [dot]
  rfl

theorem h_eq : val_main_v52 (F := Ideal) a w x mod g p = hres (xres a w x mod g) mod p := by
  funext i
  obtain ⟨r, l, rfl⟩ : ∃ (r : Fin 8192) (l : Fin 2048), i = ix2 r l := ⟨i 0, i 1, by idx_ext⟩
  rw [h_apply, scale, shift, x_eq, mul_assoc, mul_comm (p _)]
  rfl

end Cert.Reference3Ideal.Down

namespace Cert.Call3

open Idealize.ShloMosaic Idealize.SL.Sem Idealize.ShloMosaic.Tactic

/-- The down product with its residual step: kernel and reference agree at every element. -/
theorem algebraic :
    letI := Cert.Kernel3Ideal.Gen.facts; letI := Cert.Reference3Ideal.Gen.facts
    algebraic_Kernel3Ideal_Reference3Ideal := by
  pair_intro
  · run_from Cert.Kernel3Ideal.Gen.run_main m g
  · run_from Cert.Reference3Ideal.Value.run m' g'
    · obtain ⟨e0, e1, e2, e3, e4, e5⟩ := hagree c
      refine Eq.trans ?_ (Cert.Kernel3Ideal.Down.final7 m c).symm
      unfold Cert.Kernel3Ideal.Down.res7
      rw [← e0, ← e1, ← e2, ← e3, ← e4]
      exact (Cert.Reference3Ideal.Read.val_main_v33_eq ..).trans (Cert.Reference3Ideal.Down.x_eq _ _ _ _ _)
    · obtain ⟨e0, e1, e2, e3, e4, e5⟩ := hagree c
      refine Eq.trans ?_ (Cert.Kernel3Ideal.Down.final8 m c).symm
      unfold Cert.Kernel3Ideal.Down.res8 Cert.Kernel3Ideal.Down.res7
      rw [← e0, ← e1, ← e2, ← e3, ← e4, ← e5]
      exact (Cert.Reference3Ideal.Read.val_main_v52_eq ..).trans (Cert.Reference3Ideal.Down.h_eq _ _ _ _ _ _)

/-- The reference leaves its arguments as they were and every counter at zero. -/
theorem frame : letI := Cert.Reference3Ideal.Gen.facts; quiescent_Reference3Ideal := by
  intro m g _
  run_from Cert.Reference3Ideal.Value.run m g
  · intro c; simp
  · exact sem_eq_zero_of_no_sems (by decide) r.2

end Cert.Call3

end
-- ==== Proof.Call4.Val.lean ====
/- The output product with its residual step: the kernel's results at every element. -/
module

public import proofs.«01_k».proof.Proof.Gen.Kernel4Ideal.Value
public import proofs.«01_k».proof.Proof.Call3.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Out

open Cert.Kernel4Ideal Cert.Kernel4Ideal.Gen Idealize.ShloMosaic Idealize.ShloMosaic.TcCoe Idealize.ShloMosaic.Tactic Idealize.SL.Sem
open Idealize.ShloMosaic.Pipeline (Dat)
open Cert.Resid

variable (m : (ℓ : Loc nD τ sig) → Buf (Elt Ideal) ℓ)

/-- Row `r`, lane `l` of the residual stream from a block of product rows. -/
def xrow {n : ℕ} (a : Vec Ideal ⟨2, ![n, 2048]⟩ .bf16) (w : Vec Ideal S1x2048x2048 .bf16) (x : Vec Ideal ⟨2, ![n, 2048]⟩ .f32) (g : Vec Ideal S1x2048 .f32) (r : Fin n) (l : Fin 2048) : EReal :=
  x (ix2 r l) + nrm (fun l => ∑ k : Fin 2048, a (ix2 r k) * w (ix3 0 k l)) l * g (ix2 0 l)

/-- Row `r`, lane `l` of the normalised input from a row of the residual stream. -/
def hrow (y : Fin 2048 → EReal) (s c : Vec Ideal S1x2048 .f32) (p : Vec Ideal S1x1x2048 .f32) (l : Fin 2048) : EReal :=
  nrm y l * (c (ix2 0 l) * p (ix3 0 0 l)) + s (ix2 0 l)

/-- One of two blocks, by the point. -/
def pick (arg0 : BitVec 32) {s : Shape} {φ : EltTy} (a b : Vec Ideal s φ) : Vec Ideal s φ := Scalar.select (Scalar.cmpi .slt arg0 8#32) a b

theorem x0_apply (arg0 : BitVec 32) (g : Vec Ideal S1x2048 .f32) (w : Vec Ideal S1x2048x2048 .bf16) (a b : Vec Ideal S256x2048 .bf16) (x : Vec Ideal S256x2048 .f32) (r : Fin 256) (l : Fin 2048) :
    k0_pay7 arg0 g w a b x (ix2 r l) = xrow (pick arg0 a b) w x g r l := by
  unfold xrow nrm pick
  generalize hc : Scalar.cmpi .slt arg0 8#32 = q
  pointwise [k0_pay7, k0_pay5, hc]

theorem y1_apply (arg0 : BitVec 32) (g : Vec Ideal S1x2048 .f32) (w : Vec Ideal S1x2048x2048 .bf16) (a b : Vec Ideal S256x2048 .bf16) (x : Vec Ideal S256x2048 .f32) (r : Fin 256) (l : Fin 2048) :
    k0_pay6 arg0 w a b (ix2 r l) = ∑ k : Fin 2048, pick arg0 a b (ix2 r k) * w (ix3 0 k l) := by
  unfold pick
  generalize hc : Scalar.cmpi .slt arg0 8#32 = q
  pointwise [k0_pay6, k0_pay5, hc]

theorem x1_apply (arg0 : BitVec 32) (g : Vec Ideal S1x2048 .f32) (w : Vec Ideal S1x2048x2048 .bf16) (a b : Vec Ideal S256x2048 .bf16) (x : Vec Ideal S256x2048 .f32) (r : Fin 256) (l : Fin 2048) :
    k0_pay10 g (k0_pay6 arg0 w a b) x (ix2 r l) = xrow (pick arg0 a b) w x g r l := by
  unfold xrow
  simp only [← y1_apply arg0 g w a b x]
  generalize k0_pay6 arg0 w a b = y
  unfold nrm
  pointwise [k0_pay10]

theorem h0_apply (arg0 : BitVec 32) (g : Vec Ideal S1x2048 .f32) (w : Vec Ideal S1x2048x2048 .bf16) (s c : Vec Ideal S1x2048 .f32) (p : Vec Ideal S1x1x2048 .f32) (a b : Vec Ideal S256x2048 .bf16) (x : Vec Ideal S256x2048 .f32) (r : Fin 256) (l : Fin 2048) :
    k0_pay9 s (k0_pay4 c p) (k0_pay7 arg0 g w a b x) (k0_pay8 arg0 g w a b x) (ix2 r l) = hrow (fun l => k0_pay7 arg0 g w a b x (ix2 r l)) s c p l := by
  unfold hrow nrm k0_pay8
  generalize k0_pay7 arg0 g w a b x = y
  pointwise [k0_pay9, k0_pay4]

theorem h1_apply (arg0 : BitVec 32) (g : Vec Ideal S1x2048 .f32) (w : Vec Ideal S1x2048x2048 .bf16) (s c : Vec Ideal S1x2048 .f32) (p : Vec Ideal S1x1x2048 .f32) (a b : Vec Ideal S256x2048 .bf16) (x : Vec Ideal S256x2048 .f32) (r : Fin 256) (l : Fin 2048) :
    k0_pay11 g s (k0_pay4 c p) (k0_pay6 arg0 w a b) x (ix2 r l) = hrow (fun l => k0_pay10 g (k0_pay6 arg0 w a b) x (ix2 r l)) s c p l := by
  unfold hrow nrm k0_pay11
  generalize k0_pay10 g (k0_pay6 arg0 w a b) x = y
  pointwise [k0_pay4]

theorem gate_apply (u v : Vec Ideal S1x1x2048 .f32) (l : Fin 2048) : k0_pay1 u v (ix2 0 l) = u (ix3 0 0 l) * v (ix3 0 0 l) := by
  pointwise [k0_pay1]

theorem shift_apply (u : Vec Ideal S1x1x2048 .f32) (l : Fin 2048) : k0_pay2 u (ix2 0 l) = u (ix3 0 0 l) := by
  pointwise [k0_pay2]

theorem scale_apply (u : Vec Ideal S1x1x2048 .f32) (l : Fin 2048) : k0_pay3 u (ix2 0 l) = Ideal.ofBits .f32 0x3F800000#32 + u (ix3 0 0 l) := by
  pointwise [k0_pay3]

theorem lt_16 (t : Fin cfg0.N) : t.val < 16 := lt_of_lt_of_eq t.isLt N_0

/-- The conditioning row of point `t`. -/
def prow (t : ℕ) : ℕ := if t < 8 then 4 else (t - 8) / 2

theorem off1 : ∀ t : Fin cfg0.N, k0_off1 (grid0.coords t) = ![0, prow t.val, 4096] := (by decide +kernel : ∀ t : Fin grid0.N, _)
theorem off2 : ∀ t : Fin cfg0.N, k0_off2 (grid0.coords t) = ![0, prow t.val, 6144] := (by decide +kernel : ∀ t : Fin grid0.N, _)
theorem off3 : ∀ t : Fin cfg0.N, k0_off3 (grid0.coords t) = ![0, prow t.val, 8192] := (by decide +kernel : ∀ t : Fin grid0.N, _)

/-- The point as the body reads it. -/
def arg (t : Fin cfg0.N) : BitVec 32 := BitVec.ofNat 32 ((grid0.coords t) 0).val

theorem sel : ∀ t : Fin cfg0.N, Scalar.cmpi .slt (BitVec.ofNat 32 ((grid0.coords t) 0).val) 8#32 = if t.val < 8 then 1#1 else 0#1 :=
  (by decide +kernel : ∀ t : Fin grid0.N, _)

theorem idx : ∀ t : Fin cfg0.N,
    win0_0.index t = ![min t.val 7, 0] ∧ win0_1.index t = ![t.val - 8, 0] ∧ win0_2.index t = ![0, 0, 0] ∧ win0_3.index t = ![t.val, 0] ∧ win0_4.index t = ![1, 0, 0]
    ∧ win0_5.index t = ![1, 0, 0] ∧ win0_6.index t = ![1, 0, 0] ∧ win0_7.index t = ![1, 0, 0] ∧ win0_8.index t = ![t.val, 0] ∧ win0_9.index t = ![t.val, 0] :=
  (by decide +kernel : ∀ t : Fin grid0.N, _)

theorem blk0 (c : Dev nD) (t : Fin cfg0.N) (r : Fin 512) (k : Fin 2048) :
    iblk m c 0 t (ix2 r k) = m ((c.tc : Thread nD τ).loc main_arg0) (ix2 ⟨512 * min t.val 7 + r, by omega⟩ k) := by
  blk_point [iblk, V, idx t]

theorem blk1 (c : Dev nD) (t : Fin cfg0.N) (r : Fin 512) (k : Fin 2048) :
    iblk m c 1 t (ix2 r k) = m ((c.tc : Thread nD τ).loc main_arg1) (ix2 ⟨512 * (t.val - 8) + r, by have := lt_16 t; omega⟩ k) := by
  blk_point [iblk, V, idx t]

theorem blk2 (c : Dev nD) (t : Fin cfg0.N) (k l : Fin 2048) :
    iblk m c 2 t (ix3 0 k l) = m ((c.tc : Thread nD τ).loc main_arg2) (ix3 0 k l) := by
  blk_point [iblk, V, idx t]

theorem blk3 (c : Dev nD) (t : Fin cfg0.N) (r : Fin 512) (l : Fin 2048) :
    iblk m c 3 t (ix2 r l) = m ((c.tc : Thread nD τ).loc main_arg3) (ix2 ⟨512 * t.val + r, by have := lt_16 t; omega⟩ l) := by
  blk_point [iblk, V, idx t]

theorem blk4 (c : Dev nD) (t : Fin cfg0.N) (r : Fin 8) (l : Fin 12288) :
    iblk m c 4 t (ix3 0 r l) = m ((c.tc : Thread nD τ).loc main_arg4) (ix3 1 r l) := by
  blk_point [iblk, V, idx t]

theorem blk5 (c : Dev nD) (t : Fin cfg0.N) (l : Fin 2048) :
    iblk m c 5 t (ix3 0 0 l) = m ((c.tc : Thread nD τ).loc main_arg5) (ix3 1 0 l) := by
  blk_point [iblk, V, idx t]

theorem blk6 (c : Dev nD) (t : Fin cfg0.N) (r : Fin 8) (l : Fin 12288) :
    iblk m c 6 t (ix3 0 r l) = m ((c.tc : Thread nD τ).loc main_arg4) (ix3 1 r l) := by
  blk_point [iblk, V, idx t]

theorem blk7 (c : Dev nD) (t : Fin cfg0.N) (l : Fin 2048) :
    iblk m c 7 t (ix3 0 0 l) = m ((c.tc : Thread nD τ).loc main_arg6) (ix3 1 0 l) := by
  blk_point [iblk, V, idx t]

theorem ld_mod (x : Vec Ideal S1x8x12288 .f32) (o : Fin 3 → ℕ) (p q : ℕ) (h : ∀ a : Fin 3, o a + S1x1x2048.size a ≤ S1x8x12288.size a) (ho : o = ![0, p, q]) (l : Fin 2048) (hp : p < 8) (hq : q + 2048 ≤ 12288) :
    View.ld x (Rect.unit o S1x1x2048.size h) (ix3 0 0 l) = x (ix3 0 ⟨p, hp⟩ ⟨q + l, by omega⟩) := by
  subst ho
  unfold View.ld
  blk_ext
  all_goals simp [Rect.idx_unit_val]

theorem ld_rows {φ : EltTy} (x : Vec Ideal S512x2048 φ) (o : ℕ) (h : ∀ a : Fin 2, ![o, 0] a + ![256, 2048] a ≤ S512x2048.size a) (r : Fin 256) (k : Fin 2048) (ho : o + 256 ≤ 512) :
    View.ld x (Rect.unit ![o, 0] ![256, 2048] h) (ix2 r k) = x (ix2 ⟨o + r, by omega⟩ k) := by
  unfold View.ld
  blk_ext
  all_goals simp [Rect.idx_unit_val]

theorem pick_ld (arg0 : BitVec 32) (a b : Vec Ideal S512x2048 .bf16) (o : ℕ) (h : ∀ a : Fin 2, ![o, 0] a + ![256, 2048] a ≤ S512x2048.size a) :
    pick arg0 (View.ld a (Rect.unit ![o, 0] ![256, 2048] h)) (View.ld b (Rect.unit ![o, 0] ![256, 2048] h)) = View.ld (pick arg0 a b) (Rect.unit ![o, 0] ![256, 2048] h) := by
  unfold pick Scalar.select
  split <;> rfl

theorem xrow_ld (a : Vec Ideal S512x2048 .bf16) (w : Vec Ideal S1x2048x2048 .bf16) (x : Vec Ideal S512x2048 .f32) (g : Vec Ideal S1x2048 .f32) (o : ℕ)
    (h : ∀ a : Fin 2, ![o, 0] a + ![256, 2048] a ≤ S512x2048.size a) (r : Fin 256) (l : Fin 2048) (ho : o + 256 ≤ 512) :
    xrow (View.ld a (Rect.unit ![o, 0] ![256, 2048] h)) w (View.ld x (Rect.unit ![o, 0] ![256, 2048] h)) g r l = xrow a w x g ⟨o + r, by omega⟩ l := by
  unfold xrow
  rw [ld_rows x o h r l ho]
  simp only [ld_rows a o h _ _ ho]

theorem xpiece0 (arg0 : BitVec 32) (g : Vec Ideal S1x2048 .f32) (w : Vec Ideal S1x2048x2048 .bf16) (a b : Vec Ideal S512x2048 .bf16) (x : Vec Ideal S512x2048 .f32) (h : ∀ a : Fin 2, ![0, 0] a + ![256, 2048] a ≤ S512x2048.size a)
    (y : S256x2048.Idx) (r : Fin 512) (l : Fin 2048) (hr : r.val = (y 0).val) (hl : l.val = (y 1).val) :
    k0_pay7 arg0 g w (View.ld a (Rect.unit ![0, 0] ![256, 2048] h)) (View.ld b (Rect.unit ![0, 0] ![256, 2048] h)) (View.ld x (Rect.unit ![0, 0] ![256, 2048] h)) y = xrow (pick arg0 a b) w x g r l := by
  obtain ⟨r', l', rfl⟩ : ∃ (r' : Fin 256) (l' : Fin 2048), y = ix2 r' l' := ⟨y 0, y 1, by idx_ext⟩
  obtain rfl : l = l' := Fin.ext hl
  have hlt : 0 + r'.val < 512 := by omega
  obtain rfl : r = ⟨0 + r'.val, hlt⟩ := Fin.ext (hr.trans (Nat.zero_add _).symm)
  rw [x0_apply, pick_ld, xrow_ld _ _ _ _ 0 h _ _ (by omega)]

theorem hpiece0 (arg0 : BitVec 32) (g : Vec Ideal S1x2048 .f32) (w : Vec Ideal S1x2048x2048 .bf16) (s c : Vec Ideal S1x2048 .f32) (p : Vec Ideal S1x1x2048 .f32) (a b : Vec Ideal S512x2048 .bf16) (x : Vec Ideal S512x2048 .f32) (h : ∀ a : Fin 2, ![0, 0] a + ![256, 2048] a ≤ S512x2048.size a)
    (y : S256x2048.Idx) (r : Fin 512) (l : Fin 2048) (hr : r.val = (y 0).val) (hl : l.val = (y 1).val) :
    k0_pay9 s (k0_pay4 c p) (k0_pay7 arg0 g w (View.ld a (Rect.unit ![0, 0] ![256, 2048] h)) (View.ld b (Rect.unit ![0, 0] ![256, 2048] h)) (View.ld x (Rect.unit ![0, 0] ![256, 2048] h))) (k0_pay8 arg0 g w (View.ld a (Rect.unit ![0, 0] ![256, 2048] h)) (View.ld b (Rect.unit ![0, 0] ![256, 2048] h)) (View.ld x (Rect.unit ![0, 0] ![256, 2048] h))) y = hrow (fun l => xrow (pick arg0 a b) w x g r l) s c p l := by
  obtain ⟨r', l', rfl⟩ : ∃ (r' : Fin 256) (l' : Fin 2048), y = ix2 r' l' := ⟨y 0, y 1, by idx_ext⟩
  obtain rfl : l = l' := Fin.ext hl
  have hlt : 0 + r'.val < 512 := by omega
  obtain rfl : r = ⟨0 + r'.val, hlt⟩ := Fin.ext (hr.trans (Nat.zero_add _).symm)
  rw [h0_apply]
  simp only [x0_apply, pick_ld, xrow_ld _ _ _ _ 0 h _ _ (by omega : 0 + 256 ≤ 512)]

theorem xpiece1 (arg0 : BitVec 32) (g : Vec Ideal S1x2048 .f32) (w : Vec Ideal S1x2048x2048 .bf16) (a b : Vec Ideal S512x2048 .bf16) (x : Vec Ideal S512x2048 .f32) (h : ∀ a : Fin 2, ![256, 0] a + ![256, 2048] a ≤ S512x2048.size a)
    (y : S256x2048.Idx) (r : Fin 512) (l : Fin 2048) (hr : r.val = 256 + (y 0).val) (hl : l.val = (y 1).val) :
    k0_pay10 g (k0_pay6 arg0 w (View.ld a (Rect.unit ![256, 0] ![256, 2048] h)) (View.ld b (Rect.unit ![256, 0] ![256, 2048] h))) (View.ld x (Rect.unit ![256, 0] ![256, 2048] h)) y = xrow (pick arg0 a b) w x g r l := by
  obtain ⟨r', l', rfl⟩ : ∃ (r' : Fin 256) (l' : Fin 2048), y = ix2 r' l' := ⟨y 0, y 1, by idx_ext⟩
  obtain rfl : l = l' := Fin.ext hl
  have hlt : 256 + r'.val < 512 := by omega
  obtain rfl : r = ⟨256 + r'.val, hlt⟩ := Fin.ext hr
  rw [x1_apply, pick_ld, xrow_ld _ _ _ _ 256 h _ _ (by omega)]

theorem hpiece1 (arg0 : BitVec 32) (g : Vec Ideal S1x2048 .f32) (w : Vec Ideal S1x2048x2048 .bf16) (s c : Vec Ideal S1x2048 .f32) (p : Vec Ideal S1x1x2048 .f32) (a b : Vec Ideal S512x2048 .bf16) (x : Vec Ideal S512x2048 .f32) (h : ∀ a : Fin 2, ![256, 0] a + ![256, 2048] a ≤ S512x2048.size a)
    (y : S256x2048.Idx) (r : Fin 512) (l : Fin 2048) (hr : r.val = 256 + (y 0).val) (hl : l.val = (y 1).val) :
    k0_pay11 g s (k0_pay4 c p) (k0_pay6 arg0 w (View.ld a (Rect.unit ![256, 0] ![256, 2048] h)) (View.ld b (Rect.unit ![256, 0] ![256, 2048] h))) (View.ld x (Rect.unit ![256, 0] ![256, 2048] h)) y = hrow (fun l => xrow (pick arg0 a b) w x g r l) s c p l := by
  obtain ⟨r', l', rfl⟩ : ∃ (r' : Fin 256) (l' : Fin 2048), y = ix2 r' l' := ⟨y 0, y 1, by idx_ext⟩
  obtain rfl : l = l' := Fin.ext hl
  have hlt : 256 + r'.val < 512 := by omega
  obtain rfl : r = ⟨256 + r'.val, hlt⟩ := Fin.ext hr
  rw [h1_apply]
  simp only [x1_apply, pick_ld, xrow_ld _ _ _ _ 256 h _ _ (by omega : 256 + 256 ≤ 512)]

/-- The gate, shift and scale rows the point reads. -/
def gate (c : Dev nD) (t : Fin cfg0.N) : Vec Ideal S1x1x2048 .f32 := View.ld (iblk m c 4 t) (Rect.unit (k0_off1 (grid0.coords t)) S1x1x2048.size (k0_off1_inb (grid0.coords t)))
def shift (c : Dev nD) (t : Fin cfg0.N) : Vec Ideal S1x1x2048 .f32 := View.ld (iblk m c 6 t) (Rect.unit (k0_off2 (grid0.coords t)) S1x1x2048.size (k0_off2_inb (grid0.coords t)))
def scale (c : Dev nD) (t : Fin cfg0.N) : Vec Ideal S1x1x2048 .f32 := View.ld (iblk m c 6 t) (Rect.unit (k0_off3 (grid0.coords t)) S1x1x2048.size (k0_off3_inb (grid0.coords t)))

theorem out8 (c : Dev nD) (t : Fin cfg0.N) (y : S512x2048.Idx) :
    (outsAt0 m c t).1 y = xrow (pick (arg t) (iblk m c 0 t) (iblk m c 1 t)) (iblk m c 2 t) (iblk m c 3 t) (k0_pay1 (gate m c t) (iblk m c 5 t)) (y 0) (y 1) := by
  unfold outsAt0
  frame_out
  canon_tiles x h
  case piece0 => exact xpiece1 _ _ _ _ _ _ _ x _ _ h0 h1
  case piece1 => exact xpiece0 _ _ _ _ _ _ _ x _ _ h0 h1

theorem out9 (c : Dev nD) (t : Fin cfg0.N) (y : S512x2048.Idx) :
    (outsAt0 m c t).2 y = hrow (fun l => xrow (pick (arg t) (iblk m c 0 t) (iblk m c 1 t)) (iblk m c 2 t) (iblk m c 3 t) (k0_pay1 (gate m c t) (iblk m c 5 t)) (y 0) l)
      (k0_pay2 (shift m c t)) (k0_pay3 (scale m c t)) (iblk m c 7 t) (y 1) := by
  unfold outsAt0
  frame_out
  canon_tiles x h
  case piece0 => exact hpiece1 (arg t) (k0_pay1 (gate m c t) (iblk m c 5 t)) (iblk m c 2 t) (k0_pay2 (shift m c t)) (k0_pay3 (scale m c t)) (iblk m c 7 t) (iblk m c 0 t) (iblk m c 1 t) (iblk m c 3 t) _ x _ _ h0 h1
  case piece1 => exact hpiece0 (arg t) (k0_pay1 (gate m c t) (iblk m c 5 t)) (iblk m c 2 t) (k0_pay2 (shift m c t)) (k0_pay3 (scale m c t)) (iblk m c 7 t) (iblk m c 0 t) (iblk m c 1 t) (iblk m c 3 t) _ x _ _ h0 h1

/-- The rows of the two halves, the contexts first. -/
def both (oc ol : Vec Ideal S4096x2048 .bf16) (r : Fin 8192) (k : Fin 2048) : EReal :=
  if h : r.val < 4096 then oc (ix2 ⟨r, h⟩ k) else ol (ix2 ⟨r.val - 4096, by omega⟩ k)

/-- The residual stream after the step. -/
def xres (oc ol : Vec Ideal S4096x2048 .bf16) (w : Vec Ideal S1x2048x2048 .bf16) (x : Vec Ideal S8192x2048 .f32) (mod : Vec Ideal S4x8x12288 .f32)
    (g : Vec Ideal S4x1x2048 .f32) : FVec Ideal S8192x2048 .f32 := fun i =>
  x (ix2 (i 0) (i 1)) + nrm (fun l => ∑ k : Fin 2048, both oc ol (i 0) k * w (ix3 0 k l)) (i 1) * (mod (ix3 1 (crow (i 0)) ⟨4096 + (i 1).val, by have : (i 1).val < 2048 := (i 1).isLt; omega⟩) * g (ix3 1 0 (i 1)))

/-- The feed-forward part's normalised input from the residual stream. -/
def hres (x : Vec Ideal S8192x2048 .f32) (mod : Vec Ideal S4x8x12288 .f32) (p : Vec Ideal S4x1x2048 .f32) : FVec Ideal S8192x2048 .bf16 := fun i =>
  nrm (fun l => x (ix2 (i 0) l)) (i 1)
    * ((Ideal.ofBits .f32 0x3F800000#32 + mod (ix3 1 (crow (i 0)) ⟨8192 + (i 1).val, by have : (i 1).val < 2048 := (i 1).isLt; omega⟩)) * p (ix3 1 0 (i 1)))
    + mod (ix3 1 (crow (i 0)) ⟨6144 + (i 1).val, by have : (i 1).val < 2048 := (i 1).isLt; omega⟩)

def res8 (c : Dev nD) : FVec Ideal S8192x2048 .f32 :=
  xres (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

def res9 (c : Dev nD) : FVec Ideal S8192x2048 .bf16 :=
  hres (res8 m c) (m ((c.tc : Thread nD τ).loc main_arg4)) (m ((c.tc : Thread nD τ).loc main_arg6))

theorem prow_lt (t : Fin cfg0.N) : prow t.val < 8 := by
  have := lt_16 t
  unfold prow
  split <;> omega

theorem crow_eq (t : Fin cfg0.N) (r : Fin 512) (h : 512 * t.val + r.val < 8192) : crow ⟨512 * t.val + r, h⟩ = ⟨prow t.val, prow_lt t⟩ := by
  have := lt_16 t
  unfold crow prow
  apply Fin.ext
  by_cases h1 : t.val < 8
  · have h2 : 512 * t.val + r.val < 4096 := by omega
    simp [h1, h2]
  · have h2 : ¬512 * t.val + r.val < 4096 := by omega
    simp only [h1, h2, dite_false, if_false]
    omega

theorem pick_eq (c : Dev nD) (t : Fin cfg0.N) (r : Fin 512) (k : Fin 2048) (h : 512 * t.val + r.val < 8192) :
    pick (arg t) (iblk m c 0 t) (iblk m c 1 t) (ix2 r k)
      = both (m ((c.tc : Thread nD τ).loc main_arg0)) (m ((c.tc : Thread nD τ).loc main_arg1)) ⟨512 * t.val + r, h⟩ k := by
  have := lt_16 t
  unfold pick arg Scalar.select both
  rw [sel]
  by_cases h1 : t.val < 8
  · have h2 : 512 * t.val + r.val < 4096 := by omega
    have h3 : min t.val 7 = t.val := by omega
    simp only [h1, h2, if_true, dite_true]
    refine (blk0 m c t r k).trans ?_
    exact congrArg (fun z => m ((c.tc : Thread nD τ).loc main_arg0) (ix2 z k)) (Fin.ext (by show 512 * min t.val 7 + r.val = 512 * t.val + r.val; rw [h3]))
  · have h2 : ¬512 * t.val + r.val < 4096 := by omega
    simp only [h1, h2, if_false, dite_false]
    refine (blk1 m c t r k).trans ?_
    exact congrArg (fun z => m ((c.tc : Thread nD τ).loc main_arg1) (ix2 z k)) (Fin.ext (by show 512 * (t.val - 8) + r.val = 512 * t.val + r.val - 4096; omega))

theorem out8_eq (c : Dev nD) (t : Fin cfg0.N) (r : Fin 512) (l : Fin 2048) :
    (outsAt0 m c t).1 (ix2 r l) = res8 m c (ix2 ⟨512 * t.val + r, by have := lt_16 t; omega⟩ l) := by
  have hlt : 512 * t.val + r.val < 8192 := by have := lt_16 t; omega
  rw [out8]
  simp only [ix2_0, ix2_1]
  unfold xrow
  rw [gate_apply, gate, ld_mod _ _ _ _ _ (off1 t) l (prow_lt t) (by omega), blk4, blk5, blk3, ← crow_eq t r hlt]
  simp only [pick_eq m c t r _ hlt, blk2]
  rfl

theorem out9_eq (c : Dev nD) (t : Fin cfg0.N) (r : Fin 512) (l : Fin 2048) :
    (outsAt0 m c t).2 (ix2 r l) = res9 m c (ix2 ⟨512 * t.val + r, by have := lt_16 t; omega⟩ l) := by
  have hlt : 512 * t.val + r.val < 8192 := by have := lt_16 t; omega
  rw [out9]
  simp only [ix2_0, ix2_1]
  have hx : (fun l => xrow (pick (arg t) (iblk m c 0 t) (iblk m c 1 t)) (iblk m c 2 t) (iblk m c 3 t) (k0_pay1 (gate m c t) (iblk m c 5 t)) r l)
      = fun l => res8 m c (ix2 ⟨512 * t.val + r, hlt⟩ l) := by
    funext l'
    exact (out8 m c t (ix2 r l')).symm.trans (out8_eq m c t r l')
  rw [hx]
  unfold hrow
  rw [shift_apply, scale_apply, shift, scale, ld_mod _ _ _ _ _ (off2 t) l (prow_lt t) (by omega),
    ld_mod _ _ _ _ _ (off3 t) l (prow_lt t) (by omega), blk6, blk6, blk7, ← crow_eq t r hlt]
  rfl

theorem final8 (c : Dev nD) : (dats m 0 c).arrAt 8 cfg0.N = res8 m c := by
  refine (dats m 0 c).arrAt_eq_of_covers 8 _ (by decide +kernel) fun t _ y => ?_
  blk_simp
  rw [after0_8]
  obtain ⟨r, l, rfl⟩ : ∃ (r : Fin 512) (l : Fin 2048), y = ix2 r l := ⟨y 0, y 1, by idx_ext⟩
  refine (out8_eq m c t r l).trans ?_
  blk_ext [idx t]

theorem final9 (c : Dev nD) : (dats m 0 c).arrAt 9 cfg0.N = res9 m c := by
  refine (dats m 0 c).arrAt_eq_of_covers 9 _ (by decide +kernel) fun t _ y => ?_
  blk_simp
  rw [after0_9]
  obtain ⟨r, l, rfl⟩ : ∃ (r : Fin 512) (l : Fin 2048), y = ix2 r l := ⟨y 0, y 1, by idx_ext⟩
  refine (out9_eq m c t r l).trans ?_
  blk_ext [idx t]

end Cert.Kernel4Ideal.Out
-- ==== Proof.Call4.Claim.lean ====
/- The output product with its residual step: the reference's results, and the claim. -/
module

public import proofs.«01_k».proof.Defs
public import proofs.«01_k».proof.Proof.Gen.Reference4Ideal.Read
public import proofs.«01_k».proof.Proof.Gen.Reference4Ideal.Run
public import proofs.«01_k».proof.Proof.Call4.Val
public import Idealize.ShloMosaic.Lib.Claim

@[expose] public section

set_option maxRecDepth 16384

noncomputable section

namespace Cert.Reference4Ideal.Out

open Cert.Reference4Ideal Cert.Reference4Ideal.Gen Cert.Reference4Ideal.Read Idealize.ShloMosaic Idealize.ShloMosaic.TcCoe Idealize.ShloMosaic.Tactic Idealize.SL.Sem
open Cert.Resid Cert.Kernel4Ideal.Out

variable (oc ol : BufTy.Contents (Elt Ideal) ⟨S4096x2048, .bf16⟩) (w : BufTy.Contents (Elt Ideal) ⟨S1x2048x2048, .bf16⟩)
  (x : BufTy.Contents (Elt Ideal) ⟨S8192x2048, .f32⟩) (mod : BufTy.Contents (Elt Ideal) ⟨S4x8x12288, .f32⟩)
  (g p : BufTy.Contents (Elt Ideal) ⟨S4x1x2048, .f32⟩)

theorem cond_ctx (r : Fin 4096) (l : Fin 12288) : val_main_v13 (F := Ideal) mod (ix2 ⟨r, by omega⟩ l) = mod (ix3 1 4 l) := by
  pointwise [val_main_v13, val_main_v5, val_main_v6, val_main_v7, val_main_v8, val_main_v9, val_main_v10, val_main_v11, val_main_v12]

theorem half (p : Fin 4096) (l : Fin 12288) : val_main_v13 (F := Ideal) mod (ix2 ⟨4096 + p, by omega⟩ l) = val_main_v12 (F := Ideal) mod (ix2 p l) := by
  pointwise [val_main_v13]

theorem spread (b : Fin 4) (q : Fin 1024) (l : Fin 12288) : val_main_v12 (F := Ideal) mod (ix2 ⟨b * 1024 + q, by omega⟩ l) = val_main_v11 (F := Ideal) mod (ix3 b q l) := by
  pointwise [val_main_v12]

theorem cond_lat (b : Fin 4) (q : Fin 1024) (l : Fin 12288) :
    val_main_v13 (F := Ideal) mod (ix2 ⟨4096 + (b * 1024 + q), by omega⟩ l) = mod (ix3 1 ⟨b, by omega⟩ l) := by
  refine (half mod ⟨b * 1024 + q, by omega⟩ l).trans ((spread mod b q l).trans ?_)
  pointwise [val_main_v8, val_main_v9, val_main_v10, val_main_v11]

theorem cond (r : Fin 8192) (l : Fin 12288) : val_main_v13 (F := Ideal) mod (ix2 r l) = mod (ix3 1 (crow r) l) := by
  by_cases h : r.val < 4096
  · have hc : crow r = 4 := by unfold crow; simp [h]
    rw [hc]
    exact cond_ctx mod ⟨r, h⟩ l
  · have hb : (r.val - 4096) / 1024 < 4 := by omega
    have hq : (r.val - 4096) % 1024 < 1024 := by omega
    have hc : crow r = ⟨(r.val - 4096) / 1024, by omega⟩ := by unfold crow; simp [h]
    have hr : r = ⟨4096 + ((r.val - 4096) / 1024 * 1024 + (r.val - 4096) % 1024), by omega⟩ := Fin.ext (by show r.val = 4096 + ((r.val - 4096) / 1024 * 1024 + (r.val - 4096) % 1024); omega)
    rw [hc]
    refine (congrArg (fun z => val_main_v13 (F := Ideal) mod (ix2 z l)) hr).trans ?_
    exact cond_lat mod ⟨(r.val - 4096) / 1024, hb⟩ ⟨(r.val - 4096) % 1024, hq⟩ l

theorem gate (r : Fin 8192) (l : Fin 2048) : val_main_v14 (F := Ideal) mod (ix2 r l) = mod (ix3 1 (crow r) ⟨4096 + l, by omega⟩) :=
  Eq.trans (b := val_main_v13 (F := Ideal) mod (ix2 r ⟨4096 + l, by omega⟩)) (by pointwise [val_main_v14]) (cond mod r _)

theorem shift (r : Fin 8192) (l : Fin 2048) : val_main_v15 (F := Ideal) mod (ix2 r l) = mod (ix3 1 (crow r) ⟨6144 + l, by omega⟩) :=
  Eq.trans (b := val_main_v13 (F := Ideal) mod (ix2 r ⟨6144 + l, by omega⟩)) (by pointwise [val_main_v15]) (cond mod r _)

theorem scale (r : Fin 8192) (l : Fin 2048) : val_main_v16 (F := Ideal) mod (ix2 r l) = mod (ix3 1 (crow r) ⟨8192 + l, by omega⟩) :=
  Eq.trans (b := val_main_v13 (F := Ideal) mod (ix2 r ⟨8192 + l, by omega⟩)) (by pointwise [val_main_v16]) (cond mod r _)

theorem rows_ctx (r : Fin 4096) (k : Fin 2048) : val_main_v0 (F := Ideal) oc ol (ix2 ⟨r, by omega⟩ k) = oc (ix2 r k) := by
  pointwise [val_main_v0]

theorem rows_lat (r : Fin 4096) (k : Fin 2048) : val_main_v0 (F := Ideal) oc ol (ix2 ⟨4096 + r, by omega⟩ k) = ol (ix2 r k) := by
  pointwise [val_main_v0]

theorem rows (r : Fin 8192) (k : Fin 2048) : val_main_v0 (F := Ideal) oc ol (ix2 r k) = both oc ol r k := by
  unfold both
  by_cases h : r.val < 4096
  · rw [dif_pos h]
    exact rows_ctx oc ol ⟨r, h⟩ k
  · rw [dif_neg h]
    have hr : r = ⟨4096 + (r.val - 4096), by omega⟩ := Fin.ext (by show r.val = 4096 + (r.val - 4096); omega)
    refine (congrArg (fun z => val_main_v0 (F := Ideal) oc ol (ix2 z k)) hr).trans ?_
    exact rows_lat oc ol ⟨r.val - 4096, by omega⟩ k

theorem dot (r : Fin 8192) (l : Fin 2048) : val_main_v4 (F := Ideal) oc ol w (ix2 r l) = ∑ k : Fin 2048, both oc ol r k * w (ix3 0 k l) := by
  simp only [← rows]
  pointwise [val_main_v4, val_main_v1, val_main_v2, val_main_v3]

theorem x_apply (r : Fin 8192) (l : Fin 2048) : val_main_v32 (F := Ideal) oc ol w x mod g (ix2 r l)
    = x (ix2 r l) + val_main_v14 (F := Ideal) mod (ix2 r l) * (nrm (fun l => val_main_v4 (F := Ideal) oc ol w (ix2 r l)) l * g (ix3 1 0 l)) := by
  unfold nrm
  pointwise [val_main_v32, val_main_v31, val_main_v30, val_main_v29, val_main_v28, val_main_v27, val_main_v26, val_main_v25, val_main_v24, val_main_v23, val_main_v22, val_main_v21, val_main_v20, val_main_v19, val_main_v18, val_main_v17, val_main_cst, val_main_cst_0, val_main_cst_1]

theorem h_apply (r : Fin 8192) (l : Fin 2048) : val_main_v51 (F := Ideal) oc ol w x mod g p (ix2 r l)
    = nrm (fun l => val_main_v32 (F := Ideal) oc ol w x mod g (ix2 r l)) l * p (ix3 1 0 l) * (Ideal.ofBits .f32 0x3F800000#32 + val_main_v16 (F := Ideal) mod (ix2 r l))
      + val_main_v15 (F := Ideal) mod (ix2 r l) := by
  unfold nrm
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_cst_2,
    val_main_cst_3, val_main_cst_4, val_main_cst_5]

theorem x_eq : val_main_v32 (F := Ideal) oc ol w x mod g = xres oc ol w x mod g := by
  funext i
  obtain ⟨r, l, rfl⟩ : ∃ (r : Fin 8192) (l : Fin 2048), i = ix2 r l := ⟨i 0, i 1, by idx_ext⟩
  rw [x_apply, gate, mul_left_comm]
  simp only [dot]
  rfl

theorem h_eq : val_main_v51 (F := Ideal) oc ol w x mod g p = hres (xres oc ol w x mod g) mod p := by
  funext i
  obtain ⟨r, l, rfl⟩ : ∃ (r : Fin 8192) (l : Fin 2048), i = ix2 r l := ⟨i 0, i 1, by idx_ext⟩
  rw [h_apply, scale, shift, x_eq, mul_assoc, mul_comm (p _)]
  rfl

end Cert.Reference4Ideal.Out

namespace Cert.Call4

open Idealize.ShloMosaic Idealize.SL.Sem Idealize.ShloMosaic.Tactic

/-- The output product with its residual step: kernel and reference agree at every element. -/
theorem algebraic :
    letI := Cert.Kernel4Ideal.Gen.facts; letI := Cert.Reference4Ideal.Gen.facts
    algebraic_Kernel4Ideal_Reference4Ideal := by
  pair_intro
  · run_from Cert.Kernel4Ideal.Gen.run_main m g
  · run_from Cert.Reference4Ideal.Value.run m' g'
    · obtain ⟨e0, e1, e2, e3, e4, e5, e6⟩ := hagree c
      refine Eq.trans ?_ (Cert.Kernel4Ideal.Out.final8 m c).symm
      unfold Cert.Kernel4Ideal.Out.res8
      rw [← e0, ← e1, ← e2, ← e3, ← e4, ← e5]
      exact (Cert.Reference4Ideal.Read.val_main_v32_eq ..).trans (Cert.Reference4Ideal.Out.x_eq _ _ _ _ _ _)
    · obtain ⟨e0, e1, e2, e3, e4, e5, e6⟩ := hagree c
      refine Eq.trans ?_ (Cert.Kernel4Ideal.Out.final9 m c).symm
      unfold Cert.Kernel4Ideal.Out.res9 Cert.Kernel4Ideal.Out.res8
      rw [← e0, ← e1, ← e2, ← e3, ← e4, ← e5, ← e6]
      exact (Cert.Reference4Ideal.Read.val_main_v51_eq ..).trans (Cert.Reference4Ideal.Out.h_eq _ _ _ _ _ _ _)

/-- The reference leaves its arguments as they were and every counter at zero. -/
theorem frame : letI := Cert.Reference4Ideal.Gen.facts; quiescent_Reference4Ideal := by
  intro m g _
  run_from Cert.Reference4Ideal.Value.run m g
  · intro c; simp
  · exact sem_eq_zero_of_no_sems (by decide) r.2

end Cert.Call4

end
-- ==== Proof.Call5.Spec.lean ====
/- What the recurrent layer's projections apply to their products. -/
module

public import Idealize.ShloMosaic.PureOps.Ideal
public import Idealize.ShloMosaic.Lib.Pointwise

@[expose] public section

noncomputable section

namespace Cert.Recur

open Idealize.ShloMosaic

/-- The logistic function as a quotient. -/
def logis (z : EReal) : EReal := Ideal.div (Ideal.ofBits .f32 0x3F800000#32) (Ideal.ofBits .f32 0x3F800000#32 + Ideal.exp (0 - z))

/-- The largest of four entries. -/
def mx (v : Fin 4 → Ideal .f32) : EReal := Finset.univ.fold max (Ideal.ofBits .f32 0xFF800000#32) v

/-- The softmax of four entries. -/
def share (v : Fin 4 → Ideal .f32) (j : Fin 4) : EReal :=
  Ideal.div (Ideal.exp (v j - mx v)) (∑ i : Fin 4, Ideal.exp (v i - mx v))

/-- The lower bound of the second layer: the first two shares less the first. -/
def low (v : Fin 4 → Ideal .f32) : EReal := ∑ j : Fin 2, share v ⟨j, by omega⟩ - share v 0

/-- The forget gate of a product. -/
def forget (v : Fin 4 → Ideal .f32) (z : EReal) : EReal :=
  low v + (Ideal.ofBits .f32 0x3F800000#32 - low v) * logis z

/-- `z σ(z)`. -/
def silu (z : EReal) : EReal := z * Ideal.div 1 (1 + Ideal.exp (0 - z))

end Cert.Recur

end
-- ==== Proof.Call5.Val.lean ====
/- The query product of the recurrent layer: the kernel's result at every element. -/
module

public import proofs.«01_k».proof.Proof.Gen.Kernel5Ideal.Value
public import proofs.«01_k».proof.Proof.Call5.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Proj

open Cert.Kernel5Ideal Cert.Kernel5Ideal.Gen Idealize.ShloMosaic Idealize.ShloMosaic.TcCoe Idealize.ShloMosaic.Tactic Idealize.SL.Sem
open Idealize.ShloMosaic.Pipeline (Dat)
open Cert.Recur

variable (m : (ℓ : Loc nD τ sig) → Buf (Elt Ideal) ℓ)

theorem slab0_apply (x : Vec Ideal S256x2048 .bf16) (w : Vec Ideal S2048x1024 .bf16) (r : Fin 256) (l : Fin 1024) :
    (k0_pay8 x w) (ix2 r l) = silu (∑ k : Fin 2048, x (ix2 r k) * w (ix2 k l)) := by
  unfold silu
  pointwise [k0_pay8]

theorem slab1_apply (x : Vec Ideal S256x2048 .bf16) (w : Vec Ideal S2048x1024 .bf16) (r : Fin 256) (l : Fin 1024) :
    (k0_pay1 (k0_pay5 x w) (k0_pay9 x w) (Scalar.ofBits .f32 0x3F800000#32)) (ix2 r l) = silu (∑ k : Fin 2048, x (ix2 r k) * w (ix2 k l)) := by
  unfold silu
  pointwise [k0_pay1, k0_pay5, k0_pay9]

theorem slab2_apply (x : Vec Ideal S256x2048 .bf16) (w : Vec Ideal S2048x1024 .bf16) (r : Fin 256) (l : Fin 1024) :
    (k0_pay2 (k0_pay6 x w)) (ix2 r l) = silu (∑ k : Fin 2048, x (ix2 r k) * w (ix2 k l)) := by
  unfold silu
  pointwise [k0_pay2, k0_pay6]

theorem slab3_apply (x : Vec Ideal S256x2048 .bf16) (w : Vec Ideal S2048x1024 .bf16) (r : Fin 256) (l : Fin 1024) :
    (k0_pay3 (k0_pay7 x w)) (ix2 r l) = silu (∑ k : Fin 2048, x (ix2 r k) * w (ix2 k l)) := by
  unfold silu
  pointwise [k0_pay3, k0_pay7]

theorem cast_apply (v : Vec Ideal S1x2048x1024 .f32) (k : Fin 2048) (l : Fin 1024) : k0_pay4 v (ix2 k l) = v (ix3 0 k l) := by
  pointwise [k0_pay4]

theorem ld_rows (x : Vec Ideal S1024x2048 .bf16) (o : ℕ) (h : ∀ a : Fin 2, ![o, 0] a + ![256, 2048] a ≤ S1024x2048.size a) (r : Fin 256) (k : Fin 2048) (ho : o + 256 ≤ 1024) :
    View.ld x (Rect.unit ![o, 0] ![256, 2048] h) (ix2 r k) = x (ix2 ⟨o + r, by omega⟩ k) := by
  unfold View.ld
  blk_ext
  all_goals simp [Rect.idx_unit_val]

/-- Row `r`, lane `l` of a point's block from its rows and the weight tile. -/
def blockOut (x : Vec Ideal S1024x2048 .bf16) (w : Vec Ideal S2048x1024 .bf16) (r l : Fin 1024) : EReal :=
  silu (∑ k : Fin 2048, x (ix2 r k) * w (ix2 k l))

theorem idx : ∀ t : Fin cfg0.N,
    win0_0.index t = ![t.val % 8, 0] ∧ win0_1.index t = ![0, 0, t.val / 8] ∧ win0_2.index t = ![t.val % 8, t.val / 8] :=
  (by decide +kernel : ∀ t : Fin grid0.N, _)

theorem lt_16 (t : Fin cfg0.N) : t.val < 16 := lt_of_lt_of_eq t.isLt N_0

theorem blk0 (c : Dev nD) (t : Fin cfg0.N) (r : Fin 1024) (k : Fin 2048) :
    iblk m c 0 t (ix2 r k) = m ((c.tc : Thread nD τ).loc main_arg0) (ix2 ⟨1024 * (t.val % 8) + r, by omega⟩ k) := by
  blk_point [iblk, V, idx t]

theorem blk1 (c : Dev nD) (t : Fin cfg0.N) (k : Fin 2048) (l : Fin 1024) :
    iblk m c 1 t (ix3 0 k l) = m ((c.tc : Thread nD τ).loc main_arg1) (ix3 0 k ⟨1024 * (t.val / 8) + l, by have := lt_16 t; omega⟩) := by
  blk_point [iblk, V, idx t]

/-- The weight tile of column block `j`. -/
def tile (w : Vec Ideal S1x2048x2048 .f32) (j : Fin 2) : Vec Ideal S2048x1024 .bf16 := fun i => w (ix3 0 (i 0) ⟨1024 * j + (i 1).val, by have : (i 1).val < 1024 := (i 1).isLt; omega⟩)

theorem sA (c : Dev nD) (t : Fin cfg0.N) (h0 : t.val % 8 = 0) : (outsAt0 m c t.val t.isLt).2 = k0_pay4 (iblk m c 1 t) := by
  rw [outsAt0_A m c t h0]
  funext y
  frame_out

theorem sB (c : Dev nD) (t : Fin cfg0.N) (h0 : ¬t.val % 8 = 0) (hl : t.val - 1 < cfg0.N) :
    (outsAt0 m c t.val t.isLt).2 = (outsAt0 m c (t.val - 1) hl).2 := by
  rw [outsAt0_B m c t h0]
  rfl

/-- The scratch holds the point's weight tile. -/
theorem scratch (c : Dev nD) : ∀ (n : ℕ) (hn : n < cfg0.N),
    (outsAt0 m c n hn).2 = tile (m ((c.tc : Thread nD τ).loc main_arg1)) ⟨n / 8, by have : n < 16 := lt_16 ⟨n, hn⟩; omega⟩ := by
  intro n
  induction n with
  | zero =>
    intro hn
    refine (sA m c ⟨0, hn⟩ rfl).trans ?_
    funext y
    obtain ⟨k, l, rfl⟩ : ∃ (k : Fin 2048) (l : Fin 1024), y = ix2 k l := ⟨y 0, y 1, by idx_ext⟩
    rw [cast_apply, blk1]
    rfl
  | succ n ih =>
    intro hn
    by_cases h0 : (n + 1) % 8 = 0
    · refine (sA m c ⟨n + 1, hn⟩ h0).trans ?_
      funext y
      obtain ⟨k, l, rfl⟩ : ∃ (k : Fin 2048) (l : Fin 1024), y = ix2 k l := ⟨y 0, y 1, by idx_ext⟩
      rw [cast_apply, blk1]
      rfl
    · have hq : (n + 1) / 8 = n / 8 := by omega
      simp only [hq]
      exact (sB m c ⟨n + 1, hn⟩ h0 (Nat.lt_of_succ_lt hn)).trans (ih (Nat.lt_of_succ_lt hn))

theorem piece0 (x : Vec Ideal S1024x2048 .bf16) (w : Vec Ideal S2048x1024 .bf16) (h : ∀ a : Fin 2, ![0, 0] a + ![256, 2048] a ≤ S1024x2048.size a)
    (y : S256x1024.Idx) (r l : Fin 1024) (hr : r.val = (y 0).val) (hl : l.val = (y 1).val) :
    (k0_pay8 (View.ld x (Rect.unit ![0, 0] ![256, 2048] h)) w) y = blockOut x w r l := by
  obtain ⟨r', l', rfl⟩ : ∃ (r' : Fin 256) (l' : Fin 1024), y = ix2 r' l' := ⟨y 0, y 1, by idx_ext⟩
  obtain rfl : l = l' := Fin.ext hl
  have hlt : 0 + r'.val < 1024 := by omega
  obtain rfl : r = ⟨0 + r'.val, hlt⟩ := Fin.ext (hr.trans (Nat.zero_add _).symm)
  refine (slab0_apply _ _ _ _).trans ?_
  simp only [ld_rows x 0 h _ _ (by omega)]
  rfl

theorem piece1 (x : Vec Ideal S1024x2048 .bf16) (w : Vec Ideal S2048x1024 .bf16) (h : ∀ a : Fin 2, ![256, 0] a + ![256, 2048] a ≤ S1024x2048.size a)
    (y : S256x1024.Idx) (r l : Fin 1024) (hr : r.val = 256 + (y 0).val) (hl : l.val = (y 1).val) :
    (k0_pay1 (k0_pay5 (View.ld x (Rect.unit ![256, 0] ![256, 2048] h)) w) (k0_pay9 (View.ld x (Rect.unit ![256, 0] ![256, 2048] h)) w) (Scalar.ofBits .f32 0x3F800000#32)) y = blockOut x w r l := by
  obtain ⟨r', l', rfl⟩ : ∃ (r' : Fin 256) (l' : Fin 1024), y = ix2 r' l' := ⟨y 0, y 1, by idx_ext⟩
  obtain rfl : l = l' := Fin.ext hl
  have hlt : 256 + r'.val < 1024 := by omega
  obtain rfl : r = ⟨256 + r'.val, hlt⟩ := Fin.ext hr
  refine (slab1_apply _ _ _ _).trans ?_
  simp only [ld_rows x 256 h _ _ (by omega)]
  rfl

theorem piece2 (x : Vec Ideal S1024x2048 .bf16) (w : Vec Ideal S2048x1024 .bf16) (h : ∀ a : Fin 2, ![512, 0] a + ![256, 2048] a ≤ S1024x2048.size a)
    (y : S256x1024.Idx) (r l : Fin 1024) (hr : r.val = 512 + (y 0).val) (hl : l.val = (y 1).val) :
    (k0_pay2 (k0_pay6 (View.ld x (Rect.unit ![512, 0] ![256, 2048] h)) w)) y = blockOut x w r l := by
  obtain ⟨r', l', rfl⟩ : ∃ (r' : Fin 256) (l' : Fin 1024), y = ix2 r' l' := ⟨y 0, y 1, by idx_ext⟩
  obtain rfl : l = l' := Fin.ext hl
  have hlt : 512 + r'.val < 1024 := by omega
  obtain rfl : r = ⟨512 + r'.val, hlt⟩ := Fin.ext hr
  refine (slab2_apply _ _ _ _).trans ?_
  simp only [ld_rows x 512 h _ _ (by omega)]
  rfl

theorem piece3 (x : Vec Ideal S1024x2048 .bf16) (w : Vec Ideal S2048x1024 .bf16) (h : ∀ a : Fin 2, ![768, 0] a + ![256, 2048] a ≤ S1024x2048.size a)
    (y : S256x1024.Idx) (r l : Fin 1024) (hr : r.val = 768 + (y 0).val) (hl : l.val = (y 1).val) :
    (k0_pay3 (k0_pay7 (View.ld x (Rect.unit ![768, 0] ![256, 2048] h)) w)) y = blockOut x w r l := by
  obtain ⟨r', l', rfl⟩ : ∃ (r' : Fin 256) (l' : Fin 1024), y = ix2 r' l' := ⟨y 0, y 1, by idx_ext⟩
  obtain rfl : l = l' := Fin.ext hl
  have hlt : 768 + r'.val < 1024 := by omega
  obtain rfl : r = ⟨768 + r'.val, hlt⟩ := Fin.ext hr
  refine (slab3_apply _ _ _ _).trans ?_
  simp only [ld_rows x 768 h _ _ (by omega)]
  rfl

theorem outA (c : Dev nD) (t : Fin cfg0.N) (h0 : t.val % 8 = 0) (y : S1024x1024.Idx) :
    (outsAt0 m c t.val t.isLt).1 y = blockOut (iblk m c 0 t) (k0_pay4 (iblk m c 1 t)) (y 0) (y 1) := by
  rw [outsAt0_A m c t h0]
  frame_out
  canon_tiles x h
  case piece0 =>
    exact piece3 _ _ _ x _ _ h0 h1
  case piece1 =>
    exact piece2 _ _ _ x _ _ h0 h1
  case piece2 =>
    exact piece1 _ _ _ x _ _ h0 h1
  case piece3 =>
    exact piece0 _ _ _ x _ _ h0 h1

theorem outB (c : Dev nD) (t : Fin cfg0.N) (h0 : ¬t.val % 8 = 0) (hl : t.val - 1 < cfg0.N) (y : S1024x1024.Idx) :
    (outsAt0 m c t.val t.isLt).1 y = blockOut (iblk m c 0 t) (outsAt0 m c (t.val - 1) hl).2 (y 0) (y 1) := by
  rw [outsAt0_B m c t h0]
  frame_out
  canon_tiles x h
  case piece0 =>
    rw [read_unread_whole]
    exact piece3 _ _ _ x _ _ h0 h1
  case piece1 =>
    rw [read_unread_whole]
    exact piece2 _ _ _ x _ _ h0 h1
  case piece2 =>
    rw [read_unread_whole]
    exact piece1 _ _ _ x _ _ h0 h1
  case piece3 =>
    rw [read_unread_whole]
    exact piece0 _ _ _ x _ _ h0 h1

/-- The result from the arguments. -/
def proj (h : Vec Ideal S8192x2048 .bf16) (w : Vec Ideal S1x2048x2048 .f32) : FVec Ideal S8192x2048 .f32 := fun i =>
  silu (∑ k : Fin 2048, h (ix2 (i 0) k) * w (ix3 0 k (i 1)))

/-- The result array over the arguments. -/
def res (c : Dev nD) : FVec Ideal S8192x2048 .f32 :=
  proj (m ((c.tc : Thread nD τ).loc main_arg0)) (m ((c.tc : Thread nD τ).loc main_arg1))

theorem out_eq (c : Dev nD) (t : Fin cfg0.N) (r l : Fin 1024) :
    (outsAt0 m c t.val t.isLt).1 (ix2 r l) = res m c (ix2 ⟨1024 * (t.val % 8) + r, by omega⟩ ⟨1024 * (t.val / 8) + l, by have := lt_16 t; omega⟩) := by
  have hs := scratch m c t.val t.isLt
  have key : (outsAt0 m c t.val t.isLt).1 (ix2 r l) = blockOut (iblk m c 0 t) (outsAt0 m c t.val t.isLt).2 r l := by
    by_cases h0 : t.val % 8 = 0
    · rw [outA m c t h0, sA m c t h0]
      rfl
    · have hl : t.val - 1 < cfg0.N := lt_of_le_of_lt (Nat.sub_le _ _) t.isLt
      rw [outB m c t h0 hl, sB m c t h0 hl]
      rfl
  rw [key, hs]
  unfold blockOut
  simp only [blk0]
  rfl

theorem final (c : Dev nD) : (dats m 0 c).arrAt 2 cfg0.N = res m c := by
  refine (dats m 0 c).arrAt_eq_of_covers 2 _ (by decide +kernel) fun t _ y => ?_
  blk_simp
  rw [after0_2]
  obtain ⟨r, l, rfl⟩ : ∃ (r l : Fin 1024), y = ix2 r l := ⟨y 0, y 1, by idx_ext⟩
  refine (out_eq m c t r l).trans ?_
  blk_ext [idx t]

end Cert.Kernel5Ideal.Proj
-- ==== Proof.Call5.Claim.lean ====
/- The query product of the recurrent layer: the reference's result, and the claim. -/
module

public import proofs.«01_k».proof.Defs
public import proofs.«01_k».proof.Proof.Gen.Reference5Ideal.Read
public import proofs.«01_k».proof.Proof.Gen.Reference5Ideal.Run
public import proofs.«01_k».proof.Proof.Call5.Val
public import Idealize.ShloMosaic.Lib.Claim

@[expose] public section

set_option maxRecDepth 16384

noncomputable section

namespace Cert.Reference5Ideal.Proj

open Cert.Reference5Ideal Cert.Reference5Ideal.Gen Cert.Reference5Ideal.Read Idealize.ShloMosaic Idealize.ShloMosaic.TcCoe Idealize.ShloMosaic.Tactic Idealize.SL.Sem
open Cert.Recur

variable (h : BufTy.Contents (Elt Ideal) ⟨S8192x2048, .bf16⟩) (w : BufTy.Contents (Elt Ideal) ⟨S1x2048x2048, .f32⟩)

theorem dot_apply (r : Fin 8192) (l : Fin 2048) : val_main_v2 (F := Ideal) h w (ix2 r l) = ∑ k : Fin 2048, h (ix2 r k) * w (ix3 0 k l) := by
  pointwise [val_main_v2, val_main_v0, val_main_v1]

theorem ref_eq : val_main_v3 (F := Ideal) h w = Cert.Kernel5Ideal.Proj.proj h w := by
  funext i
  obtain ⟨r, l, rfl⟩ : ∃ (r : Fin 8192) (l : Fin 2048), i = ix2 r l := ⟨i 0, i 1, by idx_ext⟩
  unfold Cert.Kernel5Ideal.Proj.proj
  simp only [ix2_0, ix2_1]
  rw [← dot_apply]
  rw [val_main_v3_apply, val_main_call0_v5_apply, val_main_call0_v4_apply, val_main_call0_cst_0_apply,
    val_main_call0_v3_apply, val_main_call0_v2_apply, val_main_call0_cst_apply, val_main_call0_v1_apply, val_main_call0_v0_apply]
  generalize val_main_v2 (F := Ideal) h w (ix2 r l) = g
  have h1 : (FloatOps.ofBits .f32 0x3F800000#32 : Ideal .f32) = (1 : EReal) := by
    show Ideal.ofBits .f32 0x3F800000#32 = (1 : EReal)
    simp [Ideal.ofBits, Ideal.ieee, -EReal.coe_mul]
    norm_num
  rw [h1]
  show g * Ideal.div 1 (1 + Ideal.exp (-g)) = silu g
  unfold silu
  rw [zero_sub]

end Cert.Reference5Ideal.Proj

namespace Cert.Call5

open Idealize.ShloMosaic Idealize.SL.Sem Idealize.ShloMosaic.Tactic

/-- The query product: kernel and reference agree at every element. -/
theorem algebraic :
    letI := Cert.Kernel5Ideal.Gen.facts; letI := Cert.Reference5Ideal.Gen.facts
    algebraic_Kernel5Ideal_Reference5Ideal := by
  pair_intro
  · run_from Cert.Kernel5Ideal.Gen.run_main m g
  · run_from Cert.Reference5Ideal.Value.run m' g'
    rw [Cert.Reference5Ideal.Read.val_main_v3_eq]
    exact (Cert.Reference5Ideal.Proj.ref_eq _ _).trans (Cert.Kernel5Ideal.Proj.final m c).symm

/-- The reference leaves its arguments as they were and every counter at zero. -/
theorem frame : letI := Cert.Reference5Ideal.Gen.facts; quiescent_Reference5Ideal := by
  intro m g _
  run_from Cert.Reference5Ideal.Value.run m g
  · intro c; simp
  · exact sem_eq_zero_of_no_sems (by decide) r.2

end Cert.Call5

end
-- ==== Proof.Call6.Val.lean ====
/- The gate product of the recurrent layer: the kernel's result at every element. -/
module

public import proofs.«01_k».proof.Proof.Gen.Kernel6Ideal.Value
public import proofs.«01_k».proof.Proof.Call5.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel6Ideal.Proj

open Cert.Kernel6Ideal Cert.Kernel6Ideal.Gen Idealize.ShloMosaic Idealize.ShloMosaic.TcCoe Idealize.ShloMosaic.Tactic Idealize.SL.Sem
open Idealize.ShloMosaic.Pipeline (Dat)
open Cert.Recur

variable (m : (ℓ : Loc nD τ sig) → Buf (Elt Ideal) ℓ)

theorem slab0_apply (x : Vec Ideal S256x2048 .bf16) (w : Vec Ideal S2048x1024 .bf16) (r : Fin 256) (l : Fin 1024) :
    (k0_pay2 x w) (ix2 r l) = ∑ k : Fin 2048, x (ix2 r k) * w (ix2 k l) := by
  pointwise [k0_pay2]

theorem slab1_apply (x : Vec Ideal S256x2048 .bf16) (w : Vec Ideal S2048x1024 .bf16) (r : Fin 256) (l : Fin 1024) :
    (k0_pay3 x w) (ix2 r l) = ∑ k : Fin 2048, x (ix2 r k) * w (ix2 k l) := by
  pointwise [k0_pay3]

theorem slab2_apply (x : Vec Ideal S256x2048 .bf16) (w : Vec Ideal S2048x1024 .bf16) (r : Fin 256) (l : Fin 1024) :
    (k0_pay4 x w) (ix2 r l) = ∑ k : Fin 2048, x (ix2 r k) * w (ix2 k l) := by
  pointwise [k0_pay4]

theorem slab3_apply (x : Vec Ideal S256x2048 .bf16) (w : Vec Ideal S2048x1024 .bf16) (r : Fin 256) (l : Fin 1024) :
    (k0_pay5 x w) (ix2 r l) = ∑ k : Fin 2048, x (ix2 r k) * w (ix2 k l) := by
  pointwise [k0_pay5]

theorem cast_apply (v : Vec Ideal S1x2048x1024 .f32) (k : Fin 2048) (l : Fin 1024) : k0_pay1 v (ix2 k l) = v (ix3 0 k l) := by
  pointwise [k0_pay1]

theorem ld_rows (x : Vec Ideal S1024x2048 .bf16) (o : ℕ) (h : ∀ a : Fin 2, ![o, 0] a + ![256, 2048] a ≤ S1024x2048.size a) (r : Fin 256) (k : Fin 2048) (ho : o + 256 ≤ 1024) :
    View.ld x (Rect.unit ![o, 0] ![256, 2048] h) (ix2 r k) = x (ix2 ⟨o + r, by omega⟩ k) := by
  unfold View.ld
  blk_ext
  all_goals simp [Rect.idx_unit_val]

/-- Row `r`, lane `l` of a point's block from its rows and the weight tile. -/
def blockOut (x : Vec Ideal S1024x2048 .bf16) (w : Vec Ideal S2048x1024 .bf16) (r l : Fin 1024) : EReal :=
  ∑ k : Fin 2048, x (ix2 r k) * w (ix2 k l)

theorem idx : ∀ t : Fin cfg0.N,
    win0_0.index t = ![t.val % 8, 0] ∧ win0_1.index t = ![0, 0, t.val / 8] ∧ win0_2.index t = ![t.val % 8, t.val / 8] :=
  (by decide +kernel : ∀ t : Fin grid0.N, _)

theorem lt_16 (t : Fin cfg0.N) : t.val < 16 := lt_of_lt_of_eq t.isLt N_0

theorem blk0 (c : Dev nD) (t : Fin cfg0.N) (r : Fin 1024) (k : Fin 2048) :
    iblk m c 0 t (ix2 r k) = m ((c.tc : Thread nD τ).loc main_arg0) (ix2 ⟨1024 * (t.val % 8) + r, by omega⟩ k) := by
  blk_point [iblk, V, idx t]

theorem blk1 (c : Dev nD) (t : Fin cfg0.N) (k : Fin 2048) (l : Fin 1024) :
    iblk m c 1 t (ix3 0 k l) = m ((c.tc : Thread nD τ).loc main_arg1) (ix3 0 k ⟨1024 * (t.val / 8) + l, by have := lt_16 t; omega⟩) := by
  blk_point [iblk, V, idx t]

/-- The weight tile of column block `j`. -/
def tile (w : Vec Ideal S1x2048x2048 .f32) (j : Fin 2) : Vec Ideal S2048x1024 .bf16 := fun i => w (ix3 0 (i 0) ⟨1024 * j + (i 1).val, by have : (i 1).val < 1024 := (i 1).isLt; omega⟩)

theorem sA (c : Dev nD) (t : Fin cfg0.N) (h0 : t.val % 8 = 0) : (outsAt0 m c t.val t.isLt).2 = k0_pay1 (iblk m c 1 t) := by
  rw [outsAt0_A m c t h0]
  funext y
  frame_out

theorem sB (c : Dev nD) (t : Fin cfg0.N) (h0 : ¬t.val % 8 = 0) (hl : t.val - 1 < cfg0.N) :
    (outsAt0 m c t.val t.isLt).2 = (outsAt0 m c (t.val - 1) hl).2 := by
  rw [outsAt0_B m c t h0]
  rfl

/-- The scratch holds the point's weight tile. -/
theorem scratch (c : Dev nD) : ∀ (n : ℕ) (hn : n < cfg0.N),
    (outsAt0 m c n hn).2 = tile (m ((c.tc : Thread nD τ).loc main_arg1)) ⟨n / 8, by have : n < 16 := lt_16 ⟨n, hn⟩; omega⟩ := by
  intro n
  induction n with
  | zero =>
    intro hn
    refine (sA m c ⟨0, hn⟩ rfl).trans ?_
    funext y
    obtain ⟨k, l, rfl⟩ : ∃ (k : Fin 2048) (l : Fin 1024), y = ix2 k l := ⟨y 0, y 1, by idx_ext⟩
    rw [cast_apply, blk1]
    rfl
  | succ n ih =>
    intro hn
    by_cases h0 : (n + 1) % 8 = 0
    · refine (sA m c ⟨n + 1, hn⟩ h0).trans ?_
      funext y
      obtain ⟨k, l, rfl⟩ : ∃ (k : Fin 2048) (l : Fin 1024), y = ix2 k l := ⟨y 0, y 1, by idx_ext⟩
      rw [cast_apply, blk1]
      rfl
    · have hq : (n + 1) / 8 = n / 8 := by omega
      simp only [hq]
      exact (sB m c ⟨n + 1, hn⟩ h0 (Nat.lt_of_succ_lt hn)).trans (ih (Nat.lt_of_succ_lt hn))

theorem piece0 (x : Vec Ideal S1024x2048 .bf16) (w : Vec Ideal S2048x1024 .bf16) (h : ∀ a : Fin 2, ![0, 0] a + ![256, 2048] a ≤ S1024x2048.size a)
    (y : S256x1024.Idx) (r l : Fin 1024) (hr : r.val = (y 0).val) (hl : l.val = (y 1).val) :
    (k0_pay2 (View.ld x (Rect.unit ![0, 0] ![256, 2048] h)) w) y = blockOut x w r l := by
  obtain ⟨r', l', rfl⟩ : ∃ (r' : Fin 256) (l' : Fin 1024), y = ix2 r' l' := ⟨y 0, y 1, by idx_ext⟩
  obtain rfl : l = l' := Fin.ext hl
  have hlt : 0 + r'.val < 1024 := by omega
  obtain rfl : r = ⟨0 + r'.val, hlt⟩ := Fin.ext (hr.trans (Nat.zero_add _).symm)
  refine (slab0_apply _ _ _ _).trans ?_
  simp only [ld_rows x 0 h _ _ (by omega)]
  rfl

theorem piece1 (x : Vec Ideal S1024x2048 .bf16) (w : Vec Ideal S2048x1024 .bf16) (h : ∀ a : Fin 2, ![256, 0] a + ![256, 2048] a ≤ S1024x2048.size a)
    (y : S256x1024.Idx) (r l : Fin 1024) (hr : r.val = 256 + (y 0).val) (hl : l.val = (y 1).val) :
    (k0_pay3 (View.ld x (Rect.unit ![256, 0] ![256, 2048] h)) w) y = blockOut x w r l := by
  obtain ⟨r', l', rfl⟩ : ∃ (r' : Fin 256) (l' : Fin 1024), y = ix2 r' l' := ⟨y 0, y 1, by idx_ext⟩
  obtain rfl : l = l' := Fin.ext hl
  have hlt : 256 + r'.val < 1024 := by omega
  obtain rfl : r = ⟨256 + r'.val, hlt⟩ := Fin.ext hr
  refine (slab1_apply _ _ _ _).trans ?_
  simp only [ld_rows x 256 h _ _ (by omega)]
  rfl

theorem piece2 (x : Vec Ideal S1024x2048 .bf16) (w : Vec Ideal S2048x1024 .bf16) (h : ∀ a : Fin 2, ![512, 0] a + ![256, 2048] a ≤ S1024x2048.size a)
    (y : S256x1024.Idx) (r l : Fin 1024) (hr : r.val = 512 + (y 0).val) (hl : l.val = (y 1).val) :
    (k0_pay4 (View.ld x (Rect.unit ![512, 0] ![256, 2048] h)) w) y = blockOut x w r l := by
  obtain ⟨r', l', rfl⟩ : ∃ (r' : Fin 256) (l' : Fin 1024), y = ix2 r' l' := ⟨y 0, y 1, by idx_ext⟩
  obtain rfl : l = l' := Fin.ext hl
  have hlt : 512 + r'.val < 1024 := by omega
  obtain rfl : r = ⟨512 + r'.val, hlt⟩ := Fin.ext hr
  refine (slab2_apply _ _ _ _).trans ?_
  simp only [ld_rows x 512 h _ _ (by omega)]
  rfl

theorem piece3 (x : Vec Ideal S1024x2048 .bf16) (w : Vec Ideal S2048x1024 .bf16) (h : ∀ a : Fin 2, ![768, 0] a + ![256, 2048] a ≤ S1024x2048.size a)
    (y : S256x1024.Idx) (r l : Fin 1024) (hr : r.val = 768 + (y 0).val) (hl : l.val = (y 1).val) :
    (k0_pay5 (View.ld x (Rect.unit ![768, 0] ![256, 2048] h)) w) y = blockOut x w r l := by
  obtain ⟨r', l', rfl⟩ : ∃ (r' : Fin 256) (l' : Fin 1024), y = ix2 r' l' := ⟨y 0, y 1, by idx_ext⟩
  obtain rfl : l = l' := Fin.ext hl
  have hlt : 768 + r'.val < 1024 := by omega
  obtain rfl : r = ⟨768 + r'.val, hlt⟩ := Fin.ext hr
  refine (slab3_apply _ _ _ _).trans ?_
  simp only [ld_rows x 768 h _ _ (by omega)]
  rfl

theorem outA (c : Dev nD) (t : Fin cfg0.N) (h0 : t.val % 8 = 0) (y : S1024x1024.Idx) :
    (outsAt0 m c t.val t.isLt).1 y = blockOut (iblk m c 0 t) (k0_pay1 (iblk m c 1 t)) (y 0) (y 1) := by
  rw [outsAt0_A m c t h0]
  frame_out
  canon_tiles x h
  case piece0 =>
    exact piece3 _ _ _ x _ _ h0 h1
  case piece1 =>
    exact piece2 _ _ _ x _ _ h0 h1
  case piece2 =>
    exact piece1 _ _ _ x _ _ h0 h1
  case piece3 =>
    exact piece0 _ _ _ x _ _ h0 h1

theorem outB (c : Dev nD) (t : Fin cfg0.N) (h0 : ¬t.val % 8 = 0) (hl : t.val - 1 < cfg0.N) (y : S1024x1024.Idx) :
    (outsAt0 m c t.val t.isLt).1 y = blockOut (iblk m c 0 t) (outsAt0 m c (t.val - 1) hl).2 (y 0) (y 1) := by
  rw [outsAt0_B m c t h0]
  frame_out
  canon_tiles x h
  case piece0 =>
    rw [read_unread_whole]
    exact piece3 _ _ _ x _ _ h0 h1
  case piece1 =>
    rw [read_unread_whole]
    exact piece2 _ _ _ x _ _ h0 h1
  case piece2 =>
    rw [read_unread_whole]
    exact piece1 _ _ _ x _ _ h0 h1
  case piece3 =>
    rw [read_unread_whole]
    exact piece0 _ _ _ x _ _ h0 h1

/-- The result from the arguments. -/
def proj (h : Vec Ideal S8192x2048 .bf16) (w : Vec Ideal S1x2048x2048 .f32) : FVec Ideal S8192x2048 .f32 := fun i =>
  ∑ k : Fin 2048, h (ix2 (i 0) k) * w (ix3 0 k (i 1))

/-- The result array over the arguments. -/
def res (c : Dev nD) : FVec Ideal S8192x2048 .f32 :=
  proj (m ((c.tc : Thread nD τ).loc main_arg0)) (m ((c.tc : Thread nD τ).loc main_arg1))

theorem out_eq (c : Dev nD) (t : Fin cfg0.N) (r l : Fin 1024) :
    (outsAt0 m c t.val t.isLt).1 (ix2 r l) = res m c (ix2 ⟨1024 * (t.val % 8) + r, by omega⟩ ⟨1024 * (t.val / 8) + l, by have := lt_16 t; omega⟩) := by
  have hs := scratch m c t.val t.isLt
  have key : (outsAt0 m c t.val t.isLt).1 (ix2 r l) = blockOut (iblk m c 0 t) (outsAt0 m c t.val t.isLt).2 r l := by
    by_cases h0 : t.val % 8 = 0
    · rw [outA m c t h0, sA m c t h0]
      rfl
    · have hl : t.val - 1 < cfg0.N := lt_of_le_of_lt (Nat.sub_le _ _) t.isLt
      rw [outB m c t h0 hl, sB m c t h0 hl]
      rfl
  rw [key, hs]
  unfold blockOut
  simp only [blk0]
  rfl

theorem final (c : Dev nD) : (dats m 0 c).arrAt 2 cfg0.N = res m c := by
  refine (dats m 0 c).arrAt_eq_of_covers 2 _ (by decide +kernel) fun t _ y => ?_
  blk_simp
  rw [after0_2]
  obtain ⟨r, l, rfl⟩ : ∃ (r l : Fin 1024), y = ix2 r l := ⟨y 0, y 1, by idx_ext⟩
  refine (out_eq m c t r l).trans ?_
  blk_ext [idx t]

end Cert.Kernel6Ideal.Proj
-- ==== Proof.Call6.Claim.lean ====
/- The gate product of the recurrent layer: the reference's result, and the claim. -/
module

public import proofs.«01_k».proof.Defs
public import proofs.«01_k».proof.Proof.Gen.Reference6Ideal.Read
public import proofs.«01_k».proof.Proof.Gen.Reference6Ideal.Run
public import proofs.«01_k».proof.Proof.Call6.Val
public import Idealize.ShloMosaic.Lib.Claim

@[expose] public section

set_option maxRecDepth 16384

noncomputable section

namespace Cert.Reference6Ideal.Proj

open Cert.Reference6Ideal Cert.Reference6Ideal.Gen Cert.Reference6Ideal.Read Idealize.ShloMosaic Idealize.ShloMosaic.TcCoe Idealize.ShloMosaic.Tactic Idealize.SL.Sem
open Cert.Recur

variable (h : BufTy.Contents (Elt Ideal) ⟨S8192x2048, .bf16⟩) (w : BufTy.Contents (Elt Ideal) ⟨S1x2048x2048, .f32⟩)

theorem ref_eq : val_main_v2 (F := Ideal) h w = Cert.Kernel6Ideal.Proj.proj h w := by
  funext i
  obtain ⟨r, l, rfl⟩ : ∃ (r : Fin 8192) (l : Fin 2048), i = ix2 r l := ⟨i 0, i 1, by idx_ext⟩
  unfold Cert.Kernel6Ideal.Proj.proj
  simp only [ix2_0, ix2_1]
  pointwise [val_main_v2, val_main_v0, val_main_v1]

end Cert.Reference6Ideal.Proj

namespace Cert.Call6

open Idealize.ShloMosaic Idealize.SL.Sem Idealize.ShloMosaic.Tactic

/-- The gate product: kernel and reference agree at every element. -/
theorem algebraic :
    letI := Cert.Kernel6Ideal.Gen.facts; letI := Cert.Reference6Ideal.Gen.facts
    algebraic_Kernel6Ideal_Reference6Ideal := by
  pair_intro
  · run_from Cert.Kernel6Ideal.Gen.run_main m g
  · run_from Cert.Reference6Ideal.Value.run m' g'
    exact (Cert.Reference6Ideal.Proj.ref_eq _ _).trans (Cert.Kernel6Ideal.Proj.final m c).symm

/-- The reference leaves its arguments as they were and every counter at zero. -/
theorem frame : letI := Cert.Reference6Ideal.Gen.facts; quiescent_Reference6Ideal := by
  intro m g _
  run_from Cert.Reference6Ideal.Value.run m g
  · intro c; simp
  · exact sem_eq_zero_of_no_sems (by decide) r.2

end Cert.Call6

end
-- ==== Proof.Call7.Val.lean ====
/- The value product of the recurrent layer: the kernel's result at every element. -/
module

public import proofs.«01_k».proof.Proof.Gen.Kernel7Ideal.Value
public import proofs.«01_k».proof.Proof.Call5.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel7Ideal.Proj

open Cert.Kernel7Ideal Cert.Kernel7Ideal.Gen Idealize.ShloMosaic Idealize.ShloMosaic.TcCoe Idealize.ShloMosaic.Tactic Idealize.SL.Sem
open Idealize.ShloMosaic.Pipeline (Dat)
open Cert.Recur

variable (m : (ℓ : Loc nD τ sig) → Buf (Elt Ideal) ℓ)

theorem slab0_apply (x : Vec Ideal S256x2048 .bf16) (w : Vec Ideal S2048x1024 .bf16) (r : Fin 256) (l : Fin 1024) :
    (k0_pay2 x w) (ix2 r l) = ∑ k : Fin 2048, x (ix2 r k) * w (ix2 k l) := by
  pointwise [k0_pay2]

theorem slab1_apply (x : Vec Ideal S256x2048 .bf16) (w : Vec Ideal S2048x1024 .bf16) (r : Fin 256) (l : Fin 1024) :
    (k0_pay3 x w) (ix2 r l) = ∑ k : Fin 2048, x (ix2 r k) * w (ix2 k l) := by
  pointwise [k0_pay3]

theorem slab2_apply (x : Vec Ideal S256x2048 .bf16) (w : Vec Ideal S2048x1024 .bf16) (r : Fin 256) (l : Fin 1024) :
    (k0_pay4 x w) (ix2 r l) = ∑ k : Fin 2048, x (ix2 r k) * w (ix2 k l) := by
  pointwise [k0_pay4]

theorem slab3_apply (x : Vec Ideal S256x2048 .bf16) (w : Vec Ideal S2048x1024 .bf16) (r : Fin 256) (l : Fin 1024) :
    (k0_pay5 x w) (ix2 r l) = ∑ k : Fin 2048, x (ix2 r k) * w (ix2 k l) := by
  pointwise [k0_pay5]

theorem cast_apply (v : Vec Ideal S1x2048x1024 .f32) (k : Fin 2048) (l : Fin 1024) : k0_pay1 v (ix2 k l) = v (ix3 0 k l) := by
  pointwise [k0_pay1]

theorem ld_rows (x : Vec Ideal S1024x2048 .bf16) (o : ℕ) (h : ∀ a : Fin 2, ![o, 0] a + ![256, 2048] a ≤ S1024x2048.size a) (r : Fin 256) (k : Fin 2048) (ho : o + 256 ≤ 1024) :
    View.ld x (Rect.unit ![o, 0] ![256, 2048] h) (ix2 r k) = x (ix2 ⟨o + r, by omega⟩ k) := by
  unfold View.ld
  blk_ext
  all_goals simp [Rect.idx_unit_val]

/-- Row `r`, lane `l` of a point's block from its rows and the weight tile. -/
def blockOut (x : Vec Ideal S1024x2048 .bf16) (w : Vec Ideal S2048x1024 .bf16) (r l : Fin 1024) : EReal :=
  ∑ k : Fin 2048, x (ix2 r k) * w (ix2 k l)

theorem idx : ∀ t : Fin cfg0.N,
    win0_0.index t = ![t.val % 8, 0] ∧ win0_1.index t = ![0, 0, t.val / 8] ∧ win0_2.index t = ![t.val % 8, t.val / 8] :=
  (by decide +kernel : ∀ t : Fin grid0.N, _)

theorem lt_16 (t : Fin cfg0.N) : t.val < 16 := lt_of_lt_of_eq t.isLt N_0

theorem blk0 (c : Dev nD) (t : Fin cfg0.N) (r : Fin 1024) (k : Fin 2048) :
    iblk m c 0 t (ix2 r k) = m ((c.tc : Thread nD τ).loc main_arg0) (ix2 ⟨1024 * (t.val % 8) + r, by omega⟩ k) := by
  blk_point [iblk, V, idx t]

theorem blk1 (c : Dev nD) (t : Fin cfg0.N) (k : Fin 2048) (l : Fin 1024) :
    iblk m c 1 t (ix3 0 k l) = m ((c.tc : Thread nD τ).loc main_arg1) (ix3 0 k ⟨1024 * (t.val / 8) + l, by have := lt_16 t; omega⟩) := by
  blk_point [iblk, V, idx t]

/-- The weight tile of column block `j`. -/
def tile (w : Vec Ideal S1x2048x2048 .f32) (j : Fin 2) : Vec Ideal S2048x1024 .bf16 := fun i => w (ix3 0 (i 0) ⟨1024 * j + (i 1).val, by have : (i 1).val < 1024 := (i 1).isLt; omega⟩)

theorem sA (c : Dev nD) (t : Fin cfg0.N) (h0 : t.val % 8 = 0) : (outsAt0 m c t.val t.isLt).2 = k0_pay1 (iblk m c 1 t) := by
  rw [outsAt0_A m c t h0]
  funext y
  frame_out

theorem sB (c : Dev nD) (t : Fin cfg0.N) (h0 : ¬t.val % 8 = 0) (hl : t.val - 1 < cfg0.N) :
    (outsAt0 m c t.val t.isLt).2 = (outsAt0 m c (t.val - 1) hl).2 := by
  rw [outsAt0_B m c t h0]
  rfl

/-- The scratch holds the point's weight tile. -/
theorem scratch (c : Dev nD) : ∀ (n : ℕ) (hn : n < cfg0.N),
    (outsAt0 m c n hn).2 = tile (m ((c.tc : Thread nD τ).loc main_arg1)) ⟨n / 8, by have : n < 16 := lt_16 ⟨n, hn⟩; omega⟩ := by
  intro n
  induction n with
  | zero =>
    intro hn
    refine (sA m c ⟨0, hn⟩ rfl).trans ?_
    funext y
    obtain ⟨k, l, rfl⟩ : ∃ (k : Fin 2048) (l : Fin 1024), y = ix2 k l := ⟨y 0, y 1, by idx_ext⟩
    rw [cast_apply, blk1]
    rfl
  | succ n ih =>
    intro hn
    by_cases h0 : (n + 1) % 8 = 0
    · refine (sA m c ⟨n + 1, hn⟩ h0).trans ?_
      funext y
      obtain ⟨k, l, rfl⟩ : ∃ (k : Fin 2048) (l : Fin 1024), y = ix2 k l := ⟨y 0, y 1, by idx_ext⟩
      rw [cast_apply, blk1]
      rfl
    · have hq : (n + 1) / 8 = n / 8 := by omega
      simp only [hq]
      exact (sB m c ⟨n + 1, hn⟩ h0 (Nat.lt_of_succ_lt hn)).trans (ih (Nat.lt_of_succ_lt hn))

theorem piece0 (x : Vec Ideal S1024x2048 .bf16) (w : Vec Ideal S2048x1024 .bf16) (h : ∀ a : Fin 2, ![0, 0] a + ![256, 2048] a ≤ S1024x2048.size a)
    (y : S256x1024.Idx) (r l : Fin 1024) (hr : r.val = (y 0).val) (hl : l.val = (y 1).val) :
    (k0_pay2 (View.ld x (Rect.unit ![0, 0] ![256, 2048] h)) w) y = blockOut x w r l := by
  obtain ⟨r', l', rfl⟩ : ∃ (r' : Fin 256) (l' : Fin 1024), y = ix2 r' l' := ⟨y 0, y 1, by idx_ext⟩
  obtain rfl : l = l' := Fin.ext hl
  have hlt : 0 + r'.val < 1024 := by omega
  obtain rfl : r = ⟨0 + r'.val, hlt⟩ := Fin.ext (hr.trans (Nat.zero_add _).symm)
  refine (slab0_apply _ _ _ _).trans ?_
  simp only [ld_rows x 0 h _ _ (by omega)]
  rfl

theorem piece1 (x : Vec Ideal S1024x2048 .bf16) (w : Vec Ideal S2048x1024 .bf16) (h : ∀ a : Fin 2, ![256, 0] a + ![256, 2048] a ≤ S1024x2048.size a)
    (y : S256x1024.Idx) (r l : Fin 1024) (hr : r.val = 256 + (y 0).val) (hl : l.val = (y 1).val) :
    (k0_pay3 (View.ld x (Rect.unit ![256, 0] ![256, 2048] h)) w) y = blockOut x w r l := by
  obtain ⟨r', l', rfl⟩ : ∃ (r' : Fin 256) (l' : Fin 1024), y = ix2 r' l' := ⟨y 0, y 1, by idx_ext⟩
  obtain rfl : l = l' := Fin.ext hl
  have hlt : 256 + r'.val < 1024 := by omega
  obtain rfl : r = ⟨256 + r'.val, hlt⟩ := Fin.ext hr
  refine (slab1_apply _ _ _ _).trans ?_
  simp only [ld_rows x 256 h _ _ (by omega)]
  rfl

theorem piece2 (x : Vec Ideal S1024x2048 .bf16) (w : Vec Ideal S2048x1024 .bf16) (h : ∀ a : Fin 2, ![512, 0] a + ![256, 2048] a ≤ S1024x2048.size a)
    (y : S256x1024.Idx) (r l : Fin 1024) (hr : r.val = 512 + (y 0).val) (hl : l.val = (y 1).val) :
    (k0_pay4 (View.ld x (Rect.unit ![512, 0] ![256, 2048] h)) w) y = blockOut x w r l := by
  obtain ⟨r', l', rfl⟩ : ∃ (r' : Fin 256) (l' : Fin 1024), y = ix2 r' l' := ⟨y 0, y 1, by idx_ext⟩
  obtain rfl : l = l' := Fin.ext hl
  have hlt : 512 + r'.val < 1024 := by omega
  obtain rfl : r = ⟨512 + r'.val, hlt⟩ := Fin.ext hr
  refine (slab2_apply _ _ _ _).trans ?_
  simp only [ld_rows x 512 h _ _ (by omega)]
  rfl

theorem piece3 (x : Vec Ideal S1024x2048 .bf16) (w : Vec Ideal S2048x1024 .bf16) (h : ∀ a : Fin 2, ![768, 0] a + ![256, 2048] a ≤ S1024x2048.size a)
    (y : S256x1024.Idx) (r l : Fin 1024) (hr : r.val = 768 + (y 0).val) (hl : l.val = (y 1).val) :
    (k0_pay5 (View.ld x (Rect.unit ![768, 0] ![256, 2048] h)) w) y = blockOut x w r l := by
  obtain ⟨r', l', rfl⟩ : ∃ (r' : Fin 256) (l' : Fin 1024), y = ix2 r' l' := ⟨y 0, y 1, by idx_ext⟩
  obtain rfl : l = l' := Fin.ext hl
  have hlt : 768 + r'.val < 1024 := by omega
  obtain rfl : r = ⟨768 + r'.val, hlt⟩ := Fin.ext hr
  refine (slab3_apply _ _ _ _).trans ?_
  simp only [ld_rows x 768 h _ _ (by omega)]
  rfl

theorem outA (c : Dev nD) (t : Fin cfg0.N) (h0 : t.val % 8 = 0) (y : S1024x1024.Idx) :
    (outsAt0 m c t.val t.isLt).1 y = blockOut (iblk m c 0 t) (k0_pay1 (iblk m c 1 t)) (y 0) (y 1) := by
  rw [outsAt0_A m c t h0]
  frame_out
  canon_tiles x h
  case piece0 =>
    exact piece3 _ _ _ x _ _ h0 h1
  case piece1 =>
    exact piece2 _ _ _ x _ _ h0 h1
  case piece2 =>
    exact piece1 _ _ _ x _ _ h0 h1
  case piece3 =>
    exact piece0 _ _ _ x _ _ h0 h1

theorem outB (c : Dev nD) (t : Fin cfg0.N) (h0 : ¬t.val % 8 = 0) (hl : t.val - 1 < cfg0.N) (y : S1024x1024.Idx) :
    (outsAt0 m c t.val t.isLt).1 y = blockOut (iblk m c 0 t) (outsAt0 m c (t.val - 1) hl).2 (y 0) (y 1) := by
  rw [outsAt0_B m c t h0]
  frame_out
  canon_tiles x h
  case piece0 =>
    rw [read_unread_whole]
    exact piece3 _ _ _ x _ _ h0 h1
  case piece1 =>
    rw [read_unread_whole]
    exact piece2 _ _ _ x _ _ h0 h1
  case piece2 =>
    rw [read_unread_whole]
    exact piece1 _ _ _ x _ _ h0 h1
  case piece3 =>
    rw [read_unread_whole]
    exact piece0 _ _ _ x _ _ h0 h1

/-- The result from the arguments. -/
def proj (h : Vec Ideal S8192x2048 .bf16) (w : Vec Ideal S1x2048x2048 .f32) : FVec Ideal S8192x2048 .bf16 := fun i =>
  ∑ k : Fin 2048, h (ix2 (i 0) k) * w (ix3 0 k (i 1))

/-- The result array over the arguments. -/
def res (c : Dev nD) : FVec Ideal S8192x2048 .bf16 :=
  proj (m ((c.tc : Thread nD τ).loc main_arg0)) (m ((c.tc : Thread nD τ).loc main_arg1))

theorem out_eq (c : Dev nD) (t : Fin cfg0.N) (r l : Fin 1024) :
    (outsAt0 m c t.val t.isLt).1 (ix2 r l) = res m c (ix2 ⟨1024 * (t.val % 8) + r, by omega⟩ ⟨1024 * (t.val / 8) + l, by have := lt_16 t; omega⟩) := by
  have hs := scratch m c t.val t.isLt
  have key : (outsAt0 m c t.val t.isLt).1 (ix2 r l) = blockOut (iblk m c 0 t) (outsAt0 m c t.val t.isLt).2 r l := by
    by_cases h0 : t.val % 8 = 0
    · rw [outA m c t h0, sA m c t h0]
      rfl
    · have hl : t.val - 1 < cfg0.N := lt_of_le_of_lt (Nat.sub_le _ _) t.isLt
      rw [outB m c t h0 hl, sB m c t h0 hl]
      rfl
  rw [key, hs]
  unfold blockOut
  simp only [blk0]
  rfl

theorem final (c : Dev nD) : (dats m 0 c).arrAt 2 cfg0.N = res m c := by
  refine (dats m 0 c).arrAt_eq_of_covers 2 _ (by decide +kernel) fun t _ y => ?_
  blk_simp
  rw [after0_2]
  obtain ⟨r, l, rfl⟩ : ∃ (r l : Fin 1024), y = ix2 r l := ⟨y 0, y 1, by idx_ext⟩
  refine (out_eq m c t r l).trans ?_
  blk_ext [idx t]

end Cert.Kernel7Ideal.Proj
-- ==== Proof.Call7.Claim.lean ====
/- The value product of the recurrent layer: the reference's result, and the claim. -/
module

public import proofs.«01_k».proof.Defs
public import proofs.«01_k».proof.Proof.Gen.Reference7Ideal.Read
public import proofs.«01_k».proof.Proof.Gen.Reference7Ideal.Run
public import proofs.«01_k».proof.Proof.Call7.Val
public import Idealize.ShloMosaic.Lib.Claim

@[expose] public section

set_option maxRecDepth 16384

noncomputable section

namespace Cert.Reference7Ideal.Proj

open Cert.Reference7Ideal Cert.Reference7Ideal.Gen Cert.Reference7Ideal.Read Idealize.ShloMosaic Idealize.ShloMosaic.TcCoe Idealize.ShloMosaic.Tactic Idealize.SL.Sem
open Cert.Recur

variable (h : BufTy.Contents (Elt Ideal) ⟨S8192x2048, .bf16⟩) (w : BufTy.Contents (Elt Ideal) ⟨S1x2048x2048, .f32⟩)

theorem ref_eq : val_main_v3 (F := Ideal) h w = Cert.Kernel7Ideal.Proj.proj h w := by
  funext i
  obtain ⟨r, l, rfl⟩ : ∃ (r : Fin 8192) (l : Fin 2048), i = ix2 r l := ⟨i 0, i 1, by idx_ext⟩
  unfold Cert.Kernel7Ideal.Proj.proj
  simp only [ix2_0, ix2_1]
  pointwise [val_main_v3, val_main_v2, val_main_v0, val_main_v1]

end Cert.Reference7Ideal.Proj

namespace Cert.Call7

open Idealize.ShloMosaic Idealize.SL.Sem Idealize.ShloMosaic.Tactic

/-- The value product: kernel and reference agree at every element. -/
theorem algebraic :
    letI := Cert.Kernel7Ideal.Gen.facts; letI := Cert.Reference7Ideal.Gen.facts
    algebraic_Kernel7Ideal_Reference7Ideal := by
  pair_intro
  · run_from Cert.Kernel7Ideal.Gen.run_main m g
  · run_from Cert.Reference7Ideal.Value.run m' g'
    rw [Cert.Reference7Ideal.Read.val_main_v3_eq]
    exact (Cert.Reference7Ideal.Proj.ref_eq _ _).trans (Cert.Kernel7Ideal.Proj.final m c).symm

/-- The reference leaves its arguments as they were and every counter at zero. -/
theorem frame : letI := Cert.Reference7Ideal.Gen.facts; quiescent_Reference7Ideal := by
  intro m g _
  run_from Cert.Reference7Ideal.Value.run m g
  · intro c; simp
  · exact sem_eq_zero_of_no_sems (by decide) r.2

end Cert.Call7

end
-- ==== Proof.Call8.Val.lean ====
/- The forget gate of the recurrent layer: the kernel's result at every element. -/
module

public import proofs.«01_k».proof.Proof.Gen.Kernel8Ideal.Value
public import proofs.«01_k».proof.Proof.Call5.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel8Ideal.Proj

open Cert.Kernel8Ideal Cert.Kernel8Ideal.Gen Idealize.ShloMosaic Idealize.ShloMosaic.TcCoe Idealize.ShloMosaic.Tactic Idealize.SL.Sem
open Idealize.ShloMosaic.Pipeline (Dat)
open Cert.Recur

variable (m : (ℓ : Loc nD τ sig) → Buf (Elt Ideal) ℓ)

theorem slab0_apply (x : Vec Ideal S256x2048 .bf16) (w : Vec Ideal S2048x1024 .bf16) (b : Vec Ideal S1x4x1024 .f32) (r : Fin 256) (l : Fin 1024) :
    (k0_pay9 (k0_pay3 x w) (k0_pay7 b) (k0_pay8 b)) (ix2 r l) = forget (fun j => b (ix3 0 j l)) (∑ k : Fin 2048, x (ix2 r k) * w (ix2 k l)) := by
  unfold forget low share mx logis
  pointwise [k0_pay9, k0_pay3, k0_pay7, k0_pay8]

theorem slab1_apply (x : Vec Ideal S256x2048 .bf16) (w : Vec Ideal S2048x1024 .bf16) (b : Vec Ideal S1x4x1024 .f32) (r : Fin 256) (l : Fin 1024) :
    (k0_pay12 (k0_pay10 b) (k0_pay11 (k0_pay4 x w) b)) (ix2 r l) = forget (fun j => b (ix3 0 j l)) (∑ k : Fin 2048, x (ix2 r k) * w (ix2 k l)) := by
  unfold forget low share mx logis
  pointwise [k0_pay12, k0_pay10, k0_pay11, k0_pay4]

theorem slab2_apply (x : Vec Ideal S256x2048 .bf16) (w : Vec Ideal S2048x1024 .bf16) (b : Vec Ideal S1x4x1024 .f32) (r : Fin 256) (l : Fin 1024) :
    (k0_pay13 (k0_pay5 x w) b) (ix2 r l) = forget (fun j => b (ix3 0 j l)) (∑ k : Fin 2048, x (ix2 r k) * w (ix2 k l)) := by
  unfold forget low share mx logis
  pointwise [k0_pay13, k0_pay5]

theorem slab3_apply (x : Vec Ideal S256x2048 .bf16) (w : Vec Ideal S2048x1024 .bf16) (b : Vec Ideal S1x4x1024 .f32) (r : Fin 256) (l : Fin 1024) :
    (k0_pay1 (k0_pay6 x w) (k0_pay14 b)) (ix2 r l) = forget (fun j => b (ix3 0 j l)) (∑ k : Fin 2048, x (ix2 r k) * w (ix2 k l)) := by
  unfold forget low share mx logis
  pointwise [k0_pay1, k0_pay6, k0_pay14]

theorem cast_apply (v : Vec Ideal S1x2048x1024 .f32) (k : Fin 2048) (l : Fin 1024) : k0_pay2 v (ix2 k l) = v (ix3 0 k l) := by
  pointwise [k0_pay2]

theorem ld_rows (x : Vec Ideal S1024x2048 .bf16) (o : ℕ) (h : ∀ a : Fin 2, ![o, 0] a + ![256, 2048] a ≤ S1024x2048.size a) (r : Fin 256) (k : Fin 2048) (ho : o + 256 ≤ 1024) :
    View.ld x (Rect.unit ![o, 0] ![256, 2048] h) (ix2 r k) = x (ix2 ⟨o + r, by omega⟩ k) := by
  unfold View.ld
  blk_ext
  all_goals simp [Rect.idx_unit_val]

/-- Row `r`, lane `l` of a point's block from its rows and the weight tile. -/
def blockOut (x : Vec Ideal S1024x2048 .bf16) (w : Vec Ideal S2048x1024 .bf16) (b : Vec Ideal S1x4x1024 .f32) (r l : Fin 1024) : EReal :=
  forget (fun j => b (ix3 0 j l)) (∑ k : Fin 2048, x (ix2 r k) * w (ix2 k l))

theorem idx : ∀ t : Fin cfg0.N,
    win0_0.index t = ![t.val % 8, 0] ∧ win0_1.index t = ![0, 0, t.val / 8] ∧ win0_2.index t = ![0, 0, t.val / 8] ∧ win0_3.index t = ![t.val % 8, t.val / 8] :=
  (by decide +kernel : ∀ t : Fin grid0.N, _)

theorem lt_16 (t : Fin cfg0.N) : t.val < 16 := lt_of_lt_of_eq t.isLt N_0

theorem blk0 (c : Dev nD) (t : Fin cfg0.N) (r : Fin 1024) (k : Fin 2048) :
    iblk m c 0 t (ix2 r k) = m ((c.tc : Thread nD τ).loc main_arg0) (ix2 ⟨1024 * (t.val % 8) + r, by omega⟩ k) := by
  blk_point [iblk, V, idx t]

theorem blk1 (c : Dev nD) (t : Fin cfg0.N) (k : Fin 2048) (l : Fin 1024) :
    iblk m c 1 t (ix3 0 k l) = m ((c.tc : Thread nD τ).loc main_arg1) (ix3 0 k ⟨1024 * (t.val / 8) + l, by have := lt_16 t; omega⟩) := by
  blk_point [iblk, V, idx t]

theorem blk2 (c : Dev nD) (t : Fin cfg0.N) (j : Fin 4) (l : Fin 1024) :
    iblk m c 2 t (ix3 0 j l) = m ((c.tc : Thread nD τ).loc main_arg2) (ix3 0 j ⟨1024 * (t.val / 8) + l, by have := lt_16 t; omega⟩) := by
  blk_point [iblk, V, idx t]

/-- The weight tile of column block `j`. -/
def tile (w : Vec Ideal S2x2048x2048 .f32) (j : Fin 2) : Vec Ideal S2048x1024 .bf16 := fun i => w (ix3 0 (i 0) ⟨1024 * j + (i 1).val, by have : (i 1).val < 1024 := (i 1).isLt; omega⟩)

theorem sA (c : Dev nD) (t : Fin cfg0.N) (h0 : t.val % 8 = 0) : (outsAt0 m c t.val t.isLt).2 = k0_pay2 (iblk m c 1 t) := by
  rw [outsAt0_A m c t h0]
  funext y
  frame_out

theorem sB (c : Dev nD) (t : Fin cfg0.N) (h0 : ¬t.val % 8 = 0) (hl : t.val - 1 < cfg0.N) :
    (outsAt0 m c t.val t.isLt).2 = (outsAt0 m c (t.val - 1) hl).2 := by
  rw [outsAt0_B m c t h0]
  rfl

/-- The scratch holds the point's weight tile. -/
theorem scratch (c : Dev nD) : ∀ (n : ℕ) (hn : n < cfg0.N),
    (outsAt0 m c n hn).2 = tile (m ((c.tc : Thread nD τ).loc main_arg1)) ⟨n / 8, by have : n < 16 := lt_16 ⟨n, hn⟩; omega⟩ := by
  intro n
  induction n with
  | zero =>
    intro hn
    refine (sA m c ⟨0, hn⟩ rfl).trans ?_
    funext y
    obtain ⟨k, l, rfl⟩ : ∃ (k : Fin 2048) (l : Fin 1024), y = ix2 k l := ⟨y 0, y 1, by idx_ext⟩
    rw [cast_apply, blk1]
    rfl
  | succ n ih =>
    intro hn
    by_cases h0 : (n + 1) % 8 = 0
    · refine (sA m c ⟨n + 1, hn⟩ h0).trans ?_
      funext y
      obtain ⟨k, l, rfl⟩ : ∃ (k : Fin 2048) (l : Fin 1024), y = ix2 k l := ⟨y 0, y 1, by idx_ext⟩
      rw [cast_apply, blk1]
      rfl
    · have hq : (n + 1) / 8 = n / 8 := by omega
      simp only [hq]
      exact (sB m c ⟨n + 1, hn⟩ h0 (Nat.lt_of_succ_lt hn)).trans (ih (Nat.lt_of_succ_lt hn))

theorem piece0 (x : Vec Ideal S1024x2048 .bf16) (w : Vec Ideal S2048x1024 .bf16) (b : Vec Ideal S1x4x1024 .f32) (h : ∀ a : Fin 2, ![0, 0] a + ![256, 2048] a ≤ S1024x2048.size a)
    (y : S256x1024.Idx) (r l : Fin 1024) (hr : r.val = (y 0).val) (hl : l.val = (y 1).val) :
    (k0_pay9 (k0_pay3 (View.ld x (Rect.unit ![0, 0] ![256, 2048] h)) w) (k0_pay7 b) (k0_pay8 b)) y = blockOut x w b r l := by
  obtain ⟨r', l', rfl⟩ : ∃ (r' : Fin 256) (l' : Fin 1024), y = ix2 r' l' := ⟨y 0, y 1, by idx_ext⟩
  obtain rfl : l = l' := Fin.ext hl
  have hlt : 0 + r'.val < 1024 := by omega
  obtain rfl : r = ⟨0 + r'.val, hlt⟩ := Fin.ext (hr.trans (Nat.zero_add _).symm)
  refine (slab0_apply _ _ _ _ _).trans ?_
  simp only [ld_rows x 0 h _ _ (by omega)]
  rfl

theorem piece1 (x : Vec Ideal S1024x2048 .bf16) (w : Vec Ideal S2048x1024 .bf16) (b : Vec Ideal S1x4x1024 .f32) (h : ∀ a : Fin 2, ![256, 0] a + ![256, 2048] a ≤ S1024x2048.size a)
    (y : S256x1024.Idx) (r l : Fin 1024) (hr : r.val = 256 + (y 0).val) (hl : l.val = (y 1).val) :
    (k0_pay12 (k0_pay10 b) (k0_pay11 (k0_pay4 (View.ld x (Rect.unit ![256, 0] ![256, 2048] h)) w) b)) y = blockOut x w b r l := by
  obtain ⟨r', l', rfl⟩ : ∃ (r' : Fin 256) (l' : Fin 1024), y = ix2 r' l' := ⟨y 0, y 1, by idx_ext⟩
  obtain rfl : l = l' := Fin.ext hl
  have hlt : 256 + r'.val < 1024 := by omega
  obtain rfl : r = ⟨256 + r'.val, hlt⟩ := Fin.ext hr
  refine (slab1_apply _ _ _ _ _).trans ?_
  simp only [ld_rows x 256 h _ _ (by omega)]
  rfl

theorem piece2 (x : Vec Ideal S1024x2048 .bf16) (w : Vec Ideal S2048x1024 .bf16) (b : Vec Ideal S1x4x1024 .f32) (h : ∀ a : Fin 2, ![512, 0] a + ![256, 2048] a ≤ S1024x2048.size a)
    (y : S256x1024.Idx) (r l : Fin 1024) (hr : r.val = 512 + (y 0).val) (hl : l.val = (y 1).val) :
    (k0_pay13 (k0_pay5 (View.ld x (Rect.unit ![512, 0] ![256, 2048] h)) w) b) y = blockOut x w b r l := by
  obtain ⟨r', l', rfl⟩ : ∃ (r' : Fin 256) (l' : Fin 1024), y = ix2 r' l' := ⟨y 0, y 1, by idx_ext⟩
  obtain rfl : l = l' := Fin.ext hl
  have hlt : 512 + r'.val < 1024 := by omega
  obtain rfl : r = ⟨512 + r'.val, hlt⟩ := Fin.ext hr
  refine (slab2_apply _ _ _ _ _).trans ?_
  simp only [ld_rows x 512 h _ _ (by omega)]
  rfl

theorem piece3 (x : Vec Ideal S1024x2048 .bf16) (w : Vec Ideal S2048x1024 .bf16) (b : Vec Ideal S1x4x1024 .f32) (h : ∀ a : Fin 2, ![768, 0] a + ![256, 2048] a ≤ S1024x2048.size a)
    (y : S256x1024.Idx) (r l : Fin 1024) (hr : r.val = 768 + (y 0).val) (hl : l.val = (y 1).val) :
    (k0_pay1 (k0_pay6 (View.ld x (Rect.unit ![768, 0] ![256, 2048] h)) w) (k0_pay14 b)) y = blockOut x w b r l := by
  obtain ⟨r', l', rfl⟩ : ∃ (r' : Fin 256) (l' : Fin 1024), y = ix2 r' l' := ⟨y 0, y 1, by idx_ext⟩
  obtain rfl : l = l' := Fin.ext hl
  have hlt : 768 + r'.val < 1024 := by omega
  obtain rfl : r = ⟨768 + r'.val, hlt⟩ := Fin.ext hr
  refine (slab3_apply _ _ _ _ _).trans ?_
  simp only [ld_rows x 768 h _ _ (by omega)]
  rfl

theorem outA (c : Dev nD) (t : Fin cfg0.N) (h0 : t.val % 8 = 0) (y : S1024x1024.Idx) :
    (outsAt0 m c t.val t.isLt).1 y = blockOut (iblk m c 0 t) (k0_pay2 (iblk m c 1 t)) (iblk m c 2 t) (y 0) (y 1) := by
  rw [outsAt0_A m c t h0]
  frame_out
  canon_tiles x h
  case piece0 =>
    exact piece3 _ _ _ _ x _ _ h0 h1
  case piece1 =>
    exact piece2 _ _ _ _ x _ _ h0 h1
  case piece2 =>
    exact piece1 _ _ _ _ x _ _ h0 h1
  case piece3 =>
    exact piece0 _ _ _ _ x _ _ h0 h1

theorem outB (c : Dev nD) (t : Fin cfg0.N) (h0 : ¬t.val % 8 = 0) (hl : t.val - 1 < cfg0.N) (y : S1024x1024.Idx) :
    (outsAt0 m c t.val t.isLt).1 y = blockOut (iblk m c 0 t) (outsAt0 m c (t.val - 1) hl).2 (iblk m c 2 t) (y 0) (y 1) := by
  rw [outsAt0_B m c t h0]
  frame_out
  canon_tiles x h
  case piece0 =>
    rw [read_unread_whole]
    exact piece3 _ _ _ _ x _ _ h0 h1
  case piece1 =>
    rw [read_unread_whole]
    exact piece2 _ _ _ _ x _ _ h0 h1
  case piece2 =>
    rw [read_unread_whole]
    exact piece1 _ _ _ _ x _ _ h0 h1
  case piece3 =>
    rw [read_unread_whole]
    exact piece0 _ _ _ _ x _ _ h0 h1

/-- The result from the arguments. -/
def proj (h : Vec Ideal S8192x2048 .bf16) (w : Vec Ideal S2x2048x2048 .f32) (b_lower : Vec Ideal S2x4x2048 .f32) : FVec Ideal S8192x2048 .f32 := fun i =>
  forget (fun j => b_lower (ix3 0 j (i 1))) (∑ k : Fin 2048, h (ix2 (i 0) k) * w (ix3 0 k (i 1)))

/-- The result array over the arguments. -/
def res (c : Dev nD) : FVec Ideal S8192x2048 .f32 :=
  proj (m ((c.tc : Thread nD τ).loc main_arg0)) (m ((c.tc : Thread nD τ).loc main_arg1)) (m ((c.tc : Thread nD τ).loc main_arg2))

theorem out_eq (c : Dev nD) (t : Fin cfg0.N) (r l : Fin 1024) :
    (outsAt0 m c t.val t.isLt).1 (ix2 r l) = res m c (ix2 ⟨1024 * (t.val % 8) + r, by omega⟩ ⟨1024 * (t.val / 8) + l, by have := lt_16 t; omega⟩) := by
  have hs := scratch m c t.val t.isLt
  have key : (outsAt0 m c t.val t.isLt).1 (ix2 r l) = blockOut (iblk m c 0 t) (outsAt0 m c t.val t.isLt).2 (iblk m c 2 t) r l := by
    by_cases h0 : t.val % 8 = 0
    · rw [outA m c t h0, sA m c t h0]
      rfl
    · have hl : t.val - 1 < cfg0.N := lt_of_le_of_lt (Nat.sub_le _ _) t.isLt
      rw [outB m c t h0 hl, sB m c t h0 hl]
      rfl
  rw [key, hs]
  unfold blockOut
  simp only [blk0, blk2]
  rfl

theorem final (c : Dev nD) : (dats m 0 c).arrAt 3 cfg0.N = res m c := by
  refine (dats m 0 c).arrAt_eq_of_covers 3 _ (by decide +kernel) fun t _ y => ?_
  blk_simp
  rw [after0_3]
  obtain ⟨r, l, rfl⟩ : ∃ (r l : Fin 1024), y = ix2 r l := ⟨y 0, y 1, by idx_ext⟩
  refine (out_eq m c t r l).trans ?_
  blk_ext [idx t]

end Cert.Kernel8Ideal.Proj
-- ==== Proof.Call8.Claim.lean ====
/- The forget gate of the recurrent layer: the reference's result, and the claim. -/
module

public import proofs.«01_k».proof.Defs
public import proofs.«01_k».proof.Proof.Gen.Reference8Ideal.Read
public import proofs.«01_k».proof.Proof.Gen.Reference8Ideal.Run
public import proofs.«01_k».proof.Proof.Call8.Val
public import Idealize.ShloMosaic.Lib.Claim

@[expose] public section

set_option maxRecDepth 16384

noncomputable section

namespace Cert.Reference8Ideal.Proj

open Cert.Reference8Ideal Cert.Reference8Ideal.Gen Cert.Reference8Ideal.Read Idealize.ShloMosaic Idealize.ShloMosaic.TcCoe Idealize.ShloMosaic.Tactic Idealize.SL.Sem
open Cert.Recur

variable (h : BufTy.Contents (Elt Ideal) ⟨S8192x2048, .bf16⟩) (w : BufTy.Contents (Elt Ideal) ⟨S2x2048x2048, .f32⟩)
  (b : BufTy.Contents (Elt Ideal) ⟨S2x4x2048, .f32⟩)

theorem max_apply (l : Fin 2048) : val_main_v4 (F := Ideal) b (ix1 l) = mx fun j => b (ix3 0 j l) := by
  refine Eq.trans (b := max (Ideal.ofBits .f32 0xFF800000#32) (mx fun j => b (ix3 0 j l))) ?_ (max_eq_right ((Finset.le_fold_max _).2 (Or.inl le_rfl)))
  unfold mx
  pointwise [val_main_v4, val_main_v3, val_main_v2, val_main_v1, val_main_v0, val_main_cst, val_main_cst_0]

theorem exp_apply (j : Fin 4) (l : Fin 2048) :
    val_main_v8 (F := Ideal) b (ix2 j l) = Ideal.exp (b (ix3 0 j l) - val_main_v4 (F := Ideal) b (ix1 l)) := by
  pointwise [val_main_v8, val_main_v7, val_main_v6, val_main_v5, val_main_v1, val_main_v0]

theorem share_apply (j : Fin 4) (l : Fin 2048) : val_main_v12 (F := Ideal) b (ix2 j l) = share (fun j => b (ix3 0 j l)) j := by
  refine Eq.trans (b := Ideal.div (val_main_v8 (F := Ideal) b (ix2 j l)) (∑ i : Fin 4, val_main_v8 (F := Ideal) b (ix2 i l))) ?_ ?_
  · pointwise [val_main_v12, val_main_v11, val_main_v10, val_main_v9, val_main_cst_1]
  · unfold share
    simp only [exp_apply, max_apply]

theorem low_apply (l : Fin 2048) : val_main_v20 (F := Ideal) b (ix1 l) = low fun j => b (ix3 0 j l) := by
  refine Eq.trans (b := val_main_v12 (F := Ideal) b (ix2 0 l) + val_main_v12 (F := Ideal) b (ix2 1 l) - val_main_v12 (F := Ideal) b (ix2 0 l)) ?_ ?_
  · pointwise [val_main_v20, val_main_v19, val_main_v18, val_main_v17, val_main_v16, val_main_v15, val_main_v14, val_main_v13]
  · unfold low
    rw [Fin.sum_univ_two]
    simp only [share_apply]
    rfl

theorem logis_apply (r : Fin 8192) (l : Fin 2048) :
    val_main_v32 (F := Ideal) h w (ix2 r l) = logis (∑ k : Fin 2048, h (ix2 r k) * w (ix3 0 k l)) := by
  unfold logis
  rw [zero_sub]
  pointwise [val_main_v32, val_main_v31, val_main_v30, val_main_v29, val_main_v28, val_main_v27, val_main_v26, val_main_v25, val_main_v24, val_main_v23,
    val_main_cst_3, val_main_cst_4]

theorem ref_eq : val_main_v38 (F := Ideal) h w b = Cert.Kernel8Ideal.Proj.proj h w b := by
  funext i
  obtain ⟨r, l, rfl⟩ : ∃ (r : Fin 8192) (l : Fin 2048), i = ix2 r l := ⟨i 0, i 1, by idx_ext⟩
  refine Eq.trans (b := val_main_v20 (F := Ideal) b (ix1 l)
    + (Ideal.ofBits .f32 0x3F800000#32 - val_main_v20 (F := Ideal) b (ix1 l)) * val_main_v32 (F := Ideal) h w (ix2 r l)) ?_ ?_
  · pointwise [val_main_v38, val_main_v37, val_main_v36, val_main_v35, val_main_v34, val_main_v33, val_main_v22, val_main_v21, val_main_cst_2]
  · rw [low_apply, logis_apply]
    rfl

end Cert.Reference8Ideal.Proj

namespace Cert.Call8

open Idealize.ShloMosaic Idealize.SL.Sem Idealize.ShloMosaic.Tactic

/-- The forget gate: kernel and reference agree at every element. -/
theorem algebraic :
    letI := Cert.Kernel8Ideal.Gen.facts; letI := Cert.Reference8Ideal.Gen.facts
    algebraic_Kernel8Ideal_Reference8Ideal := by
  pair_intro
  · run_from Cert.Kernel8Ideal.Gen.run_main m g
  · run_from Cert.Reference8Ideal.Value.run m' g'
    obtain ⟨e0, e1, e2⟩ := hagree c
    refine Eq.trans ?_ (Cert.Kernel8Ideal.Proj.final m c).symm
    unfold Cert.Kernel8Ideal.Proj.res
    rw [← e0, ← e1, ← e2]
    exact (Cert.Reference8Ideal.Read.val_main_v38_eq ..).trans (Cert.Reference8Ideal.Proj.ref_eq _ _ _)

/-- The reference leaves its arguments as they were and every counter at zero. -/
theorem frame : letI := Cert.Reference8Ideal.Gen.facts; quiescent_Reference8Ideal := by
  intro m g _
  run_from Cert.Reference8Ideal.Value.run m g
  · intro c; simp
  · exact sem_eq_zero_of_no_sems (by decide) r.2

end Cert.Call8

end
-- ==== Proof.Call11.Val.lean ====
/- The last layer's down product with its residual step: the kernel's two results at every element. -/
module

public import proofs.«01_k».proof.Proof.Call11.IdealRun
public import proofs.«01_k».proof.Proof.Call3.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel11Ideal.Down

open Cert.Kernel11Ideal Cert.Kernel11Ideal.Gen Idealize.ShloMosaic Idealize.ShloMosaic.TcCoe Idealize.ShloMosaic.Tactic Idealize.SL.Sem
open Idealize.ShloMosaic.Pipeline (Dat)
open Cert.Resid

variable (m : (ℓ : Loc nD τ sig) → Buf (Elt Ideal) ℓ)

theorem step_apply (g : Vec Ideal S1x2048 .f32) (w : Vec Ideal S1x5632x2048 .bf16) (a : Vec Ideal S256x5632 .bf16) (x : Vec Ideal S256x2048 .f32) (r : Fin 256) (l : Fin 2048) :
    k0_pay1 g (k0_pay3 w a) (k0_pay4 w a) k0_pay5 x (ix2 r l) = x (ix2 r l) + nrm (fun l => ∑ k : Fin 5632, a (ix2 r k) * w (ix3 0 k l)) l * g (ix2 0 l) := by
  unfold nrm
  pointwise [k0_pay1, k0_pay3, k0_pay4, k0_pay5]

theorem gate_apply (u v : Vec Ideal S1x1x2048 .f32) (l : Fin 2048) : k0_pay2 u v (ix2 0 l) = u (ix3 0 0 l) * v (ix3 0 0 l) := by
  pointwise [k0_pay2]

theorem lt_32 (t : Fin cfg0.N) : t.val < 32 := lt_of_lt_of_eq t.isLt N_0

/-- The conditioning row of point `t`. -/
def prow (t : ℕ) : ℕ := if t < 16 then 4 else (t - 16) / 4

theorem off1 : ∀ t : Fin cfg0.N, k0_off1 (grid0.coords t) = ![0, prow t.val, 10240] := (by decide +kernel : ∀ t : Fin grid0.N, _)

theorem idx : ∀ t : Fin cfg0.N,
    win0_0.index t = ![t.val, 0] ∧ win0_1.index t = ![3, 0, 0] ∧ win0_2.index t = ![t.val, 0] ∧ win0_3.index t = ![3, 0, 0]
    ∧ win0_4.index t = ![3, 0, 0] ∧ win0_5.index t = ![min t.val 15, 0] ∧ win0_6.index t = ![t.val - 16, 0] :=
  (by decide +kernel : ∀ t : Fin grid0.N, _)

theorem blk0 (c : Dev nD) (t : Fin cfg0.N) (r : Fin 256) (k : Fin 5632) :
    iblk m c 0 t (ix2 r k) = m ((c.tc : Thread nD τ).loc main_arg0) (ix2 ⟨256 * t.val + r, by have := lt_32 t; omega⟩ k) := by
  blk_point [iblk, V, idx t]

theorem blk1 (c : Dev nD) (t : Fin cfg0.N) (k : Fin 5632) (l : Fin 2048) :
    iblk m c 1 t (ix3 0 k l) = m ((c.tc : Thread nD τ).loc main_arg1) (ix3 3 k l) := by
  blk_point [iblk, V, idx t]

theorem blk2 (c : Dev nD) (t : Fin cfg0.N) (r : Fin 256) (l : Fin 2048) :
    iblk m c 2 t (ix2 r l) = m ((c.tc : Thread nD τ).loc main_arg2) (ix2 ⟨256 * t.val + r, by have := lt_32 t; omega⟩ l) := by
  blk_point [iblk, V, idx t]

theorem blk3 (c : Dev nD) (t : Fin cfg0.N) (r : Fin 8) (l : Fin 12288) :
    iblk m c 3 t (ix3 0 r l) = m ((c.tc : Thread nD τ).loc main_arg3) (ix3 3 r l) := by
  blk_point [iblk, V, idx t]

theorem blk4 (c : Dev nD) (t : Fin cfg0.N) (l : Fin 2048) :
    iblk m c 4 t (ix3 0 0 l) = m ((c.tc : Thread nD τ).loc main_arg4) (ix3 3 0 l) := by
  blk_point [iblk, V, idx t]

theorem ld_mod (x : Vec Ideal S1x8x12288 .f32) (o : Fin 3 → ℕ) (p q : ℕ) (h : ∀ a : Fin 3, o a + S1x1x2048.size a ≤ S1x8x12288.size a) (ho : o = ![0, p, q]) (l : Fin 2048) (hp : p < 8) (hq : q + 2048 ≤ 12288) :
    View.ld x (Rect.unit o S1x1x2048.size h) (ix3 0 0 l) = x (ix3 0 ⟨p, hp⟩ ⟨q + l, by omega⟩) := by
  subst ho
  unfold View.ld
  blk_ext
  all_goals simp [Rect.idx_unit_val]

/-- The gate row the point reads. -/
def gate (c : Dev nD) (t : Fin cfg0.N) : Vec Ideal S1x1x2048 .f32 := View.ld (iblk m c 3 t) (Rect.unit (k0_off1 (grid0.coords t)) S1x1x2048.size (k0_off1_inb (grid0.coords t)))

/-- The block the point computes. -/
def step (c : Dev nD) (t : Fin cfg0.N) : Vec Ideal S256x2048 .f32 :=
  k0_pay1 (k0_pay2 (gate m c t) (iblk m c 4 t)) (k0_pay3 (iblk m c 1 t) (iblk m c 0 t)) (k0_pay4 (iblk m c 1 t) (iblk m c 0 t)) k0_pay5 (iblk m c 2 t)

theorem ctx_step (c : Dev nD) (t : Fin cfg0.N) (h : t.val < 16) : ctxAt m c t h = step m c t := by
  funext y
  unfold ctxAt out0_A
  frame_out
  rfl

theorem lat_step (c : Dev nD) (t : Fin cfg0.N) (h : ¬ t.val < 16) : latAt m c t h = step m c t := by
  funext y
  unfold latAt out0_B
  frame_out
  rfl

/-- The residual stream after the step, row by row. -/
def xat (a : Vec Ideal S8192x5632 .bf16) (w : Vec Ideal S4x5632x2048 .bf16) (x : Vec Ideal S8192x2048 .f32) (mod : Vec Ideal S4x8x12288 .f32)
    (g : Vec Ideal S4x1x2048 .f32) (r : Fin 8192) (l : Fin 2048) : EReal :=
  x (ix2 r l) + nrm (fun l => ∑ k : Fin 5632, a (ix2 r k) * w (ix3 3 k l)) l * (mod (ix3 3 (crow r) ⟨10240 + l, by omega⟩) * g (ix3 3 0 l))

/-- The context rows of it, -/
def xctx (a : Vec Ideal S8192x5632 .bf16) (w : Vec Ideal S4x5632x2048 .bf16) (x : Vec Ideal S8192x2048 .f32) (mod : Vec Ideal S4x8x12288 .f32)
    (g : Vec Ideal S4x1x2048 .f32) : FVec Ideal S4096x2048 .f32 := fun i =>
  xat a w x mod g ⟨(i 0).val, by have : (i 0).val < 4096 := (i 0).isLt; omega⟩ (i 1)

/-- and the latent ones. -/
def xlat (a : Vec Ideal S8192x5632 .bf16) (w : Vec Ideal S4x5632x2048 .bf16) (x : Vec Ideal S8192x2048 .f32) (mod : Vec Ideal S4x8x12288 .f32)
    (g : Vec Ideal S4x1x2048 .f32) : FVec Ideal S4096x2048 .f32 := fun i =>
  xat a w x mod g ⟨4096 + (i 0).val, by have : (i 0).val < 4096 := (i 0).isLt; omega⟩ (i 1)

def res5 (c : Dev nD) : FVec Ideal S4096x2048 .f32 := xctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def res6 (c : Dev nD) : FVec Ideal S4096x2048 .f32 := xlat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem prow_lt (t : Fin cfg0.N) : prow t.val < 8 := by
  have := lt_32 t
  unfold prow
  split <;> omega

theorem crow_eq (t : Fin cfg0.N) (r : Fin 256) (h : 256 * t.val + r.val < 8192) : crow ⟨256 * t.val + r, h⟩ = ⟨prow t.val, prow_lt t⟩ := by
  have := lt_32 t
  unfold crow prow
  apply Fin.ext
  by_cases h1 : t.val < 16
  · have h2 : 256 * t.val + r.val < 4096 := by omega
    simp [h1, h2]
  · have h2 : ¬256 * t.val + r.val < 4096 := by omega
    simp only [h1, h2, dite_false, if_false]
    omega

theorem step_eq (c : Dev nD) (t : Fin cfg0.N) (r : Fin 256) (l : Fin 2048) (h : 256 * t.val + r.val < 8192) :
    step m c t (ix2 r l) = xat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨256 * t.val + r, h⟩ l := by
  unfold step
  rw [step_apply, gate_apply, gate, ld_mod _ _ _ _ _ (off1 t) l (prow_lt t) (by omega), blk3, blk4, blk2, ← crow_eq t r h]
  simp only [blk0, blk1]
  rfl

theorem ctx_eq (c : Dev nD) (t : Fin cfg0.N) (r : Fin 256) (l : Fin 2048) :
    ctxOut m c t (ix2 r l) = res5 m c (ix2 ⟨256 * min t.val 15 + r, by omega⟩ l) := by
  unfold ctxOut
  by_cases h : t.val < 16
  · rw [dif_pos h, ctx_step, step_eq m c t r l (by omega)]
    have h3 : min t.val 15 = t.val := by omega
    exact congrArg (fun z => xat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) z l) (Fin.ext (by show 256 * t.val + r.val = 256 * min t.val 15 + r.val; rw [h3]))
  · rw [dif_neg h, ctx_step, step_eq m c t15 r l (by show 256 * 15 + r.val < 8192; omega)]
    have h3 : min t.val 15 = 15 := by omega
    exact congrArg (fun z => xat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) z l) (Fin.ext (by show 256 * 15 + r.val = 256 * min t.val 15 + r.val; rw [h3]))

theorem lat_eq (c : Dev nD) (t : Fin cfg0.N) (h : ¬ t.val < 16) (r : Fin 256) (l : Fin 2048) :
    latOut m c t (ix2 r l) = res6 m c (ix2 ⟨256 * (t.val - 16) + r, by have := lt_32 t; omega⟩ l) := by
  have := lt_32 t
  unfold latOut
  rw [dif_neg h, lat_step, step_eq m c t r l (by omega)]
  exact congrArg (fun z => xat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) z l) (Fin.ext (by show 256 * t.val + r.val = 4096 + (256 * (t.val - 16) + r.val); omega))

theorem final5 (c : Dev nD) : (dats m 0 c).arrAt 5 cfg0.N = res5 m c := by
  refine (dats m 0 c).arrAt_eq_of_covers 5 _ (by decide +kernel) fun t _ y => ?_
  blk_simp
  rw [after0_5]
  obtain ⟨r, l, rfl⟩ : ∃ (r : Fin 256) (l : Fin 2048), y = ix2 r l := ⟨y 0, y 1, by idx_ext⟩
  refine (ctx_eq m c t r l).trans ?_
  blk_ext [idx t]

theorem final6 (c : Dev nD) : (dats m 0 c).arrAt 6 cfg0.N = res6 m c := by
  refine (dats m 0 c).arrAt_eq_of_covers 6 _ (by decide +kernel) fun t ht y => ?_
  have h : ¬ t.val < 16 := by
    have e := (flush6 t).symm.trans ht
    simpa using e
  blk_simp
  rw [after0_6]
  obtain ⟨r, l, rfl⟩ : ∃ (r : Fin 256) (l : Fin 2048), y = ix2 r l := ⟨y 0, y 1, by idx_ext⟩
  refine (lat_eq m c t h r l).trans ?_
  blk_ext [idx t]

end Cert.Kernel11Ideal.Down
-- ==== Proof.Call11.Claim.lean ====
/- The last layer's down product with its residual step: the reference's results, and the claim. -/
module

public import proofs.«01_k».proof.Defs
public import proofs.«01_k».proof.Proof.Gen.Reference11Ideal.Read
public import proofs.«01_k».proof.Proof.Gen.Reference11Ideal.Run
public import proofs.«01_k».proof.Proof.Call11.Val
public import Idealize.ShloMosaic.Lib.Claim

@[expose] public section

set_option maxRecDepth 16384

noncomputable section

namespace Cert.Reference11Ideal.Down

open Cert.Reference11Ideal Cert.Reference11Ideal.Gen Cert.Reference11Ideal.Read Idealize.ShloMosaic Idealize.ShloMosaic.TcCoe Idealize.ShloMosaic.Tactic Idealize.SL.Sem
open Cert.Resid Cert.Kernel11Ideal.Down

variable (a : BufTy.Contents (Elt Ideal) ⟨S8192x5632, .bf16⟩) (w : BufTy.Contents (Elt Ideal) ⟨S4x5632x2048, .bf16⟩)
  (x : BufTy.Contents (Elt Ideal) ⟨S8192x2048, .f32⟩) (mod : BufTy.Contents (Elt Ideal) ⟨S4x8x12288, .f32⟩)
  (g : BufTy.Contents (Elt Ideal) ⟨S4x1x2048, .f32⟩)

theorem dot (r : Fin 8192) (l : Fin 2048) : val_main_v4 (F := Ideal) a w (ix2 r l) = ∑ k : Fin 5632, a (ix2 r k) * w (ix3 3 k l) := by
  pointwise [val_main_v4, val_main_v0, val_main_v1, val_main_v2, val_main_v3]

theorem gate (r : Fin 8) (l : Fin 2048) : val_main_v20 (F := Ideal) mod (ix2 r l) = mod (ix3 3 r ⟨10240 + l, by omega⟩) := by
  pointwise [val_main_v20, val_main_v19]

theorem y_apply (r : Fin 8192) (l : Fin 2048) : val_main_v18 (F := Ideal) a w g (ix2 r l) = nrm (fun l => val_main_v4 (F := Ideal) a w (ix2 r l)) l * g (ix3 3 0 l) := by
  unfold nrm
  pointwise [val_main_v18, val_main_v17, val_main_v16, val_main_v15, val_main_v14, val_main_v13, val_main_v12, val_main_v11, val_main_v10, val_main_v9, val_main_v8, val_main_v7, val_main_v6, val_main_v5, val_main_cst, val_main_cst_0, val_main_cst_1]

theorem ctx_apply (r : Fin 4096) (l : Fin 2048) : val_main_v28 (F := Ideal) a w x mod g (ix2 r l)
    = x (ix2 ⟨r, by omega⟩ l) + val_main_v20 (F := Ideal) mod (ix2 4 l) * val_main_v18 (F := Ideal) a w g (ix2 ⟨r, by omega⟩ l) := by
  pointwise [val_main_v28, val_main_v27, val_main_v26, val_main_v25, val_main_v24, val_main_v23, val_main_v22, val_main_v21]

theorem spread (b : Fin 4) (q : Fin 1024) (l : Fin 2048) : val_main_v38 (F := Ideal) a w x mod g (ix2 ⟨b * 1024 + q, by omega⟩ l) = val_main_v37 (F := Ideal) a w x mod g (ix3 b q l) := by
  pointwise [val_main_v38]

theorem xrows (b : Fin 4) (q : Fin 1024) (l : Fin 2048) : val_main_v30 (F := Ideal) x (ix3 b q l) = x (ix2 ⟨4096 + (b * 1024 + q), by omega⟩ l) := by
  pointwise [val_main_v30, val_main_v29]

theorem yrows (b : Fin 4) (q : Fin 1024) (l : Fin 2048) : val_main_v34 (F := Ideal) a w g (ix3 b q l) = val_main_v18 (F := Ideal) a w g (ix2 ⟨4096 + (b * 1024 + q), by omega⟩ l) := by
  pointwise [val_main_v34, val_main_v33]

theorem grows (b : Fin 4) (q : Fin 1024) (l : Fin 2048) : val_main_v35 (F := Ideal) mod (ix3 b q l) = val_main_v20 (F := Ideal) mod (ix2 ⟨b, by omega⟩ l) := by
  pointwise [val_main_v35, val_main_v32, val_main_v31]

theorem lat_apply (b : Fin 4) (q : Fin 1024) (l : Fin 2048) : val_main_v38 (F := Ideal) a w x mod g (ix2 ⟨b * 1024 + q, by omega⟩ l)
    = x (ix2 ⟨4096 + (b * 1024 + q), by omega⟩ l) + val_main_v20 (F := Ideal) mod (ix2 ⟨b, by omega⟩ l) * val_main_v18 (F := Ideal) a w g (ix2 ⟨4096 + (b * 1024 + q), by omega⟩ l) := by
  rw [spread, val_main_v37_apply, val_main_v36_apply, xrows, yrows, grows]
  rfl

theorem row_eq (r : Fin 8192) (l : Fin 2048) (p : Fin 8) (hp : crow r = p) :
    x (ix2 r l) + val_main_v20 (F := Ideal) mod (ix2 p l) * val_main_v18 (F := Ideal) a w g (ix2 r l) = xat a w x mod g r l := by
  subst hp
  rw [y_apply, gate, mul_left_comm]
  simp only [dot]
  rfl

theorem ctx_eq : val_main_v28 (F := Ideal) a w x mod g = xctx a w x mod g := by
  funext i
  obtain ⟨r, l, rfl⟩ : ∃ (r : Fin 4096) (l : Fin 2048), i = ix2 r l := ⟨i 0, i 1, by idx_ext⟩
  have hc : crow ⟨r.val, by omega⟩ = 4 := by unfold crow; simp
  exact (ctx_apply a w x mod g r l).trans (row_eq a w x mod g _ l 4 hc)

theorem lat_eq : val_main_v38 (F := Ideal) a w x mod g = xlat a w x mod g := by
  funext i
  obtain ⟨r, l, rfl⟩ : ∃ (r : Fin 4096) (l : Fin 2048), i = ix2 r l := ⟨i 0, i 1, by idx_ext⟩
  obtain ⟨b, q, rfl⟩ : ∃ (b : Fin 4) (q : Fin 1024), r = ⟨b.val * 1024 + q.val, by omega⟩ :=
    ⟨⟨r.val / 1024, by omega⟩, ⟨r.val % 1024, by omega⟩, Fin.ext (by show r.val = r.val / 1024 * 1024 + r.val % 1024; omega)⟩
  have hc : crow ⟨4096 + (b.val * 1024 + q.val), by omega⟩ = ⟨b.val, by omega⟩ := by
    unfold crow
    rw [dif_neg (by show ¬ 4096 + (b.val * 1024 + q.val) < 4096; omega)]
    exact Fin.ext (by show (4096 + (b.val * 1024 + q.val) - 4096) / 1024 = b.val; omega)
  exact (lat_apply a w x mod g b q l).trans (row_eq a w x mod g _ l _ hc)

end Cert.Reference11Ideal.Down

namespace Cert.Call11

open Idealize.ShloMosaic Idealize.SL.Sem Idealize.ShloMosaic.Tactic

/-- The last layer's down product with its residual step: kernel and reference agree at every element. -/
theorem algebraic :
    letI := Cert.Kernel11Ideal.Gen.facts; letI := Cert.Reference11Ideal.Gen.facts
    algebraic_Kernel11Ideal_Reference11Ideal := by
  pair_intro
  · run_from Cert.Kernel11Ideal.Gen.run_main m g
  · run_from Cert.Reference11Ideal.Value.run m' g'
    · obtain ⟨e0, e1, e2, e3, e4⟩ := hagree c
      refine Eq.trans ?_ (Cert.Kernel11Ideal.Down.final5 m c).symm
      unfold Cert.Kernel11Ideal.Down.res5
      rw [← e0, ← e1, ← e2, ← e3, ← e4]
      exact (Cert.Reference11Ideal.Read.val_main_v28_eq ..).trans (Cert.Reference11Ideal.Down.ctx_eq _ _ _ _ _)
    · obtain ⟨e0, e1, e2, e3, e4⟩ := hagree c
      refine Eq.trans ?_ (Cert.Kernel11Ideal.Down.final6 m c).symm
      unfold Cert.Kernel11Ideal.Down.res6
      rw [← e0, ← e1, ← e2, ← e3, ← e4]
      exact (Cert.Reference11Ideal.Read.val_main_v38_eq ..).trans (Cert.Reference11Ideal.Down.lat_eq _ _ _ _ _)

/-- The reference leaves its arguments as they were and every counter at zero. -/
theorem frame : letI := Cert.Reference11Ideal.Gen.facts; quiescent_Reference11Ideal := by
  intro m g _
  run_from Cert.Reference11Ideal.Value.run m g
  · intro c; simp
  · exact sem_eq_zero_of_no_sems (by decide) r.2

end Cert.Call11

end
-- ==== Proof.Call12.Val.lean ====
/- The first layer's output product with its residual step: the kernel's results at every element. -/
module

public import proofs.«01_k».proof.Proof.Gen.Kernel12Ideal.Value
public import proofs.«01_k».proof.Proof.Call3.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel12Ideal.Out

open Cert.Kernel12Ideal Cert.Kernel12Ideal.Gen Idealize.ShloMosaic Idealize.ShloMosaic.TcCoe Idealize.ShloMosaic.Tactic Idealize.SL.Sem
open Idealize.ShloMosaic.Pipeline (Dat)
open Cert.Resid

variable (m : (ℓ : Loc nD τ sig) → Buf (Elt Ideal) ℓ)

/-- Row `r`, lane `l` of the residual stream from a block of product rows. -/
def xrow {n : ℕ} (a : Vec Ideal ⟨2, ![n, 2048]⟩ .bf16) (w : Vec Ideal S1x2048x2048 .bf16) (x : Vec Ideal ⟨2, ![n, 2048]⟩ .f32) (g : Vec Ideal S1x2048 .f32) (r : Fin n) (l : Fin 2048) : EReal :=
  x (ix2 r l) + nrm (fun l => ∑ k : Fin 2048, a (ix2 r k) * w (ix3 0 k l)) l * g (ix2 0 l)

/-- Row `r`, lane `l` of the normalised input from a row of the residual stream. -/
def hrow (y : Fin 2048 → EReal) (s c : Vec Ideal S1x2048 .f32) (p : Vec Ideal S1x1x2048 .f32) (l : Fin 2048) : EReal :=
  nrm y l * (c (ix2 0 l) * p (ix3 0 0 l)) + s (ix2 0 l)

/-- One of two blocks, by the point. -/
def pick (arg0 : BitVec 32) {s : Shape} {φ : EltTy} (a b : Vec Ideal s φ) : Vec Ideal s φ := Scalar.select (Scalar.cmpi .slt arg0 16#32) a b

theorem x_apply (arg0 : BitVec 32) (g : Vec Ideal S1x2048 .f32) (w : Vec Ideal S1x2048x2048 .bf16) (a b : Vec Ideal S256x2048 .bf16) (x x' : Vec Ideal S256x2048 .f32) (r : Fin 256) (l : Fin 2048) :
    k0_pay6 arg0 g w a b x x' (ix2 r l) = xrow (pick arg0 a b) w (pick arg0 x x') g r l := by
  unfold xrow nrm pick
  generalize hc : Scalar.cmpi .slt arg0 16#32 = q
  pointwise [k0_pay6, hc]

theorem h_apply (arg0 : BitVec 32) (g : Vec Ideal S1x2048 .f32) (w : Vec Ideal S1x2048x2048 .bf16) (s c : Vec Ideal S1x2048 .f32) (p : Vec Ideal S1x1x2048 .f32) (a b : Vec Ideal S256x2048 .bf16) (x x' : Vec Ideal S256x2048 .f32) (r : Fin 256) (l : Fin 2048) :
    k0_pay1 s (k0_pay5 c p) (k0_pay6 arg0 g w a b x x') (k0_pay7 arg0 g w a b x x') (ix2 r l) = hrow (fun l => k0_pay6 arg0 g w a b x x' (ix2 r l)) s c p l := by
  unfold hrow nrm k0_pay7
  generalize k0_pay6 arg0 g w a b x x' = y
  pointwise [k0_pay1, k0_pay5]

theorem gate_apply (u v : Vec Ideal S1x1x2048 .f32) (l : Fin 2048) : k0_pay2 u v (ix2 0 l) = u (ix3 0 0 l) * v (ix3 0 0 l) := by
  pointwise [k0_pay2]

theorem shift_apply (u : Vec Ideal S1x1x2048 .f32) (l : Fin 2048) : k0_pay3 u (ix2 0 l) = u (ix3 0 0 l) := by
  pointwise [k0_pay3]

theorem scale_apply (u : Vec Ideal S1x1x2048 .f32) (l : Fin 2048) : k0_pay4 u (ix2 0 l) = Ideal.ofBits .f32 0x3F800000#32 + u (ix3 0 0 l) := by
  pointwise [k0_pay4]

theorem lt_32 (t : Fin cfg0.N) : t.val < 32 := lt_of_lt_of_eq t.isLt N_0

/-- The conditioning row of point `t`. -/
def prow (t : ℕ) : ℕ := if t < 16 then 4 else (t - 16) / 4

theorem off1 : ∀ t : Fin cfg0.N, k0_off1 (grid0.coords t) = ![0, prow t.val, 4096] := (by decide +kernel : ∀ t : Fin grid0.N, _)
theorem off2 : ∀ t : Fin cfg0.N, k0_off2 (grid0.coords t) = ![0, prow t.val, 6144] := (by decide +kernel : ∀ t : Fin grid0.N, _)
theorem off3 : ∀ t : Fin cfg0.N, k0_off3 (grid0.coords t) = ![0, prow t.val, 8192] := (by decide +kernel : ∀ t : Fin grid0.N, _)

/-- The point as the body reads it. -/
def arg (t : Fin cfg0.N) : BitVec 32 := BitVec.ofNat 32 ((grid0.coords t) 0).val

theorem sel : ∀ t : Fin cfg0.N, Scalar.cmpi .slt (BitVec.ofNat 32 ((grid0.coords t) 0).val) 16#32 = if t.val < 16 then 1#1 else 0#1 :=
  (by decide +kernel : ∀ t : Fin grid0.N, _)

theorem idx : ∀ t : Fin cfg0.N,
    win0_0.index t = ![min t.val 15, 0] ∧ win0_1.index t = ![t.val - 16, 0] ∧ win0_2.index t = ![0, 0, 0] ∧ win0_3.index t = ![min t.val 15, 0] ∧ win0_4.index t = ![t.val - 16, 0]
    ∧ win0_5.index t = ![0, 0, 0] ∧ win0_6.index t = ![0, 0, 0] ∧ win0_7.index t = ![0, 0, 0] ∧ win0_8.index t = ![0, 0, 0] ∧ win0_9.index t = ![t.val, 0] ∧ win0_10.index t = ![t.val, 0] :=
  (by decide +kernel : ∀ t : Fin grid0.N, _)

theorem blk0 (c : Dev nD) (t : Fin cfg0.N) (r : Fin 256) (k : Fin 2048) :
    iblk m c 0 t (ix2 r k) = m ((c.tc : Thread nD τ).loc main_arg0) (ix2 ⟨256 * min t.val 15 + r, by omega⟩ k) := by
  blk_point [iblk, V, idx t]

theorem blk3 (c : Dev nD) (t : Fin cfg0.N) (r : Fin 256) (k : Fin 2048) :
    iblk m c 3 t (ix2 r k) = m ((c.tc : Thread nD τ).loc main_arg3) (ix2 ⟨256 * min t.val 15 + r, by omega⟩ k) := by
  blk_point [iblk, V, idx t]

theorem blk1 (c : Dev nD) (t : Fin cfg0.N) (r : Fin 256) (k : Fin 2048) :
    iblk m c 1 t (ix2 r k) = m ((c.tc : Thread nD τ).loc main_arg1) (ix2 ⟨256 * (t.val - 16) + r, by have := lt_32 t; omega⟩ k) := by
  blk_point [iblk, V, idx t]

theorem blk4 (c : Dev nD) (t : Fin cfg0.N) (r : Fin 256) (k : Fin 2048) :
    iblk m c 4 t (ix2 r k) = m ((c.tc : Thread nD τ).loc main_arg4) (ix2 ⟨256 * (t.val - 16) + r, by have := lt_32 t; omega⟩ k) := by
  blk_point [iblk, V, idx t]

theorem blk2 (c : Dev nD) (t : Fin cfg0.N) (k l : Fin 2048) :
    iblk m c 2 t (ix3 0 k l) = m ((c.tc : Thread nD τ).loc main_arg2) (ix3 0 k l) := by
  blk_point [iblk, V, idx t]

theorem blk5 (c : Dev nD) (t : Fin cfg0.N) (r : Fin 8) (l : Fin 12288) :
    iblk m c 5 t (ix3 0 r l) = m ((c.tc : Thread nD τ).loc main_arg5) (ix3 0 r l) := by
  blk_point [iblk, V, idx t]

theorem blk7 (c : Dev nD) (t : Fin cfg0.N) (r : Fin 8) (l : Fin 12288) :
    iblk m c 7 t (ix3 0 r l) = m ((c.tc : Thread nD τ).loc main_arg5) (ix3 0 r l) := by
  blk_point [iblk, V, idx t]

theorem blk6 (c : Dev nD) (t : Fin cfg0.N) (l : Fin 2048) :
    iblk m c 6 t (ix3 0 0 l) = m ((c.tc : Thread nD τ).loc main_arg6) (ix3 0 0 l) := by
  blk_point [iblk, V, idx t]

theorem blk8 (c : Dev nD) (t : Fin cfg0.N) (l : Fin 2048) :
    iblk m c 8 t (ix3 0 0 l) = m ((c.tc : Thread nD τ).loc main_arg7) (ix3 0 0 l) := by
  blk_point [iblk, V, idx t]

theorem ld_mod (x : Vec Ideal S1x8x12288 .f32) (o : Fin 3 → ℕ) (p q : ℕ) (h : ∀ a : Fin 3, o a + S1x1x2048.size a ≤ S1x8x12288.size a) (ho : o = ![0, p, q]) (l : Fin 2048) (hp : p < 8) (hq : q + 2048 ≤ 12288) :
    View.ld x (Rect.unit o S1x1x2048.size h) (ix3 0 0 l) = x (ix3 0 ⟨p, hp⟩ ⟨q + l, by omega⟩) := by
  subst ho
  unfold View.ld
  blk_ext
  all_goals simp [Rect.idx_unit_val]

/-- The gate, shift and scale rows the point reads. -/
def gate (c : Dev nD) (t : Fin cfg0.N) : Vec Ideal S1x1x2048 .f32 := View.ld (iblk m c 5 t) (Rect.unit (k0_off1 (grid0.coords t)) S1x1x2048.size (k0_off1_inb (grid0.coords t)))
def shift (c : Dev nD) (t : Fin cfg0.N) : Vec Ideal S1x1x2048 .f32 := View.ld (iblk m c 7 t) (Rect.unit (k0_off2 (grid0.coords t)) S1x1x2048.size (k0_off2_inb (grid0.coords t)))
def scale (c : Dev nD) (t : Fin cfg0.N) : Vec Ideal S1x1x2048 .f32 := View.ld (iblk m c 7 t) (Rect.unit (k0_off3 (grid0.coords t)) S1x1x2048.size (k0_off3_inb (grid0.coords t)))

/-- The product rows and the residual rows of a point. -/
def arows (c : Dev nD) (t : Fin cfg0.N) : Vec Ideal S256x2048 .bf16 := pick (arg t) (iblk m c 0 t) (iblk m c 1 t)
def xrows (c : Dev nD) (t : Fin cfg0.N) : Vec Ideal S256x2048 .f32 := pick (arg t) (iblk m c 3 t) (iblk m c 4 t)

theorem out9 (c : Dev nD) (t : Fin cfg0.N) (r : Fin 256) (l : Fin 2048) :
    (outsAt0 m c t).1 (ix2 r l) = xrow (arows m c t) (iblk m c 2 t) (xrows m c t) (k0_pay2 (gate m c t) (iblk m c 6 t)) r l := by
  unfold outsAt0
  frame_out
  exact x_apply (arg t) (k0_pay2 (gate m c t) (iblk m c 6 t)) (iblk m c 2 t) (iblk m c 0 t) (iblk m c 1 t) (iblk m c 3 t) (iblk m c 4 t) r l

theorem out10 (c : Dev nD) (t : Fin cfg0.N) (r : Fin 256) (l : Fin 2048) :
    (outsAt0 m c t).2 (ix2 r l) = hrow (fun l => (outsAt0 m c t).1 (ix2 r l))
      (k0_pay3 (shift m c t)) (k0_pay4 (scale m c t)) (iblk m c 8 t) l := by
  simp only [out9]
  unfold outsAt0
  frame_out
  refine (h_apply (arg t) (k0_pay2 (gate m c t) (iblk m c 6 t)) (iblk m c 2 t) (k0_pay3 (shift m c t)) (k0_pay4 (scale m c t)) (iblk m c 8 t) (iblk m c 0 t) (iblk m c 1 t) (iblk m c 3 t) (iblk m c 4 t) r l).trans ?_
  simp only [x_apply]
  rfl

/-- The rows of the two halves, the contexts first. -/
def both {φ : EltTy} (oc ol : Vec Ideal S4096x2048 φ) (r : Fin 8192) (k : Fin 2048) : Elt Ideal φ :=
  if h : r.val < 4096 then oc (ix2 ⟨r, h⟩ k) else ol (ix2 ⟨r.val - 4096, by omega⟩ k)

/-- The residual stream after the step. -/
def xres (oc ol : Vec Ideal S4096x2048 .bf16) (w : Vec Ideal S1x2048x2048 .bf16) (xc xl : Vec Ideal S4096x2048 .f32) (mod : Vec Ideal S4x8x12288 .f32)
    (g : Vec Ideal S4x1x2048 .f32) : FVec Ideal S8192x2048 .f32 := fun i =>
  both (φ := .f32) xc xl (i 0) (i 1) + nrm (fun l => ∑ k : Fin 2048, both (φ := .bf16) oc ol (i 0) k * w (ix3 0 k l)) (i 1) * (mod (ix3 0 (crow (i 0)) ⟨4096 + (i 1).val, by have : (i 1).val < 2048 := (i 1).isLt; omega⟩) * g (ix3 0 0 (i 1)))

/-- The feed-forward part's normalised input from the residual stream. -/
def hres (x : Vec Ideal S8192x2048 .f32) (mod : Vec Ideal S4x8x12288 .f32) (p : Vec Ideal S4x1x2048 .f32) : FVec Ideal S8192x2048 .bf16 := fun i =>
  nrm (fun l => x (ix2 (i 0) l)) (i 1)
    * ((Ideal.ofBits .f32 0x3F800000#32 + mod (ix3 0 (crow (i 0)) ⟨8192 + (i 1).val, by have : (i 1).val < 2048 := (i 1).isLt; omega⟩)) * p (ix3 0 0 (i 1)))
    + mod (ix3 0 (crow (i 0)) ⟨6144 + (i 1).val, by have : (i 1).val < 2048 := (i 1).isLt; omega⟩)

def res9 (c : Dev nD) : FVec Ideal S8192x2048 .f32 :=
  xres (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

def res10 (c : Dev nD) : FVec Ideal S8192x2048 .bf16 :=
  hres (res9 m c) (m ((c.tc : Thread nD τ).loc main_arg5)) (m ((c.tc : Thread nD τ).loc main_arg7))

theorem prow_lt (t : Fin cfg0.N) : prow t.val < 8 := by
  have := lt_32 t
  unfold prow
  split <;> omega

theorem crow_eq (t : Fin cfg0.N) (r : Fin 256) (h : 256 * t.val + r.val < 8192) : crow ⟨256 * t.val + r, h⟩ = ⟨prow t.val, prow_lt t⟩ := by
  have := lt_32 t
  unfold crow prow
  apply Fin.ext
  by_cases h1 : t.val < 16
  · have h2 : 256 * t.val + r.val < 4096 := by omega
    simp [h1, h2]
  · have h2 : ¬256 * t.val + r.val < 4096 := by omega
    simp only [h1, h2, dite_false, if_false]
    omega

theorem arows_eq (c : Dev nD) (t : Fin cfg0.N) (r : Fin 256) (k : Fin 2048) (h : 256 * t.val + r.val < 8192) :
    arows m c t (ix2 r k)
      = both (m ((c.tc : Thread nD τ).loc main_arg0)) (m ((c.tc : Thread nD τ).loc main_arg1)) ⟨256 * t.val + r, h⟩ k := by
  have := lt_32 t
  unfold arows pick arg Scalar.select both
  rw [sel]
  by_cases h1 : t.val < 16
  · have h2 : 256 * t.val + r.val < 4096 := by omega
    have h3 : min t.val 15 = t.val := by omega
    simp only [h1, h2, if_true, dite_true]
    refine (blk0 m c t r k).trans ?_
    exact congrArg (fun z => m ((c.tc : Thread nD τ).loc main_arg0) (ix2 z k)) (Fin.ext (by show 256 * min t.val 15 + r.val = 256 * t.val + r.val; rw [h3]))
  · have h2 : ¬256 * t.val + r.val < 4096 := by omega
    simp only [h1, h2, if_false, dite_false]
    refine (blk1 m c t r k).trans ?_
    exact congrArg (fun z => m ((c.tc : Thread nD τ).loc main_arg1) (ix2 z k)) (Fin.ext (by show 256 * (t.val - 16) + r.val = 256 * t.val + r.val - 4096; omega))

theorem xrows_eq (c : Dev nD) (t : Fin cfg0.N) (r : Fin 256) (k : Fin 2048) (h : 256 * t.val + r.val < 8192) :
    xrows m c t (ix2 r k)
      = both (m ((c.tc : Thread nD τ).loc main_arg3)) (m ((c.tc : Thread nD τ).loc main_arg4)) ⟨256 * t.val + r, h⟩ k := by
  have := lt_32 t
  unfold xrows pick arg Scalar.select both
  rw [sel]
  by_cases h1 : t.val < 16
  · have h2 : 256 * t.val + r.val < 4096 := by omega
    have h3 : min t.val 15 = t.val := by omega
    simp only [h1, h2, if_true, dite_true]
    refine (blk3 m c t r k).trans ?_
    exact congrArg (fun z => m ((c.tc : Thread nD τ).loc main_arg3) (ix2 z k)) (Fin.ext (by show 256 * min t.val 15 + r.val = 256 * t.val + r.val; rw [h3]))
  · have h2 : ¬256 * t.val + r.val < 4096 := by omega
    simp only [h1, h2, if_false, dite_false]
    refine (blk4 m c t r k).trans ?_
    exact congrArg (fun z => m ((c.tc : Thread nD τ).loc main_arg4) (ix2 z k)) (Fin.ext (by show 256 * (t.val - 16) + r.val = 256 * t.val + r.val - 4096; omega))

theorem out9_eq (c : Dev nD) (t : Fin cfg0.N) (r : Fin 256) (l : Fin 2048) :
    (outsAt0 m c t).1 (ix2 r l) = res9 m c (ix2 ⟨256 * t.val + r, by have := lt_32 t; omega⟩ l) := by
  have hlt : 256 * t.val + r.val < 8192 := by have := lt_32 t; omega
  rw [out9]
  unfold xrow
  rw [gate_apply, gate, ld_mod _ _ _ _ _ (off1 t) l (prow_lt t) (by omega), blk5, blk6, xrows_eq m c t r l hlt, ← crow_eq t r hlt]
  simp only [arows_eq m c t r _ hlt, blk2]
  rfl

theorem out10_eq (c : Dev nD) (t : Fin cfg0.N) (r : Fin 256) (l : Fin 2048) :
    (outsAt0 m c t).2 (ix2 r l) = res10 m c (ix2 ⟨256 * t.val + r, by have := lt_32 t; omega⟩ l) := by
  have hlt : 256 * t.val + r.val < 8192 := by have := lt_32 t; omega
  rw [out10]
  have hx : (fun l => (outsAt0 m c t).1 (ix2 r l)) = fun l => res9 m c (ix2 ⟨256 * t.val + r, hlt⟩ l) := by
    funext l'
    exact out9_eq m c t r l'
  rw [hx]
  unfold hrow
  rw [shift_apply, scale_apply, shift, scale, ld_mod _ _ _ _ _ (off2 t) l (prow_lt t) (by omega),
    ld_mod _ _ _ _ _ (off3 t) l (prow_lt t) (by omega), blk7, blk7, blk8, ← crow_eq t r hlt]
  rfl

theorem final9 (c : Dev nD) : (dats m 0 c).arrAt 9 cfg0.N = res9 m c := by
  refine (dats m 0 c).arrAt_eq_of_covers 9 _ (by decide +kernel) fun t _ y => ?_
  blk_simp
  rw [after0_9]
  obtain ⟨r, l, rfl⟩ : ∃ (r : Fin 256) (l : Fin 2048), y = ix2 r l := ⟨y 0, y 1, by idx_ext⟩
  refine (out9_eq m c t r l).trans ?_
  blk_ext [idx t]

theorem final10 (c : Dev nD) : (dats m 0 c).arrAt 10 cfg0.N = res10 m c := by
  refine (dats m 0 c).arrAt_eq_of_covers 10 _ (by decide +kernel) fun t _ y => ?_
  blk_simp
  rw [after0_10]
  obtain ⟨r, l, rfl⟩ : ∃ (r : Fin 256) (l : Fin 2048), y = ix2 r l := ⟨y 0, y 1, by idx_ext⟩
  refine (out10_eq m c t r l).trans ?_
  blk_ext [idx t]

end Cert.Kernel12Ideal.Out
-- ==== Proof.Call12.Claim.lean ====
/- The first layer's output product with its residual step: the reference's results, and the claim. -/
module

public import proofs.«01_k».proof.Defs
public import proofs.«01_k».proof.Proof.Gen.Reference12Ideal.Read
public import proofs.«01_k».proof.Proof.Gen.Reference12Ideal.Run
public import proofs.«01_k».proof.Proof.Call12.Val
public import Idealize.ShloMosaic.Lib.Claim

@[expose] public section

set_option maxRecDepth 16384

noncomputable section

namespace Cert.Reference12Ideal.Out

open Cert.Reference12Ideal Cert.Reference12Ideal.Gen Cert.Reference12Ideal.Read Idealize.ShloMosaic Idealize.ShloMosaic.TcCoe Idealize.ShloMosaic.Tactic Idealize.SL.Sem
open Cert.Resid Cert.Kernel12Ideal.Out

variable (oc ol : BufTy.Contents (Elt Ideal) ⟨S4096x2048, .bf16⟩) (w : BufTy.Contents (Elt Ideal) ⟨S1x2048x2048, .bf16⟩)
  (xc xl : BufTy.Contents (Elt Ideal) ⟨S4096x2048, .f32⟩) (mod : BufTy.Contents (Elt Ideal) ⟨S4x8x12288, .f32⟩)
  (g p : BufTy.Contents (Elt Ideal) ⟨S4x1x2048, .f32⟩)

theorem cond_ctx (r : Fin 4096) (l : Fin 12288) : val_main_v13 (F := Ideal) mod (ix2 ⟨r, by omega⟩ l) = mod (ix3 0 4 l) := by
  pointwise [val_main_v13, val_main_v5, val_main_v6, val_main_v7, val_main_v8, val_main_v9, val_main_v10, val_main_v11, val_main_v12]

theorem half (p : Fin 4096) (l : Fin 12288) : val_main_v13 (F := Ideal) mod (ix2 ⟨4096 + p, by omega⟩ l) = val_main_v12 (F := Ideal) mod (ix2 p l) := by
  pointwise [val_main_v13]

theorem spread (b : Fin 4) (q : Fin 1024) (l : Fin 12288) : val_main_v12 (F := Ideal) mod (ix2 ⟨b * 1024 + q, by omega⟩ l) = val_main_v11 (F := Ideal) mod (ix3 b q l) := by
  pointwise [val_main_v12]

theorem cond_lat (b : Fin 4) (q : Fin 1024) (l : Fin 12288) :
    val_main_v13 (F := Ideal) mod (ix2 ⟨4096 + (b * 1024 + q), by omega⟩ l) = mod (ix3 0 ⟨b, by omega⟩ l) := by
  refine (half mod ⟨b * 1024 + q, by omega⟩ l).trans ((spread mod b q l).trans ?_)
  pointwise [val_main_v8, val_main_v9, val_main_v10, val_main_v11]

theorem cond (r : Fin 8192) (l : Fin 12288) : val_main_v13 (F := Ideal) mod (ix2 r l) = mod (ix3 0 (crow r) l) := by
  by_cases h : r.val < 4096
  · have hc : crow r = 4 := by unfold crow; simp [h]
    rw [hc]
    exact cond_ctx mod ⟨r, h⟩ l
  · have hb : (r.val - 4096) / 1024 < 4 := by omega
    have hq : (r.val - 4096) % 1024 < 1024 := by omega
    have hc : crow r = ⟨(r.val - 4096) / 1024, by omega⟩ := by unfold crow; simp [h]
    have hr : r = ⟨4096 + ((r.val - 4096) / 1024 * 1024 + (r.val - 4096) % 1024), by omega⟩ := Fin.ext (by show r.val = 4096 + ((r.val - 4096) / 1024 * 1024 + (r.val - 4096) % 1024); omega)
    rw [hc]
    refine (congrArg (fun z => val_main_v13 (F := Ideal) mod (ix2 z l)) hr).trans ?_
    exact cond_lat mod ⟨(r.val - 4096) / 1024, hb⟩ ⟨(r.val - 4096) % 1024, hq⟩ l

theorem gate (r : Fin 8192) (l : Fin 2048) : val_main_v14 (F := Ideal) mod (ix2 r l) = mod (ix3 0 (crow r) ⟨4096 + l, by omega⟩) :=
  Eq.trans (b := val_main_v13 (F := Ideal) mod (ix2 r ⟨4096 + l, by omega⟩)) (by pointwise [val_main_v14]) (cond mod r _)

theorem shift (r : Fin 8192) (l : Fin 2048) : val_main_v15 (F := Ideal) mod (ix2 r l) = mod (ix3 0 (crow r) ⟨6144 + l, by omega⟩) :=
  Eq.trans (b := val_main_v13 (F := Ideal) mod (ix2 r ⟨6144 + l, by omega⟩)) (by pointwise [val_main_v15]) (cond mod r _)

theorem scale (r : Fin 8192) (l : Fin 2048) : val_main_v16 (F := Ideal) mod (ix2 r l) = mod (ix3 0 (crow r) ⟨8192 + l, by omega⟩) :=
  Eq.trans (b := val_main_v13 (F := Ideal) mod (ix2 r ⟨8192 + l, by omega⟩)) (by pointwise [val_main_v16]) (cond mod r _)

theorem rows_ctx (r : Fin 4096) (k : Fin 2048) : val_main_v0 (F := Ideal) oc ol (ix2 ⟨r, by omega⟩ k) = oc (ix2 r k) := by
  pointwise [val_main_v0]

theorem rows_lat (r : Fin 4096) (k : Fin 2048) : val_main_v0 (F := Ideal) oc ol (ix2 ⟨4096 + r, by omega⟩ k) = ol (ix2 r k) := by
  pointwise [val_main_v0]

theorem rows (r : Fin 8192) (k : Fin 2048) : val_main_v0 (F := Ideal) oc ol (ix2 r k) = both (φ := .bf16) oc ol r k := by
  unfold both
  by_cases h : r.val < 4096
  · rw [dif_pos h]
    exact rows_ctx oc ol ⟨r, h⟩ k
  · rw [dif_neg h]
    have hr : r = ⟨4096 + (r.val - 4096), by omega⟩ := Fin.ext (by show r.val = 4096 + (r.val - 4096); omega)
    refine (congrArg (fun z => val_main_v0 (F := Ideal) oc ol (ix2 z k)) hr).trans ?_
    exact rows_lat oc ol ⟨r.val - 4096, by omega⟩ k

theorem xs_ctx (r : Fin 4096) (k : Fin 2048) : val_main_v17 (F := Ideal) xc xl (ix2 ⟨r, by omega⟩ k) = xc (ix2 r k) := by
  pointwise [val_main_v17]

theorem xs_lat (r : Fin 4096) (k : Fin 2048) : val_main_v17 (F := Ideal) xc xl (ix2 ⟨4096 + r, by omega⟩ k) = xl (ix2 r k) := by
  pointwise [val_main_v17]

theorem xs (r : Fin 8192) (k : Fin 2048) : val_main_v17 (F := Ideal) xc xl (ix2 r k) = both (φ := .f32) xc xl r k := by
  unfold both
  by_cases h : r.val < 4096
  · rw [dif_pos h]
    exact xs_ctx xc xl ⟨r, h⟩ k
  · rw [dif_neg h]
    have hr : r = ⟨4096 + (r.val - 4096), by omega⟩ := Fin.ext (by show r.val = 4096 + (r.val - 4096); omega)
    refine (congrArg (fun z => val_main_v17 (F := Ideal) xc xl (ix2 z k)) hr).trans ?_
    exact xs_lat xc xl ⟨r.val - 4096, by omega⟩ k

theorem dot (r : Fin 8192) (l : Fin 2048) : val_main_v4 (F := Ideal) oc ol w (ix2 r l) = ∑ k : Fin 2048, both (φ := .bf16) oc ol r k * w (ix3 0 k l) := by
  simp only [← rows]
  pointwise [val_main_v4, val_main_v1, val_main_v2, val_main_v3]

theorem x_apply (r : Fin 8192) (l : Fin 2048) : val_main_v33 (F := Ideal) oc ol w xc xl mod g (ix2 r l)
    = val_main_v17 (F := Ideal) xc xl (ix2 r l) + val_main_v14 (F := Ideal) mod (ix2 r l) * (nrm (fun l => val_main_v4 (F := Ideal) oc ol w (ix2 r l)) l * g (ix3 0 0 l)) := by
  unfold nrm
  pointwise [val_main_v33, val_main_v32, val_main_v31, val_main_v30, val_main_v29, val_main_v28, val_main_v27, val_main_v26, val_main_v25, val_main_v24, val_main_v23, val_main_v22, val_main_v21, val_main_v20, val_main_v19, val_main_v18, val_main_cst, val_main_cst_0, val_main_cst_1]

theorem h_apply (r : Fin 8192) (l : Fin 2048) : val_main_v52 (F := Ideal) oc ol w xc xl mod g p (ix2 r l)
    = nrm (fun l => val_main_v33 (F := Ideal) oc ol w xc xl mod g (ix2 r l)) l * p (ix3 0 0 l) * (Ideal.ofBits .f32 0x3F800000#32 + val_main_v16 (F := Ideal) mod (ix2 r l))
      + val_main_v15 (F := Ideal) mod (ix2 r l) := by
  unfold nrm
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_2,
    val_main_cst_3, val_main_cst_4, val_main_cst_5]

theorem x_eq : val_main_v33 (F := Ideal) oc ol w xc xl mod g = xres oc ol w xc xl mod g := by
  funext i
  obtain ⟨r, l, rfl⟩ : ∃ (r : Fin 8192) (l : Fin 2048), i = ix2 r l := ⟨i 0, i 1, by idx_ext⟩
  rw [x_apply, xs, gate, mul_left_comm]
  simp only [dot]
  rfl

theorem h_eq : val_main_v52 (F := Ideal) oc ol w xc xl mod g p = hres (xres oc ol w xc xl mod g) mod p := by
  funext i
  obtain ⟨r, l, rfl⟩ : ∃ (r : Fin 8192) (l : Fin 2048), i = ix2 r l := ⟨i 0, i 1, by idx_ext⟩
  rw [h_apply, scale, shift, x_eq, mul_assoc, mul_comm (p _)]
  rfl

end Cert.Reference12Ideal.Out

namespace Cert.Call12

open Idealize.ShloMosaic Idealize.SL.Sem Idealize.ShloMosaic.Tactic

/-- The first layer's output product with its residual step: kernel and reference agree at every element. -/
theorem algebraic :
    letI := Cert.Kernel12Ideal.Gen.facts; letI := Cert.Reference12Ideal.Gen.facts
    algebraic_Kernel12Ideal_Reference12Ideal := by
  pair_intro
  · run_from Cert.Kernel12Ideal.Gen.run_main m g
  · run_from Cert.Reference12Ideal.Value.run m' g'
    · obtain ⟨e0, e1, e2, e3, e4, e5, e6, e7⟩ := hagree c
      refine Eq.trans ?_ (Cert.Kernel12Ideal.Out.final9 m c).symm
      unfold Cert.Kernel12Ideal.Out.res9
      rw [← e0, ← e1, ← e2, ← e3, ← e4, ← e5, ← e6]
      exact (Cert.Reference12Ideal.Read.val_main_v33_eq ..).trans (Cert.Reference12Ideal.Out.x_eq _ _ _ _ _ _ _)
    · obtain ⟨e0, e1, e2, e3, e4, e5, e6, e7⟩ := hagree c
      refine Eq.trans ?_ (Cert.Kernel12Ideal.Out.final10 m c).symm
      unfold Cert.Kernel12Ideal.Out.res10 Cert.Kernel12Ideal.Out.res9
      rw [← e0, ← e1, ← e2, ← e3, ← e4, ← e5, ← e6, ← e7]
      exact (Cert.Reference12Ideal.Read.val_main_v52_eq ..).trans (Cert.Reference12Ideal.Out.h_eq _ _ _ _ _ _ _ _)

/-- The reference leaves its arguments as they were and every counter at zero. -/
theorem frame : letI := Cert.Reference12Ideal.Gen.facts; quiescent_Reference12Ideal := by
  intro m g _
  run_from Cert.Reference12Ideal.Value.run m g
  · intro c; simp
  · exact sem_eq_zero_of_no_sems (by decide) r.2

end Cert.Call12

end
-- ==== Proof.Call13.Pieces.lean ====
/- The query product of the attention layers: the stored pieces at every element. -/
module

public import proofs.«01_k».proof.Proof.Gen.Kernel13Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel13Ideal.Proj

open Cert.Kernel13Ideal Cert.Kernel13Ideal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- Lane `l` of chunk `c` of a row with its turn: the lane, the one sixteen above and the one sixteen below, each times its table. -/
def ropeAt (y : FVec Ideal S256x1024 .f32) (a b d : FVec Ideal S256x128 .f32) (c : ℕ) (hc : c < 8) (r : Fin 256) (l : Fin 128) : EReal :=
  y (ix2 r ⟨128 * c + l, by omega⟩) * a (ix2 r l) + y (ix2 r ⟨128 * c + (l + 128 - 112) % 128, by omega⟩) * b (ix2 r l)
    + y (ix2 r ⟨128 * c + (l + 128 - 16) % 128, by omega⟩) * d (ix2 r l)

theorem pay0_0 (X : Vec Ideal S256x2048 .bf16) (w : Vec Ideal S2048x1024 .bf16) (a b d : FVec Ideal S256x128 .f32) (r : Fin 256) (l : Fin 128) :
    (k0_pay14 (k0_pay10 d) (k0_pay12 X w a b) (k0_pay13 X w)) (ix2 r l) = ropeAt (k0_pay4 X w) a b d 0 (by omega) r l := by
  unfold k0_pay12 k0_pay13 k0_pay11
  generalize k0_pay4 X w = y
  unfold ropeAt
  pointwise [k0_pay14, k0_pay8, k0_pay9, k0_pay10]

theorem pay0_1 (y : FVec Ideal S256x1024 .f32) (a b d : FVec Ideal S256x128 .f32) (r : Fin 256) (l : Fin 128) :
    (k0_pay15 y (k0_pay8 a) (k0_pay9 b) (k0_pay10 d)) (ix2 r l) = ropeAt y a b d 1 (by omega) r l := by
  unfold ropeAt
  pointwise [k0_pay15, k0_pay8, k0_pay9, k0_pay10]

theorem pay0_2 (y : FVec Ideal S256x1024 .f32) (a b d : FVec Ideal S256x128 .f32) (r : Fin 256) (l : Fin 128) :
    (k0_pay16 y (k0_pay8 a) (k0_pay9 b) (k0_pay10 d)) (ix2 r l) = ropeAt y a b d 2 (by omega) r l := by
  unfold ropeAt
  pointwise [k0_pay16, k0_pay8, k0_pay9, k0_pay10]

theorem pay0_3 (y : FVec Ideal S256x1024 .f32) (a b d : FVec Ideal S256x128 .f32) (r : Fin 256) (l : Fin 128) :
    (k0_pay17 y (k0_pay8 a) (k0_pay9 b) (k0_pay10 d)) (ix2 r l) = ropeAt y a b d 3 (by omega) r l := by
  unfold ropeAt
  pointwise [k0_pay17, k0_pay8, k0_pay9, k0_pay10]

theorem pay0_4 (y : FVec Ideal S256x1024 .f32) (a b d : FVec Ideal S256x128 .f32) (r : Fin 256) (l : Fin 128) :
    (k0_pay21 (k0_pay10 d) (k0_pay19 y (k0_pay8 a) (k0_pay9 b)) (k0_pay20 y)) (ix2 r l) = ropeAt y a b d 4 (by omega) r l := by
  unfold ropeAt
  pointwise [k0_pay21, k0_pay19, k0_pay20, k0_pay18, k0_pay8, k0_pay9, k0_pay10]

theorem pay0_5 (y : FVec Ideal S256x1024 .f32) (a b d : FVec Ideal S256x128 .f32) (r : Fin 256) (l : Fin 128) :
    (k0_pay22 y (k0_pay8 a) (k0_pay9 b) (k0_pay10 d)) (ix2 r l) = ropeAt y a b d 5 (by omega) r l := by
  unfold ropeAt
  pointwise [k0_pay22, k0_pay8, k0_pay9, k0_pay10]

theorem pay0_6 (y : FVec Ideal S256x1024 .f32) (a b d : FVec Ideal S256x128 .f32) (r : Fin 256) (l : Fin 128) :
    (k0_pay23 y (k0_pay8 a) (k0_pay9 b) (k0_pay10 d)) (ix2 r l) = ropeAt y a b d 6 (by omega) r l := by
  unfold ropeAt
  pointwise [k0_pay23, k0_pay8, k0_pay9, k0_pay10]

theorem pay0_7 (y : FVec Ideal S256x1024 .f32) (a b d : FVec Ideal S256x128 .f32) (r : Fin 256) (l : Fin 128) :
    (k0_pay24 y (k0_pay8 a) (k0_pay9 b) (k0_pay10 d)) (ix2 r l) = ropeAt y a b d 7 (by omega) r l := by
  unfold ropeAt
  pointwise [k0_pay24, k0_pay8, k0_pay9, k0_pay10]

theorem pay1_0 (y : FVec Ideal S256x1024 .f32) (a b d : FVec Ideal S256x128 .f32) (r : Fin 256) (l : Fin 128) :
    (k0_pay28 y (k0_pay25 a) (k0_pay26 b) d) (ix2 r l) = ropeAt y a b d 0 (by omega) r l := by
  unfold ropeAt
  pointwise [k0_pay28, k0_pay25, k0_pay26, k0_pay27]

theorem pay1_1 (y : FVec Ideal S256x1024 .f32) (a b d : FVec Ideal S256x128 .f32) (r : Fin 256) (l : Fin 128) :
    (k0_pay29 y (k0_pay25 a) (k0_pay26 b) d) (ix2 r l) = ropeAt y a b d 1 (by omega) r l := by
  unfold ropeAt
  pointwise [k0_pay29, k0_pay25, k0_pay26, k0_pay27]

theorem pay1_2 (y : FVec Ideal S256x1024 .f32) (a b d : FVec Ideal S256x128 .f32) (r : Fin 256) (l : Fin 128) :
    (k0_pay30 y (k0_pay25 a) (k0_pay26 b) d) (ix2 r l) = ropeAt y a b d 2 (by omega) r l := by
  unfold ropeAt
  pointwise [k0_pay30, k0_pay25, k0_pay26, k0_pay27]

theorem pay1_3 (y : FVec Ideal S256x1024 .f32) (a b d : FVec Ideal S256x128 .f32) (r : Fin 256) (l : Fin 128) :
    (k0_pay31 y (k0_pay25 a) (k0_pay26 b) d) (ix2 r l) = ropeAt y a b d 3 (by omega) r l := by
  unfold ropeAt
  pointwise [k0_pay31, k0_pay25, k0_pay26, k0_pay27]

theorem pay1_4 (y : FVec Ideal S256x1024 .f32) (a b d : FVec Ideal S256x128 .f32) (r : Fin 256) (l : Fin 128) :
    (k0_pay32 y (k0_pay25 a) (k0_pay26 b) (k0_pay27 d)) (ix2 r l) = ropeAt y a b d 4 (by omega) r l := by
  unfold ropeAt
  pointwise [k0_pay32, k0_pay25, k0_pay26, k0_pay27]

theorem pay1_5 (y : FVec Ideal S256x1024 .f32) (a b d : FVec Ideal S256x128 .f32) (r : Fin 256) (l : Fin 128) :
    (k0_pay33 y (k0_pay25 a) (k0_pay26 b) (k0_pay27 d)) (ix2 r l) = ropeAt y a b d 5 (by omega) r l := by
  unfold ropeAt
  pointwise [k0_pay33, k0_pay25, k0_pay26, k0_pay27]

theorem pay1_6 (y : FVec Ideal S256x1024 .f32) (a b d : FVec Ideal S256x128 .f32) (r : Fin 256) (l : Fin 128) :
    (k0_pay34 y (k0_pay25 a) (k0_pay26 b) (k0_pay27 d)) (ix2 r l) = ropeAt y a b d 6 (by omega) r l := by
  unfold ropeAt
  pointwise [k0_pay34, k0_pay25, k0_pay26, k0_pay27]

theorem pay1_7 (y : FVec Ideal S256x1024 .f32) (a b d : FVec Ideal S256x128 .f32) (r : Fin 256) (l : Fin 128) :
    (k0_pay35 y (k0_pay25 a) (k0_pay26 b) (k0_pay27 d)) (ix2 r l) = ropeAt y a b d 7 (by omega) r l := by
  unfold ropeAt
  pointwise [k0_pay35, k0_pay25, k0_pay26, k0_pay27]

theorem pay2_0 (y : FVec Ideal S256x1024 .f32) (a b d : FVec Ideal S256x128 .f32) (r : Fin 256) (l : Fin 128) :
    (k0_pay39 y a b d) (ix2 r l) = ropeAt y a b d 0 (by omega) r l := by
  unfold ropeAt
  pointwise [k0_pay39, k0_pay36, k0_pay37, k0_pay38]

theorem pay2_1 (y : FVec Ideal S256x1024 .f32) (a b d : FVec Ideal S256x128 .f32) (r : Fin 256) (l : Fin 128) :
    (k0_pay40 y a b d) (ix2 r l) = ropeAt y a b d 1 (by omega) r l := by
  unfold ropeAt
  pointwise [k0_pay40, k0_pay36, k0_pay37, k0_pay38]

theorem pay2_2 (y : FVec Ideal S256x1024 .f32) (a b d : FVec Ideal S256x128 .f32) (r : Fin 256) (l : Fin 128) :
    (k0_pay41 y a b d) (ix2 r l) = ropeAt y a b d 2 (by omega) r l := by
  unfold ropeAt
  pointwise [k0_pay41, k0_pay36, k0_pay37, k0_pay38]

theorem pay2_3 (y : FVec Ideal S256x1024 .f32) (a b d : FVec Ideal S256x128 .f32) (r : Fin 256) (l : Fin 128) :
    (k0_pay42 y (k0_pay36 a) (k0_pay37 b) (k0_pay38 d)) (ix2 r l) = ropeAt y a b d 3 (by omega) r l := by
  unfold ropeAt
  pointwise [k0_pay42, k0_pay36, k0_pay37, k0_pay38]

theorem pay2_4 (y : FVec Ideal S256x1024 .f32) (a b d : FVec Ideal S256x128 .f32) (r : Fin 256) (l : Fin 128) :
    (k0_pay43 y (k0_pay36 a) (k0_pay37 b) (k0_pay38 d)) (ix2 r l) = ropeAt y a b d 4 (by omega) r l := by
  unfold ropeAt
  pointwise [k0_pay43, k0_pay36, k0_pay37, k0_pay38]

theorem pay2_5 (y : FVec Ideal S256x1024 .f32) (a b d : FVec Ideal S256x128 .f32) (r : Fin 256) (l : Fin 128) :
    (k0_pay44 y (k0_pay36 a) (k0_pay37 b) (k0_pay38 d)) (ix2 r l) = ropeAt y a b d 5 (by omega) r l := by
  unfold ropeAt
  pointwise [k0_pay44, k0_pay36, k0_pay37, k0_pay38]

theorem pay2_6 (y : FVec Ideal S256x1024 .f32) (a b d : FVec Ideal S256x128 .f32) (r : Fin 256) (l : Fin 128) :
    (k0_pay45 y (k0_pay36 a) (k0_pay37 b) (k0_pay38 d)) (ix2 r l) = ropeAt y a b d 6 (by omega) r l := by
  unfold ropeAt
  pointwise [k0_pay45, k0_pay36, k0_pay37, k0_pay38]

theorem pay2_7 (y : FVec Ideal S256x1024 .f32) (a b d : FVec Ideal S256x128 .f32) (r : Fin 256) (l : Fin 128) :
    (k0_pay46 y (k0_pay36 a) (k0_pay37 b) (k0_pay38 d)) (ix2 r l) = ropeAt y a b d 7 (by omega) r l := by
  unfold ropeAt
  pointwise [k0_pay46, k0_pay36, k0_pay37, k0_pay38]

theorem pay3_0 (y : FVec Ideal S256x1024 .f32) (a b d : FVec Ideal S256x128 .f32) (r : Fin 256) (l : Fin 128) :
    (k0_pay50 y a b d) (ix2 r l) = ropeAt y a b d 0 (by omega) r l := by
  unfold ropeAt
  pointwise [k0_pay50, k0_pay47, k0_pay48, k0_pay49]

theorem pay3_1 (y : FVec Ideal S256x1024 .f32) (a b d : FVec Ideal S256x128 .f32) (r : Fin 256) (l : Fin 128) :
    (k0_pay51 y a b d) (ix2 r l) = ropeAt y a b d 1 (by omega) r l := by
  unfold ropeAt
  pointwise [k0_pay51, k0_pay47, k0_pay48, k0_pay49]

theorem pay3_2 (y : FVec Ideal S256x1024 .f32) (a b d : FVec Ideal S256x128 .f32) (r : Fin 256) (l : Fin 128) :
    (k0_pay54 (k0_pay48 b) (k0_pay49 d) (k0_pay52 y) (k0_pay53 y a)) (ix2 r l) = ropeAt y a b d 2 (by omega) r l := by
  unfold ropeAt
  pointwise [k0_pay54, k0_pay52, k0_pay53, k0_pay47, k0_pay48, k0_pay49]

theorem pay3_3 (y : FVec Ideal S256x1024 .f32) (a b d : FVec Ideal S256x128 .f32) (r : Fin 256) (l : Fin 128) :
    (k0_pay55 y (k0_pay47 a) (k0_pay48 b) (k0_pay49 d)) (ix2 r l) = ropeAt y a b d 3 (by omega) r l := by
  unfold ropeAt
  pointwise [k0_pay55, k0_pay47, k0_pay48, k0_pay49]

theorem pay3_4 (y : FVec Ideal S256x1024 .f32) (a b d : FVec Ideal S256x128 .f32) (r : Fin 256) (l : Fin 128) :
    (k0_pay56 y (k0_pay47 a) (k0_pay48 b) (k0_pay49 d)) (ix2 r l) = ropeAt y a b d 4 (by omega) r l := by
  unfold ropeAt
  pointwise [k0_pay56, k0_pay47, k0_pay48, k0_pay49]

theorem pay3_5 (y : FVec Ideal S256x1024 .f32) (a b d : FVec Ideal S256x128 .f32) (r : Fin 256) (l : Fin 128) :
    (k0_pay57 y (k0_pay47 a) (k0_pay48 b) (k0_pay49 d)) (ix2 r l) = ropeAt y a b d 5 (by omega) r l := by
  unfold ropeAt
  pointwise [k0_pay57, k0_pay47, k0_pay48, k0_pay49]

theorem pay3_6 (y : FVec Ideal S256x1024 .f32) (a b d : FVec Ideal S256x128 .f32) (r : Fin 256) (l : Fin 128) :
    (k0_pay1 (k0_pay48 b) (k0_pay49 d) (k0_pay58 y) (k0_pay59 y (k0_pay47 a))) (ix2 r l) = ropeAt y a b d 6 (by omega) r l := by
  unfold ropeAt
  pointwise [k0_pay1, k0_pay58, k0_pay59, k0_pay47, k0_pay48, k0_pay49]

theorem pay3_7 (y : FVec Ideal S256x1024 .f32) (a b d : FVec Ideal S256x128 .f32) (r : Fin 256) (l : Fin 128) :
    (k0_pay2 y (k0_pay47 a) (k0_pay48 b) (k0_pay49 d)) (ix2 r l) = ropeAt y a b d 7 (by omega) r l := by
  unfold ropeAt
  pointwise [k0_pay2, k0_pay47, k0_pay48, k0_pay49]

theorem slab0_apply (x : Vec Ideal S256x2048 .bf16) (w : Vec Ideal S2048x1024 .bf16) (r : Fin 256) (l : Fin 1024) :
    (k0_pay4 x w) (ix2 r l) = ∑ k : Fin 2048, x (ix2 r k) * w (ix2 k l) := by
  pointwise [k0_pay4]

theorem slab1_apply (x : Vec Ideal S256x2048 .bf16) (w : Vec Ideal S2048x1024 .bf16) (r : Fin 256) (l : Fin 1024) :
    (k0_pay5 x w) (ix2 r l) = ∑ k : Fin 2048, x (ix2 r k) * w (ix2 k l) := by
  pointwise [k0_pay5]

theorem slab2_apply (x : Vec Ideal S256x2048 .bf16) (w : Vec Ideal S2048x1024 .bf16) (r : Fin 256) (l : Fin 1024) :
    (k0_pay6 x w) (ix2 r l) = ∑ k : Fin 2048, x (ix2 r k) * w (ix2 k l) := by
  pointwise [k0_pay6]

theorem slab3_apply (x : Vec Ideal S256x2048 .bf16) (w : Vec Ideal S2048x1024 .bf16) (r : Fin 256) (l : Fin 1024) :
    (k0_pay7 x w) (ix2 r l) = ∑ k : Fin 2048, x (ix2 r k) * w (ix2 k l) := by
  pointwise [k0_pay7]

theorem cast_apply (v : Vec Ideal S1x2048x1024 .f32) (k : Fin 2048) (l : Fin 1024) : k0_pay3 v (ix2 k l) = v (ix3 0 k l) := by
  pointwise [k0_pay3]

theorem ld_rows (x : Vec Ideal S1024x2048 .bf16) (o : ℕ) (h : ∀ a : Fin 2, ![o, 0] a + ![256, 2048] a ≤ S1024x2048.size a) (r : Fin 256) (k : Fin 2048) (ho : o + 256 ≤ 1024) :
    View.ld x (Rect.unit ![o, 0] ![256, 2048] h) (ix2 r k) = x (ix2 ⟨o + r, by omega⟩ k) := by
  unfold View.ld
  blk_ext
  all_goals simp [Rect.idx_unit_val]

theorem ld_tab (x : Vec Ideal S1024x128 .f32) (o : ℕ) (h : ∀ a : Fin 2, ![o, 0] a + ![256, 128] a ≤ S1024x128.size a) (r : Fin 256) (k : Fin 128) (ho : o + 256 ≤ 1024) :
    View.ld x (Rect.unit ![o, 0] ![256, 128] h) (ix2 r k) = x (ix2 ⟨o + r, by omega⟩ k) := by
  unfold View.ld
  blk_ext
  all_goals simp [Rect.idx_unit_val]

/-- Row `r`, lane `l` of a block's product. -/
def lin (x : Vec Ideal S1024x2048 .bf16) (w : Vec Ideal S2048x1024 .bf16) (r l : Fin 1024) : EReal :=
  ∑ k : Fin 2048, x (ix2 r k) * w (ix2 k l)

/-- Row `r`, lane `l` of a point's block from its rows, the weight tile and the three tables' rows. -/
def blockOut (x : Vec Ideal S1024x2048 .bf16) (w : Vec Ideal S2048x1024 .bf16) (a b d : Vec Ideal S1024x128 .f32) (r l : Fin 1024) : EReal :=
  lin x w r l * a (ix2 r ⟨l % 128, by omega⟩) + lin x w r ⟨128 * (l / 128) + (l % 128 + 16) % 128, by omega⟩ * b (ix2 r ⟨l % 128, by omega⟩)
    + lin x w r ⟨128 * (l / 128) + (l % 128 + 112) % 128, by omega⟩ * d (ix2 r ⟨l % 128, by omega⟩)

/-- A piece's element as the block's, given the product's rows and the tables' rows it was cut from. -/
theorem rope_block (x : Vec Ideal S1024x2048 .bf16) (w : Vec Ideal S2048x1024 .bf16) (a b d : Vec Ideal S1024x128 .f32)
    (Y : FVec Ideal S256x1024 .f32) (A B D : FVec Ideal S256x128 .f32) (c : ℕ) (hc : c < 8) (r : Fin 256) (l : Fin 128) (R L : Fin 1024) (hl : L.val = 128 * c + l)
    (hY : ∀ k : Fin 1024, Y (ix2 r k) = lin x w R k) (hA : ∀ k : Fin 128, A (ix2 r k) = a (ix2 R k))
    (hB : ∀ k : Fin 128, B (ix2 r k) = b (ix2 R k)) (hD : ∀ k : Fin 128, D (ix2 r k) = d (ix2 R k)) :
    ropeAt Y A B D c hc r l = blockOut x w a b d R L := by
  have e0 : (⟨128 * c + l, by omega⟩ : Fin 1024) = L := Fin.ext hl.symm
  have e1 : (⟨L % 128, by omega⟩ : Fin 128) = l := Fin.ext (by show L.val % 128 = l; omega)
  have e2 : (⟨128 * (L / 128) + (L % 128 + 16) % 128, by omega⟩ : Fin 1024) = ⟨128 * c + (l + 128 - 112) % 128, by omega⟩ := Fin.ext (by show 128 * (L.val / 128) + (L.val % 128 + 16) % 128 = 128 * c + (l.val + 128 - 112) % 128; omega)
  have e3 : (⟨128 * (L / 128) + (L % 128 + 112) % 128, by omega⟩ : Fin 1024) = ⟨128 * c + (l + 128 - 16) % 128, by omega⟩ := Fin.ext (by show 128 * (L.val / 128) + (L.val % 128 + 112) % 128 = 128 * c + (l.val + 128 - 16) % 128; omega)
  unfold ropeAt blockOut
  rw [e0, e1, e2, e3, hY, hY, hY, hA, hB, hD]

theorem slab0 (x : Vec Ideal S1024x2048 .bf16) (w : Vec Ideal S2048x1024 .bf16) (a b d : Vec Ideal S1024x128 .f32)
    (h : ∀ a : Fin 2, ![0, 0] a + ![256, 2048] a ≤ S1024x2048.size a) (g : ∀ a : Fin 2, ![0, 0] a + ![256, 128] a ≤ S1024x128.size a)
    (P : FVec Ideal S256x128 .bf16) (c : ℕ) (hc : c < 8)
    (hP : ∀ (r : Fin 256) (l : Fin 128), P (ix2 r l) = ropeAt (k0_pay4 (View.ld x (Rect.unit ![0, 0] ![256, 2048] h)) w) (View.ld a (Rect.unit ![0, 0] ![256, 128] g))
      (View.ld b (Rect.unit ![0, 0] ![256, 128] g)) (View.ld d (Rect.unit ![0, 0] ![256, 128] g)) c hc r l)
    (y : S256x128.Idx) (R L : Fin 1024) (hr : R.val = 0 + (y 0).val) (hl : L.val = 128 * c + (y 1).val) : P y = blockOut x w a b d R L := by
  obtain ⟨r, l, rfl⟩ : ∃ (r : Fin 256) (l : Fin 128), y = ix2 r l := ⟨y 0, y 1, by idx_ext⟩
  have hlt : 0 + r.val < 1024 := by omega
  obtain rfl : R = ⟨0 + r.val, hlt⟩ := Fin.ext hr
  refine (hP r l).trans (rope_block x w a b d _ _ _ _ c hc r l _ L hl (fun k => ?_) (fun k => ?_) (fun k => ?_) (fun k => ?_))
  · refine (slab0_apply _ _ _ _).trans ?_
    simp only [ld_rows x 0 h _ _ (by omega)]
    rfl
  · exact ld_tab a 0 g r k (by omega)
  · exact ld_tab b 0 g r k (by omega)
  · exact ld_tab d 0 g r k (by omega)

theorem slab1 (x : Vec Ideal S1024x2048 .bf16) (w : Vec Ideal S2048x1024 .bf16) (a b d : Vec Ideal S1024x128 .f32)
    (h : ∀ a : Fin 2, ![256, 0] a + ![256, 2048] a ≤ S1024x2048.size a) (g : ∀ a : Fin 2, ![256, 0] a + ![256, 128] a ≤ S1024x128.size a)
    (P : FVec Ideal S256x128 .bf16) (c : ℕ) (hc : c < 8)
    (hP : ∀ (r : Fin 256) (l : Fin 128), P (ix2 r l) = ropeAt (k0_pay5 (View.ld x (Rect.unit ![256, 0] ![256, 2048] h)) w) (View.ld a (Rect.unit ![256, 0] ![256, 128] g))
      (View.ld b (Rect.unit ![256, 0] ![256, 128] g)) (View.ld d (Rect.unit ![256, 0] ![256, 128] g)) c hc r l)
    (y : S256x128.Idx) (R L : Fin 1024) (hr : R.val = 256 + (y 0).val) (hl : L.val = 128 * c + (y 1).val) : P y = blockOut x w a b d R L := by
  obtain ⟨r, l, rfl⟩ : ∃ (r : Fin 256) (l : Fin 128), y = ix2 r l := ⟨y 0, y 1, by idx_ext⟩
  have hlt : 256 + r.val < 1024 := by omega
  obtain rfl : R = ⟨256 + r.val, hlt⟩ := Fin.ext hr
  refine (hP r l).trans (rope_block x w a b d _ _ _ _ c hc r l _ L hl (fun k => ?_) (fun k => ?_) (fun k => ?_) (fun k => ?_))
  · refine (slab1_apply _ _ _ _).trans ?_
    simp only [ld_rows x 256 h _ _ (by omega)]
    rfl
  · exact ld_tab a 256 g r k (by omega)
  · exact ld_tab b 256 g r k (by omega)
  · exact ld_tab d 256 g r k (by omega)

theorem slab2 (x : Vec Ideal S1024x2048 .bf16) (w : Vec Ideal S2048x1024 .bf16) (a b d : Vec Ideal S1024x128 .f32)
    (h : ∀ a : Fin 2, ![512, 0] a + ![256, 2048] a ≤ S1024x2048.size a) (g : ∀ a : Fin 2, ![512, 0] a + ![256, 128] a ≤ S1024x128.size a)
    (P : FVec Ideal S256x128 .bf16) (c : ℕ) (hc : c < 8)
    (hP : ∀ (r : Fin 256) (l : Fin 128), P (ix2 r l) = ropeAt (k0_pay6 (View.ld x (Rect.unit ![512, 0] ![256, 2048] h)) w) (View.ld a (Rect.unit ![512, 0] ![256, 128] g))
      (View.ld b (Rect.unit ![512, 0] ![256, 128] g)) (View.ld d (Rect.unit ![512, 0] ![256, 128] g)) c hc r l)
    (y : S256x128.Idx) (R L : Fin 1024) (hr : R.val = 512 + (y 0).val) (hl : L.val = 128 * c + (y 1).val) : P y = blockOut x w a b d R L := by
  obtain ⟨r, l, rfl⟩ : ∃ (r : Fin 256) (l : Fin 128), y = ix2 r l := ⟨y 0, y 1, by idx_ext⟩
  have hlt : 512 + r.val < 1024 := by omega
  obtain rfl : R = ⟨512 + r.val, hlt⟩ := Fin.ext hr
  refine (hP r l).trans (rope_block x w a b d _ _ _ _ c hc r l _ L hl (fun k => ?_) (fun k => ?_) (fun k => ?_) (fun k => ?_))
  · refine (slab2_apply _ _ _ _).trans ?_
    simp only [ld_rows x 512 h _ _ (by omega)]
    rfl
  · exact ld_tab a 512 g r k (by omega)
  · exact ld_tab b 512 g r k (by omega)
  · exact ld_tab d 512 g r k (by omega)

theorem slab3 (x : Vec Ideal S1024x2048 .bf16) (w : Vec Ideal S2048x1024 .bf16) (a b d : Vec Ideal S1024x128 .f32)
    (h : ∀ a : Fin 2, ![768, 0] a + ![256, 2048] a ≤ S1024x2048.size a) (g : ∀ a : Fin 2, ![768, 0] a + ![256, 128] a ≤ S1024x128.size a)
    (P : FVec Ideal S256x128 .bf16) (c : ℕ) (hc : c < 8)
    (hP : ∀ (r : Fin 256) (l : Fin 128), P (ix2 r l) = ropeAt (k0_pay7 (View.ld x (Rect.unit ![768, 0] ![256, 2048] h)) w) (View.ld a (Rect.unit ![768, 0] ![256, 128] g))
      (View.ld b (Rect.unit ![768, 0] ![256, 128] g)) (View.ld d (Rect.unit ![768, 0] ![256, 128] g)) c hc r l)
    (y : S256x128.Idx) (R L : Fin 1024) (hr : R.val = 768 + (y 0).val) (hl : L.val = 128 * c + (y 1).val) : P y = blockOut x w a b d R L := by
  obtain ⟨r, l, rfl⟩ : ∃ (r : Fin 256) (l : Fin 128), y = ix2 r l := ⟨y 0, y 1, by idx_ext⟩
  have hlt : 768 + r.val < 1024 := by omega
  obtain rfl : R = ⟨768 + r.val, hlt⟩ := Fin.ext hr
  refine (hP r l).trans (rope_block x w a b d _ _ _ _ c hc r l _ L hl (fun k => ?_) (fun k => ?_) (fun k => ?_) (fun k => ?_))
  · refine (slab3_apply _ _ _ _).trans ?_
    simp only [ld_rows x 768 h _ _ (by omega)]
    rfl
  · exact ld_tab a 768 g r k (by omega)
  · exact ld_tab b 768 g r k (by omega)
  · exact ld_tab d 768 g r k (by omega)

theorem outA (c : Dev nD) (t : Fin cfg0.N) (h0 : t.val % 8 = 0) (y : S1024x1024.Idx) :
    (outsAt0 m c t.val t.isLt).1 y = blockOut (iblk m c 0 t) (k0_pay3 (iblk m c 1 t)) (iblk m c 2 t) (iblk m c 3 t) (iblk m c 4 t) (y 0) (y 1) := by
  rw [outsAt0_A m c t h0]
  frame_out
  canon_tiles x h
  case piece0 =>
    exact slab3 _ _ _ _ _ _ _ _ 7 (by omega) (fun r l => pay3_7 _ _ _ _ r l) x _ _ (by omega) (by omega)
  case piece1 =>
    exact slab3 _ _ _ _ _ _ _ _ 6 (by omega) (fun r l => pay3_6 _ _ _ _ r l) x _ _ (by omega) (by omega)
  case piece2 =>
    exact slab3 _ _ _ _ _ _ _ _ 5 (by omega) (fun r l => pay3_5 _ _ _ _ r l) x _ _ (by omega) (by omega)
  case piece3 =>
    exact slab3 _ _ _ _ _ _ _ _ 4 (by omega) (fun r l => pay3_4 _ _ _ _ r l) x _ _ (by omega) (by omega)
  case piece4 =>
    exact slab3 _ _ _ _ _ _ _ _ 3 (by omega) (fun r l => pay3_3 _ _ _ _ r l) x _ _ (by omega) (by omega)
  case piece5 =>
    exact slab3 _ _ _ _ _ _ _ _ 2 (by omega) (fun r l => pay3_2 _ _ _ _ r l) x _ _ (by omega) (by omega)
  case piece6 =>
    exact slab3 _ _ _ _ _ _ _ _ 1 (by omega) (fun r l => pay3_1 _ _ _ _ r l) x _ _ (by omega) (by omega)
  case piece7 =>
    exact slab3 _ _ _ _ _ _ _ _ 0 (by omega) (fun r l => pay3_0 _ _ _ _ r l) x _ _ (by omega) (by omega)
  case piece8 =>
    exact slab2 _ _ _ _ _ _ _ _ 7 (by omega) (fun r l => pay2_7 _ _ _ _ r l) x _ _ (by omega) (by omega)
  case piece9 =>
    exact slab2 _ _ _ _ _ _ _ _ 6 (by omega) (fun r l => pay2_6 _ _ _ _ r l) x _ _ (by omega) (by omega)
  case piece10 =>
    exact slab2 _ _ _ _ _ _ _ _ 5 (by omega) (fun r l => pay2_5 _ _ _ _ r l) x _ _ (by omega) (by omega)
  case piece11 =>
    exact slab2 _ _ _ _ _ _ _ _ 4 (by omega) (fun r l => pay2_4 _ _ _ _ r l) x _ _ (by omega) (by omega)
  case piece12 =>
    exact slab2 _ _ _ _ _ _ _ _ 3 (by omega) (fun r l => pay2_3 _ _ _ _ r l) x _ _ (by omega) (by omega)
  case piece13 =>
    exact slab2 _ _ _ _ _ _ _ _ 2 (by omega) (fun r l => pay2_2 _ _ _ _ r l) x _ _ (by omega) (by omega)
  case piece14 =>
    exact slab2 _ _ _ _ _ _ _ _ 1 (by omega) (fun r l => pay2_1 _ _ _ _ r l) x _ _ (by omega) (by omega)
  case piece15 =>
    exact slab2 _ _ _ _ _ _ _ _ 0 (by omega) (fun r l => pay2_0 _ _ _ _ r l) x _ _ (by omega) (by omega)
  case piece16 =>
    exact slab1 _ _ _ _ _ _ _ _ 7 (by omega) (fun r l => pay1_7 _ _ _ _ r l) x _ _ (by omega) (by omega)
  case piece17 =>
    exact slab1 _ _ _ _ _ _ _ _ 6 (by omega) (fun r l => pay1_6 _ _ _ _ r l) x _ _ (by omega) (by omega)
  case piece18 =>
    exact slab1 _ _ _ _ _ _ _ _ 5 (by omega) (fun r l => pay1_5 _ _ _ _ r l) x _ _ (by omega) (by omega)
  case piece19 =>
    exact slab1 _ _ _ _ _ _ _ _ 4 (by omega) (fun r l => pay1_4 _ _ _ _ r l) x _ _ (by omega) (by omega)
  case piece20 =>
    exact slab1 _ _ _ _ _ _ _ _ 3 (by omega) (fun r l => pay1_3 _ _ _ _ r l) x _ _ (by omega) (by omega)
  case piece21 =>
    exact slab1 _ _ _ _ _ _ _ _ 2 (by omega) (fun r l => pay1_2 _ _ _ _ r l) x _ _ (by omega) (by omega)
  case piece22 =>
    exact slab1 _ _ _ _ _ _ _ _ 1 (by omega) (fun r l => pay1_1 _ _ _ _ r l) x _ _ (by omega) (by omega)
  case piece23 =>
    exact slab1 _ _ _ _ _ _ _ _ 0 (by omega) (fun r l => pay1_0 _ _ _ _ r l) x _ _ (by omega) (by omega)
  case piece24 =>
    exact slab0 _ _ _ _ _ _ _ _ 7 (by omega) (fun r l => pay0_7 _ _ _ _ r l) x _ _ (by omega) (by omega)
  case piece25 =>
    exact slab0 _ _ _ _ _ _ _ _ 6 (by omega) (fun r l => pay0_6 _ _ _ _ r l) x _ _ (by omega) (by omega)
  case piece26 =>
    exact slab0 _ _ _ _ _ _ _ _ 5 (by omega) (fun r l => pay0_5 _ _ _ _ r l) x _ _ (by omega) (by omega)
  case piece27 =>
    exact slab0 _ _ _ _ _ _ _ _ 4 (by omega) (fun r l => pay0_4 _ _ _ _ r l) x _ _ (by omega) (by omega)
  case piece28 =>
    exact slab0 _ _ _ _ _ _ _ _ 3 (by omega) (fun r l => pay0_3 _ _ _ _ r l) x _ _ (by omega) (by omega)
  case piece29 =>
    exact slab0 _ _ _ _ _ _ _ _ 2 (by omega) (fun r l => pay0_2 _ _ _ _ r l) x _ _ (by omega) (by omega)
  case piece30 =>
    exact slab0 _ _ _ _ _ _ _ _ 1 (by omega) (fun r l => pay0_1 _ _ _ _ r l) x _ _ (by omega) (by omega)
  case piece31 =>
    exact slab0 _ _ _ _ _ _ _ _ 0 (by omega) (fun r l => pay0_0 _ _ _ _ _ r l) x _ _ (by omega) (by omega)

theorem outB (c : Dev nD) (t : Fin cfg0.N) (h0 : ¬t.val % 8 = 0) (hl : t.val - 1 < cfg0.N) (y : S1024x1024.Idx) :
    (outsAt0 m c t.val t.isLt).1 y = blockOut (iblk m c 0 t) (outsAt0 m c (t.val - 1) hl).2 (iblk m c 2 t) (iblk m c 3 t) (iblk m c 4 t) (y 0) (y 1) := by
  rw [outsAt0_B m c t h0]
  frame_out
  canon_tiles x h
  case piece0 =>
    rw [read_unread_whole]
    exact slab3 _ _ _ _ _ _ _ _ 7 (by omega) (fun r l => pay3_7 _ _ _ _ r l) x _ _ (by omega) (by omega)
  case piece1 =>
    rw [read_unread_whole]
    exact slab3 _ _ _ _ _ _ _ _ 6 (by omega) (fun r l => pay3_6 _ _ _ _ r l) x _ _ (by omega) (by omega)
  case piece2 =>
    rw [read_unread_whole]
    exact slab3 _ _ _ _ _ _ _ _ 5 (by omega) (fun r l => pay3_5 _ _ _ _ r l) x _ _ (by omega) (by omega)
  case piece3 =>
    rw [read_unread_whole]
    exact slab3 _ _ _ _ _ _ _ _ 4 (by omega) (fun r l => pay3_4 _ _ _ _ r l) x _ _ (by omega) (by omega)
  case piece4 =>
    rw [read_unread_whole]
    exact slab3 _ _ _ _ _ _ _ _ 3 (by omega) (fun r l => pay3_3 _ _ _ _ r l) x _ _ (by omega) (by omega)
  case piece5 =>
    rw [read_unread_whole]
    exact slab3 _ _ _ _ _ _ _ _ 2 (by omega) (fun r l => pay3_2 _ _ _ _ r l) x _ _ (by omega) (by omega)
  case piece6 =>
    rw [read_unread_whole]
    exact slab3 _ _ _ _ _ _ _ _ 1 (by omega) (fun r l => pay3_1 _ _ _ _ r l) x _ _ (by omega) (by omega)
  case piece7 =>
    rw [read_unread_whole]
    exact slab3 _ _ _ _ _ _ _ _ 0 (by omega) (fun r l => pay3_0 _ _ _ _ r l) x _ _ (by omega) (by omega)
  case piece8 =>
    rw [read_unread_whole]
    exact slab2 _ _ _ _ _ _ _ _ 7 (by omega) (fun r l => pay2_7 _ _ _ _ r l) x _ _ (by omega) (by omega)
  case piece9 =>
    rw [read_unread_whole]
    exact slab2 _ _ _ _ _ _ _ _ 6 (by omega) (fun r l => pay2_6 _ _ _ _ r l) x _ _ (by omega) (by omega)
  case piece10 =>
    rw [read_unread_whole]
    exact slab2 _ _ _ _ _ _ _ _ 5 (by omega) (fun r l => pay2_5 _ _ _ _ r l) x _ _ (by omega) (by omega)
  case piece11 =>
    rw [read_unread_whole]
    exact slab2 _ _ _ _ _ _ _ _ 4 (by omega) (fun r l => pay2_4 _ _ _ _ r l) x _ _ (by omega) (by omega)
  case piece12 =>
    rw [read_unread_whole]
    exact slab2 _ _ _ _ _ _ _ _ 3 (by omega) (fun r l => pay2_3 _ _ _ _ r l) x _ _ (by omega) (by omega)
  case piece13 =>
    rw [read_unread_whole]
    exact slab2 _ _ _ _ _ _ _ _ 2 (by omega) (fun r l => pay2_2 _ _ _ _ r l) x _ _ (by omega) (by omega)
  case piece14 =>
    rw [read_unread_whole]
    exact slab2 _ _ _ _ _ _ _ _ 1 (by omega) (fun r l => pay2_1 _ _ _ _ r l) x _ _ (by omega) (by omega)
  case piece15 =>
    rw [read_unread_whole]
    exact slab2 _ _ _ _ _ _ _ _ 0 (by omega) (fun r l => pay2_0 _ _ _ _ r l) x _ _ (by omega) (by omega)
  case piece16 =>
    rw [read_unread_whole]
    exact slab1 _ _ _ _ _ _ _ _ 7 (by omega) (fun r l => pay1_7 _ _ _ _ r l) x _ _ (by omega) (by omega)
  case piece17 =>
    rw [read_unread_whole]
    exact slab1 _ _ _ _ _ _ _ _ 6 (by omega) (fun r l => pay1_6 _ _ _ _ r l) x _ _ (by omega) (by omega)
  case piece18 =>
    rw [read_unread_whole]
    exact slab1 _ _ _ _ _ _ _ _ 5 (by omega) (fun r l => pay1_5 _ _ _ _ r l) x _ _ (by omega) (by omega)
  case piece19 =>
    rw [read_unread_whole]
    exact slab1 _ _ _ _ _ _ _ _ 4 (by omega) (fun r l => pay1_4 _ _ _ _ r l) x _ _ (by omega) (by omega)
  case piece20 =>
    rw [read_unread_whole]
    exact slab1 _ _ _ _ _ _ _ _ 3 (by omega) (fun r l => pay1_3 _ _ _ _ r l) x _ _ (by omega) (by omega)
  case piece21 =>
    rw [read_unread_whole]
    exact slab1 _ _ _ _ _ _ _ _ 2 (by omega) (fun r l => pay1_2 _ _ _ _ r l) x _ _ (by omega) (by omega)
  case piece22 =>
    rw [read_unread_whole]
    exact slab1 _ _ _ _ _ _ _ _ 1 (by omega) (fun r l => pay1_1 _ _ _ _ r l) x _ _ (by omega) (by omega)
  case piece23 =>
    rw [read_unread_whole]
    exact slab1 _ _ _ _ _ _ _ _ 0 (by omega) (fun r l => pay1_0 _ _ _ _ r l) x _ _ (by omega) (by omega)
  case piece24 =>
    rw [read_unread_whole]
    exact slab0 _ _ _ _ _ _ _ _ 7 (by omega) (fun r l => pay0_7 _ _ _ _ r l) x _ _ (by omega) (by omega)
  case piece25 =>
    rw [read_unread_whole]
    exact slab0 _ _ _ _ _ _ _ _ 6 (by omega) (fun r l => pay0_6 _ _ _ _ r l) x _ _ (by omega) (by omega)
  case piece26 =>
    rw [read_unread_whole]
    exact slab0 _ _ _ _ _ _ _ _ 5 (by omega) (fun r l => pay0_5 _ _ _ _ r l) x _ _ (by omega) (by omega)
  case piece27 =>
    rw [read_unread_whole]
    exact slab0 _ _ _ _ _ _ _ _ 4 (by omega) (fun r l => pay0_4 _ _ _ _ r l) x _ _ (by omega) (by omega)
  case piece28 =>
    rw [read_unread_whole]
    exact slab0 _ _ _ _ _ _ _ _ 3 (by omega) (fun r l => pay0_3 _ _ _ _ r l) x _ _ (by omega) (by omega)
  case piece29 =>
    rw [read_unread_whole]
    exact slab0 _ _ _ _ _ _ _ _ 2 (by omega) (fun r l => pay0_2 _ _ _ _ r l) x _ _ (by omega) (by omega)
  case piece30 =>
    rw [read_unread_whole]
    exact slab0 _ _ _ _ _ _ _ _ 1 (by omega) (fun r l => pay0_1 _ _ _ _ r l) x _ _ (by omega) (by omega)
  case piece31 =>
    rw [read_unread_whole]
    exact slab0 _ _ _ _ _ _ _ _ 0 (by omega) (fun r l => pay0_0 _ _ _ _ _ r l) x _ _ (by omega) (by omega)

end Cert.Kernel13Ideal.Proj
-- ==== Proof.Call13.Tables.lean ====
/- The query product of the attention layers: the three tables the host part makes. -/
module

public import proofs.«01_k».proof.Proof.Gen.Kernel13Ideal.Value
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Rope

open Idealize.ShloMosaic

/-- A position as a number. -/
def pos (n : ℕ) : EReal := FloatOps.sitofp (F := Ideal) FTy.f32 (BitVec.ofNat 32 n)

/-- The `j`-th of the sixteen frequencies. -/
def freq (j : ℕ) : EReal :=
  Ideal.pow (Ideal.ofBits FTy.f32 1176256512#32) (Ideal.div (-FloatOps.sitofp (F := Ideal) FTy.f32 (BitVec.ofNat 32 j)) (Ideal.ofBits FTy.f32 1098907648#32))

/-- The angle of lane `u` of a head at position `p`: the grid row's on the first half of the lanes, the grid column's on the second. -/
def ang (p u : ℕ) : EReal := (if u < 32 then pos (p / 64) else pos (p % 64)) * freq (u % 16)

end Cert.Rope

namespace Cert.Kernel13Ideal.Proj

open Cert.Kernel13Ideal Cert.Kernel13Ideal.Gen Idealize.ShloMosaic Idealize.ShloMosaic.TcCoe Idealize.ShloMosaic.Tactic Idealize.SL.Sem
open Idealize.ShloMosaic.Pipeline (Dat)
open Cert.Rope

variable (m : (ℓ : Loc nD τ sig) → Buf (Elt Ideal) ℓ)

theorem v38_0 (c : Dev nD) (r : Fin 1024) (j : Fin 16) : V m c main_v38 (ix2 ⟨r, by omega⟩ ⟨0 + j, by omega⟩) = (Ideal.cos (pos (r / 64) * freq j) : EReal) := by
  unfold pos freq
  show StableHlo.after hostOps0 _ _ _ = _
  repeat (first | after_reads_at | rw [dif_neg (by omega)] | rw [dif_pos (by omega)])
  all_goals rw [show 0 + j.val = j.val by omega]

theorem v38_1 (c : Dev nD) (r : Fin 1024) (j : Fin 16) : V m c main_v38 (ix2 ⟨r, by omega⟩ ⟨16 + j, by omega⟩) = (Ideal.cos (pos (r / 64) * freq j) : EReal) := by
  unfold pos freq
  show StableHlo.after hostOps0 _ _ _ = _
  repeat (first | after_reads_at | rw [dif_neg (by omega)] | rw [dif_pos (by omega)])
  all_goals rw [show 16 + j.val - 16 = j.val by omega]

theorem v38_2 (c : Dev nD) (r : Fin 1024) (j : Fin 16) : V m c main_v38 (ix2 ⟨r, by omega⟩ ⟨32 + j, by omega⟩) = (Ideal.cos (pos (r % 64) * freq j) : EReal) := by
  unfold pos freq
  show StableHlo.after hostOps0 _ _ _ = _
  repeat (first | after_reads_at | rw [dif_neg (by omega)] | rw [dif_pos (by omega)])
  all_goals rw [show 32 + j.val - 16 - 16 = j.val by omega]

theorem v38_3 (c : Dev nD) (r : Fin 1024) (j : Fin 16) : V m c main_v38 (ix2 ⟨r, by omega⟩ ⟨48 + j, by omega⟩) = (Ideal.cos (pos (r % 64) * freq j) : EReal) := by
  unfold pos freq
  show StableHlo.after hostOps0 _ _ _ = _
  repeat (first | after_reads_at | rw [dif_neg (by omega)] | rw [dif_pos (by omega)])
  all_goals rw [show 48 + j.val - 16 - 16 - 16 = j.val by omega]

theorem v38_4 (c : Dev nD) (r : Fin 1024) (j : Fin 16) : V m c main_v38 (ix2 ⟨r, by omega⟩ ⟨64 + j, by omega⟩) = (Ideal.cos (pos (r / 64) * freq j) : EReal) := by
  unfold pos freq
  show StableHlo.after hostOps0 _ _ _ = _
  repeat (first | after_reads_at | rw [dif_neg (by omega)] | rw [dif_pos (by omega)])
  all_goals rw [show 64 + j.val - 64 = j.val by omega]

theorem v38_5 (c : Dev nD) (r : Fin 1024) (j : Fin 16) : V m c main_v38 (ix2 ⟨r, by omega⟩ ⟨80 + j, by omega⟩) = (Ideal.cos (pos (r / 64) * freq j) : EReal) := by
  unfold pos freq
  show StableHlo.after hostOps0 _ _ _ = _
  repeat (first | after_reads_at | rw [dif_neg (by omega)] | rw [dif_pos (by omega)])
  all_goals rw [show 80 + j.val - 64 - 16 = j.val by omega]

theorem v38_6 (c : Dev nD) (r : Fin 1024) (j : Fin 16) : V m c main_v38 (ix2 ⟨r, by omega⟩ ⟨96 + j, by omega⟩) = (Ideal.cos (pos (r % 64) * freq j) : EReal) := by
  unfold pos freq
  show StableHlo.after hostOps0 _ _ _ = _
  repeat (first | after_reads_at | rw [dif_neg (by omega)] | rw [dif_pos (by omega)])
  all_goals rw [show 96 + j.val - 64 - 16 - 16 = j.val by omega]

theorem v38_7 (c : Dev nD) (r : Fin 1024) (j : Fin 16) : V m c main_v38 (ix2 ⟨r, by omega⟩ ⟨112 + j, by omega⟩) = (Ideal.cos (pos (r % 64) * freq j) : EReal) := by
  unfold pos freq
  show StableHlo.after hostOps0 _ _ _ = _
  repeat (first | after_reads_at | rw [dif_neg (by omega)] | rw [dif_pos (by omega)])
  all_goals rw [show 112 + j.val - 64 - 16 - 16 - 16 = j.val by omega]

theorem v38_id (c : Dev nD) (r : Fin 1024) (l : Fin 128) : V m c main_v38 (ix2 ⟨1024 + r, by omega⟩ l) = (1 : EReal) := by
  show StableHlo.after hostOps0 _ _ _ = _
  after_reads_at
  split_ifs <;> after_reads_at

theorem v41_0 (c : Dev nD) (r : Fin 1024) (j : Fin 16) : V m c main_v41 (ix2 ⟨r, by omega⟩ ⟨0 + j, by omega⟩) = (-Ideal.sin (pos (r / 64) * freq j) : EReal) := by
  unfold pos freq
  show StableHlo.after hostOps0 _ _ _ = _
  repeat (first | after_reads_at | rw [dif_neg (by omega)] | rw [dif_pos (by omega)])
  all_goals rw [show 0 + j.val = j.val by omega]

theorem v41_1 (c : Dev nD) (r : Fin 1024) (j : Fin 16) : V m c main_v41 (ix2 ⟨r, by omega⟩ ⟨16 + j, by omega⟩) = (0 : EReal) := by
  show StableHlo.after hostOps0 _ _ _ = _
  repeat (first | after_reads_at | rw [dif_neg (by omega)] | rw [dif_pos (by omega)])

theorem v41_2 (c : Dev nD) (r : Fin 1024) (j : Fin 16) : V m c main_v41 (ix2 ⟨r, by omega⟩ ⟨32 + j, by omega⟩) = (-Ideal.sin (pos (r % 64) * freq j) : EReal) := by
  unfold pos freq
  show StableHlo.after hostOps0 _ _ _ = _
  repeat (first | after_reads_at | rw [dif_neg (by omega)] | rw [dif_pos (by omega)])
  all_goals rw [show 32 + j.val - 16 - 16 = j.val by omega]

theorem v41_3 (c : Dev nD) (r : Fin 1024) (j : Fin 16) : V m c main_v41 (ix2 ⟨r, by omega⟩ ⟨48 + j, by omega⟩) = (0 : EReal) := by
  show StableHlo.after hostOps0 _ _ _ = _
  repeat (first | after_reads_at | rw [dif_neg (by omega)] | rw [dif_pos (by omega)])

theorem v41_4 (c : Dev nD) (r : Fin 1024) (j : Fin 16) : V m c main_v41 (ix2 ⟨r, by omega⟩ ⟨64 + j, by omega⟩) = (-Ideal.sin (pos (r / 64) * freq j) : EReal) := by
  unfold pos freq
  show StableHlo.after hostOps0 _ _ _ = _
  repeat (first | after_reads_at | rw [dif_neg (by omega)] | rw [dif_pos (by omega)])
  all_goals rw [show 64 + j.val - 64 = j.val by omega]

theorem v41_5 (c : Dev nD) (r : Fin 1024) (j : Fin 16) : V m c main_v41 (ix2 ⟨r, by omega⟩ ⟨80 + j, by omega⟩) = (0 : EReal) := by
  show StableHlo.after hostOps0 _ _ _ = _
  repeat (first | after_reads_at | rw [dif_neg (by omega)] | rw [dif_pos (by omega)])

theorem v41_6 (c : Dev nD) (r : Fin 1024) (j : Fin 16) : V m c main_v41 (ix2 ⟨r, by omega⟩ ⟨96 + j, by omega⟩) = (-Ideal.sin (pos (r % 64) * freq j) : EReal) := by
  unfold pos freq
  show StableHlo.after hostOps0 _ _ _ = _
  repeat (first | after_reads_at | rw [dif_neg (by omega)] | rw [dif_pos (by omega)])
  all_goals rw [show 96 + j.val - 64 - 16 - 16 = j.val by omega]

theorem v41_7 (c : Dev nD) (r : Fin 1024) (j : Fin 16) : V m c main_v41 (ix2 ⟨r, by omega⟩ ⟨112 + j, by omega⟩) = (0 : EReal) := by
  show StableHlo.after hostOps0 _ _ _ = _
  repeat (first | after_reads_at | rw [dif_neg (by omega)] | rw [dif_pos (by omega)])

theorem v41_id (c : Dev nD) (r : Fin 1024) (l : Fin 128) : V m c main_v41 (ix2 ⟨1024 + r, by omega⟩ l) = (0 : EReal) := by
  show StableHlo.after hostOps0 _ _ _ = _
  after_reads_at
  split_ifs <;> after_reads_at

theorem v44_0 (c : Dev nD) (r : Fin 1024) (j : Fin 16) : V m c main_v44 (ix2 ⟨r, by omega⟩ ⟨0 + j, by omega⟩) = (0 : EReal) := by
  show StableHlo.after hostOps0 _ _ _ = _
  repeat (first | after_reads_at | rw [dif_neg (by omega)] | rw [dif_pos (by omega)])

theorem v44_1 (c : Dev nD) (r : Fin 1024) (j : Fin 16) : V m c main_v44 (ix2 ⟨r, by omega⟩ ⟨16 + j, by omega⟩) = (Ideal.sin (pos (r / 64) * freq j) : EReal) := by
  unfold pos freq
  show StableHlo.after hostOps0 _ _ _ = _
  repeat (first | after_reads_at | rw [dif_neg (by omega)] | rw [dif_pos (by omega)])
  all_goals rw [show 16 + j.val - 16 = j.val by omega]

theorem v44_2 (c : Dev nD) (r : Fin 1024) (j : Fin 16) : V m c main_v44 (ix2 ⟨r, by omega⟩ ⟨32 + j, by omega⟩) = (0 : EReal) := by
  show StableHlo.after hostOps0 _ _ _ = _
  repeat (first | after_reads_at | rw [dif_neg (by omega)] | rw [dif_pos (by omega)])

theorem v44_3 (c : Dev nD) (r : Fin 1024) (j : Fin 16) : V m c main_v44 (ix2 ⟨r, by omega⟩ ⟨48 + j, by omega⟩) = (Ideal.sin (pos (r % 64) * freq j) : EReal) := by
  unfold pos freq
  show StableHlo.after hostOps0 _ _ _ = _
  repeat (first | after_reads_at | rw [dif_neg (by omega)] | rw [dif_pos (by omega)])
  all_goals rw [show 48 + j.val - 16 - 16 - 16 = j.val by omega]

theorem v44_4 (c : Dev nD) (r : Fin 1024) (j : Fin 16) : V m c main_v44 (ix2 ⟨r, by omega⟩ ⟨64 + j, by omega⟩) = (0 : EReal) := by
  show StableHlo.after hostOps0 _ _ _ = _
  repeat (first | after_reads_at | rw [dif_neg (by omega)] | rw [dif_pos (by omega)])

theorem v44_5 (c : Dev nD) (r : Fin 1024) (j : Fin 16) : V m c main_v44 (ix2 ⟨r, by omega⟩ ⟨80 + j, by omega⟩) = (Ideal.sin (pos (r / 64) * freq j) : EReal) := by
  unfold pos freq
  show StableHlo.after hostOps0 _ _ _ = _
  repeat (first | after_reads_at | rw [dif_neg (by omega)] | rw [dif_pos (by omega)])
  all_goals rw [show 80 + j.val - 64 - 16 = j.val by omega]

theorem v44_6 (c : Dev nD) (r : Fin 1024) (j : Fin 16) : V m c main_v44 (ix2 ⟨r, by omega⟩ ⟨96 + j, by omega⟩) = (0 : EReal) := by
  show StableHlo.after hostOps0 _ _ _ = _
  repeat (first | after_reads_at | rw [dif_neg (by omega)] | rw [dif_pos (by omega)])

theorem v44_7 (c : Dev nD) (r : Fin 1024) (j : Fin 16) : V m c main_v44 (ix2 ⟨r, by omega⟩ ⟨112 + j, by omega⟩) = (Ideal.sin (pos (r % 64) * freq j) : EReal) := by
  unfold pos freq
  show StableHlo.after hostOps0 _ _ _ = _
  repeat (first | after_reads_at | rw [dif_neg (by omega)] | rw [dif_pos (by omega)])
  all_goals rw [show 112 + j.val - 64 - 16 - 16 - 16 = j.val by omega]

theorem v44_id (c : Dev nD) (r : Fin 1024) (l : Fin 128) : V m c main_v44 (ix2 ⟨1024 + r, by omega⟩ l) = (0 : EReal) := by
  show StableHlo.after hostOps0 _ _ _ = _
  after_reads_at
  split_ifs <;> after_reads_at

theorem v38_at (c : Dev nD) (r : Fin 1024) (l : Fin 128) : V m c main_v38 (ix2 ⟨r, by omega⟩ l) = (Ideal.cos (ang r (l % 64)) : EReal) := by
  have hq : l.val / 16 = 0 ∨ l.val / 16 = 1 ∨ l.val / 16 = 2 ∨ l.val / 16 = 3 ∨ l.val / 16 = 4 ∨ l.val / 16 = 5 ∨ l.val / 16 = 6 ∨ l.val / 16 = 7 := by omega
  rcases hq with hq | hq | hq | hq | hq | hq | hq | hq
  · refine (congrArg (fun z => V m c main_v38 (ix2 _ z)) (Fin.ext (by show l.val = 0 + l.val % 16; omega))).trans (((v38_0 m c r ⟨l.val % 16, by omega⟩)).trans ?_)
    unfold ang
    rw [if_pos (by omega), show l.val % 64 % 16 = l.val % 16 by omega]
  · refine (congrArg (fun z => V m c main_v38 (ix2 _ z)) (Fin.ext (by show l.val = 16 + l.val % 16; omega))).trans (((v38_1 m c r ⟨l.val % 16, by omega⟩)).trans ?_)
    unfold ang
    rw [if_pos (by omega), show l.val % 64 % 16 = l.val % 16 by omega]
  · refine (congrArg (fun z => V m c main_v38 (ix2 _ z)) (Fin.ext (by show l.val = 32 + l.val % 16; omega))).trans (((v38_2 m c r ⟨l.val % 16, by omega⟩)).trans ?_)
    unfold ang
    rw [if_neg (by omega), show l.val % 64 % 16 = l.val % 16 by omega]
  · refine (congrArg (fun z => V m c main_v38 (ix2 _ z)) (Fin.ext (by show l.val = 48 + l.val % 16; omega))).trans (((v38_3 m c r ⟨l.val % 16, by omega⟩)).trans ?_)
    unfold ang
    rw [if_neg (by omega), show l.val % 64 % 16 = l.val % 16 by omega]
  · refine (congrArg (fun z => V m c main_v38 (ix2 _ z)) (Fin.ext (by show l.val = 64 + l.val % 16; omega))).trans (((v38_4 m c r ⟨l.val % 16, by omega⟩)).trans ?_)
    unfold ang
    rw [if_pos (by omega), show l.val % 64 % 16 = l.val % 16 by omega]
  · refine (congrArg (fun z => V m c main_v38 (ix2 _ z)) (Fin.ext (by show l.val = 80 + l.val % 16; omega))).trans (((v38_5 m c r ⟨l.val % 16, by omega⟩)).trans ?_)
    unfold ang
    rw [if_pos (by omega), show l.val % 64 % 16 = l.val % 16 by omega]
  · refine (congrArg (fun z => V m c main_v38 (ix2 _ z)) (Fin.ext (by show l.val = 96 + l.val % 16; omega))).trans (((v38_6 m c r ⟨l.val % 16, by omega⟩)).trans ?_)
    unfold ang
    rw [if_neg (by omega), show l.val % 64 % 16 = l.val % 16 by omega]
  · refine (congrArg (fun z => V m c main_v38 (ix2 _ z)) (Fin.ext (by show l.val = 112 + l.val % 16; omega))).trans (((v38_7 m c r ⟨l.val % 16, by omega⟩)).trans ?_)
    unfold ang
    rw [if_neg (by omega), show l.val % 64 % 16 = l.val % 16 by omega]

theorem v41_at (c : Dev nD) (r : Fin 1024) (l : Fin 128) : V m c main_v41 (ix2 ⟨r, by omega⟩ l) = ((if l.val % 32 < 16 then -Ideal.sin (ang r (l % 64)) else 0) : EReal) := by
  have hq : l.val / 16 = 0 ∨ l.val / 16 = 1 ∨ l.val / 16 = 2 ∨ l.val / 16 = 3 ∨ l.val / 16 = 4 ∨ l.val / 16 = 5 ∨ l.val / 16 = 6 ∨ l.val / 16 = 7 := by omega
  rcases hq with hq | hq | hq | hq | hq | hq | hq | hq
  · refine (congrArg (fun z => V m c main_v41 (ix2 _ z)) (Fin.ext (by show l.val = 0 + l.val % 16; omega))).trans (((v41_0 m c r ⟨l.val % 16, by omega⟩)).trans ?_)
    rw [if_pos (by omega)]
    unfold ang
    rw [if_pos (by omega), show l.val % 64 % 16 = l.val % 16 by omega]
  · refine (congrArg (fun z => V m c main_v41 (ix2 _ z)) (Fin.ext (by show l.val = 16 + l.val % 16; omega))).trans (((v41_1 m c r ⟨l.val % 16, by omega⟩)).trans ?_)
    rw [if_neg (by omega)]
  · refine (congrArg (fun z => V m c main_v41 (ix2 _ z)) (Fin.ext (by show l.val = 32 + l.val % 16; omega))).trans (((v41_2 m c r ⟨l.val % 16, by omega⟩)).trans ?_)
    rw [if_pos (by omega)]
    unfold ang
    rw [if_neg (by omega), show l.val % 64 % 16 = l.val % 16 by omega]
  · refine (congrArg (fun z => V m c main_v41 (ix2 _ z)) (Fin.ext (by show l.val = 48 + l.val % 16; omega))).trans (((v41_3 m c r ⟨l.val % 16, by omega⟩)).trans ?_)
    rw [if_neg (by omega)]
  · refine (congrArg (fun z => V m c main_v41 (ix2 _ z)) (Fin.ext (by show l.val = 64 + l.val % 16; omega))).trans (((v41_4 m c r ⟨l.val % 16, by omega⟩)).trans ?_)
    rw [if_pos (by omega)]
    unfold ang
    rw [if_pos (by omega), show l.val % 64 % 16 = l.val % 16 by omega]
  · refine (congrArg (fun z => V m c main_v41 (ix2 _ z)) (Fin.ext (by show l.val = 80 + l.val % 16; omega))).trans (((v41_5 m c r ⟨l.val % 16, by omega⟩)).trans ?_)
    rw [if_neg (by omega)]
  · refine (congrArg (fun z => V m c main_v41 (ix2 _ z)) (Fin.ext (by show l.val = 96 + l.val % 16; omega))).trans (((v41_6 m c r ⟨l.val % 16, by omega⟩)).trans ?_)
    rw [if_pos (by omega)]
    unfold ang
    rw [if_neg (by omega), show l.val % 64 % 16 = l.val % 16 by omega]
  · refine (congrArg (fun z => V m c main_v41 (ix2 _ z)) (Fin.ext (by show l.val = 112 + l.val % 16; omega))).trans (((v41_7 m c r ⟨l.val % 16, by omega⟩)).trans ?_)
    rw [if_neg (by omega)]

theorem v44_at (c : Dev nD) (r : Fin 1024) (l : Fin 128) : V m c main_v44 (ix2 ⟨r, by omega⟩ l) = ((if l.val % 32 < 16 then 0 else Ideal.sin (ang r (l % 64))) : EReal) := by
  have hq : l.val / 16 = 0 ∨ l.val / 16 = 1 ∨ l.val / 16 = 2 ∨ l.val / 16 = 3 ∨ l.val / 16 = 4 ∨ l.val / 16 = 5 ∨ l.val / 16 = 6 ∨ l.val / 16 = 7 := by omega
  rcases hq with hq | hq | hq | hq | hq | hq | hq | hq
  · refine (congrArg (fun z => V m c main_v44 (ix2 _ z)) (Fin.ext (by show l.val = 0 + l.val % 16; omega))).trans (((v44_0 m c r ⟨l.val % 16, by omega⟩)).trans ?_)
    rw [if_pos (by omega)]
  · refine (congrArg (fun z => V m c main_v44 (ix2 _ z)) (Fin.ext (by show l.val = 16 + l.val % 16; omega))).trans (((v44_1 m c r ⟨l.val % 16, by omega⟩)).trans ?_)
    rw [if_neg (by omega)]
    unfold ang
    rw [if_pos (by omega), show l.val % 64 % 16 = l.val % 16 by omega]
  · refine (congrArg (fun z => V m c main_v44 (ix2 _ z)) (Fin.ext (by show l.val = 32 + l.val % 16; omega))).trans (((v44_2 m c r ⟨l.val % 16, by omega⟩)).trans ?_)
    rw [if_pos (by omega)]
  · refine (congrArg (fun z => V m c main_v44 (ix2 _ z)) (Fin.ext (by show l.val = 48 + l.val % 16; omega))).trans (((v44_3 m c r ⟨l.val % 16, by omega⟩)).trans ?_)
    rw [if_neg (by omega)]
    unfold ang
    rw [if_neg (by omega), show l.val % 64 % 16 = l.val % 16 by omega]
  · refine (congrArg (fun z => V m c main_v44 (ix2 _ z)) (Fin.ext (by show l.val = 64 + l.val % 16; omega))).trans (((v44_4 m c r ⟨l.val % 16, by omega⟩)).trans ?_)
    rw [if_pos (by omega)]
  · refine (congrArg (fun z => V m c main_v44 (ix2 _ z)) (Fin.ext (by show l.val = 80 + l.val % 16; omega))).trans (((v44_5 m c r ⟨l.val % 16, by omega⟩)).trans ?_)
    rw [if_neg (by omega)]
    unfold ang
    rw [if_pos (by omega), show l.val % 64 % 16 = l.val % 16 by omega]
  · refine (congrArg (fun z => V m c main_v44 (ix2 _ z)) (Fin.ext (by show l.val = 96 + l.val % 16; omega))).trans (((v44_6 m c r ⟨l.val % 16, by omega⟩)).trans ?_)
    rw [if_pos (by omega)]
  · refine (congrArg (fun z => V m c main_v44 (ix2 _ z)) (Fin.ext (by show l.val = 112 + l.val % 16; omega))).trans (((v44_7 m c r ⟨l.val % 16, by omega⟩)).trans ?_)
    rw [if_neg (by omega)]
    unfold ang
    rw [if_neg (by omega), show l.val % 64 % 16 = l.val % 16 by omega]

end Cert.Kernel13Ideal.Proj
-- ==== Proof.Call13.Val.lean ====
/- The query product of the attention layers: the result at every element. -/
module

public import proofs.«01_k».proof.Proof.Call13.Pieces
public import proofs.«01_k».proof.Proof.Call13.Tables

@[expose] public section

set_option maxRecDepth 16384

noncomputable section

namespace Cert.Kernel13Ideal.Proj

open Cert.Kernel13Ideal Cert.Kernel13Ideal.Gen Idealize.ShloMosaic Idealize.ShloMosaic.TcCoe Idealize.ShloMosaic.Tactic Idealize.SL.Sem
open Idealize.ShloMosaic.Pipeline (Dat)
open Cert.Rope

variable (m : (ℓ : Loc nD τ sig) → Buf (Elt Ideal) ℓ)

theorem idx : ∀ t : Fin cfg0.N,
    win0_0.index t = ![t.val % 8, 0] ∧ win0_1.index t = ![0, 0, t.val / 8] ∧ win0_5.index t = ![t.val % 8, t.val / 8] :=
  (by decide +kernel : ∀ t : Fin grid0.N, _)

theorem idx2 : ∀ t : Fin cfg0.N,
    win0_2.index t = ![1 - t.val % 8 / 4, 0] ∧ win0_3.index t = ![1 - t.val % 8 / 4, 0] ∧ win0_4.index t = ![1 - t.val % 8 / 4, 0] :=
  (by decide +kernel : ∀ t : Fin grid0.N, _)

theorem lt_16 (t : Fin cfg0.N) : t.val < 16 := lt_of_lt_of_eq t.isLt N_0

theorem blk0 (c : Dev nD) (t : Fin cfg0.N) (r : Fin 1024) (k : Fin 2048) :
    iblk m c 0 t (ix2 r k) = m ((c.tc : Thread nD τ).loc main_arg0) (ix2 ⟨1024 * (t.val % 8) + r, by omega⟩ k) := by
  refine Eq.trans ?_ (congrFun (V_main_arg0 m c) _)
  blk_point [iblk, idx t]

theorem blk1 (c : Dev nD) (t : Fin cfg0.N) (k : Fin 2048) (l : Fin 1024) :
    iblk m c 1 t (ix3 0 k l) = m ((c.tc : Thread nD τ).loc main_arg1) (ix3 0 k ⟨1024 * (t.val / 8) + l, by have := lt_16 t; omega⟩) := by
  refine Eq.trans ?_ (congrFun (V_main_arg1 m c) _)
  blk_point [iblk, idx t]

theorem blk2 (c : Dev nD) (t : Fin cfg0.N) (r : Fin 1024) (l : Fin 128) :
    iblk m c 2 t (ix2 r l) = V m c main_v38 (ix2 ⟨1024 * (1 - t.val % 8 / 4) + r, by omega⟩ l) := by
  blk_point [iblk, idx2 t]

theorem ctx2 (c : Dev nD) (t : Fin cfg0.N) (ht : t.val % 8 < 4) (r : Fin 1024) (l : Fin 128) : iblk m c 2 t (ix2 r l) = (1 : EReal) :=
  (blk2 m c t r l).trans ((congrArg (fun z => V m c main_v38 (ix2 z l)) (Fin.ext (by show 1024 * (1 - t.val % 8 / 4) + r.val = 1024 + r.val; omega))).trans (v38_id m c r l))

theorem lat2 (c : Dev nD) (t : Fin cfg0.N) (ht : ¬t.val % 8 < 4) (r : Fin 1024) (l : Fin 128) : iblk m c 2 t (ix2 r l) = (Ideal.cos (ang r (l % 64)) : EReal) :=
  (blk2 m c t r l).trans ((congrArg (fun z => V m c main_v38 (ix2 z l)) (Fin.ext (by show 1024 * (1 - t.val % 8 / 4) + r.val = r.val; omega))).trans (v38_at m c r l))

theorem blk3 (c : Dev nD) (t : Fin cfg0.N) (r : Fin 1024) (l : Fin 128) :
    iblk m c 3 t (ix2 r l) = V m c main_v41 (ix2 ⟨1024 * (1 - t.val % 8 / 4) + r, by omega⟩ l) := by
  blk_point [iblk, idx2 t]

theorem ctx3 (c : Dev nD) (t : Fin cfg0.N) (ht : t.val % 8 < 4) (r : Fin 1024) (l : Fin 128) : iblk m c 3 t (ix2 r l) = (0 : EReal) :=
  (blk3 m c t r l).trans ((congrArg (fun z => V m c main_v41 (ix2 z l)) (Fin.ext (by show 1024 * (1 - t.val % 8 / 4) + r.val = 1024 + r.val; omega))).trans (v41_id m c r l))

theorem lat3 (c : Dev nD) (t : Fin cfg0.N) (ht : ¬t.val % 8 < 4) (r : Fin 1024) (l : Fin 128) : iblk m c 3 t (ix2 r l) = ((if l.val % 32 < 16 then -Ideal.sin (ang r (l % 64)) else 0) : EReal) :=
  (blk3 m c t r l).trans ((congrArg (fun z => V m c main_v41 (ix2 z l)) (Fin.ext (by show 1024 * (1 - t.val % 8 / 4) + r.val = r.val; omega))).trans (v41_at m c r l))

theorem blk4 (c : Dev nD) (t : Fin cfg0.N) (r : Fin 1024) (l : Fin 128) :
    iblk m c 4 t (ix2 r l) = V m c main_v44 (ix2 ⟨1024 * (1 - t.val % 8 / 4) + r, by omega⟩ l) := by
  blk_point [iblk, idx2 t]

theorem ctx4 (c : Dev nD) (t : Fin cfg0.N) (ht : t.val % 8 < 4) (r : Fin 1024) (l : Fin 128) : iblk m c 4 t (ix2 r l) = (0 : EReal) :=
  (blk4 m c t r l).trans ((congrArg (fun z => V m c main_v44 (ix2 z l)) (Fin.ext (by show 1024 * (1 - t.val % 8 / 4) + r.val = 1024 + r.val; omega))).trans (v44_id m c r l))

theorem lat4 (c : Dev nD) (t : Fin cfg0.N) (ht : ¬t.val % 8 < 4) (r : Fin 1024) (l : Fin 128) : iblk m c 4 t (ix2 r l) = ((if l.val % 32 < 16 then 0 else Ideal.sin (ang r (l % 64))) : EReal) :=
  (blk4 m c t r l).trans ((congrArg (fun z => V m c main_v44 (ix2 z l)) (Fin.ext (by show 1024 * (1 - t.val % 8 / 4) + r.val = r.val; omega))).trans (v44_at m c r l))

/-- The weight tile of column block `j`. -/
def tile (w : Vec Ideal S1x2048x2048 .f32) (j : Fin 2) : Vec Ideal S2048x1024 .bf16 := fun i => w (ix3 0 (i 0) ⟨1024 * j + (i 1).val, by have : (i 1).val < 1024 := (i 1).isLt; omega⟩)

theorem sA (c : Dev nD) (t : Fin cfg0.N) (h0 : t.val % 8 = 0) : (outsAt0 m c t.val t.isLt).2 = k0_pay3 (iblk m c 1 t) := by
  rw [outsAt0_A m c t h0]
  funext y
  frame_out

theorem sB (c : Dev nD) (t : Fin cfg0.N) (h0 : ¬t.val % 8 = 0) (hl : t.val - 1 < cfg0.N) :
    (outsAt0 m c t.val t.isLt).2 = (outsAt0 m c (t.val - 1) hl).2 := by
  rw [outsAt0_B m c t h0]
  rfl

/-- The scratch holds the point's weight tile. -/
theorem scratch (c : Dev nD) : ∀ (n : ℕ) (hn : n < cfg0.N),
    (outsAt0 m c n hn).2 = tile (m ((c.tc : Thread nD τ).loc main_arg1)) ⟨n / 8, by have : n < 16 := lt_16 ⟨n, hn⟩; omega⟩ := by
  intro n
  induction n with
  | zero =>
    intro hn
    refine (sA m c ⟨0, hn⟩ rfl).trans ?_
    funext y
    obtain ⟨k, l, rfl⟩ : ∃ (k : Fin 2048) (l : Fin 1024), y = ix2 k l := ⟨y 0, y 1, by idx_ext⟩
    rw [cast_apply, blk1]
    rfl
  | succ n ih =>
    intro hn
    by_cases h0 : (n + 1) % 8 = 0
    · refine (sA m c ⟨n + 1, hn⟩ h0).trans ?_
      funext y
      obtain ⟨k, l, rfl⟩ : ∃ (k : Fin 2048) (l : Fin 1024), y = ix2 k l := ⟨y 0, y 1, by idx_ext⟩
      rw [cast_apply, blk1]
      rfl
    · have hq : (n + 1) / 8 = n / 8 := by omega
      simp only [hq]
      exact (sB m c ⟨n + 1, hn⟩ h0 (Nat.lt_of_succ_lt hn)).trans (ih (Nat.lt_of_succ_lt hn))

/-- The plain product. -/
def prod (h : Vec Ideal S8192x2048 .bf16) (w : Vec Ideal S1x2048x2048 .f32) (R : Fin 8192) (L : Fin 2048) : EReal :=
  ∑ k : Fin 2048, h (ix2 R k) * w (ix3 0 k L)

/-- Row `R`, lane `L` of the result: context rows plain, latent rows turned by their angle. -/
def projAt (h : Vec Ideal S8192x2048 .bf16) (w : Vec Ideal S1x2048x2048 .f32) (R : Fin 8192) (L : Fin 2048) : EReal :=
  if R.val < 4096 then prod h w R L
  else if L.val % 32 < 16 then
    prod h w R L * Ideal.cos (ang (R.val % 1024) (L.val % 64)) - prod h w R ⟨(L.val + 16) % 2048, Nat.mod_lt _ (by decide)⟩ * Ideal.sin (ang (R.val % 1024) (L.val % 64))
  else
    prod h w R L * Ideal.cos (ang (R.val % 1024) (L.val % 64)) + prod h w R ⟨(L.val - 16) % 2048, Nat.mod_lt _ (by decide)⟩ * Ideal.sin (ang (R.val % 1024) (L.val % 64))

theorem projAt_ctx (h : Vec Ideal S8192x2048 .bf16) (w : Vec Ideal S1x2048x2048 .f32) (R : Fin 8192) (L : Fin 2048) (hR : R.val < 4096) :
    projAt h w R L = prod h w R L := by
  unfold projAt
  rw [if_pos hR]

theorem projAt_lo (h : Vec Ideal S8192x2048 .bf16) (w : Vec Ideal S1x2048x2048 .f32) (R : Fin 8192) (L L' : Fin 2048) (p u : ℕ) (hR : ¬R.val < 4096)
    (hL : L.val % 32 < 16) (hp : R.val % 1024 = p) (hu : L.val % 64 = u) (hL' : L'.val = L.val + 16) :
    projAt h w R L = prod h w R L * Ideal.cos (ang p u) - prod h w R L' * Ideal.sin (ang p u) := by
  obtain rfl : L' = ⟨(L.val + 16) % 2048, Nat.mod_lt _ (by decide)⟩ := Fin.ext (by show L'.val = (L.val + 16) % 2048; omega)
  unfold projAt
  rw [if_neg hR, if_pos hL, hp, hu]

theorem projAt_hi (h : Vec Ideal S8192x2048 .bf16) (w : Vec Ideal S1x2048x2048 .f32) (R : Fin 8192) (L L' : Fin 2048) (p u : ℕ) (hR : ¬R.val < 4096)
    (hL : ¬L.val % 32 < 16) (hp : R.val % 1024 = p) (hu : L.val % 64 = u) (hL' : L'.val + 16 = L.val) :
    projAt h w R L = prod h w R L * Ideal.cos (ang p u) + prod h w R L' * Ideal.sin (ang p u) := by
  obtain rfl : L' = ⟨(L.val - 16) % 2048, Nat.mod_lt _ (by decide)⟩ := Fin.ext (by show L'.val = (L.val - 16) % 2048; omega)
  unfold projAt
  rw [if_neg hR, if_neg hL, hp, hu]

/-- The result from the arguments. -/
def proj (h : Vec Ideal S8192x2048 .bf16) (w : Vec Ideal S1x2048x2048 .f32) : FVec Ideal S8192x2048 .bf16 := fun i => projAt h w (i 0) (i 1)

/-- The result array over the arguments. -/
def res (c : Dev nD) : FVec Ideal S8192x2048 .bf16 :=
  proj (m ((c.tc : Thread nD τ).loc main_arg0)) (m ((c.tc : Thread nD τ).loc main_arg1))

theorem lin_eq (c : Dev nD) (t : Fin cfg0.N) (r l : Fin 1024) (L : Fin 2048) (hL : L.val = 1024 * (t.val / 8) + l) :
    lin (iblk m c 0 t) (tile (m ((c.tc : Thread nD τ).loc main_arg1)) ⟨t.val / 8, by have := lt_16 t; omega⟩) r l
      = prod (m ((c.tc : Thread nD τ).loc main_arg0)) (m ((c.tc : Thread nD τ).loc main_arg1)) ⟨1024 * (t.val % 8) + r, by omega⟩ L := by
  have hb : 1024 * (t.val / 8) + l.val < 2048 := by have := lt_16 t; omega
  obtain rfl : L = ⟨_, hb⟩ := Fin.ext hL
  unfold lin prod
  simp only [blk0]
  rfl

/-- A block at grid point `n`, from its products and from its rows of the three tables. -/
theorem block_proj (x : Vec Ideal S1024x2048 .bf16) (s : Vec Ideal S2048x1024 .bf16) (a b d : Vec Ideal S1024x128 .f32)
    (h : Vec Ideal S8192x2048 .bf16) (w : Vec Ideal S1x2048x2048 .f32) (n : ℕ) (h16 : n < 16)
    (hx : ∀ (r l : Fin 1024) (L : Fin 2048), L.val = 1024 * (n / 8) + l → lin x s r l = prod h w ⟨1024 * (n % 8) + r, by omega⟩ L)
    (ctxa : n % 8 < 4 → ∀ (r : Fin 1024) (l : Fin 128), a (ix2 r l) = (1 : EReal))
    (ctxb : n % 8 < 4 → ∀ (r : Fin 1024) (l : Fin 128), b (ix2 r l) = (0 : EReal))
    (ctxd : n % 8 < 4 → ∀ (r : Fin 1024) (l : Fin 128), d (ix2 r l) = (0 : EReal))
    (lata : ¬n % 8 < 4 → ∀ (r : Fin 1024) (l : Fin 128), a (ix2 r l) = (Ideal.cos (ang r (l % 64)) : EReal))
    (latb : ¬n % 8 < 4 → ∀ (r : Fin 1024) (l : Fin 128), b (ix2 r l) = ((if l.val % 32 < 16 then -Ideal.sin (ang r (l % 64)) else 0) : EReal))
    (latd : ¬n % 8 < 4 → ∀ (r : Fin 1024) (l : Fin 128), d (ix2 r l) = ((if l.val % 32 < 16 then 0 else Ideal.sin (ang r (l % 64))) : EReal))
    (r l : Fin 1024) : blockOut x s a b d r l = projAt h w ⟨1024 * (n % 8) + r, by omega⟩ ⟨1024 * (n / 8) + l, by omega⟩ := by
  unfold blockOut
  by_cases ht : n % 8 < 4
  · rw [projAt_ctx _ _ _ _ (by show 1024 * (n % 8) + r.val < 4096; omega), ctxa ht, ctxb ht, ctxd ht, mul_one, mul_zero, mul_zero, add_zero, add_zero]
    exact hx r l _ rfl
  · rw [lata ht, latb ht, latd ht, hx r l ⟨1024 * (n / 8) + l, by omega⟩ rfl]
    by_cases hp : l.val % 32 < 16
    · rw [if_pos (by show l.val % 128 % 32 < 16; omega), if_pos (by show l.val % 128 % 32 < 16; omega), mul_zero, add_zero, mul_neg, ← sub_eq_add_neg,
        hx r _ ⟨1024 * (n / 8) + l + 16, by omega⟩ (by show 1024 * (n / 8) + l.val + 16 = 1024 * (n / 8) + (128 * (l.val / 128) + (l.val % 128 + 16) % 128); omega)]
      exact (projAt_lo _ _ _ _ _ _ _ (by show ¬1024 * (n % 8) + r.val < 4096; omega) (by show (1024 * (n / 8) + l.val) % 32 < 16; omega)
        (by show (1024 * (n % 8) + r.val) % 1024 = r.val; omega) (by show (1024 * (n / 8) + l.val) % 64 = l.val % 128 % 64; omega) rfl).symm
    · rw [if_neg (by show ¬l.val % 128 % 32 < 16; omega), if_neg (by show ¬l.val % 128 % 32 < 16; omega), mul_zero, add_zero,
        hx r _ ⟨1024 * (n / 8) + l - 16, by omega⟩ (by show 1024 * (n / 8) + l.val - 16 = 1024 * (n / 8) + (128 * (l.val / 128) + (l.val % 128 + 112) % 128); omega)]
      exact (projAt_hi _ _ _ _ _ _ _ (by show ¬1024 * (n % 8) + r.val < 4096; omega) (by show ¬(1024 * (n / 8) + l.val) % 32 < 16; omega)
        (by show (1024 * (n % 8) + r.val) % 1024 = r.val; omega) (by show (1024 * (n / 8) + l.val) % 64 = l.val % 128 % 64; omega)
        (by show 1024 * (n / 8) + l.val - 16 + 16 = 1024 * (n / 8) + l.val; omega)).symm

theorem out_eq (c : Dev nD) (t : Fin cfg0.N) (r l : Fin 1024) :
    (outsAt0 m c t.val t.isLt).1 (ix2 r l) = res m c (ix2 ⟨1024 * (t.val % 8) + r, by omega⟩ ⟨1024 * (t.val / 8) + l, by have := lt_16 t; omega⟩) := by
  have hs := scratch m c t.val t.isLt
  have key : (outsAt0 m c t.val t.isLt).1 (ix2 r l)
      = blockOut (iblk m c 0 t) (outsAt0 m c t.val t.isLt).2 (iblk m c 2 t) (iblk m c 3 t) (iblk m c 4 t) r l := by
    by_cases h0 : t.val % 8 = 0
    · rw [outA m c t h0, sA m c t h0]
      rfl
    · have hl : t.val - 1 < cfg0.N := lt_of_le_of_lt (Nat.sub_le _ _) t.isLt
      rw [outB m c t h0 hl, sB m c t h0 hl]
      rfl
  rw [key, hs]
  show _ = projAt (m ((c.tc : Thread nD τ).loc main_arg0)) (m ((c.tc : Thread nD τ).loc main_arg1)) ⟨1024 * (t.val % 8) + r, by omega⟩ ⟨1024 * (t.val / 8) + l, by have := lt_16 t; omega⟩
  exact block_proj (iblk m c 0 t) (tile (m ((c.tc : Thread nD τ).loc main_arg1)) ⟨t.val / 8, by have := lt_16 t; omega⟩) (iblk m c 2 t) (iblk m c 3 t) (iblk m c 4 t)
    (m ((c.tc : Thread nD τ).loc main_arg0)) (m ((c.tc : Thread nD τ).loc main_arg1)) t.val (lt_16 t) (lin_eq m c t) (ctx2 m c t) (ctx3 m c t) (ctx4 m c t) (lat2 m c t) (lat3 m c t) (lat4 m c t) r l

theorem final (c : Dev nD) : (dats m 0 c).arrAt 5 cfg0.N = res m c := by
  refine (dats m 0 c).arrAt_eq_of_covers 5 _ (by decide +kernel) fun t _ y => ?_
  blk_simp
  rw [after0_5]
  obtain ⟨r, l, rfl⟩ : ∃ (r l : Fin 1024), y = ix2 r l := ⟨y 0, y 1, by idx_ext⟩
  refine (out_eq m c t r l).trans ?_
  blk_ext [idx t]

end Cert.Kernel13Ideal.Proj
-- ==== Proof.Call13.Claim.lean ====
/- The query product of the attention layers: the reference's result, and the claim. -/
module

public import proofs.«01_k».proof.Defs
public import proofs.«01_k».proof.Proof.Gen.Reference13Ideal.Read
public import proofs.«01_k».proof.Proof.Gen.Reference13Ideal.Run
public import proofs.«01_k».proof.Proof.Call13.Val
public import Idealize.ShloMosaic.Lib.Claim

@[expose] public section

set_option maxRecDepth 16384

noncomputable section

namespace Cert.Reference13Ideal.Proj

open Cert.Reference13Ideal Cert.Reference13Ideal.Gen Cert.Reference13Ideal.Read Idealize.ShloMosaic Idealize.ShloMosaic.TcCoe Idealize.ShloMosaic.Tactic Idealize.SL.Sem
open Cert.Rope
open Cert.Kernel13Ideal.Proj (prod projAt projAt_ctx projAt_lo projAt_hi)

variable (h : BufTy.Contents (Elt Ideal) ⟨S8192x2048, .bf16⟩) (w : BufTy.Contents (Elt Ideal) ⟨S1x2048x2048, .f32⟩)

theorem q_at (R : Fin 8192) (L : Fin 2048) : val_main_v2 (F := Ideal) h w (ix2 R L) = prod h w R L := by
  unfold Cert.Kernel13Ideal.Proj.prod
  pointwise [val_main_v2, val_main_v0, val_main_v1]

/-- A latent row's head and lane, as the product's row and column. -/
theorem x_at (b : Fin 4) (p : Fin 1024) (n : Fin 32) (u : Fin 64) (R : Fin 8192) (L : Fin 2048) (hR : R.val = 4096 + 1024 * b + p) (hL : L.val = 64 * n + u) :
    val_main_v4 (F := Ideal) h w (ix4 b p n u) = prod h w R L := by
  rw [← q_at]
  rw [val_main_v4_apply, val_main_v3_apply]
  congr 1
  idx_ext

theorem ang0 (p : Fin 1024) (j : Fin 16) : val_main_v26 (F := Ideal) (ix2 p j) = pos (p / 64) * freq j := by
  unfold pos freq
  pointwise [val_main_v26, val_main_v24, val_main_v22, val_main_v15, val_main_v14, val_main_v13, val_main_v12, val_main_v11, val_main_v25, val_main_v23, val_main_v10, val_main_v9, val_main_cst_0, val_main_v8, val_main_v7, val_main_cst, val_main_v6, val_main_v5]

theorem ang1 (p : Fin 1024) (j : Fin 16) : val_main_v52 (F := Ideal) (ix2 p j) = pos (p % 64) * freq j := by
  unfold pos freq
  pointwise [val_main_v52, val_main_v50, val_main_v48, val_main_v20, val_main_v19, val_main_v18, val_main_v17, val_main_v16, val_main_v51, val_main_v49, val_main_v10, val_main_v9, val_main_cst_0, val_main_v8, val_main_v7, val_main_cst, val_main_v6, val_main_v5]

theorem part0 (b : Fin 4) (p : Fin 1024) (n : Fin 32) (j : Fin 16) :
    val_main_v38 (F := Ideal) h w (ix4 b p n j)
      = val_main_v4 (F := Ideal) h w (ix4 b p n ⟨0 + j, by omega⟩) * Ideal.cos (pos (p / 64) * freq j)
        - val_main_v4 (F := Ideal) h w (ix4 b p n ⟨16 + j, by omega⟩) * Ideal.sin (pos (p / 64) * freq j) := by
  rw [← ang0]
  generalize hz : val_main_v4 (F := Ideal) h w = z
  generalize ha : val_main_v26 (F := Ideal) = a
  pointwise [val_main_v38, val_main_v34, val_main_v37, val_main_v30, val_main_v31, val_main_v21, val_main_v33, val_main_v32, val_main_v36, val_main_v35, val_main_v28, val_main_v29, val_main_v27, hz, ha]

theorem part1 (b : Fin 4) (p : Fin 1024) (n : Fin 32) (j : Fin 16) :
    val_main_v45 (F := Ideal) h w (ix4 b p n j)
      = val_main_v4 (F := Ideal) h w (ix4 b p n ⟨16 + j, by omega⟩) * Ideal.cos (pos (p / 64) * freq j)
        + val_main_v4 (F := Ideal) h w (ix4 b p n ⟨0 + j, by omega⟩) * Ideal.sin (pos (p / 64) * freq j) := by
  rw [← ang0]
  generalize hz : val_main_v4 (F := Ideal) h w = z
  generalize ha : val_main_v26 (F := Ideal) = a
  pointwise [val_main_v45, val_main_v41, val_main_v44, val_main_v31, val_main_v30, val_main_v21, val_main_v40, val_main_v39, val_main_v43, val_main_v42, val_main_v28, val_main_v29, val_main_v27, hz, ha]

theorem part2 (b : Fin 4) (p : Fin 1024) (n : Fin 32) (j : Fin 16) :
    val_main_v64 (F := Ideal) h w (ix4 b p n j)
      = val_main_v4 (F := Ideal) h w (ix4 b p n ⟨32 + j, by omega⟩) * Ideal.cos (pos (p % 64) * freq j)
        - val_main_v4 (F := Ideal) h w (ix4 b p n ⟨32 + (16 + j), by omega⟩) * Ideal.sin (pos (p % 64) * freq j) := by
  rw [← ang1]
  generalize hz : val_main_v4 (F := Ideal) h w = z
  generalize ha : val_main_v52 (F := Ideal) = a
  pointwise [val_main_v64, val_main_v60, val_main_v63, val_main_v56, val_main_v57, val_main_v47, val_main_v59, val_main_v58, val_main_v62, val_main_v61, val_main_v54, val_main_v55, val_main_v53, hz, ha]

theorem part3 (b : Fin 4) (p : Fin 1024) (n : Fin 32) (j : Fin 16) :
    val_main_v71 (F := Ideal) h w (ix4 b p n j)
      = val_main_v4 (F := Ideal) h w (ix4 b p n ⟨32 + (16 + j), by omega⟩) * Ideal.cos (pos (p % 64) * freq j)
        + val_main_v4 (F := Ideal) h w (ix4 b p n ⟨32 + j, by omega⟩) * Ideal.sin (pos (p % 64) * freq j) := by
  rw [← ang1]
  generalize hz : val_main_v4 (F := Ideal) h w = z
  generalize ha : val_main_v52 (F := Ideal) = a
  pointwise [val_main_v71, val_main_v67, val_main_v70, val_main_v57, val_main_v56, val_main_v47, val_main_v66, val_main_v65, val_main_v69, val_main_v68, val_main_v54, val_main_v55, val_main_v53, hz, ha]

theorem lane0 (b : Fin 4) (p : Fin 1024) (n : Fin 32) (j : Fin 16) :
    val_main_v73 (F := Ideal) h w (ix4 b p n ⟨0 + j, by omega⟩) = val_main_v38 (F := Ideal) h w (ix4 b p n j) := by
  unfold val_main_v73 val_main_v46 val_main_v72
  generalize val_main_v38 (F := Ideal) h w = x0
  generalize val_main_v45 (F := Ideal) h w = x1
  generalize val_main_v64 (F := Ideal) h w = x2
  generalize val_main_v71 (F := Ideal) h w = x3
  pointwise []
  rw [dif_pos (by omega)]

theorem lane1 (b : Fin 4) (p : Fin 1024) (n : Fin 32) (j : Fin 16) :
    val_main_v73 (F := Ideal) h w (ix4 b p n ⟨16 + j, by omega⟩) = val_main_v45 (F := Ideal) h w (ix4 b p n j) := by
  unfold val_main_v73 val_main_v46 val_main_v72
  generalize val_main_v38 (F := Ideal) h w = x0
  generalize val_main_v45 (F := Ideal) h w = x1
  generalize val_main_v64 (F := Ideal) h w = x2
  generalize val_main_v71 (F := Ideal) h w = x3
  pointwise []
  rw [dif_pos (by omega)]

theorem lane2 (b : Fin 4) (p : Fin 1024) (n : Fin 32) (j : Fin 16) :
    val_main_v73 (F := Ideal) h w (ix4 b p n ⟨32 + j, by omega⟩) = val_main_v64 (F := Ideal) h w (ix4 b p n j) := by
  unfold val_main_v73 val_main_v46 val_main_v72
  generalize val_main_v38 (F := Ideal) h w = x0
  generalize val_main_v45 (F := Ideal) h w = x1
  generalize val_main_v64 (F := Ideal) h w = x2
  generalize val_main_v71 (F := Ideal) h w = x3
  pointwise []

theorem lane3 (b : Fin 4) (p : Fin 1024) (n : Fin 32) (j : Fin 16) :
    val_main_v73 (F := Ideal) h w (ix4 b p n ⟨48 + j, by omega⟩) = val_main_v71 (F := Ideal) h w (ix4 b p n j) := by
  unfold val_main_v73 val_main_v46 val_main_v72
  generalize val_main_v38 (F := Ideal) h w = x0
  generalize val_main_v45 (F := Ideal) h w = x1
  generalize val_main_v64 (F := Ideal) h w = x2
  generalize val_main_v71 (F := Ideal) h w = x3
  pointwise []
  rw [dif_neg (by omega), dif_neg (by omega)]
  exact congrArg (fun z => x3 (ix4 b p n z)) (Fin.ext (by show 48 + j.val - 32 - 16 = j.val; omega))

theorem out_ctx (R : Fin 4096) (L : Fin 2048) : val_main_v77 (F := Ideal) h w (ix2 ⟨R, by omega⟩ L) = val_main_v2 (F := Ideal) h w (ix2 ⟨R, by omega⟩ L) := by
  unfold val_main_v77 val_main_v76 val_main_v74
  generalize val_main_v2 (F := Ideal) h w = x0
  generalize val_main_v75 (F := Ideal) h w = x1
  pointwise []

theorem out_lat (R : Fin 4096) (L : Fin 2048) : val_main_v77 (F := Ideal) h w (ix2 ⟨4096 + R, by omega⟩ L)
    = val_main_v73 (F := Ideal) h w (ix4 ⟨R / 1024, by omega⟩ ⟨R % 1024, by omega⟩ ⟨L / 64, by omega⟩ ⟨L % 64, by omega⟩) := by
  unfold val_main_v77 val_main_v76 val_main_v75
  generalize val_main_v74 (F := Ideal) h w = x0
  generalize val_main_v73 (F := Ideal) h w = x1
  pointwise []

theorem lat (R : Fin 4096) (L : Fin 2048) : val_main_v77 (F := Ideal) h w (ix2 ⟨4096 + R, by omega⟩ L) = projAt h w ⟨4096 + R, by omega⟩ L := by
  rw [out_lat]
  have hq : L.val % 64 / 16 = 0 ∨ L.val % 64 / 16 = 1 ∨ L.val % 64 / 16 = 2 ∨ L.val % 64 / 16 = 3 := by omega
  rcases hq with hq | hq | hq | hq
  · rw [show (⟨L % 64, by omega⟩ : Fin 64) = ⟨0 + (⟨L % 16, by omega⟩ : Fin 16).val, by omega⟩ from Fin.ext (by show L.val % 64 = 0 + L.val % 16; omega), lane0, part0,
      x_at h w _ _ _ _ ⟨4096 + R, by omega⟩ L (by show 4096 + R.val = 4096 + 1024 * (R.val / 1024) + R.val % 1024; omega) (by show L.val = 64 * (L.val / 64) + (0 + L.val % 16); omega),
      x_at h w _ _ _ _ ⟨4096 + R, by omega⟩ ⟨L + 16, by omega⟩ (by show 4096 + R.val = 4096 + 1024 * (R.val / 1024) + R.val % 1024; omega) (by show L.val + 16 = 64 * (L.val / 64) + (16 + L.val % 16); omega)]
    rw [projAt_lo h w ⟨4096 + R, by omega⟩ L ⟨L + 16, by omega⟩ (R % 1024) (L % 64) (by show ¬4096 + R.val < 4096; omega) (by omega)
      (by show (4096 + R.val) % 1024 = R.val % 1024; omega) rfl rfl]
    unfold ang
    rw [if_pos (by omega), show L.val % 64 % 16 = L.val % 16 by omega]
  · rw [show (⟨L % 64, by omega⟩ : Fin 64) = ⟨16 + (⟨L % 16, by omega⟩ : Fin 16).val, by omega⟩ from Fin.ext (by show L.val % 64 = 16 + L.val % 16; omega), lane1, part1,
      x_at h w _ _ _ _ ⟨4096 + R, by omega⟩ L (by show 4096 + R.val = 4096 + 1024 * (R.val / 1024) + R.val % 1024; omega) (by show L.val = 64 * (L.val / 64) + (16 + L.val % 16); omega),
      x_at h w _ _ _ _ ⟨4096 + R, by omega⟩ ⟨L - 16, by omega⟩ (by show 4096 + R.val = 4096 + 1024 * (R.val / 1024) + R.val % 1024; omega) (by show L.val - 16 = 64 * (L.val / 64) + (0 + L.val % 16); omega)]
    rw [projAt_hi h w ⟨4096 + R, by omega⟩ L ⟨L - 16, by omega⟩ (R % 1024) (L % 64) (by show ¬4096 + R.val < 4096; omega) (by omega)
      (by show (4096 + R.val) % 1024 = R.val % 1024; omega) rfl (by show L.val - 16 + 16 = L.val; omega)]
    unfold ang
    rw [if_pos (by omega), show L.val % 64 % 16 = L.val % 16 by omega]
  · rw [show (⟨L % 64, by omega⟩ : Fin 64) = ⟨32 + (⟨L % 16, by omega⟩ : Fin 16).val, by omega⟩ from Fin.ext (by show L.val % 64 = 32 + L.val % 16; omega), lane2, part2,
      x_at h w _ _ _ _ ⟨4096 + R, by omega⟩ L (by show 4096 + R.val = 4096 + 1024 * (R.val / 1024) + R.val % 1024; omega) (by show L.val = 64 * (L.val / 64) + (32 + L.val % 16); omega),
      x_at h w _ _ _ _ ⟨4096 + R, by omega⟩ ⟨L + 16, by omega⟩ (by show 4096 + R.val = 4096 + 1024 * (R.val / 1024) + R.val % 1024; omega) (by show L.val + 16 = 64 * (L.val / 64) + (32 + (16 + L.val % 16)); omega)]
    rw [projAt_lo h w ⟨4096 + R, by omega⟩ L ⟨L + 16, by omega⟩ (R % 1024) (L % 64) (by show ¬4096 + R.val < 4096; omega) (by omega)
      (by show (4096 + R.val) % 1024 = R.val % 1024; omega) rfl rfl]
    unfold ang
    rw [if_neg (by omega), show L.val % 64 % 16 = L.val % 16 by omega]
  · rw [show (⟨L % 64, by omega⟩ : Fin 64) = ⟨48 + (⟨L % 16, by omega⟩ : Fin 16).val, by omega⟩ from Fin.ext (by show L.val % 64 = 48 + L.val % 16; omega), lane3, part3,
      x_at h w _ _ _ _ ⟨4096 + R, by omega⟩ L (by show 4096 + R.val = 4096 + 1024 * (R.val / 1024) + R.val % 1024; omega) (by show L.val = 64 * (L.val / 64) + (32 + (16 + L.val % 16)); omega),
      x_at h w _ _ _ _ ⟨4096 + R, by omega⟩ ⟨L - 16, by omega⟩ (by show 4096 + R.val = 4096 + 1024 * (R.val / 1024) + R.val % 1024; omega) (by show L.val - 16 = 64 * (L.val / 64) + (32 + L.val % 16); omega)]
    rw [projAt_hi h w ⟨4096 + R, by omega⟩ L ⟨L - 16, by omega⟩ (R % 1024) (L % 64) (by show ¬4096 + R.val < 4096; omega) (by omega)
      (by show (4096 + R.val) % 1024 = R.val % 1024; omega) rfl (by show L.val - 16 + 16 = L.val; omega)]
    unfold ang
    rw [if_neg (by omega), show L.val % 64 % 16 = L.val % 16 by omega]

theorem lat' (r : Fin 8192) (s : Fin 4096) (hs : r.val = 4096 + s) (l : Fin 2048) : val_main_v77 (F := Ideal) h w (ix2 r l) = projAt h w r l := by
  obtain rfl : r = ⟨4096 + s, Nat.add_lt_add_left s.isLt 4096⟩ := Fin.ext hs
  exact lat h w s l

theorem ref_eq : val_main_v77 (F := Ideal) h w = Cert.Kernel13Ideal.Proj.proj h w := by
  funext i
  obtain ⟨r, l, rfl⟩ : ∃ (r : Fin 8192) (l : Fin 2048), i = ix2 r l := ⟨i 0, i 1, by idx_ext⟩
  show _ = projAt h w r l
  by_cases hr : r.val < 4096
  · exact (out_ctx h w ⟨r, hr⟩ l).trans ((q_at h w r l).trans (projAt_ctx h w r l hr).symm)
  · exact lat' h w r ⟨r - 4096, by omega⟩ (by show r.val = 4096 + (r.val - 4096); omega) l

end Cert.Reference13Ideal.Proj

namespace Cert.Call13

open Idealize.ShloMosaic Idealize.SL.Sem Idealize.ShloMosaic.Tactic

/-- The query product: kernel and reference agree at every element. -/
theorem algebraic :
    letI := Cert.Kernel13Ideal.Gen.facts; letI := Cert.Reference13Ideal.Gen.facts
    algebraic_Kernel13Ideal_Reference13Ideal := by
  pair_intro
  · run_from Cert.Kernel13Ideal.Gen.run_main m g
  · run_from Cert.Reference13Ideal.Value.run m' g'
    obtain ⟨e0, e1⟩ := hagree c
    refine Eq.trans ?_ (Cert.Kernel13Ideal.Proj.final m c).symm
    unfold Cert.Kernel13Ideal.Proj.res
    rw [← e0, ← e1]
    exact (Cert.Reference13Ideal.Read.val_main_v77_eq ..).trans (Cert.Reference13Ideal.Proj.ref_eq _ _)

/-- The reference leaves its arguments as they were and every counter at zero. -/
theorem frame : letI := Cert.Reference13Ideal.Gen.facts; quiescent_Reference13Ideal := by
  intro m g _
  run_from Cert.Reference13Ideal.Value.run m g
  · intro c; simp
  · exact sem_eq_zero_of_no_sems (by decide) r.2

end Cert.Call13

end
-- ==== Proof.Call9.Val.lean ====
/- The value product of layer A: the kernel's results at every element. -/
module

public import proofs.«01_k».proof.Proof.Call9.IdealRun
public import proofs.«01_k».proof.Proof.Call5.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel9Ideal.Proj

open Cert.Kernel9Ideal Cert.Kernel9Ideal.Gen Idealize.ShloMosaic Idealize.ShloMosaic.TcCoe Idealize.ShloMosaic.Tactic Idealize.SL.Sem
open Idealize.ShloMosaic.Pipeline (Dat)
open Cert.Recur

variable (m : (ℓ : Loc nD τ sig) → Buf (Elt Ideal) ℓ)

theorem slab0_apply (x : Vec Ideal S256x2048 .bf16) (w : Vec Ideal S2048x1024 .bf16) (r : Fin 256) (l : Fin 1024) :
    (k0_pay2 x w) (ix2 r l) = ∑ k : Fin 2048, x (ix2 r k) * w (ix2 k l) := by
  pointwise [k0_pay2]

theorem slab1_apply (x : Vec Ideal S256x2048 .bf16) (w : Vec Ideal S2048x1024 .bf16) (r : Fin 256) (l : Fin 1024) :
    (k0_pay3 x w) (ix2 r l) = ∑ k : Fin 2048, x (ix2 r k) * w (ix2 k l) := by
  pointwise [k0_pay3]

theorem slab2_apply (x : Vec Ideal S256x2048 .bf16) (w : Vec Ideal S2048x1024 .bf16) (r : Fin 256) (l : Fin 1024) :
    (k0_pay4 x w) (ix2 r l) = ∑ k : Fin 2048, x (ix2 r k) * w (ix2 k l) := by
  pointwise [k0_pay4]

theorem slab3_apply (x : Vec Ideal S256x2048 .bf16) (w : Vec Ideal S2048x1024 .bf16) (r : Fin 256) (l : Fin 1024) :
    (k0_pay5 x w) (ix2 r l) = ∑ k : Fin 2048, x (ix2 r k) * w (ix2 k l) := by
  pointwise [k0_pay5]

theorem cast_apply (v : Vec Ideal S1x2048x1024 .f32) (k : Fin 2048) (l : Fin 1024) : k0_pay1 v (ix2 k l) = v (ix3 0 k l) := by
  pointwise [k0_pay1]

theorem ld_rows (x : Vec Ideal S1024x2048 .bf16) (o : ℕ) (h : ∀ a : Fin 2, ![o, 0] a + ![256, 2048] a ≤ S1024x2048.size a) (r : Fin 256) (k : Fin 2048) (ho : o + 256 ≤ 1024) :
    View.ld x (Rect.unit ![o, 0] ![256, 2048] h) (ix2 r k) = x (ix2 ⟨o + r, by omega⟩ k) := by
  unfold View.ld
  blk_ext
  all_goals simp [Rect.idx_unit_val]

/-- Row `r`, lane `l` of a point's block from its rows and the weight tile. -/
def blockOut (x : Vec Ideal S1024x2048 .bf16) (w : Vec Ideal S2048x1024 .bf16) (r l : Fin 1024) : EReal :=
  ∑ k : Fin 2048, x (ix2 r k) * w (ix2 k l)

theorem idx : ∀ t : Fin cfg0.N,
    win0_0.index t = ![t.val % 8, 0] ∧ win0_1.index t = ![0, 0, t.val / 8] ∧ win0_2.index t = ![t.val % 8, t.val / 8]
      ∧ win0_3.index t = ![min (t.val % 8) 3, t.val / 8] :=
  (by decide +kernel : ∀ t : Fin grid0.N, _)

theorem lt_16 (t : Fin cfg0.N) : t.val < 16 := lt_of_lt_of_eq t.isLt N_0

theorem blk0 (c : Dev nD) (t : Fin cfg0.N) (r : Fin 1024) (k : Fin 2048) :
    iblk m c 0 t (ix2 r k) = m ((c.tc : Thread nD τ).loc main_arg0) (ix2 ⟨1024 * (t.val % 8) + r, by omega⟩ k) := by
  blk_point [iblk, V, idx t]

theorem blk1 (c : Dev nD) (t : Fin cfg0.N) (k : Fin 2048) (l : Fin 1024) :
    iblk m c 1 t (ix3 0 k l) = m ((c.tc : Thread nD τ).loc main_arg1) (ix3 0 k ⟨1024 * (t.val / 8) + l, by have := lt_16 t; omega⟩) := by
  blk_point [iblk, V, idx t]

theorem piece0 (x : Vec Ideal S1024x2048 .bf16) (w : Vec Ideal S2048x1024 .bf16) (h : ∀ a : Fin 2, ![0, 0] a + ![256, 2048] a ≤ S1024x2048.size a)
    (y : S256x1024.Idx) (r l : Fin 1024) (hr : r.val = (y 0).val) (hl : l.val = (y 1).val) :
    (k0_pay2 (View.ld x (Rect.unit ![0, 0] ![256, 2048] h)) w) y = blockOut x w r l := by
  obtain ⟨r', l', rfl⟩ : ∃ (r' : Fin 256) (l' : Fin 1024), y = ix2 r' l' := ⟨y 0, y 1, by idx_ext⟩
  obtain rfl : l = l' := Fin.ext hl
  have hlt : 0 + r'.val < 1024 := by omega
  obtain rfl : r = ⟨0 + r'.val, hlt⟩ := Fin.ext (hr.trans (Nat.zero_add _).symm)
  refine (slab0_apply _ _ _ _).trans ?_
  simp only [ld_rows x 0 h _ _ (by omega)]
  rfl

theorem piece1 (x : Vec Ideal S1024x2048 .bf16) (w : Vec Ideal S2048x1024 .bf16) (h : ∀ a : Fin 2, ![256, 0] a + ![256, 2048] a ≤ S1024x2048.size a)
    (y : S256x1024.Idx) (r l : Fin 1024) (hr : r.val = 256 + (y 0).val) (hl : l.val = (y 1).val) :
    (k0_pay3 (View.ld x (Rect.unit ![256, 0] ![256, 2048] h)) w) y = blockOut x w r l := by
  obtain ⟨r', l', rfl⟩ : ∃ (r' : Fin 256) (l' : Fin 1024), y = ix2 r' l' := ⟨y 0, y 1, by idx_ext⟩
  obtain rfl : l = l' := Fin.ext hl
  have hlt : 256 + r'.val < 1024 := by omega
  obtain rfl : r = ⟨256 + r'.val, hlt⟩ := Fin.ext hr
  refine (slab1_apply _ _ _ _).trans ?_
  simp only [ld_rows x 256 h _ _ (by omega)]
  rfl

theorem piece2 (x : Vec Ideal S1024x2048 .bf16) (w : Vec Ideal S2048x1024 .bf16) (h : ∀ a : Fin 2, ![512, 0] a + ![256, 2048] a ≤ S1024x2048.size a)
    (y : S256x1024.Idx) (r l : Fin 1024) (hr : r.val = 512 + (y 0).val) (hl : l.val = (y 1).val) :
    (k0_pay4 (View.ld x (Rect.unit ![512, 0] ![256, 2048] h)) w) y = blockOut x w r l := by
  obtain ⟨r', l', rfl⟩ : ∃ (r' : Fin 256) (l' : Fin 1024), y = ix2 r' l' := ⟨y 0, y 1, by idx_ext⟩
  obtain rfl : l = l' := Fin.ext hl
  have hlt : 512 + r'.val < 1024 := by omega
  obtain rfl : r = ⟨512 + r'.val, hlt⟩ := Fin.ext hr
  refine (slab2_apply _ _ _ _).trans ?_
  simp only [ld_rows x 512 h _ _ (by omega)]
  rfl

theorem piece3 (x : Vec Ideal S1024x2048 .bf16) (w : Vec Ideal S2048x1024 .bf16) (h : ∀ a : Fin 2, ![768, 0] a + ![256, 2048] a ≤ S1024x2048.size a)
    (y : S256x1024.Idx) (r l : Fin 1024) (hr : r.val = 768 + (y 0).val) (hl : l.val = (y 1).val) :
    (k0_pay5 (View.ld x (Rect.unit ![768, 0] ![256, 2048] h)) w) y = blockOut x w r l := by
  obtain ⟨r', l', rfl⟩ : ∃ (r' : Fin 256) (l' : Fin 1024), y = ix2 r' l' := ⟨y 0, y 1, by idx_ext⟩
  obtain rfl : l = l' := Fin.ext hl
  have hlt : 768 + r'.val < 1024 := by omega
  obtain rfl : r = ⟨768 + r'.val, hlt⟩ := Fin.ext hr
  refine (slab3_apply _ _ _ _).trans ?_
  simp only [ld_rows x 768 h _ _ (by omega)]
  rfl

theorem trunc0 (x : Vec Ideal S1024x2048 .bf16) (w : Vec Ideal S2048x1024 .bf16) (h : ∀ a : Fin 2, ![0, 0] a + ![256, 2048] a ≤ S1024x2048.size a)
    (y : S256x1024.Idx) (r l : Fin 1024) (hr : r.val = (y 0).val) (hl : l.val = (y 1).val) :
    (k0_pay6 (View.ld x (Rect.unit ![0, 0] ![256, 2048] h)) w) y = blockOut x w r l :=
  piece0 x w h y r l hr hl

theorem trunc1 (x : Vec Ideal S1024x2048 .bf16) (w : Vec Ideal S2048x1024 .bf16) (h : ∀ a : Fin 2, ![256, 0] a + ![256, 2048] a ≤ S1024x2048.size a)
    (y : S256x1024.Idx) (r l : Fin 1024) (hr : r.val = 256 + (y 0).val) (hl : l.val = (y 1).val) :
    (k0_pay7 (View.ld x (Rect.unit ![256, 0] ![256, 2048] h)) w) y = blockOut x w r l :=
  piece1 x w h y r l hr hl

theorem trunc2 (x : Vec Ideal S1024x2048 .bf16) (w : Vec Ideal S2048x1024 .bf16) (h : ∀ a : Fin 2, ![512, 0] a + ![256, 2048] a ≤ S1024x2048.size a)
    (y : S256x1024.Idx) (r l : Fin 1024) (hr : r.val = 512 + (y 0).val) (hl : l.val = (y 1).val) :
    (k0_pay8 (View.ld x (Rect.unit ![512, 0] ![256, 2048] h)) w) y = blockOut x w r l :=
  piece2 x w h y r l hr hl

theorem trunc3 (x : Vec Ideal S1024x2048 .bf16) (w : Vec Ideal S2048x1024 .bf16) (h : ∀ a : Fin 2, ![768, 0] a + ![256, 2048] a ≤ S1024x2048.size a)
    (y : S256x1024.Idx) (r l : Fin 1024) (hr : r.val = 768 + (y 0).val) (hl : l.val = (y 1).val) :
    (k0_pay9 (View.ld x (Rect.unit ![768, 0] ![256, 2048] h)) w) y = blockOut x w r l :=
  piece3 x w h y r l hr hl

theorem outA2 (c : Dev nD) (t : Fin cfg0.N) (hc0 : cond0_0 (grid0.coords t)) (hc1 : k0_cond2 (grid0.coords t) = 1#1) (x0 : Vec Ideal S1024x2048 .bf16) (x1 : Vec Ideal S1x2048x1024 .f32) (y : S1024x1024.Idx) :
    out0_A_2 c (grid0.coords t) (ms0_0 t) (hs0_0 t) (ms0_1 t) (hs0_1 t) (ms0_2 t) (hs0_2 t) (ms0_3 t) (hs0_3 t) scM0_0 (Memref.isWhole_whole _) hc0 hc1 x0 x1 y = blockOut x0 (k0_pay1 x1) (y 0) (y 1) := by
  unfold out0_A_2
  frame_out
  canon_tiles x h
  case piece0 =>
    exact trunc3 _ _ _ x _ _ h0 h1
  case piece1 =>
    exact trunc2 _ _ _ x _ _ h0 h1
  case piece2 =>
    exact trunc1 _ _ _ x _ _ h0 h1
  case piece3 =>
    exact trunc0 _ _ _ x _ _ h0 h1

theorem outB2 (c : Dev nD) (t : Fin cfg0.N) (hc0 : ¬ cond0_0 (grid0.coords t)) (hc1 : k0_cond2 (grid0.coords t) = 1#1) (x0 : Vec Ideal S1024x2048 .bf16) (x1 : Vec Ideal S1x2048x1024 .f32) (s : Vec Ideal S2048x1024 .bf16) (y : S1024x1024.Idx) :
    out0_B_2 c (grid0.coords t) (ms0_0 t) (hs0_0 t) (ms0_1 t) (hs0_1 t) (ms0_2 t) (hs0_2 t) (ms0_3 t) (hs0_3 t) scM0_0 (Memref.isWhole_whole _) hc0 hc1 x0 x1 s y = blockOut x0 s (y 0) (y 1) := by
  unfold out0_B_2
  frame_out
  canon_tiles x h
  case piece0 =>
    rw [read_unread_whole]
    exact trunc3 _ _ _ x _ _ h0 h1
  case piece1 =>
    rw [read_unread_whole]
    exact trunc2 _ _ _ x _ _ h0 h1
  case piece2 =>
    rw [read_unread_whole]
    exact trunc1 _ _ _ x _ _ h0 h1
  case piece3 =>
    rw [read_unread_whole]
    exact trunc0 _ _ _ x _ _ h0 h1

theorem outC2 (c : Dev nD) (t : Fin cfg0.N) (hc0 : ¬ cond0_0 (grid0.coords t)) (hc1 : ¬ k0_cond2 (grid0.coords t) = 1#1) (x0 : Vec Ideal S1024x2048 .bf16) (x1 : Vec Ideal S1x2048x1024 .f32) (s : Vec Ideal S2048x1024 .bf16) (y : S1024x1024.Idx) :
    out0_C_2 c (grid0.coords t) (ms0_0 t) (hs0_0 t) (ms0_1 t) (hs0_1 t) (ms0_2 t) (hs0_2 t) (ms0_3 t) (hs0_3 t) scM0_0 (Memref.isWhole_whole _) hc0 hc1 x0 x1 s y = blockOut x0 s (y 0) (y 1) := by
  unfold out0_C_2
  frame_out
  canon_tiles x h
  case piece0 =>
    rw [read_unread_whole]
    exact trunc3 _ _ _ x _ _ h0 h1
  case piece1 =>
    rw [read_unread_whole]
    exact trunc2 _ _ _ x _ _ h0 h1
  case piece2 =>
    rw [read_unread_whole]
    exact trunc1 _ _ _ x _ _ h0 h1
  case piece3 =>
    rw [read_unread_whole]
    exact trunc0 _ _ _ x _ _ h0 h1

theorem outA3 (c : Dev nD) (t : Fin cfg0.N) (hc0 : cond0_0 (grid0.coords t)) (hc1 : k0_cond2 (grid0.coords t) = 1#1) (x0 : Vec Ideal S1024x2048 .bf16) (x1 : Vec Ideal S1x2048x1024 .f32) (y : S1024x1024.Idx) :
    out0_A_3 c (grid0.coords t) (ms0_0 t) (hs0_0 t) (ms0_1 t) (hs0_1 t) (ms0_2 t) (hs0_2 t) (ms0_3 t) (hs0_3 t) scM0_0 (Memref.isWhole_whole _) hc0 hc1 x0 x1 y = blockOut x0 (k0_pay1 x1) (y 0) (y 1) := by
  unfold out0_A_3
  frame_out
  canon_tiles x h
  case piece0 =>
    exact piece3 _ _ _ x _ _ h0 h1
  case piece1 =>
    exact piece2 _ _ _ x _ _ h0 h1
  case piece2 =>
    exact piece1 _ _ _ x _ _ h0 h1
  case piece3 =>
    exact piece0 _ _ _ x _ _ h0 h1

theorem outB3 (c : Dev nD) (t : Fin cfg0.N) (hc0 : ¬ cond0_0 (grid0.coords t)) (hc1 : k0_cond2 (grid0.coords t) = 1#1) (x0 : Vec Ideal S1024x2048 .bf16) (x1 : Vec Ideal S1x2048x1024 .f32) (s : Vec Ideal S2048x1024 .bf16) (y : S1024x1024.Idx) :
    out0_B_3 c (grid0.coords t) (ms0_0 t) (hs0_0 t) (ms0_1 t) (hs0_1 t) (ms0_2 t) (hs0_2 t) (ms0_3 t) (hs0_3 t) scM0_0 (Memref.isWhole_whole _) hc0 hc1 x0 x1 s y = blockOut x0 s (y 0) (y 1) := by
  unfold out0_B_3
  frame_out
  canon_tiles x h
  case piece0 =>
    rw [read_unread_whole]
    exact piece3 _ _ _ x _ _ h0 h1
  case piece1 =>
    rw [read_unread_whole]
    exact piece2 _ _ _ x _ _ h0 h1
  case piece2 =>
    rw [read_unread_whole]
    exact piece1 _ _ _ x _ _ h0 h1
  case piece3 =>
    rw [read_unread_whole]
    exact piece0 _ _ _ x _ _ h0 h1

theorem outAS (c : Dev nD) (t : Fin cfg0.N) (hc0 : cond0_0 (grid0.coords t)) (hc1 : k0_cond2 (grid0.coords t) = 1#1) (x0 : Vec Ideal S1024x2048 .bf16) (x1 : Vec Ideal S1x2048x1024 .f32) :
    out0_A_S c (grid0.coords t) (ms0_0 t) (hs0_0 t) (ms0_1 t) (hs0_1 t) (ms0_2 t) (hs0_2 t) (ms0_3 t) (hs0_3 t) scM0_0 (Memref.isWhole_whole _) hc0 hc1 x0 x1 = k0_pay1 x1 := by
  unfold out0_A_S
  funext y
  frame_out

/-- The weight tile of column block `j`. -/
def tile (w : Vec Ideal S1x2048x2048 .f32) (j : Fin 2) : Vec Ideal S2048x1024 .bf16 := fun i => w (ix3 0 (i 0) ⟨1024 * j + (i 1).val, by have : (i 1).val < 1024 := (i 1).isLt; omega⟩)

theorem cast_tile (c : Dev nD) (t : Fin cfg0.N) :
    k0_pay1 (iblk m c 1 t) = tile (m ((c.tc : Thread nD τ).loc main_arg1)) ⟨t.val / 8, by have := lt_16 t; omega⟩ := by
  funext y
  obtain ⟨k, l, rfl⟩ : ∃ (k : Fin 2048) (l : Fin 1024), y = ix2 k l := ⟨y 0, y 1, by idx_ext⟩
  rw [cast_apply, blk1]
  rfl

/-- The scratch holds the column block's weight tile. -/
theorem scratch (c : Dev nD) (t : Fin cfg0.N) :
    scr m c t = tile (m ((c.tc : Thread nD τ).loc main_arg1)) ⟨t.val / 8, by have := lt_16 t; omega⟩ := by
  have hf : (first t).val % 8 = 0 := by show t.val / 8 * 8 % 8 = 0; omega
  have hq : (first t).val / 8 = t.val / 8 := by show t.val / 8 * 8 / 8 = t.val / 8; omega
  refine (show scrAt m c (first t) = _ from dif_pos hf).trans ?_
  rw [outAS, cast_tile]
  simp only [hq]

theorem vOut_block (c : Dev nD) (t : Fin cfg0.N) (y : S1024x1024.Idx) : vOut m c t y
    = blockOut (iblk m c 0 t) (tile (m ((c.tc : Thread nD τ).loc main_arg1)) ⟨t.val / 8, by have := lt_16 t; omega⟩) (y 0) (y 1) := by
  unfold vOut
  by_cases h0 : t.val % 8 = 0
  · rw [dif_pos h0, outA2, cast_tile]
  · rw [dif_neg h0]
    by_cases h1 : t.val % 8 < 4
    · rw [dif_pos h1, outB2, scratch]
    · rw [dif_neg h1, outC2, scratch]

theorem ctxAt_block (c : Dev nD) (t : Fin cfg0.N) (h1 : t.val % 8 < 4) (y : S1024x1024.Idx) : ctxAt m c t y
    = blockOut (iblk m c 0 t) (tile (m ((c.tc : Thread nD τ).loc main_arg1)) ⟨t.val / 8, by have := lt_16 t; omega⟩) (y 0) (y 1) := by
  unfold ctxAt
  by_cases h0 : t.val % 8 = 0
  · rw [dif_pos h0, outA3, cast_tile]
  · rw [dif_neg h0, dif_pos h1, outB3, scratch]

/-- The product at a row and a lane. -/
def proj (h : Vec Ideal S8192x2048 .bf16) (w : Vec Ideal S1x2048x2048 .f32) (r : Fin 8192) (l : Fin 2048) : EReal :=
  ∑ k : Fin 2048, h (ix2 r k) * w (ix3 0 k l)

/-- The first result: every row; -/
def projAll (h : Vec Ideal S8192x2048 .bf16) (w : Vec Ideal S1x2048x2048 .f32) : FVec Ideal S8192x2048 .bf16 := fun i => proj h w (i 0) (i 1)

/-- the second: the context rows. -/
def projCtx (h : Vec Ideal S8192x2048 .bf16) (w : Vec Ideal S1x2048x2048 .f32) : FVec Ideal S4096x2048 .f32 := fun i =>
  proj h w ⟨(i 0).val, by have : (i 0).val < 4096 := (i 0).isLt; omega⟩ (i 1)

/-- The result arrays over the arguments. -/
def res2 (c : Dev nD) : FVec Ideal S8192x2048 .bf16 :=
  projAll (m ((c.tc : Thread nD τ).loc main_arg0)) (m ((c.tc : Thread nD τ).loc main_arg1))
def res3 (c : Dev nD) : FVec Ideal S4096x2048 .f32 :=
  projCtx (m ((c.tc : Thread nD τ).loc main_arg0)) (m ((c.tc : Thread nD τ).loc main_arg1))

theorem block_eq (c : Dev nD) (t : Fin cfg0.N) (r l : Fin 1024) :
    blockOut (iblk m c 0 t) (tile (m ((c.tc : Thread nD τ).loc main_arg1)) ⟨t.val / 8, by have := lt_16 t; omega⟩) r l
      = proj (m ((c.tc : Thread nD τ).loc main_arg0)) (m ((c.tc : Thread nD τ).loc main_arg1)) ⟨1024 * (t.val % 8) + r, by omega⟩ ⟨1024 * (t.val / 8) + l, by have := lt_16 t; omega⟩ := by
  unfold blockOut
  simp only [blk0]
  rfl

theorem vOut_eq (c : Dev nD) (t : Fin cfg0.N) (r l : Fin 1024) :
    vOut m c t (ix2 r l) = res2 m c (ix2 ⟨1024 * (t.val % 8) + r, by omega⟩ ⟨1024 * (t.val / 8) + l, by have := lt_16 t; omega⟩) :=
  (vOut_block m c t _).trans (block_eq m c t r l)

theorem ctxOut_eq (c : Dev nD) (t : Fin cfg0.N) (r l : Fin 1024) :
    ctxOut m c t (ix2 r l) = res3 m c (ix2 ⟨1024 * min (t.val % 8) 3 + r, by omega⟩ ⟨1024 * (t.val / 8) + l, by have := lt_16 t; omega⟩) := by
  have hm : (lastCtx t).val % 8 = min (t.val % 8) 3 := by show (t.val / 8 * 8 + min (t.val % 8) 3) % 8 = _; omega
  have hd : (lastCtx t).val / 8 = t.val / 8 := by show (t.val / 8 * 8 + min (t.val % 8) 3) / 8 = _; omega
  refine (ctxAt_block m c (lastCtx t) (by omega) _).trans ((block_eq m c (lastCtx t) r l).trans ?_)
  simp only [hm, hd]
  rfl

theorem final2 (c : Dev nD) : (dats m 0 c).arrAt 2 cfg0.N = res2 m c := by
  refine (dats m 0 c).arrAt_eq_of_covers 2 _ (by decide +kernel) fun t _ y => ?_
  blk_simp
  rw [after0_2]
  obtain ⟨r, l, rfl⟩ : ∃ (r l : Fin 1024), y = ix2 r l := ⟨y 0, y 1, by idx_ext⟩
  refine (vOut_eq m c t r l).trans ?_
  blk_ext [idx t]

theorem final3 (c : Dev nD) : (dats m 0 c).arrAt 3 cfg0.N = res3 m c := by
  refine (dats m 0 c).arrAt_eq_of_covers 3 _ (by decide +kernel) fun t _ y => ?_
  blk_simp
  rw [after0_3]
  obtain ⟨r, l, rfl⟩ : ∃ (r l : Fin 1024), y = ix2 r l := ⟨y 0, y 1, by idx_ext⟩
  refine (ctxOut_eq m c t r l).trans ?_
  blk_ext [idx t]

end Cert.Kernel9Ideal.Proj
-- ==== Proof.Call9.Claim.lean ====
/- The value product of layer A: the reference's results, and the claim. -/
module

public import proofs.«01_k».proof.Defs
public import proofs.«01_k».proof.Proof.Gen.Reference9Ideal.Read
public import proofs.«01_k».proof.Proof.Gen.Reference9Ideal.Run
public import proofs.«01_k».proof.Proof.Call9.Val
public import Idealize.ShloMosaic.Lib.Claim

@[expose] public section

set_option maxRecDepth 16384

noncomputable section

namespace Cert.Reference9Ideal.Proj

open Cert.Reference9Ideal Cert.Reference9Ideal.Gen Cert.Reference9Ideal.Read Idealize.ShloMosaic Idealize.ShloMosaic.TcCoe Idealize.ShloMosaic.Tactic Idealize.SL.Sem
open Cert.Recur

variable (h : BufTy.Contents (Elt Ideal) ⟨S8192x2048, .bf16⟩) (w : BufTy.Contents (Elt Ideal) ⟨S1x2048x2048, .f32⟩)

theorem dot (r : Fin 8192) (l : Fin 2048) : val_main_v2 (F := Ideal) h w (ix2 r l) = Cert.Kernel9Ideal.Proj.proj h w r l := by
  unfold Cert.Kernel9Ideal.Proj.proj
  pointwise [val_main_v2, val_main_v0, val_main_v1]

theorem all_eq : val_main_v3 (F := Ideal) h w = Cert.Kernel9Ideal.Proj.projAll h w := by
  funext i
  obtain ⟨r, l, rfl⟩ : ∃ (r : Fin 8192) (l : Fin 2048), i = ix2 r l := ⟨i 0, i 1, by idx_ext⟩
  exact dot h w r l

theorem rows (r : Fin 4096) (l : Fin 2048) : val_main_v4 (F := Ideal) h w (ix2 r l) = val_main_v2 (F := Ideal) h w (ix2 ⟨r.val, by omega⟩ l) := by
  pointwise [val_main_v4]

theorem ctx_eq : val_main_v4 (F := Ideal) h w = Cert.Kernel9Ideal.Proj.projCtx h w := by
  funext i
  obtain ⟨r, l, rfl⟩ : ∃ (r : Fin 4096) (l : Fin 2048), i = ix2 r l := ⟨i 0, i 1, by idx_ext⟩
  exact (rows h w r l).trans (dot h w _ l)

end Cert.Reference9Ideal.Proj

namespace Cert.Call9

open Idealize.ShloMosaic Idealize.SL.Sem Idealize.ShloMosaic.Tactic

/-- Layer A's value product: kernel and reference agree at every element. -/
theorem algebraic :
    letI := Cert.Kernel9Ideal.Gen.facts; letI := Cert.Reference9Ideal.Gen.facts
    algebraic_Kernel9Ideal_Reference9Ideal := by
  pair_intro
  · run_from Cert.Kernel9Ideal.Gen.run_main m g
  · run_from Cert.Reference9Ideal.Value.run m' g'
    · obtain ⟨e0, e1⟩ := hagree c
      refine Eq.trans ?_ (Cert.Kernel9Ideal.Proj.final2 m c).symm
      unfold Cert.Kernel9Ideal.Proj.res2
      rw [← e0, ← e1]
      exact (Cert.Reference9Ideal.Read.val_main_v3_eq ..).trans (Cert.Reference9Ideal.Proj.all_eq _ _)
    · obtain ⟨e0, e1⟩ := hagree c
      refine Eq.trans ?_ (Cert.Kernel9Ideal.Proj.final3 m c).symm
      unfold Cert.Kernel9Ideal.Proj.res3
      rw [← e0, ← e1]
      exact (Cert.Reference9Ideal.Read.val_main_v4_eq ..).trans (Cert.Reference9Ideal.Proj.ctx_eq _ _)

/-- The reference leaves its arguments as they were and every counter at zero. -/
theorem frame : letI := Cert.Reference9Ideal.Gen.facts; quiescent_Reference9Ideal := by
  intro m g _
  run_from Cert.Reference9Ideal.Value.run m g
  · intro c; simp
  · exact sem_eq_zero_of_no_sems (by decide) r.2

end Cert.Call9

end
-- ==== Proof.Call14.Pieces.lean ====
/- The key product of layer A: the stored pieces at every element. Its rotation and its products are those of the query
   product (`Proof/Call13/Pieces.lean`), whose lemmas are used as they are. -/
module

public import proofs.«01_k».proof.Proof.Call14.IdealRun
public import proofs.«01_k».proof.Proof.Call13.Val

@[expose] public section

set_option maxRecDepth 16384

noncomputable section

namespace Cert.Kernel14Ideal.Proj

open Cert.Kernel14Ideal Cert.Kernel14Ideal.Gen Idealize.ShloMosaic Idealize.ShloMosaic.TcCoe Idealize.ShloMosaic.Tactic Idealize.SL.Sem
open Cert.Kernel13Ideal.Proj (blockOut lin slab0 slab1 slab2 slab3 slab0_apply slab1_apply slab2_apply slab3_apply ld_rows)
open Cert.Kernel13Ideal.Proj (pay0_0 pay0_1 pay0_2 pay0_3 pay0_4 pay0_5 pay0_6 pay0_7 pay1_0 pay1_1 pay1_2 pay1_3 pay1_4 pay1_5 pay1_6 pay1_7)
open Cert.Kernel13Ideal.Proj (pay2_0 pay2_1 pay2_2 pay2_3 pay2_4 pay2_5 pay2_6 pay2_7 pay3_0 pay3_1 pay3_2 pay3_3 pay3_4 pay3_5 pay3_6 pay3_7)

variable (m : (ℓ : Loc nD τ sig) → Buf (Elt Ideal) ℓ)

theorem piece0 (x : Vec Ideal S1024x2048 .bf16) (w : Vec Ideal S2048x1024 .bf16) (h : ∀ a : Fin 2, ![0, 0] a + ![256, 2048] a ≤ S1024x2048.size a)
    (y : S256x1024.Idx) (r l : Fin 1024) (hr : r.val = (y 0).val) (hl : l.val = (y 1).val) :
    (k0_pay4 (View.ld x (Rect.unit ![0, 0] ![256, 2048] h)) w) y = lin x w r l := by
  obtain ⟨r', l', rfl⟩ : ∃ (r' : Fin 256) (l' : Fin 1024), y = ix2 r' l' := ⟨y 0, y 1, by idx_ext⟩
  obtain rfl : l = l' := Fin.ext hl
  have hlt : 0 + r'.val < 1024 := by omega
  obtain rfl : r = ⟨0 + r'.val, hlt⟩ := Fin.ext (hr.trans (Nat.zero_add _).symm)
  refine (slab0_apply _ _ _ _).trans ?_
  simp only [ld_rows x 0 h _ _ (by omega)]
  rfl

theorem piece1 (x : Vec Ideal S1024x2048 .bf16) (w : Vec Ideal S2048x1024 .bf16) (h : ∀ a : Fin 2, ![256, 0] a + ![256, 2048] a ≤ S1024x2048.size a)
    (y : S256x1024.Idx) (r l : Fin 1024) (hr : r.val = 256 + (y 0).val) (hl : l.val = (y 1).val) :
    (k0_pay5 (View.ld x (Rect.unit ![256, 0] ![256, 2048] h)) w) y = lin x w r l := by
  obtain ⟨r', l', rfl⟩ : ∃ (r' : Fin 256) (l' : Fin 1024), y = ix2 r' l' := ⟨y 0, y 1, by idx_ext⟩
  obtain rfl : l = l' := Fin.ext hl
  have hlt : 256 + r'.val < 1024 := by omega
  obtain rfl : r = ⟨256 + r'.val, hlt⟩ := Fin.ext hr
  refine (slab1_apply _ _ _ _).trans ?_
  simp only [ld_rows x 256 h _ _ (by omega)]
  rfl

theorem piece2 (x : Vec Ideal S1024x2048 .bf16) (w : Vec Ideal S2048x1024 .bf16) (h : ∀ a : Fin 2, ![512, 0] a + ![256, 2048] a ≤ S1024x2048.size a)
    (y : S256x1024.Idx) (r l : Fin 1024) (hr : r.val = 512 + (y 0).val) (hl : l.val = (y 1).val) :
    (k0_pay6 (View.ld x (Rect.unit ![512, 0] ![256, 2048] h)) w) y = lin x w r l := by
  obtain ⟨r', l', rfl⟩ : ∃ (r' : Fin 256) (l' : Fin 1024), y = ix2 r' l' := ⟨y 0, y 1, by idx_ext⟩
  obtain rfl : l = l' := Fin.ext hl
  have hlt : 512 + r'.val < 1024 := by omega
  obtain rfl : r = ⟨512 + r'.val, hlt⟩ := Fin.ext hr
  refine (slab2_apply _ _ _ _).trans ?_
  simp only [ld_rows x 512 h _ _ (by omega)]
  rfl

theorem piece3 (x : Vec Ideal S1024x2048 .bf16) (w : Vec Ideal S2048x1024 .bf16) (h : ∀ a : Fin 2, ![768, 0] a + ![256, 2048] a ≤ S1024x2048.size a)
    (y : S256x1024.Idx) (r l : Fin 1024) (hr : r.val = 768 + (y 0).val) (hl : l.val = (y 1).val) :
    (k0_pay7 (View.ld x (Rect.unit ![768, 0] ![256, 2048] h)) w) y = lin x w r l := by
  obtain ⟨r', l', rfl⟩ : ∃ (r' : Fin 256) (l' : Fin 1024), y = ix2 r' l' := ⟨y 0, y 1, by idx_ext⟩
  obtain rfl : l = l' := Fin.ext hl
  have hlt : 768 + r'.val < 1024 := by omega
  obtain rfl : r = ⟨768 + r'.val, hlt⟩ := Fin.ext hr
  refine (slab3_apply _ _ _ _).trans ?_
  simp only [ld_rows x 768 h _ _ (by omega)]
  rfl

/-- The values stored do not depend on the point, so this serves a point before the last context block too. -/
theorem outC5 (c : Dev nD) (t : Fin cfg0.N) (i : grid0.Coords) (hc0 : ¬ cond0_0 i) (hc1 : ¬ k0_cond2 i = 1#1) (x0 : Vec Ideal S1024x2048 .bf16) (x1 : Vec Ideal S1x2048x1024 .f32)
    (x2 x3 x4 : Vec Ideal S1024x128 .f32) (s : Vec Ideal S2048x1024 .bf16) (y : S1024x1024.Idx) :
    out0_C_5 c i (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 x0 x1 x2 x3 x4 s y = blockOut x0 s x2 x3 x4 (y 0) (y 1) := by
  unfold out0_C_5
  frame_out
  canon_tiles x h
  case piece0 =>
    rw [read_unread_whole]
    exact slab3 _ _ _ _ _ _ _ _ 7 (by omega) (fun r l => pay3_7 _ _ _ _ r l) x _ _ (by omega) (by omega)
  case piece1 =>
    rw [read_unread_whole]
    exact slab3 _ _ _ _ _ _ _ _ 6 (by omega) (fun r l => pay3_6 _ _ _ _ r l) x _ _ (by omega) (by omega)
  case piece2 =>
    rw [read_unread_whole]
    exact slab3 _ _ _ _ _ _ _ _ 5 (by omega) (fun r l => pay3_5 _ _ _ _ r l) x _ _ (by omega) (by omega)
  case piece3 =>
    rw [read_unread_whole]
    exact slab3 _ _ _ _ _ _ _ _ 4 (by omega) (fun r l => pay3_4 _ _ _ _ r l) x _ _ (by omega) (by omega)
  case piece4 =>
    rw [read_unread_whole]
    exact slab3 _ _ _ _ _ _ _ _ 3 (by omega) (fun r l => pay3_3 _ _ _ _ r l) x _ _ (by omega) (by omega)
  case piece5 =>
    rw [read_unread_whole]
    exact slab3 _ _ _ _ _ _ _ _ 2 (by omega) (fun r l => pay3_2 _ _ _ _ r l) x _ _ (by omega) (by omega)
  case piece6 =>
    rw [read_unread_whole]
    exact slab3 _ _ _ _ _ _ _ _ 1 (by omega) (fun r l => pay3_1 _ _ _ _ r l) x _ _ (by omega) (by omega)
  case piece7 =>
    rw [read_unread_whole]
    exact slab3 _ _ _ _ _ _ _ _ 0 (by omega) (fun r l => pay3_0 _ _ _ _ r l) x _ _ (by omega) (by omega)
  case piece8 =>
    rw [read_unread_whole]
    exact slab2 _ _ _ _ _ _ _ _ 7 (by omega) (fun r l => pay2_7 _ _ _ _ r l) x _ _ (by omega) (by omega)
  case piece9 =>
    rw [read_unread_whole]
    exact slab2 _ _ _ _ _ _ _ _ 6 (by omega) (fun r l => pay2_6 _ _ _ _ r l) x _ _ (by omega) (by omega)
  case piece10 =>
    rw [read_unread_whole]
    exact slab2 _ _ _ _ _ _ _ _ 5 (by omega) (fun r l => pay2_5 _ _ _ _ r l) x _ _ (by omega) (by omega)
  case piece11 =>
    rw [read_unread_whole]
    exact slab2 _ _ _ _ _ _ _ _ 4 (by omega) (fun r l => pay2_4 _ _ _ _ r l) x _ _ (by omega) (by omega)
  case piece12 =>
    rw [read_unread_whole]
    exact slab2 _ _ _ _ _ _ _ _ 3 (by omega) (fun r l => pay2_3 _ _ _ _ r l) x _ _ (by omega) (by omega)
  case piece13 =>
    rw [read_unread_whole]
    exact slab2 _ _ _ _ _ _ _ _ 2 (by omega) (fun r l => pay2_2 _ _ _ _ r l) x _ _ (by omega) (by omega)
  case piece14 =>
    rw [read_unread_whole]
    exact slab2 _ _ _ _ _ _ _ _ 1 (by omega) (fun r l => pay2_1 _ _ _ _ r l) x _ _ (by omega) (by omega)
  case piece15 =>
    rw [read_unread_whole]
    exact slab2 _ _ _ _ _ _ _ _ 0 (by omega) (fun r l => pay2_0 _ _ _ _ r l) x _ _ (by omega) (by omega)
  case piece16 =>
    rw [read_unread_whole]
    exact slab1 _ _ _ _ _ _ _ _ 7 (by omega) (fun r l => pay1_7 _ _ _ _ r l) x _ _ (by omega) (by omega)
  case piece17 =>
    rw [read_unread_whole]
    exact slab1 _ _ _ _ _ _ _ _ 6 (by omega) (fun r l => pay1_6 _ _ _ _ r l) x _ _ (by omega) (by omega)
  case piece18 =>
    rw [read_unread_whole]
    exact slab1 _ _ _ _ _ _ _ _ 5 (by omega) (fun r l => pay1_5 _ _ _ _ r l) x _ _ (by omega) (by omega)
  case piece19 =>
    rw [read_unread_whole]
    exact slab1 _ _ _ _ _ _ _ _ 4 (by omega) (fun r l => pay1_4 _ _ _ _ r l) x _ _ (by omega) (by omega)
  case piece20 =>
    rw [read_unread_whole]
    exact slab1 _ _ _ _ _ _ _ _ 3 (by omega) (fun r l => pay1_3 _ _ _ _ r l) x _ _ (by omega) (by omega)
  case piece21 =>
    rw [read_unread_whole]
    exact slab1 _ _ _ _ _ _ _ _ 2 (by omega) (fun r l => pay1_2 _ _ _ _ r l) x _ _ (by omega) (by omega)
  case piece22 =>
    rw [read_unread_whole]
    exact slab1 _ _ _ _ _ _ _ _ 1 (by omega) (fun r l => pay1_1 _ _ _ _ r l) x _ _ (by omega) (by omega)
  case piece23 =>
    rw [read_unread_whole]
    exact slab1 _ _ _ _ _ _ _ _ 0 (by omega) (fun r l => pay1_0 _ _ _ _ r l) x _ _ (by omega) (by omega)
  case piece24 =>
    rw [read_unread_whole]
    exact slab0 _ _ _ _ _ _ _ _ 7 (by omega) (fun r l => pay0_7 _ _ _ _ r l) x _ _ (by omega) (by omega)
  case piece25 =>
    rw [read_unread_whole]
    exact slab0 _ _ _ _ _ _ _ _ 6 (by omega) (fun r l => pay0_6 _ _ _ _ r l) x _ _ (by omega) (by omega)
  case piece26 =>
    rw [read_unread_whole]
    exact slab0 _ _ _ _ _ _ _ _ 5 (by omega) (fun r l => pay0_5 _ _ _ _ r l) x _ _ (by omega) (by omega)
  case piece27 =>
    rw [read_unread_whole]
    exact slab0 _ _ _ _ _ _ _ _ 4 (by omega) (fun r l => pay0_4 _ _ _ _ r l) x _ _ (by omega) (by omega)
  case piece28 =>
    rw [read_unread_whole]
    exact slab0 _ _ _ _ _ _ _ _ 3 (by omega) (fun r l => pay0_3 _ _ _ _ r l) x _ _ (by omega) (by omega)
  case piece29 =>
    rw [read_unread_whole]
    exact slab0 _ _ _ _ _ _ _ _ 2 (by omega) (fun r l => pay0_2 _ _ _ _ r l) x _ _ (by omega) (by omega)
  case piece30 =>
    rw [read_unread_whole]
    exact slab0 _ _ _ _ _ _ _ _ 1 (by omega) (fun r l => pay0_1 _ _ _ _ r l) x _ _ (by omega) (by omega)
  case piece31 =>
    rw [read_unread_whole]
    exact slab0 _ _ _ _ _ _ _ _ 0 (by omega) (fun r l => pay0_0 _ _ _ _ _ r l) x _ _ (by omega) (by omega)

theorem outA5 (c : Dev nD) (t : Fin cfg0.N) (hc0 : cond0_0 (grid0.coords t)) (hc1 : k0_cond2 (grid0.coords t) = 1#1) (x0 : Vec Ideal S1024x2048 .bf16) (x1 : Vec Ideal S1x2048x1024 .f32)
    (x2 x3 x4 : Vec Ideal S1024x128 .f32) (y : S1024x1024.Idx) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 x0 x1 x2 x3 x4 y = blockOut x0 (k0_pay3 x1) x2 x3 x4 (y 0) (y 1) := by
  unfold out0_A_5
  frame_out
  canon_tiles x h
  case piece0 =>
    exact slab3 _ _ _ _ _ _ _ _ 7 (by omega) (fun r l => pay3_7 _ _ _ _ r l) x _ _ (by omega) (by omega)
  case piece1 =>
    exact slab3 _ _ _ _ _ _ _ _ 6 (by omega) (fun r l => pay3_6 _ _ _ _ r l) x _ _ (by omega) (by omega)
  case piece2 =>
    exact slab3 _ _ _ _ _ _ _ _ 5 (by omega) (fun r l => pay3_5 _ _ _ _ r l) x _ _ (by omega) (by omega)
  case piece3 =>
    exact slab3 _ _ _ _ _ _ _ _ 4 (by omega) (fun r l => pay3_4 _ _ _ _ r l) x _ _ (by omega) (by omega)
  case piece4 =>
    exact slab3 _ _ _ _ _ _ _ _ 3 (by omega) (fun r l => pay3_3 _ _ _ _ r l) x _ _ (by omega) (by omega)
  case piece5 =>
    exact slab3 _ _ _ _ _ _ _ _ 2 (by omega) (fun r l => pay3_2 _ _ _ _ r l) x _ _ (by omega) (by omega)
  case piece6 =>
    exact slab3 _ _ _ _ _ _ _ _ 1 (by omega) (fun r l => pay3_1 _ _ _ _ r l) x _ _ (by omega) (by omega)
  case piece7 =>
    exact slab3 _ _ _ _ _ _ _ _ 0 (by omega) (fun r l => pay3_0 _ _ _ _ r l) x _ _ (by omega) (by omega)
  case piece8 =>
    exact slab2 _ _ _ _ _ _ _ _ 7 (by omega) (fun r l => pay2_7 _ _ _ _ r l) x _ _ (by omega) (by omega)
  case piece9 =>
    exact slab2 _ _ _ _ _ _ _ _ 6 (by omega) (fun r l => pay2_6 _ _ _ _ r l) x _ _ (by omega) (by omega)
  case piece10 =>
    exact slab2 _ _ _ _ _ _ _ _ 5 (by omega) (fun r l => pay2_5 _ _ _ _ r l) x _ _ (by omega) (by omega)
  case piece11 =>
    exact slab2 _ _ _ _ _ _ _ _ 4 (by omega) (fun r l => pay2_4 _ _ _ _ r l) x _ _ (by omega) (by omega)
  case piece12 =>
    exact slab2 _ _ _ _ _ _ _ _ 3 (by omega) (fun r l => pay2_3 _ _ _ _ r l) x _ _ (by omega) (by omega)
  case piece13 =>
    exact slab2 _ _ _ _ _ _ _ _ 2 (by omega) (fun r l => pay2_2 _ _ _ _ r l) x _ _ (by omega) (by omega)
  case piece14 =>
    exact slab2 _ _ _ _ _ _ _ _ 1 (by omega) (fun r l => pay2_1 _ _ _ _ r l) x _ _ (by omega) (by omega)
  case piece15 =>
    exact slab2 _ _ _ _ _ _ _ _ 0 (by omega) (fun r l => pay2_0 _ _ _ _ r l) x _ _ (by omega) (by omega)
  case piece16 =>
    exact slab1 _ _ _ _ _ _ _ _ 7 (by omega) (fun r l => pay1_7 _ _ _ _ r l) x _ _ (by omega) (by omega)
  case piece17 =>
    exact slab1 _ _ _ _ _ _ _ _ 6 (by omega) (fun r l => pay1_6 _ _ _ _ r l) x _ _ (by omega) (by omega)
  case piece18 =>
    exact slab1 _ _ _ _ _ _ _ _ 5 (by omega) (fun r l => pay1_5 _ _ _ _ r l) x _ _ (by omega) (by omega)
  case piece19 =>
    exact slab1 _ _ _ _ _ _ _ _ 4 (by omega) (fun r l => pay1_4 _ _ _ _ r l) x _ _ (by omega) (by omega)
  case piece20 =>
    exact slab1 _ _ _ _ _ _ _ _ 3 (by omega) (fun r l => pay1_3 _ _ _ _ r l) x _ _ (by omega) (by omega)
  case piece21 =>
    exact slab1 _ _ _ _ _ _ _ _ 2 (by omega) (fun r l => pay1_2 _ _ _ _ r l) x _ _ (by omega) (by omega)
  case piece22 =>
    exact slab1 _ _ _ _ _ _ _ _ 1 (by omega) (fun r l => pay1_1 _ _ _ _ r l) x _ _ (by omega) (by omega)
  case piece23 =>
    exact slab1 _ _ _ _ _ _ _ _ 0 (by omega) (fun r l => pay1_0 _ _ _ _ r l) x _ _ (by omega) (by omega)
  case piece24 =>
    exact slab0 _ _ _ _ _ _ _ _ 7 (by omega) (fun r l => pay0_7 _ _ _ _ r l) x _ _ (by omega) (by omega)
  case piece25 =>
    exact slab0 _ _ _ _ _ _ _ _ 6 (by omega) (fun r l => pay0_6 _ _ _ _ r l) x _ _ (by omega) (by omega)
  case piece26 =>
    exact slab0 _ _ _ _ _ _ _ _ 5 (by omega) (fun r l => pay0_5 _ _ _ _ r l) x _ _ (by omega) (by omega)
  case piece27 =>
    exact slab0 _ _ _ _ _ _ _ _ 4 (by omega) (fun r l => pay0_4 _ _ _ _ r l) x _ _ (by omega) (by omega)
  case piece28 =>
    exact slab0 _ _ _ _ _ _ _ _ 3 (by omega) (fun r l => pay0_3 _ _ _ _ r l) x _ _ (by omega) (by omega)
  case piece29 =>
    exact slab0 _ _ _ _ _ _ _ _ 2 (by omega) (fun r l => pay0_2 _ _ _ _ r l) x _ _ (by omega) (by omega)
  case piece30 =>
    exact slab0 _ _ _ _ _ _ _ _ 1 (by omega) (fun r l => pay0_1 _ _ _ _ r l) x _ _ (by omega) (by omega)
  case piece31 =>
    exact slab0 _ _ _ _ _ _ _ _ 0 (by omega) (fun r l => pay0_0 _ _ _ _ _ r l) x _ _ (by omega) (by omega)

theorem seven_lt : 7 < cfg0.N := lt_of_lt_of_eq (by decide) N0.symm

/-- At the context rows after the first block: the same stores as at the latent rows. -/
theorem outB5 (c : Dev nD) (t : Fin cfg0.N) (hc0 : ¬ cond0_0 (grid0.coords t)) (hc1 : k0_cond2 (grid0.coords t) = 1#1) (x0 : Vec Ideal S1024x2048 .bf16) (x1 : Vec Ideal S1x2048x1024 .f32)
    (x2 x3 x4 : Vec Ideal S1024x128 .f32) (s : Vec Ideal S2048x1024 .bf16) (y : S1024x1024.Idx) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 x0 x1 x2 x3 x4 s y = blockOut x0 s x2 x3 x4 (y 0) (y 1) :=
  Eq.trans (congrFun (show out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 x0 x1 x2 x3 x4 s
      = out0_C_5 c (grid0.coords ⟨7, seven_lt⟩) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0 _).not.mpr (by decide)) ((hcond1 _).not.mpr (by decide)) x0 x1 x2 x3 x4 s from rfl) y)
    (outC5 c t (grid0.coords ⟨7, seven_lt⟩) ((hcond0 _).not.mpr (by decide)) ((hcond1 _).not.mpr (by decide)) x0 x1 x2 x3 x4 s y)

theorem outA6 (c : Dev nD) (t : Fin cfg0.N) (hc0 : cond0_0 (grid0.coords t)) (hc1 : k0_cond2 (grid0.coords t) = 1#1) (x0 : Vec Ideal S1024x2048 .bf16) (x1 : Vec Ideal S1x2048x1024 .f32)
    (x2 x3 x4 : Vec Ideal S1024x128 .f32) (y : S1024x1024.Idx) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 x0 x1 x2 x3 x4 y = lin x0 (k0_pay3 x1) (y 0) (y 1) := by
  unfold out0_A_6
  frame_out
  canon_tiles x h
  case piece0 =>
    exact piece3 _ _ _ x _ _ h0 h1
  case piece1 =>
    exact piece2 _ _ _ x _ _ h0 h1
  case piece2 =>
    exact piece1 _ _ _ x _ _ h0 h1
  case piece3 =>
    exact piece0 _ _ _ x _ _ h0 h1

theorem outB6 (c : Dev nD) (t : Fin cfg0.N) (hc0 : ¬ cond0_0 (grid0.coords t)) (hc1 : k0_cond2 (grid0.coords t) = 1#1) (x0 : Vec Ideal S1024x2048 .bf16) (x1 : Vec Ideal S1x2048x1024 .f32)
    (x2 x3 x4 : Vec Ideal S1024x128 .f32) (s : Vec Ideal S2048x1024 .bf16) (y : S1024x1024.Idx) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 x0 x1 x2 x3 x4 s y = lin x0 s (y 0) (y 1) := by
  unfold out0_B_6
  frame_out
  canon_tiles x h
  case piece0 =>
    rw [read_unread_whole]
    exact piece3 _ _ _ x _ _ h0 h1
  case piece1 =>
    rw [read_unread_whole]
    exact piece2 _ _ _ x _ _ h0 h1
  case piece2 =>
    rw [read_unread_whole]
    exact piece1 _ _ _ x _ _ h0 h1
  case piece3 =>
    rw [read_unread_whole]
    exact piece0 _ _ _ x _ _ h0 h1

theorem outAS (c : Dev nD) (t : Fin cfg0.N) (hc0 : cond0_0 (grid0.coords t)) (hc1 : k0_cond2 (grid0.coords t) = 1#1) (x0 : Vec Ideal S1024x2048 .bf16) (x1 : Vec Ideal S1x2048x1024 .f32)
    (x2 x3 x4 : Vec Ideal S1024x128 .f32) :
    out0_A_S c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) hc0 hc1 x0 x1 x2 x3 x4 = k0_pay3 x1 := by
  unfold out0_A_S
  funext y
  frame_out

end Cert.Kernel14Ideal.Proj
-- ==== Proof.Call14.Val.lean ====
/- The key product of layer A: the kernel's results at every element. The tables, the rotation and the formula of the
   result are those of the query product (`Proof/Call13`). -/
module

public import proofs.«01_k».proof.Proof.Call14.Pieces
public import Idealize.ShloMosaic.Lib.StableHlo.ReadAt

@[expose] public section

set_option maxRecDepth 16384

noncomputable section

namespace Cert.Kernel14Ideal.Proj

open Cert.Kernel14Ideal Cert.Kernel14Ideal.Gen Idealize.ShloMosaic Idealize.ShloMosaic.TcCoe Idealize.ShloMosaic.Tactic Idealize.SL.Sem
open Idealize.ShloMosaic.Pipeline (Dat)
open Cert.Rope
open Cert.Kernel13Ideal.Proj (blockOut lin tile prod projAt proj block_proj cast_apply)

variable (m : (ℓ : Loc nD τ sig) → Buf (Elt Ideal) ℓ)

/-- Some contents of the query product's buffers: its tables depend on none of them. -/
def other : (ℓ : Loc Cert.Kernel13Ideal.nD Cert.Kernel13Ideal.τ Cert.Kernel13Ideal.sig) → Buf (Elt Ideal) ℓ := fun _ => Classical.choice inferInstance

theorem v38 (c : Dev nD) : V m c main_v38 = Cert.Kernel13Ideal.Gen.V other c Cert.Kernel13Ideal.main_v38 := rfl
theorem v41 (c : Dev nD) : V m c main_v41 = Cert.Kernel13Ideal.Gen.V other c Cert.Kernel13Ideal.main_v41 := rfl
theorem v44 (c : Dev nD) : V m c main_v44 = Cert.Kernel13Ideal.Gen.V other c Cert.Kernel13Ideal.main_v44 := rfl

theorem idx : ∀ t : Fin cfg0.N,
    win0_0.index t = ![t.val % 8, 0] ∧ win0_1.index t = ![0, 0, t.val / 8] ∧ win0_5.index t = ![t.val % 8, t.val / 8]
      ∧ win0_6.index t = ![min (t.val % 8) 3, t.val / 8] :=
  (by decide +kernel : ∀ t : Fin grid0.N, _)

theorem idx2 : ∀ t : Fin cfg0.N,
    win0_2.index t = ![1 - t.val % 8 / 4, 0] ∧ win0_3.index t = ![1 - t.val % 8 / 4, 0] ∧ win0_4.index t = ![1 - t.val % 8 / 4, 0] :=
  (by decide +kernel : ∀ t : Fin grid0.N, _)

theorem lt_16 (t : Fin cfg0.N) : t.val < 16 := lt_of_lt_of_eq t.isLt N_0

theorem blk0 (c : Dev nD) (t : Fin cfg0.N) (r : Fin 1024) (k : Fin 2048) :
    iblk m c 0 t (ix2 r k) = m ((c.tc : Thread nD τ).loc main_arg0) (ix2 ⟨1024 * (t.val % 8) + r, by omega⟩ k) := by
  refine Eq.trans ?_ (congrFun (V_main_arg0 m c) _)
  blk_point [iblk, idx t]

theorem blk1 (c : Dev nD) (t : Fin cfg0.N) (k : Fin 2048) (l : Fin 1024) :
    iblk m c 1 t (ix3 0 k l) = m ((c.tc : Thread nD τ).loc main_arg1) (ix3 0 k ⟨1024 * (t.val / 8) + l, by have := lt_16 t; omega⟩) := by
  refine Eq.trans ?_ (congrFun (V_main_arg1 m c) _)
  blk_point [iblk, idx t]

theorem blk2 (c : Dev nD) (t : Fin cfg0.N) (r : Fin 1024) (l : Fin 128) (R : Fin 2048) (hR : R.val = 1024 * (1 - t.val % 8 / 4) + r) :
    iblk m c 2 t (ix2 r l) = Cert.Kernel13Ideal.Gen.V other c Cert.Kernel13Ideal.main_v38 (ix2 R l) := by
  have hb : 1024 * (1 - t.val % 8 / 4) + r.val < 2048 := by omega
  obtain rfl : R = ⟨_, hb⟩ := Fin.ext hR
  rw [← v38 m c]
  blk_point [iblk, idx2 t]

theorem blk3 (c : Dev nD) (t : Fin cfg0.N) (r : Fin 1024) (l : Fin 128) (R : Fin 2048) (hR : R.val = 1024 * (1 - t.val % 8 / 4) + r) :
    iblk m c 3 t (ix2 r l) = Cert.Kernel13Ideal.Gen.V other c Cert.Kernel13Ideal.main_v41 (ix2 R l) := by
  have hb : 1024 * (1 - t.val % 8 / 4) + r.val < 2048 := by omega
  obtain rfl : R = ⟨_, hb⟩ := Fin.ext hR
  rw [← v41 m c]
  blk_point [iblk, idx2 t]

theorem blk4 (c : Dev nD) (t : Fin cfg0.N) (r : Fin 1024) (l : Fin 128) (R : Fin 2048) (hR : R.val = 1024 * (1 - t.val % 8 / 4) + r) :
    iblk m c 4 t (ix2 r l) = Cert.Kernel13Ideal.Gen.V other c Cert.Kernel13Ideal.main_v44 (ix2 R l) := by
  have hb : 1024 * (1 - t.val % 8 / 4) + r.val < 2048 := by omega
  obtain rfl : R = ⟨_, hb⟩ := Fin.ext hR
  rw [← v44 m c]
  blk_point [iblk, idx2 t]

theorem cast_tile (c : Dev nD) (t : Fin cfg0.N) :
    k0_pay3 (iblk m c 1 t) = tile (m ((c.tc : Thread nD τ).loc main_arg1)) ⟨t.val / 8, by have := lt_16 t; omega⟩ := by
  funext y
  obtain ⟨k, l, rfl⟩ : ∃ (k : Fin 2048) (l : Fin 1024), y = ix2 k l := ⟨y 0, y 1, by idx_ext⟩
  exact (cast_apply _ k l).trans (blk1 m c t k l)

/-- The scratch holds the column block's weight tile. -/
theorem scratch (c : Dev nD) (t : Fin cfg0.N) :
    scr m c t = tile (m ((c.tc : Thread nD τ).loc main_arg1)) ⟨t.val / 8, by have := lt_16 t; omega⟩ := by
  have hf : (first t).val % 8 = 0 := by show t.val / 8 * 8 % 8 = 0; omega
  have hq : (first t).val / 8 = t.val / 8 := by show t.val / 8 * 8 / 8 = t.val / 8; omega
  refine (show scrAt m c (first t) = _ from dif_pos hf).trans ?_
  rw [outAS, cast_tile]
  simp only [hq]

theorem vOut_block (c : Dev nD) (t : Fin cfg0.N) (y : S1024x1024.Idx) : vOut m c t y
    = blockOut (iblk m c 0 t) (tile (m ((c.tc : Thread nD τ).loc main_arg1)) ⟨t.val / 8, by have := lt_16 t; omega⟩)
      (iblk m c 2 t) (iblk m c 3 t) (iblk m c 4 t) (y 0) (y 1) := by
  unfold vOut
  by_cases h0 : t.val % 8 = 0
  · rw [dif_pos h0, outA5, cast_tile]
  · rw [dif_neg h0]
    by_cases h1 : t.val % 8 < 4
    · rw [dif_pos h1, outB5, scratch]
    · rw [dif_neg h1, outC5, scratch]

theorem ctxAt_block (c : Dev nD) (t : Fin cfg0.N) (h1 : t.val % 8 < 4) (y : S1024x1024.Idx) : ctxAt m c t y
    = lin (iblk m c 0 t) (tile (m ((c.tc : Thread nD τ).loc main_arg1)) ⟨t.val / 8, by have := lt_16 t; omega⟩) (y 0) (y 1) := by
  unfold ctxAt
  by_cases h0 : t.val % 8 = 0
  · rw [dif_pos h0, outA6, cast_tile]
  · rw [dif_neg h0, dif_pos h1, outB6, scratch]

/-- The second result: the context rows, not turned. -/
def prodCtx (h : Vec Ideal S8192x2048 .bf16) (w : Vec Ideal S1x2048x2048 .f32) : FVec Ideal S4096x2048 .f32 := fun i =>
  prod h w ⟨(i 0).val, by have : (i 0).val < 4096 := (i 0).isLt; omega⟩ (i 1)

/-- The result arrays over the arguments. -/
def res5 (c : Dev nD) : FVec Ideal S8192x2048 .bf16 :=
  proj (m ((c.tc : Thread nD τ).loc main_arg0)) (m ((c.tc : Thread nD τ).loc main_arg1))
def res6 (c : Dev nD) : FVec Ideal S4096x2048 .f32 :=
  prodCtx (m ((c.tc : Thread nD τ).loc main_arg0)) (m ((c.tc : Thread nD τ).loc main_arg1))

theorem lin_eq (c : Dev nD) (t : Fin cfg0.N) (r l : Fin 1024) (L : Fin 2048) (hL : L.val = 1024 * (t.val / 8) + l) :
    lin (iblk m c 0 t) (tile (m ((c.tc : Thread nD τ).loc main_arg1)) ⟨t.val / 8, by have := lt_16 t; omega⟩) r l
      = prod (m ((c.tc : Thread nD τ).loc main_arg0)) (m ((c.tc : Thread nD τ).loc main_arg1)) ⟨1024 * (t.val % 8) + r, by omega⟩ L := by
  have hb : 1024 * (t.val / 8) + l.val < 2048 := by have := lt_16 t; omega
  obtain rfl : L = ⟨_, hb⟩ := Fin.ext hL
  unfold lin prod
  refine Finset.sum_congr rfl fun k _ => ?_
  rw [show iblk m c 0 t (ix2 r k) = _ from blk0 m c t r k]
  rfl

theorem vOut_eq (c : Dev nD) (t : Fin cfg0.N) (r l : Fin 1024) :
    vOut m c t (ix2 r l) = res5 m c (ix2 ⟨1024 * (t.val % 8) + r, by omega⟩ ⟨1024 * (t.val / 8) + l, by have := lt_16 t; omega⟩) :=
  (vOut_block m c t _).trans (block_proj (iblk m c 0 t) (tile (m ((c.tc : Thread nD τ).loc main_arg1)) ⟨t.val / 8, by have := lt_16 t; omega⟩)
    (iblk m c 2 t) (iblk m c 3 t) (iblk m c 4 t) (m ((c.tc : Thread nD τ).loc main_arg0)) (m ((c.tc : Thread nD τ).loc main_arg1)) t.val (lt_16 t) (lin_eq m c t)
    (fun ht r l => (blk2 m c t r l _ (by show 1024 + r.val = _; omega)).trans (Cert.Kernel13Ideal.Proj.v38_id other c r l))
    (fun ht r l => (blk3 m c t r l _ (by show 1024 + r.val = _; omega)).trans (Cert.Kernel13Ideal.Proj.v41_id other c r l))
    (fun ht r l => (blk4 m c t r l _ (by show 1024 + r.val = _; omega)).trans (Cert.Kernel13Ideal.Proj.v44_id other c r l))
    (fun ht r l => (blk2 m c t r l _ (by show r.val = _; omega)).trans (Cert.Kernel13Ideal.Proj.v38_at other c r l))
    (fun ht r l => (blk3 m c t r l _ (by show r.val = _; omega)).trans (Cert.Kernel13Ideal.Proj.v41_at other c r l))
    (fun ht r l => (blk4 m c t r l _ (by show r.val = _; omega)).trans (Cert.Kernel13Ideal.Proj.v44_at other c r l)) r l)

theorem ctxOut_eq (c : Dev nD) (t : Fin cfg0.N) (r l : Fin 1024) :
    ctxOut m c t (ix2 r l) = res6 m c (ix2 ⟨1024 * min (t.val % 8) 3 + r, by omega⟩ ⟨1024 * (t.val / 8) + l, by have := lt_16 t; omega⟩) := by
  have hm : (lastCtx t).val % 8 = min (t.val % 8) 3 := by show (t.val / 8 * 8 + min (t.val % 8) 3) % 8 = _; omega
  have hd : (lastCtx t).val / 8 = t.val / 8 := by show (t.val / 8 * 8 + min (t.val % 8) 3) / 8 = _; omega
  refine (ctxAt_block m c (lastCtx t) (by omega) _).trans ((lin_eq m c (lastCtx t) r l ⟨1024 * (t.val / 8) + l, by have := lt_16 t; omega⟩ (by rw [hd])).trans ?_)
  simp only [hm]
  rfl

theorem final5 (c : Dev nD) : (dats m 0 c).arrAt 5 cfg0.N = res5 m c := by
  refine (dats m 0 c).arrAt_eq_of_covers 5 _ (by decide +kernel) fun t _ y => ?_
  blk_simp
  rw [after0_5]
  obtain ⟨r, l, rfl⟩ : ∃ (r l : Fin 1024), y = ix2 r l := ⟨y 0, y 1, by idx_ext⟩
  refine (vOut_eq m c t r l).trans ?_
  blk_ext [idx t]

theorem final6 (c : Dev nD) : (dats m 0 c).arrAt 6 cfg0.N = res6 m c := by
  refine (dats m 0 c).arrAt_eq_of_covers 6 _ (by decide +kernel) fun t _ y => ?_
  blk_simp
  rw [after0_6]
  obtain ⟨r, l, rfl⟩ : ∃ (r l : Fin 1024), y = ix2 r l := ⟨y 0, y 1, by idx_ext⟩
  refine (ctxOut_eq m c t r l).trans ?_
  blk_ext [idx t]

end Cert.Kernel14Ideal.Proj
-- ==== Proof.Call14.Claim.lean ====
/- The key product of layer A: the reference's results, and the claim. The first result is the query product's with
   other weights, so its proof is that one's (`Proof/Call13/Claim.lean`). -/
module

public import proofs.«01_k».proof.Defs
public import proofs.«01_k».proof.Proof.Gen.Reference14Ideal.Read
public import proofs.«01_k».proof.Proof.Gen.Reference14Ideal.Run
public import proofs.«01_k».proof.Proof.Call13.Claim
public import proofs.«01_k».proof.Proof.Call14.Val
public import Idealize.ShloMosaic.Lib.Claim

@[expose] public section

set_option maxRecDepth 16384

noncomputable section

namespace Cert.Reference14Ideal.Proj

open Cert.Reference14Ideal Cert.Reference14Ideal.Gen Cert.Reference14Ideal.Read Idealize.ShloMosaic Idealize.ShloMosaic.TcCoe Idealize.ShloMosaic.Tactic Idealize.SL.Sem

variable (h : BufTy.Contents (Elt Ideal) ⟨S8192x2048, .bf16⟩) (w : BufTy.Contents (Elt Ideal) ⟨S1x2048x2048, .f32⟩)

/-- The two references read their first result off the same lines. -/
theorem same : val_main_v77 (F := Ideal) h w = Cert.Reference13Ideal.Read.val_main_v77 (F := Ideal) h w := rfl

theorem all_eq : val_main_v77 (F := Ideal) h w = Cert.Kernel13Ideal.Proj.proj h w :=
  (same h w).trans (Cert.Reference13Ideal.Proj.ref_eq h w)

theorem k_at (R : Fin 8192) (L : Fin 2048) : val_main_v2 (F := Ideal) h w (ix2 R L) = Cert.Kernel13Ideal.Proj.prod h w R L :=
  Cert.Reference13Ideal.Proj.q_at h w R L

theorem rows (r : Fin 4096) (l : Fin 2048) : val_main_v78 (F := Ideal) h w (ix2 r l) = val_main_v2 (F := Ideal) h w (ix2 ⟨r.val, by omega⟩ l) := by
  pointwise [val_main_v78]

theorem ctx_eq : val_main_v78 (F := Ideal) h w = Cert.Kernel14Ideal.Proj.prodCtx h w := by
  funext i
  obtain ⟨r, l, rfl⟩ : ∃ (r : Fin 4096) (l : Fin 2048), i = ix2 r l := ⟨i 0, i 1, by idx_ext⟩
  exact (rows h w r l).trans (k_at h w _ l)

end Cert.Reference14Ideal.Proj

namespace Cert.Call14

open Idealize.ShloMosaic Idealize.SL.Sem Idealize.ShloMosaic.Tactic

/-- Layer A's key product: kernel and reference agree at every element. -/
theorem algebraic :
    letI := Cert.Kernel14Ideal.Gen.facts; letI := Cert.Reference14Ideal.Gen.facts
    algebraic_Kernel14Ideal_Reference14Ideal := by
  pair_intro
  · run_from Cert.Kernel14Ideal.Gen.run_main m g
  · run_from Cert.Reference14Ideal.Value.run m' g'
    · obtain ⟨e0, e1⟩ := hagree c
      refine Eq.trans ?_ (Cert.Kernel14Ideal.Proj.final5 m c).symm
      unfold Cert.Kernel14Ideal.Proj.res5
      rw [← e0, ← e1]
      exact (Cert.Reference14Ideal.Read.val_main_v77_eq ..).trans (Cert.Reference14Ideal.Proj.all_eq _ _)
    · obtain ⟨e0, e1⟩ := hagree c
      refine Eq.trans ?_ (Cert.Kernel14Ideal.Proj.final6 m c).symm
      unfold Cert.Kernel14Ideal.Proj.res6
      rw [← e0, ← e1]
      exact (Cert.Reference14Ideal.Read.val_main_v78_eq ..).trans (Cert.Reference14Ideal.Proj.ctx_eq _ _)

/-- The reference leaves its arguments as they were and every counter at zero. -/
theorem frame : letI := Cert.Reference14Ideal.Gen.facts; quiescent_Reference14Ideal := by
  intro m g _
  run_from Cert.Reference14Ideal.Value.run m g
  · intro c; simp
  · exact sem_eq_zero_of_no_sems (by decide) r.2

end Cert.Call14

end
-- ==== Proof.lean ====
/- The claims of this directory: each call's frames, its ideal form and its value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Call11.Run
public import proofs.«01_k».proof.Proof.Call11.IdealRun
public import proofs.«01_k».proof.Proof.Call9.Run
public import proofs.«01_k».proof.Proof.Call9.IdealRun
public import proofs.«01_k».proof.Proof.Call14.Run
public import proofs.«01_k».proof.Proof.Call14.IdealRun
public import proofs.«01_k».proof.Proof.Mla.Pre
public import proofs.«01_k».proof.Proof.Mla.Claim
public import proofs.«01_k».proof.Proof.RefFrame
public import proofs.«01_k».proof.Proof.Ffn.UpRef
public import proofs.«01_k».proof.Proof.Call3.Claim
public import proofs.«01_k».proof.Proof.Call4.Claim
public import proofs.«01_k».proof.Proof.Call5.Claim
public import proofs.«01_k».proof.Proof.Call6.Claim
public import proofs.«01_k».proof.Proof.Call7.Claim
public import proofs.«01_k».proof.Proof.Call8.Claim
public import proofs.«01_k».proof.Proof.Call11.Claim
public import proofs.«01_k».proof.Proof.Call12.Claim
public import proofs.«01_k».proof.Proof.Call13.Claim
public import proofs.«01_k».proof.Proof.Call9.Claim
public import proofs.«01_k».proof.Proof.Call14.Claim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel9.Gen.facts, Cert.Kernel9Ideal.Gen.facts, Cert.Reference9Ideal.Gen.facts,
  Cert.Kernel14.Gen.facts, Cert.Kernel14Ideal.Gen.facts, Cert.Reference14Ideal.Gen.facts,
  Cert.Mla.preFacts,
  fun m ρ _ => Cert.Kernel.Gen.frame m ρ, fun m ρ _ => Cert.KernelIdeal.Gen.frame m ρ, fun m ρ _ => Cert.KernelIdeal.Gen.frame m ρ,
  Cert.reference_frame, fun m ρ _ => Cert.reference_frame m ρ trivial,
  fun m ρ _ => Cert.Kernel2.Gen.frame m ρ, fun m ρ _ => Cert.Kernel2Ideal.Gen.frame m ρ, Cert.Ffn.up_frame,
  fun m ρ _ => Cert.Kernel3.Gen.frame m ρ, fun m ρ _ => Cert.Kernel3Ideal.Gen.frame m ρ, Cert.Call3.frame,
  fun m ρ _ => Cert.Kernel4.Gen.frame m ρ, fun m ρ _ => Cert.Kernel4Ideal.Gen.frame m ρ, Cert.Call4.frame,
  fun m ρ _ => Cert.Kernel5.Gen.frame m ρ, fun m ρ _ => Cert.Kernel5Ideal.Gen.frame m ρ, Cert.Call5.frame,
  fun m ρ _ => Cert.Kernel6.Gen.frame m ρ, fun m ρ _ => Cert.Kernel6Ideal.Gen.frame m ρ, Cert.Call6.frame,
  fun m ρ _ => Cert.Kernel7.Gen.frame m ρ, fun m ρ _ => Cert.Kernel7Ideal.Gen.frame m ρ, Cert.Call7.frame,
  fun m ρ _ => Cert.Kernel8.Gen.frame m ρ, fun m ρ _ => Cert.Kernel8Ideal.Gen.frame m ρ, Cert.Call8.frame,
  fun m ρ _ => Cert.Kernel11.Gen.frame m ρ, fun m ρ _ => Cert.Kernel11Ideal.Gen.frame m ρ, Cert.Call11.frame,
  fun m ρ _ => Cert.Kernel12.Gen.frame m ρ, fun m ρ _ => Cert.Kernel12Ideal.Gen.frame m ρ, Cert.Call12.frame,
  fun m ρ _ => Cert.Kernel13.Gen.frame m ρ, fun m ρ _ => Cert.Kernel13Ideal.Gen.frame m ρ, Cert.Call13.frame,
  fun m ρ _ => Cert.Kernel9.Gen.frame m ρ, fun m ρ _ => Cert.Kernel9Ideal.Gen.frame m ρ, Cert.Call9.frame,
  fun m ρ _ => Cert.Kernel14.Gen.frame m ρ, fun m ρ _ => Cert.Kernel14Ideal.Gen.frame m ρ, Cert.Call14.frame,
  trivial, letI := Cert.Mla.preFacts; Cert.Mla.algebraic,
  trivial, Cert.Ffn.up_algebraic,
  trivial, Cert.Call3.algebraic,
  trivial, Cert.Call4.algebraic,
  trivial, Cert.Call5.algebraic,
  trivial, Cert.Call6.algebraic,
  trivial, Cert.Call7.algebraic,
  trivial, Cert.Call8.algebraic,
  trivial, Cert.Call11.algebraic,
  trivial, Cert.Call12.algebraic,
  trivial, Cert.Call13.algebraic,
  trivial, Cert.Call9.algebraic,
  trivial, Cert.Call14.algebraic⟩

end Cert.Proof

end
